-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "half_mask" .f32 0xF0C9F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v51) = v0 c
          ∧ r.2.mem ((c.tc : Thread Cert.Reference2Ideal.nD Cert.Reference2Ideal.τ).loc Cert.Reference2Ideal.main_v53) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v20_0)) (v1 : (c : Dev Cert.Kernel6Ideal.nD) → Buf (Elt Ideal) ((c.tc : Thread Cert.Kernel6Ideal.nD Cert.Kernel6Ideal.τ).loc Cert.Kernel6Ideal.main_v20_1)) (v2 : (c : Dev Cert.Kernel6Ideal.nD) → Buf (Elt Ideal) ((c.tc : Thread Cert.Kernel6Ideal.nD Cert.Kernel6Ideal.τ).loc Cert.Kernel6Ideal.main_v20_2)) (v3 : (c : Dev Cert.Kernel6Ideal.nD) → Buf (Elt Ideal) ((c.tc : Thread Cert.Kernel6Ideal.nD Cert.Kernel6Ideal.τ).loc Cert.Kernel6Ideal.main_v20_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v20_0) = v0 c
          ∧ r.2.mem ((c.tc : Thread Cert.Kernel6Ideal.nD Cert.Kernel6Ideal.τ).loc Cert.Kernel6Ideal.main_v20_1) = v1 c
          ∧ r.2.mem ((c.tc : Thread Cert.Kernel6Ideal.nD Cert.Kernel6Ideal.τ).loc Cert.Kernel6Ideal.main_v20_2) = v2 c
          ∧ r.2.mem ((c.tc : Thread Cert.Kernel6Ideal.nD Cert.Kernel6Ideal.τ).loc Cert.Kernel6Ideal.main_v20_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v93) = v0 c
          ∧ r.2.mem ((c.tc : Thread Cert.Reference6Ideal.nD Cert.Reference6Ideal.τ).loc Cert.Reference6Ideal.main_v94) = v1 c
          ∧ r.2.mem ((c.tc : Thread Cert.Reference6Ideal.nD Cert.Reference6Ideal.τ).loc Cert.Reference6Ideal.main_v56) = v2 c
          ∧ r.2.mem ((c.tc : Thread Cert.Reference6Ideal.nD Cert.Reference6Ideal.τ).loc Cert.Reference6Ideal.main_v87) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v12) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v13) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v22_0)) (v1 : (c : Dev Cert.Kernel10Ideal.nD) → Buf (Elt Ideal) ((c.tc : Thread Cert.Kernel10Ideal.nD Cert.Kernel10Ideal.τ).loc Cert.Kernel10Ideal.main_v22_1)) (v2 : (c : Dev Cert.Kernel10Ideal.nD) → Buf (Elt Ideal) ((c.tc : Thread Cert.Kernel10Ideal.nD Cert.Kernel10Ideal.τ).loc Cert.Kernel10Ideal.main_v22_2)) (v3 : (c : Dev Cert.Kernel10Ideal.nD) → Buf (Elt Ideal) ((c.tc : Thread Cert.Kernel10Ideal.nD Cert.Kernel10Ideal.τ).loc Cert.Kernel10Ideal.main_v22_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v22_0) = v0 c
          ∧ r.2.mem ((c.tc : Thread Cert.Kernel10Ideal.nD Cert.Kernel10Ideal.τ).loc Cert.Kernel10Ideal.main_v22_1) = v1 c
          ∧ r.2.mem ((c.tc : Thread Cert.Kernel10Ideal.nD Cert.Kernel10Ideal.τ).loc Cert.Kernel10Ideal.main_v22_2) = v2 c
          ∧ r.2.mem ((c.tc : Thread Cert.Kernel10Ideal.nD Cert.Kernel10Ideal.τ).loc Cert.Kernel10Ideal.main_v22_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v95) = v0 c
          ∧ r.2.mem ((c.tc : Thread Cert.Reference10Ideal.nD Cert.Reference10Ideal.τ).loc Cert.Reference10Ideal.main_v96) = v1 c
          ∧ r.2.mem ((c.tc : Thread Cert.Reference10Ideal.nD Cert.Reference10Ideal.τ).loc Cert.Reference10Ideal.main_v58) = v2 c
          ∧ r.2.mem ((c.tc : Thread Cert.Reference10Ideal.nD Cert.Reference10Ideal.τ).loc Cert.Reference10Ideal.main_v89) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v19_0)) (v1 : (c : Dev Cert.Kernel11Ideal.nD) → Buf (Elt Ideal) ((c.tc : Thread Cert.Kernel11Ideal.nD Cert.Kernel11Ideal.τ).loc Cert.Kernel11Ideal.main_v19_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v19_0) = v0 c
          ∧ r.2.mem ((c.tc : Thread Cert.Kernel11Ideal.nD Cert.Kernel11Ideal.τ).loc Cert.Kernel11Ideal.main_v19_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v52) = v0 c
          ∧ r.2.mem ((c.tc : Thread Cert.Reference11Ideal.nD Cert.Reference11Ideal.τ).loc Cert.Reference11Ideal.main_v53) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite.lean ====
abbrev S4x2048x16x512 : Shape := ⟨4, ![4, 2048, 16, 512]⟩
abbrev S4x2048x16x64 : Shape := ⟨4, ![4, 2048, 16, 64]⟩
abbrev S4x2048x512 : Shape := ⟨3, ![4, 2048, 512]⟩
abbrev S4x2048x64 : Shape := ⟨3, ![4, 2048, 64]⟩
abbrev S512x4096 : Shape := ⟨2, ![512, 4096]⟩
abbrev S_ : Shape := ⟨0, ![]⟩

class Facts : Prop where
  bitsLt_bf16_f32 : FTy.bits .bf16 < FTy.bits .f32
  bcast_S_S4x2048x16x512 : S_.BroadcastsInDim S4x2048x16x512 (![] : Fin 0 → Fin S4x2048x16x512.rank)
  reducesTo_S4x2048x16x512_S_d0_1_2_3 : S4x2048x16x512.ReducesTo [0, 1, 2, 3] S_
  h_S_ : 0 < S_.numel
  bcast_S_S4x2048x16x64 : S_.BroadcastsInDim S4x2048x16x64 (![] : Fin 0 → Fin S4x2048x16x64.rank)
  reducesTo_S4x2048x16x64_S_d0_1_2_3 : S4x2048x16x64.ReducesTo [0, 1, 2, 3] S_
  bcast_S_S4x2048x512 : S_.BroadcastsInDim S4x2048x512 (![] : Fin 0 → Fin S4x2048x512.rank)
  reducesTo_S4x2048x512_S_d0_1_2 : S4x2048x512.ReducesTo [0, 1, 2] S_
  bcast_S_S4x2048x64 : S_.BroadcastsInDim S4x2048x64 (![] : Fin 0 → Fin S4x2048x64.rank)
  reducesTo_S4x2048x64_S_d0_1_2 : S4x2048x64.ReducesTo [0, 1, 2] S_

variable [Facts]

def fn_part1 {F : FTy → Type} [FloatOps F] (main_v16 : IVec S_ 1) (main_v17 : FVec F S4x2048x64 .f32) : IVec S_ 1 :=
  let main_v18 : FVec F S4x2048x64 .f32 := Host.absf main_v17
  let main_cst_4 : FVec F S_ .f32 := constant S_ .f32 0x7F800000#32
  let main_v19 : FVec F S4x2048x64 .f32 := broadcastInDim S4x2048x64 ![] bcast_S_S4x2048x64 main_cst_4
  let main_v20 : IVec S4x2048x64 1 := cmpf .olt main_v18 main_v19
  let main_c_5 : IVec S_ 1 := constantI S_ 1 1#1
  let main_v21 : IVec S_ 1 := (fun x v => Host.reduce IntOp.andi x v reducesTo_S4x2048x64_S_d0_1_2 h_S_) main_v20 main_c_5
  let main_v22 : IVec S_ 1 := andi main_v16 main_v21
  main_v22

def fn {F : FTy → Type} [FloatOps F] (main_arg0 : FVec F S4x2048x16x512 .bf16) (main_arg1 : FVec F S4x2048x16x64 .bf16) (main_arg2 : FVec F S4x2048x512 .bf16) (main_arg3 : FVec F S4x2048x64 .bf16) (main_arg4 : FVec F S512x4096 .f32) : IVec S_ 1 :=
  let main_v0 : FVec F S4x2048x16x512 .f32 := (extf .f32 · bitsLt_bf16_f32) main_arg0
  let main_v1 : FVec F S4x2048x16x512 .f32 := Host.absf main_v0
  let main_cst : FVec F S_ .f32 := constant S_ .f32 0x7F800000#32
  let main_v2 : FVec F S4x2048x16x512 .f32 := broadcastInDim S4x2048x16x512 ![] bcast_S_S4x2048x16x512 main_cst
  let main_v3 : IVec S4x2048x16x512 1 := cmpf .olt main_v1 main_v2
  let main_c : IVec S_ 1 := constantI S_ 1 1#1
  let main_v4 : IVec S_ 1 := (fun x v => Host.reduce IntOp.andi x v reducesTo_S4x2048x16x512_S_d0_1_2_3 h_S_) main_v3 main_c
  let main_v5 : FVec F S4x2048x16x64 .f32 := (extf .f32 · bitsLt_bf16_f32) main_arg1
  let main_v6 : FVec F S4x2048x16x64 .f32 := Host.absf main_v5
  let main_cst_0 : FVec F S_ .f32 := constant S_ .f32 0x7F800000#32
  let main_v7 : FVec F S4x2048x16x64 .f32 := broadcastInDim S4x2048x16x64 ![] bcast_S_S4x2048x16x64 main_cst_0
  let main_v8 : IVec S4x2048x16x64 1 := cmpf .olt main_v6 main_v7
  let main_c_1 : IVec S_ 1 := constantI S_ 1 1#1
  let main_v9 : IVec S_ 1 := (fun x v => Host.reduce IntOp.andi x v reducesTo_S4x2048x16x64_S_d0_1_2_3 h_S_) main_v8 main_c_1
  let main_v10 : IVec S_ 1 := andi main_v4 main_v9
  let main_v11 : FVec F S4x2048x512 .f32 := (extf .f32 · bitsLt_bf16_f32) main_arg2
  let main_v12 : FVec F S4x2048x512 .f32 := Host.absf main_v11
  let main_cst_2 : FVec F S_ .f32 := constant S_ .f32 0x7F800000#32
  let main_v13 : FVec F S4x2048x512 .f32 := broadcastInDim S4x2048x512 ![] bcast_S_S4x2048x512 main_cst_2
  let main_v14 : IVec S4x2048x512 1 := cmpf .olt main_v12 main_v13
  let main_c_3 : IVec S_ 1 := constantI S_ 1 1#1
  let main_v15 : IVec S_ 1 := (fun x v => Host.reduce IntOp.andi x v reducesTo_S4x2048x512_S_d0_1_2 h_S_) main_v14 main_c_3
  let main_v16 : IVec S_ 1 := andi main_v10 main_v15
  let main_v17 : FVec F S4x2048x64 .f32 := (extf .f32 · bitsLt_bf16_f32) main_arg3
  fn_part1 (F := F) main_v16 main_v17
-- ==== Kernel.lean ====
abbrev S4x2048x16x512 : Shape := ⟨4, ![4, 2048, 16, 512]⟩
abbrev S4x2048x16x64 : Shape := ⟨4, ![4, 2048, 16, 64]⟩
abbrev S4x2048x512 : Shape := ⟨3, ![4, 2048, 512]⟩
abbrev S4x2048x64 : Shape := ⟨3, ![4, 2048, 64]⟩
abbrev S512x4096 : Shape := ⟨2, ![512, 4096]⟩
abbrev S512x16x256 : Shape := ⟨3, ![512, 16, 256]⟩
abbrev S512x16x128 : Shape := ⟨3, ![512, 16, 128]⟩
abbrev S16x512x128 : Shape := ⟨3, ![16, 512, 128]⟩
abbrev S_ : Shape := ⟨0, ![]⟩
abbrev S4x2048x16x640 : Shape := ⟨4, ![4, 2048, 16, 640]⟩
abbrev S4x2048x10240 : Shape := ⟨3, ![4, 2048, 10240]⟩
abbrev S4x2048x640 : Shape := ⟨3, ![4, 2048, 640]⟩
abbrev S4x2048x2048 : Shape := ⟨3, ![4, 2048, 2048]⟩
abbrev S1x128x10240 : Shape := ⟨3, ![1, 128, 10240]⟩
abbrev S1x512x640 : Shape := ⟨3, ![1, 512, 640]⟩
abbrev S1x512x512 : Shape := ⟨3, ![1, 512, 512]⟩
abbrev S1x128x2048 : Shape := ⟨3, ![1, 128, 2048]⟩
abbrev S2048x640 : Shape := ⟨2, ![2048, 640]⟩
abbrev S2048x128 : Shape := ⟨2, ![2048, 128]⟩
abbrev S1x128x640 : Shape := ⟨3, ![1, 128, 640]⟩
abbrev S128x640 : Shape := ⟨2, ![128, 640]⟩
abbrev S512x640 : Shape := ⟨2, ![512, 640]⟩
abbrev S2048x512 : Shape := ⟨2, ![2048, 512]⟩
abbrev S128x512 : Shape := ⟨2, ![128, 512]⟩
abbrev S2048 : Shape := ⟨1, ![2048]⟩
abbrev S2048x1 : Shape := ⟨2, ![2048, 1]⟩
abbrev S512x512 : Shape := ⟨2, ![512, 512]⟩
abbrev S512x128 : Shape := ⟨2, ![512, 128]⟩
abbrev S1x512x128 : Shape := ⟨3, ![1, 512, 128]⟩
abbrev S128x128 : Shape := ⟨2, ![128, 128]⟩
abbrev S1x128x128 : Shape := ⟨3, ![1, 128, 128]⟩

abbrev nBuf : Space → Nat
  | .hbm => 17
  | .vmem => 12
  | .smem => 0
  | _ => 0

abbrev bufTy : (tb : Table) → Fin (tcTables nBuf tb) → BufTy
  | .hbm, ⟨0, _⟩ => ⟨S4x2048x16x512, .bf16⟩
  | .hbm, ⟨1, _⟩ => ⟨S4x2048x16x64, .bf16⟩
  | .hbm, ⟨2, _⟩ => ⟨S4x2048x512, .bf16⟩
  | .hbm, ⟨3, _⟩ => ⟨S4x2048x64, .bf16⟩
  | .hbm, ⟨4, _⟩ => ⟨S512x4096, .f32⟩
  | .hbm, ⟨5, _⟩ => ⟨S512x16x256, .f32⟩
  | .hbm, ⟨6, _⟩ => ⟨S512x16x128, .f32⟩
  | .hbm, ⟨7, _⟩ => ⟨S16x512x128, .f32⟩
  | .hbm, ⟨8, _⟩ => ⟨S16x512x128, .bf16⟩
  | .hbm, ⟨9, _⟩ => ⟨S_, .bf16⟩
  | .hbm, ⟨10, _⟩ => ⟨S4x2048x16x64, .bf16⟩
  | .hbm, ⟨11, _⟩ => ⟨S_, .bf16⟩
  | .hbm, ⟨12, _⟩ => ⟨S4x2048x64, .bf16⟩
  | .hbm, ⟨13, _⟩ => ⟨S4x2048x16x640, .bf16⟩
  | .hbm, ⟨14, _⟩ => ⟨S4x2048x10240, .bf16⟩
  | .hbm, ⟨15, _⟩ => ⟨S4x2048x640, .bf16⟩
  | .hbm, ⟨16, _⟩ => ⟨S4x2048x2048, .f32⟩
  | .local _ .vmem, ⟨0, _⟩ => ⟨S1x128x10240, .bf16⟩
  | .local _ .vmem, ⟨1, _⟩ => ⟨S1x128x10240, .bf16⟩
  | .local _ .vmem, ⟨2, _⟩ => ⟨S1x512x640, .bf16⟩
  | .local _ .vmem, ⟨3, _⟩ => ⟨S1x512x640, .bf16⟩
  | .local _ .vmem, ⟨4, _⟩ => ⟨S1x512x512, .bf16⟩
  | .local _ .vmem, ⟨5, _⟩ => ⟨S1x512x512, .bf16⟩
  | .local _ .vmem, ⟨6, _⟩ => ⟨S16x512x128, .bf16⟩
  | .local _ .vmem, ⟨7, _⟩ => ⟨S1x128x2048, .f32⟩
  | .local _ .vmem, ⟨8, _⟩ => ⟨S1x128x2048, .f32⟩
  | .local _ .vmem, ⟨9, _⟩ => ⟨S2048x640, .bf16⟩
  | .local _ .vmem, ⟨10, _⟩ => ⟨S2048x128, .f32⟩
  | .local _ .vmem, ⟨11, _⟩ => ⟨S2048x640, .f32⟩
  | _, _ => ⟨S4x2048x16x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨4, ![4, 16, 1, 4], ![false, false, false, false]⟩

def k0_cond3 (i : grid0.Coords) : BitVec 1 :=
  let arg3 : BitVec 32 := BitVec.ofNat 32 (i 3).val
  let c3_i32 : BitVec 32 := 3#32
  let v16 : BitVec 1 := Scalar.cmpi .eq arg3 c3_i32
  let v17 : BitVec 32 := Scalar.extui v16
  let c0_i32_6 : BitVec 32 := 0#32
  let v18 : BitVec 1 := Scalar.cmpi .ne v17 c0_i32_6
  v18

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c128_i32 : BitVec 32 := 128#32
  let v0 : BitVec 32 := Scalar.muli arg1 c128_i32
  let c0_i32 : BitVec 32 := 0#32
  let v1 : BitVec 32 := Scalar.addi c0_i32 v0
  let c128_i32_0 : BitVec 32 := 128#32
  let v2 : BitVec 32 := Scalar.addi v1 c128_i32_0
  let c1_i32 : BitVec 32 := 1#32
  let v3 : BitVec 32 := Scalar.subi v2 c1_i32
  let c0_i32_1 : BitVec 32 := 0#32
  let v4 : BitVec 32 := Scalar.subi v3 c0_i32_1
  let c512_i32 : BitVec 32 := 512#32
  let v5 : BitVec 32 := Scalar.divsi v4 c512_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c0_i32_4 : BitVec 32 := 0#32
  let v11 : BitVec 1 := Scalar.cmpi .sgt c512_i32 c0_i32_4
  let v12 : BitVec 32 := Scalar.extui v11
  let c0_i32_5 : BitVec 32 := 0#32
  let v13 : BitVec 1 := Scalar.cmpi .slt c512_i32 c0_i32_5
  let v14 : BitVec 32 := Scalar.extui v13
  let v15 : BitVec 32 := Scalar.subi v12 v14
  let v16 : BitVec 1 := Scalar.cmpi .ne v10 v15
  let v17 : BitVec 32 := Scalar.remsi v4 c512_i32
  let c0_i32_6 : BitVec 32 := 0#32
  let v18 : BitVec 1 := Scalar.cmpi .ne v17 c0_i32_6
  let v19 : BitVec 1 := Scalar.andi v16 v18
  let c1_i32_7 : BitVec 32 := 1#32
  let v20 : BitVec 32 := Scalar.subi v5 c1_i32_7
  let v21 : BitVec 32 := Scalar.select v19 v20 v5
  let v22 : BitVec 32 := Scalar.minsi arg3 v21
  let c0_i32_8 : BitVec 32 := 0#32
  let c3_i32 : BitVec 32 := 3#32
  let v23 : BitVec 32 := Scalar.maxsi c0_i32_8 v22
  let v24 : BitVec 32 := Scalar.minsi c3_i32 v23
  let c0_i32_9 : BitVec 32 := 0#32
  let c0_i32_10 : BitVec 32 := 0#32
  ![arg0.toNat, v24.toNat, c0_i32_9.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c128_i32 : BitVec 32 := 128#32
  let v0 : BitVec 32 := Scalar.muli arg1 c128_i32
  let c0_i32 : BitVec 32 := 0#32
  let v1 : BitVec 32 := Scalar.addi c0_i32 v0
  let c128_i32_0 : BitVec 32 := 128#32
  let v2 : BitVec 32 := Scalar.addi v1 c128_i32_0
  let c1_i32 : BitVec 32 := 1#32
  let v3 : BitVec 32 := Scalar.subi v2 c1_i32
  let c0_i32_1 : BitVec 32 := 0#32
  let v4 : BitVec 32 := Scalar.subi v3 c0_i32_1
  let c512_i32 : BitVec 32 := 512#32
  let v5 : BitVec 32 := Scalar.divsi v4 c512_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c0_i32_4 : BitVec 32 := 0#32
  let v11 : BitVec 1 := Scalar.cmpi .sgt c512_i32 c0_i32_4
  let v12 : BitVec 32 := Scalar.extui v11
  let c0_i32_5 : BitVec 32 := 0#32
  let v13 : BitVec 1 := Scalar.cmpi .slt c512_i32 c0_i32_5
  let v14 : BitVec 32 := Scalar.extui v13
  let v15 : BitVec 32 := Scalar.subi v12 v14
  let v16 : BitVec 1 := Scalar.cmpi .ne v10 v15
  let v17 : BitVec 32 := Scalar.remsi v4 c512_i32
  let c0_i32_6 : BitVec 32 := 0#32
  let v18 : BitVec 1 := Scalar.cmpi .ne v17 c0_i32_6
  let v19 : BitVec 1 := Scalar.andi v16 v18
  let c1_i32_7 : BitVec 32 := 1#32
  let v20 : BitVec 32 := Scalar.subi v5 c1_i32_7
  let v21 : BitVec 32 := Scalar.select v19 v20 v5
  let v22 : BitVec 32 := Scalar.minsi arg3 v21
  let c0_i32_8 : BitVec 32 := 0#32
  let c3_i32 : BitVec 32 := 3#32
  let v23 : BitVec 32 := Scalar.maxsi c0_i32_8 v22
  let v24 : BitVec 32 := Scalar.minsi c3_i32 v23
  let c0_i32_9 : BitVec 32 := 0#32
  let c0_i32_10 : BitVec 32 := 0#32
  ![arg0.toNat, v24.toNat, c0_i32_9.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x128x10240 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, false]

abbrev stage0_1 : Fin 2 → Memref sig .tc .vmem S1x512x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 1 → Memref sig .tc .vmem S16x512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false, false]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, false]
-- ==== KernelIdeal.lean ====
variable {F : FTy → Type} [FloatOps F] [Named F]
def κ : String → Option EReal := fun
  | "half_mask" => some ⊥
  | "mask" => some ⊥
  | _ => none
-- ==== ReferenceIdeal.lean ====
abbrev S4x2048x16x512 : Shape := ⟨4, ![4, 2048, 16, 512]⟩
abbrev S4x2048x16x64 : Shape := ⟨4, ![4, 2048, 16, 64]⟩
abbrev S4x2048x512 : Shape := ⟨3, ![4, 2048, 512]⟩
abbrev S4x2048x64 : Shape := ⟨3, ![4, 2048, 64]⟩
abbrev S512x4096 : Shape := ⟨2, ![512, 4096]⟩
abbrev S512x16x256 : Shape := ⟨3, ![512, 16, 256]⟩
abbrev S512x16x128 : Shape := ⟨3, ![512, 16, 128]⟩
abbrev S2048 : Shape := ⟨1, ![2048]⟩
abbrev S4x2048x2048x16 : Shape := ⟨4, ![4, 2048, 2048, 16]⟩
abbrev S4x16x2048x2048 : Shape := ⟨4, ![4, 16, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S4x16x2048 : Shape := ⟨3, ![4, 16, 2048]⟩
abbrev S4x16x2048x1 : Shape := ⟨4, ![4, 16, 2048, 1]⟩
abbrev S4x512x16x2048 : Shape := ⟨4, ![4, 512, 16, 2048]⟩
abbrev S16x128x4x2048 : Shape := ⟨4, ![16, 128, 4, 2048]⟩
abbrev S4x2048x16x128 : Shape := ⟨4, ![4, 2048, 16, 128]⟩
abbrev S4x2048x2048 : Shape := ⟨3, ![4, 2048, 2048]⟩

abbrev nBuf : Space → Nat
  | .hbm => 54
  | .vmem => 0
  | .smem => 0
  | _ => 0

abbrev bufTy : (tb : Table) → Fin (tcTables nBuf tb) → BufTy
  | .hbm, ⟨0, _⟩ => ⟨S4x2048x16x512, .bf16⟩
  | .hbm, ⟨1, _⟩ => ⟨S4x2048x16x64, .bf16⟩
  | .hbm, ⟨2, _⟩ => ⟨S4x2048x512, .bf16⟩
  | .hbm, ⟨3, _⟩ => ⟨S4x2048x64, .bf16⟩
  | .hbm, ⟨4, _⟩ => ⟨S512x4096, .f32⟩
  | .hbm, ⟨5, _⟩ => ⟨S4x2048x16x512, .f32⟩
  | .hbm, ⟨6, _⟩ => ⟨S4x2048x16x64, .f32⟩
  | .hbm, ⟨7, _⟩ => ⟨S4x2048x512, .f32⟩
  | .hbm, ⟨8, _⟩ => ⟨S4x2048x64, .f32⟩
  | .hbm, ⟨9, _⟩ => ⟨S512x16x256, .f32⟩
  | .hbm, ⟨10, _⟩ => ⟨S512x16x128, .f32⟩
  | .hbm, ⟨11, _⟩ => ⟨S512x16x128, .f32⟩
  | .hbm, ⟨12, _⟩ => ⟨S2048, .i32⟩
  | .hbm, ⟨13, _⟩ => ⟨S4x2048x2048x16, .f32⟩
  | .hbm, ⟨14, _⟩ => ⟨S4x16x2048x2048, .f32⟩
  | .hbm, ⟨15, _⟩ => ⟨S4x2048x2048x16, .f32⟩
  | .hbm, ⟨16, _⟩ => ⟨S4x16x2048x2048, .f32⟩
  | .hbm, ⟨17, _⟩ => ⟨S4x16x2048x2048, .f32⟩
  | .hbm, ⟨18, _⟩ => ⟨S_, .f32⟩
  | .hbm, ⟨19, _⟩ => ⟨S4x16x2048x2048, .f32⟩
  | .hbm, ⟨20, _⟩ => ⟨S4x16x2048x2048, .f32⟩
  | .hbm, ⟨21, _⟩ => ⟨S1x2048, .i32⟩
  | .hbm, ⟨22, _⟩ => ⟨S2048x1, .i32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S1x1x2048x2048, .i1⟩
  | .hbm, ⟨27, _⟩ => ⟨S_, .f32⟩
  | .hbm, ⟨28, _⟩ => ⟨S_, .f32⟩
  | .hbm, ⟨29, _⟩ => ⟨S4x16x2048x2048, .i1⟩
  | .hbm, ⟨30, _⟩ => ⟨S4x16x2048x2048, .f32⟩
  | .hbm, ⟨31, _⟩ => ⟨S4x16x2048x2048, .f32⟩
  | .hbm, ⟨32, _⟩ => ⟨S_, .f32⟩
  | .hbm, ⟨33, _⟩ => ⟨S4x16x2048, .f32⟩
  | .hbm, ⟨34, _⟩ => ⟨S_, .f32⟩
  | .hbm, ⟨35, _⟩ => ⟨S4x16x2048, .f32⟩
  | .hbm, ⟨36, _⟩ => ⟨S4x16x2048, .f32⟩
  | .hbm, ⟨37, _⟩ => ⟨S4x16x2048x1, .f32⟩
  | .hbm, ⟨38, _⟩ => ⟨S4x16x2048x2048, .f32⟩
  | .hbm, ⟨39, _⟩ => ⟨S4x16x2048x2048, .f32⟩
  | .hbm, ⟨40, _⟩ => ⟨S4x16x2048x2048, .f32⟩
  | .hbm, ⟨41, _⟩ => ⟨S_, .f32⟩
  | .hbm, ⟨42, _⟩ => ⟨S4x16x2048, .f32⟩
  | .hbm, ⟨43, _⟩ => ⟨S4x16x2048x1, .f32⟩
  | .hbm, ⟨44, _⟩ => ⟨S4x16x2048x2048, .f32⟩
  | .hbm, ⟨45, _⟩ => ⟨S4x16x2048x2048, .f32⟩
  | .hbm, ⟨46, _⟩ => ⟨S1x1x2048x2048, .f32⟩
  | .hbm, ⟨47, _⟩ => ⟨S4x16x2048x2048, .f32⟩
  | .hbm, ⟨48, _⟩ => ⟨S4x16x2048x2048, .f32⟩
  | .hbm, ⟨49, _⟩ => ⟨S4x512x16x2048, .f32⟩
  | .hbm, ⟨50, _⟩ => ⟨S4x2048x16x512, .f32⟩
  | .hbm, ⟨51, _⟩ => ⟨S16x128x4x2048, .f32⟩
  | .hbm, ⟨52, _⟩ => ⟨S4x2048x16x128, .f32⟩
  | .hbm, ⟨53, _⟩ => ⟨S4x2048x2048, .f32⟩
  | _, _ => ⟨S4x2048x16x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel2.lean ====
abbrev S8192x2048 : Shape := ⟨2, ![8192, 2048]⟩
abbrev S4x2048 : Shape := ⟨2, ![4, 2048]⟩
abbrev S4x2048x8192 : Shape := ⟨3, ![4, 2048, 8192]⟩
abbrev S4x3x4096 : Shape := ⟨3, ![4, 3, 4096]⟩
abbrev S4x4096 : Shape := ⟨2, ![4, 4096]⟩
abbrev S1x2048 : Shape := ⟨2, ![1, 2048]⟩
abbrev S2048 : Shape := ⟨1, ![2048]⟩
abbrev S1x3x4096 : Shape := ⟨3, ![1, 3, 4096]⟩
abbrev S3x4096 : Shape := ⟨2, ![3, 4096]⟩
abbrev S1x4096 : Shape := ⟨2, ![1, 4096]⟩
abbrev S4096 : Shape := ⟨1, ![4096]⟩
abbrev S8192x4096 : Shape := ⟨2, ![8192, 4096]⟩
abbrev S8x8x4096 : Shape := ⟨3, ![8, 8, 4096]⟩
abbrev S1024x2048 : Shape := ⟨2, ![1024, 2048]⟩
abbrev S1x2048x512 : Shape := ⟨3, ![1, 2048, 512]⟩
abbrev S3x512 : Shape := ⟨2, ![3, 512]⟩
abbrev S1x512 : Shape := ⟨2, ![1, 512]⟩
abbrev S1024x512 : Shape := ⟨2, ![1024, 512]⟩
abbrev S1x8x512 : Shape := ⟨3, ![1, 8, 512]⟩
abbrev S8x8x512 : Shape := ⟨3, ![8, 8, 512]⟩
abbrev S1024 : Shape := ⟨1, ![1024]⟩
abbrev S1024x1 : Shape := ⟨2, ![1024, 1]⟩
abbrev S8x512 : Shape := ⟨2, ![8, 512]⟩
abbrev S1x2048x256 : Shape := ⟨3, ![1, 2048, 256]⟩
abbrev S2048x256 : Shape := ⟨2, ![2048, 256]⟩
abbrev S1024x256 : Shape := ⟨2, ![1024, 256]⟩
abbrev S1x8x256 : Shape := ⟨3, ![1, 8, 256]⟩
abbrev S8x256 : Shape := ⟨2, ![8, 256]⟩
abbrev S1x256 : Shape := ⟨2, ![1, 256]⟩
abbrev S3x256 : Shape := ⟨2, ![3, 256]⟩

abbrev nBuf : Space → Nat
  | .hbm => 15
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048x8192, .f32⟩
  | .hbm, ⟨3, _⟩ => ⟨S4x3x4096, .f32⟩
  | .hbm, ⟨4, _⟩ => ⟨S4x4096, .f32⟩
  | .hbm, ⟨5, _⟩ => ⟨S1x2048, .f32⟩
  | .hbm, ⟨6, _⟩ => ⟨S2048, .f32⟩
  | .hbm, ⟨7, _⟩ => ⟨S1x3x4096, .f32⟩
  | .hbm, ⟨8, _⟩ => ⟨S3x4096, .f32⟩
  | .hbm, ⟨9, _⟩ => ⟨S1x4096, .f32⟩
  | .hbm, ⟨10, _⟩ => ⟨S4096, .f32⟩
  | .hbm, ⟨11, _⟩ => ⟨S1x2048, .f32⟩
  | .hbm, ⟨12, _⟩ => ⟨S1x4096, .f32⟩
  | .hbm, ⟨13, _⟩ => ⟨S8192x4096, .bf16⟩
  | .hbm, ⟨14, _⟩ => ⟨S8x8x4096, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S3x512, .f32⟩
  | .local _ .vmem, ⟨8, _⟩ => ⟨S3x512, .f32⟩
  | .local _ .vmem, ⟨9, _⟩ => ⟨S1x512, .f32⟩
  | .local _ .vmem, ⟨10, _⟩ => ⟨S1x512, .f32⟩
  | .local _ .vmem, ⟨11, _⟩ => ⟨S1024x512, .bf16⟩
  | .local _ .vmem, ⟨12, _⟩ => ⟨S1024x512, .bf16⟩
  | .local _ .vmem, ⟨13, _⟩ => ⟨S1x8x512, .f32⟩
  | .local _ .vmem, ⟨14, _⟩ => ⟨S1x8x512, .f32⟩
  | .local _ .vmem, ⟨15, _⟩ => ⟨S1024x2048, .bf16⟩
  | .local _ .vmem, ⟨16, _⟩ => ⟨S8x8x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c0_i32_2 : BitVec 32 := 0#32
  let v4 : BitVec 1 := Scalar.cmpi .eq arg0 c0_i32_2
  let v5 : BitVec 32 := Scalar.extui v4
  let c0_i32_3 : BitVec 32 := 0#32
  let v6 : BitVec 1 := Scalar.cmpi .ne v5 c0_i32_3
  v6

def k0_off1 (i : grid0.Coords) : Fin 3 → Nat :=
  let arg1 : BitVec 32 := BitVec.ofNat 32 (i 1).val
  let v168 : Index := Scalar.indexCast arg1
  let c0_75 : Index := 0#32
  let c0_76 : Index := 0#32
  ![v168.toNat, 0, 0]
def k0_off2 (i : grid0.Coords) : Fin 3 → Nat :=
  let arg1 : BitVec 32 := BitVec.ofNat 32 (i 1).val
  let v29 : Index := Scalar.indexCast arg1
  let c0_18 : Index := 0#32
  let c0_19 : Index := 0#32
  ![v29.toNat, 0, 0]
def k0_off3 (i : grid0.Coords) : Fin 3 → Nat :=
  let arg1 : BitVec 32 := BitVec.ofNat 32 (i 1).val
  let v109 : Index := Scalar.indexCast arg1
  let c0_54 : Index := 0#32
  let c256_55 : Index := 256#32
  ![v109.toNat, 0, 256]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c1_i32 : BitVec 32 := 1#32
  let c0_i32 : BitVec 32 := 0#32
  let c0_i32_0 : BitVec 32 := 0#32
  ![c1_i32.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S8192x2048 : Shape := ⟨2, ![8192, 2048]⟩
abbrev S4x2048 : Shape := ⟨2, ![4, 2048]⟩
abbrev S4x2048x8192 : Shape := ⟨3, ![4, 2048, 8192]⟩
abbrev S4x3x4096 : Shape := ⟨3, ![4, 3, 4096]⟩
abbrev S4x4096 : Shape := ⟨2, ![4, 4096]⟩
abbrev S4x2048x2048 : Shape := ⟨3, ![4, 2048, 2048]⟩
abbrev S1x2048 : Shape := ⟨2, ![1, 2048]⟩
abbrev S2048 : Shape := ⟨1, ![2048]⟩
abbrev S_ : Shape := ⟨0, ![]⟩
abbrev S4x2048x1 : Shape := ⟨3, ![4, 2048, 1]⟩
abbrev S1x1x2048 : Shape := ⟨3, ![1, 1, 2048]⟩
abbrev S1x2048x8192 : Shape := ⟨3, ![1, 2048, 8192]⟩
abbrev S2048x8192 : Shape := ⟨2, ![2048, 8192]⟩
abbrev S4x2048x4096 : Shape := ⟨3, ![4, 2048, 4096]⟩
abbrev S4x2x4096 : Shape := ⟨3, ![4, 2, 4096]⟩
abbrev S4x2050x4096 : Shape := ⟨3, ![4, 2050, 4096]⟩
abbrev S1x4096 : Shape := ⟨2, ![1, 4096]⟩
abbrev S4096 : Shape := ⟨1, ![4096]⟩
abbrev S1x1x4096 : Shape := ⟨3, ![1, 1, 4096]⟩
abbrev S8192x4096 : Shape := ⟨2, ![8192, 4096]⟩
abbrev S8x1024x4096 : Shape := ⟨3, ![8, 1024, 4096]⟩
abbrev S8x8x4096 : Shape := ⟨3, ![8, 8, 4096]⟩

abbrev nBuf : Space → Nat
  | .hbm => 71
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048x8192, .f32⟩
  | .hbm, ⟨3, _⟩ => ⟨S4x3x4096, .f32⟩
  | .hbm, ⟨4, _⟩ => ⟨S4x4096, .f32⟩
  | .hbm, ⟨5, _⟩ => ⟨S4x2048x2048, .f32⟩
  | .hbm, ⟨6, _⟩ => ⟨S1x2048, .f32⟩
  | .hbm, ⟨7, _⟩ => ⟨S2048, .f32⟩
  | .hbm, ⟨8, _⟩ => ⟨S4x2048x2048, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S4x2048x2048, .f32⟩
  | .hbm, ⟨20, _⟩ => ⟨S4x2048x2048, .f32⟩
  | .hbm, ⟨21, _⟩ => ⟨S1x1x2048, .f32⟩
  | .hbm, ⟨22, _⟩ => ⟨S4x2048x2048, .f32⟩
  | .hbm, ⟨23, _⟩ => ⟨S4x2048x2048, .f32⟩
  | .hbm, ⟨24, _⟩ => ⟨S1x2048x8192, .f32⟩
  | .hbm, ⟨25, _⟩ => ⟨S2048x8192, .f32⟩
  | .hbm, ⟨26, _⟩ => ⟨S4x2048x8192, .f32⟩
  | .hbm, ⟨27, _⟩ => ⟨S4x2048x4096, .f32⟩
  | .hbm, ⟨28, _⟩ => ⟨S4x2048x4096, .f32⟩
  | .hbm, ⟨29, _⟩ => ⟨S_, .f32⟩
  | .hbm, ⟨30, _⟩ => ⟨S4x2x4096, .f32⟩
  | .hbm, ⟨31, _⟩ => ⟨S4x2050x4096, .f32⟩
  | .hbm, ⟨32, _⟩ => ⟨S1x4096, .f32⟩
  | .hbm, ⟨33, _⟩ => ⟨S4096, .f32⟩
  | .hbm, ⟨34, _⟩ => ⟨S4x2048x4096, .f32⟩
  | .hbm, ⟨35, _⟩ => ⟨S1x1x4096, .f32⟩
  | .hbm, ⟨36, _⟩ => ⟨S4096, .f32⟩
  | .hbm, ⟨37, _⟩ => ⟨S1x1x4096, .f32⟩
  | .hbm, ⟨38, _⟩ => ⟨S4x2048x4096, .f32⟩
  | .hbm, ⟨39, _⟩ => ⟨S4x2048x4096, .f32⟩
  | .hbm, ⟨40, _⟩ => ⟨S1x1x4096, .f32⟩
  | .hbm, ⟨41, _⟩ => ⟨S4x2048x4096, .f32⟩
  | .hbm, ⟨42, _⟩ => ⟨S4x2048x4096, .f32⟩
  | .hbm, ⟨43, _⟩ => ⟨S4x2048x4096, .f32⟩
  | .hbm, ⟨44, _⟩ => ⟨S1x1x4096, .f32⟩
  | .hbm, ⟨45, _⟩ => ⟨S4096, .f32⟩
  | .hbm, ⟨46, _⟩ => ⟨S1x1x4096, .f32⟩
  | .hbm, ⟨47, _⟩ => ⟨S4x2048x4096, .f32⟩
  | .hbm, ⟨48, _⟩ => ⟨S4x2048x4096, .f32⟩
  | .hbm, ⟨49, _⟩ => ⟨S4x2048x4096, .f32⟩
  | .hbm, ⟨50, _⟩ => ⟨S4x2048x4096, .f32⟩
  | .hbm, ⟨51, _⟩ => ⟨S1x1x4096, .f32⟩
  | .hbm, ⟨52, _⟩ => ⟨S4096, .f32⟩
  | .hbm, ⟨53, _⟩ => ⟨S1x1x4096, .f32⟩
  | .hbm, ⟨54, _⟩ => ⟨S4x2048x4096, .f32⟩
  | .hbm, ⟨55, _⟩ => ⟨S4x2048x4096, .f32⟩
  | .hbm, ⟨56, _⟩ => ⟨S4x2048x4096, .f32⟩
  | .hbm, ⟨57, _⟩ => ⟨S4x2048x4096, .f32⟩
  | .hbm, ⟨58, _⟩ => ⟨S4x2048x4096, .f32⟩
  | .hbm, ⟨59, _⟩ => ⟨S_, .f32⟩
  | .hbm, ⟨60, _⟩ => ⟨S4x2048x4096, .f32⟩
  | .hbm, ⟨61, _⟩ => ⟨S4x2048x4096, .f32⟩
  | .hbm, ⟨62, _⟩ => ⟨S_, .f32⟩
  | .hbm, ⟨63, _⟩ => ⟨S4x2048x4096, .f32⟩
  | .hbm, ⟨64, _⟩ => ⟨S4x2048x4096, .f32⟩
  | .hbm, ⟨65, _⟩ => ⟨S4x2048x4096, .f32⟩
  | .hbm, ⟨66, _⟩ => ⟨S4x2048x4096, .f32⟩
  | .hbm, ⟨67, _⟩ => ⟨S8192x4096, .f32⟩
  | .hbm, ⟨68, _⟩ => ⟨S8192x4096, .bf16⟩
  | .hbm, ⟨69, _⟩ => ⟨S8x1024x4096, .f32⟩
  | .hbm, ⟨70, _⟩ => ⟨S8x8x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_call0_v5 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩

abbrev nD : Nat := 1
abbrev τ : Topo := Topo.v7x

variable {F : FTy → Type} [FloatOps F]
-- ==== Kernel3.lean ====
abbrev S8192x4096 : Shape := ⟨2, ![8192, 4096]⟩
abbrev S4x4096x2048 : Shape := ⟨3, ![4, 4096, 2048]⟩
abbrev S8192x2048 : Shape := ⟨2, ![8192, 2048]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S4x4096x2048, .f32⟩
  | .hbm, ⟨2, _⟩ => ⟨S8192x2048, .f32⟩
  | .hbm, ⟨3, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8192x4096 : Shape := ⟨2, ![8192, 4096]⟩
abbrev S4x4096x2048 : Shape := ⟨3, ![4, 4096, 2048]⟩
abbrev S8192x2048 : Shape := ⟨2, ![8192, 2048]⟩
abbrev S1x4096x2048 : Shape := ⟨3, ![1, 4096, 2048]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x4096x2048, .f32⟩
  | .hbm, ⟨2, _⟩ => ⟨S8192x2048, .f32⟩
  | .hbm, ⟨3, _⟩ => ⟨S8192x4096, .f32⟩
  | .hbm, ⟨4, _⟩ => ⟨S1x4096x2048, .f32⟩
  | .hbm, ⟨5, _⟩ => ⟨S4096x2048, .f32⟩
  | .hbm, ⟨6, _⟩ => ⟨S8192x2048, .f32⟩
  | .hbm, ⟨7, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S8192x2048 : Shape := ⟨2, ![8192, 2048]⟩
abbrev S2048 : Shape := ⟨1, ![2048]⟩
abbrev S2048x3840 : Shape := ⟨2, ![2048, 3840]⟩
abbrev S1x2048 : Shape := ⟨2, ![1, 2048]⟩
abbrev S8192x3840 : Shape := ⟨2, ![8192, 3840]⟩
abbrev S1024x2048 : Shape := ⟨2, ![1024, 2048]⟩
abbrev S2048x768 : Shape := ⟨2, ![2048, 768]⟩
abbrev S1024x768 : Shape := ⟨2, ![1024, 768]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x3840, .f32⟩
  | .hbm, ⟨3, _⟩ => ⟨S1x2048, .f32⟩
  | .hbm, ⟨4, _⟩ => ⟨S8192x3840, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x768, .f32⟩
  | .local _ .vmem, ⟨4, _⟩ => ⟨S2048x768, .f32⟩
  | .local _ .vmem, ⟨5, _⟩ => ⟨S1024x768, .f32⟩
  | .local _ .vmem, ⟨6, _⟩ => ⟨S1024x768, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8192x2048 : Shape := ⟨2, ![8192, 2048]⟩
abbrev S2048 : Shape := ⟨1, ![2048]⟩
abbrev S2048x3840 : Shape := ⟨2, ![2048, 3840]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x3840 : Shape := ⟨2, ![8192, 3840]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x3840, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x3840, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel5.lean ====
abbrev S8192x2048 : Shape := ⟨2, ![8192, 2048]⟩
abbrev S1x2048x2048 : Shape := ⟨3, ![1, 2048, 2048]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S1x2048x2048, .f32⟩
  | .hbm, ⟨2, _⟩ => ⟨S8192x2048, .f32⟩
  | .hbm, ⟨3, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048x512, .f32⟩
  | .local _ .vmem, ⟨3, _⟩ => ⟨S1x2048x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8192x2048 : Shape := ⟨2, ![8192, 2048]⟩
abbrev S1x2048x2048 : Shape := ⟨3, ![1, 2048, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048x2048, .f32⟩
  | .hbm, ⟨2, _⟩ => ⟨S8192x2048, .f32⟩
  | .hbm, ⟨3, _⟩ => ⟨S2048x2048, .f32⟩
  | .hbm, ⟨4, _⟩ => ⟨S8192x2048, .f32⟩
  | .hbm, ⟨5, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel6.lean ====
abbrev S4x2048x3840 : Shape := ⟨3, ![4, 2048, 3840]⟩
abbrev S512 : Shape := ⟨1, ![512]⟩
abbrev S512x4096 : Shape := ⟨2, ![512, 4096]⟩
abbrev S512x16x256 : Shape := ⟨3, ![512, 16, 256]⟩
abbrev S512x16x128 : Shape := ⟨3, ![512, 16, 128]⟩
abbrev S16x128x512 : Shape := ⟨3, ![16, 128, 512]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S1x512 : Shape := ⟨2, ![1, 512]⟩
abbrev S4x2048x10240 : Shape := ⟨3, ![4, 2048, 10240]⟩
abbrev S4x2048x640 : Shape := ⟨3, ![4, 2048, 640]⟩
abbrev S4x2048x512 : Shape := ⟨3, ![4, 2048, 512]⟩
abbrev S4x2048x64 : Shape := ⟨3, ![4, 2048, 64]⟩
abbrev S1x128x3072 : Shape := ⟨3, ![1, 128, 3072]⟩
abbrev S1x128x512 : Shape := ⟨3, ![1, 128, 512]⟩
abbrev S1x128x128 : Shape := ⟨3, ![1, 128, 128]⟩
abbrev S128x32 : Shape := ⟨2, ![128, 32]⟩
abbrev S1x128x10240 : Shape := ⟨3, ![1, 128, 10240]⟩
abbrev S1x128x640 : Shape := ⟨3, ![1, 128, 640]⟩
abbrev S1x128x64 : Shape := ⟨3, ![1, 128, 64]⟩
abbrev S128x512 : Shape := ⟨2, ![128, 512]⟩
abbrev S128 : Shape := ⟨1, ![128]⟩
abbrev S128x1 : Shape := ⟨2, ![128, 1]⟩
abbrev S128x128 : Shape := ⟨2, ![128, 128]⟩
abbrev S128x64 : Shape := ⟨2, ![128, 64]⟩
abbrev S128x640 : Shape := ⟨2, ![128, 640]⟩

abbrev nBuf : Space → Nat
  | .hbm => 29
  | .vmem => 20
  | .smem => 0
  | _ => 0

abbrev bufTy : (tb : Table) → Fin (tcTables nBuf tb) → BufTy
  | .hbm, ⟨0, _⟩ => ⟨S4x2048x3840, .f32⟩
  | .hbm, ⟨1, _⟩ => ⟨S512, .f32⟩
  | .hbm, ⟨2, _⟩ => ⟨S512x4096, .f32⟩
  | .hbm, ⟨3, _⟩ => ⟨S512x16x256, .f32⟩
  | .hbm, ⟨4, _⟩ => ⟨S512x16x128, .f32⟩
  | .hbm, ⟨5, _⟩ => ⟨S16x128x512, .f32⟩
  | .hbm, ⟨6, _⟩ => ⟨S16x128x512, .bf16⟩
  | .hbm, ⟨7, _⟩ => ⟨S2048, .i32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S2048, .f32⟩
  | .hbm, ⟨17, _⟩ => ⟨S2048x1, .f32⟩
  | .hbm, ⟨18, _⟩ => ⟨S1x32, .f32⟩
  | .hbm, ⟨19, _⟩ => ⟨S2048x32, .f32⟩
  | .hbm, ⟨20, _⟩ => ⟨S2048x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S1x512, .f32⟩
  | .hbm, ⟨25, _⟩ => ⟨S4x2048x10240, .bf16⟩
  | .hbm, ⟨26, _⟩ => ⟨S4x2048x640, .bf16⟩
  | .hbm, ⟨27, _⟩ => ⟨S4x2048x512, .f32⟩
  | .hbm, ⟨28, _⟩ => ⟨S4x2048x64, .f32⟩
  | .local _ .vmem, ⟨0, _⟩ => ⟨S1x128x3072, .f32⟩
  | .local _ .vmem, ⟨1, _⟩ => ⟨S1x128x3072, .f32⟩
  | .local _ .vmem, ⟨2, _⟩ => ⟨S1x128x512, .f32⟩
  | .local _ .vmem, ⟨3, _⟩ => ⟨S1x128x512, .f32⟩
  | .local _ .vmem, ⟨4, _⟩ => ⟨S1x128x128, .f32⟩
  | .local _ .vmem, ⟨5, _⟩ => ⟨S1x128x128, .f32⟩
  | .local _ .vmem, ⟨6, _⟩ => ⟨S1x512, .f32⟩
  | .local _ .vmem, ⟨7, _⟩ => ⟨S16x128x512, .bf16⟩
  | .local _ .vmem, ⟨8, _⟩ => ⟨S128x32, .f32⟩
  | .local _ .vmem, ⟨9, _⟩ => ⟨S128x32, .f32⟩
  | .local _ .vmem, ⟨10, _⟩ => ⟨S128x32, .f32⟩
  | .local _ .vmem, ⟨11, _⟩ => ⟨S128x32, .f32⟩
  | .local _ .vmem, ⟨12, _⟩ => ⟨S1x128x10240, .bf16⟩
  | .local _ .vmem, ⟨13, _⟩ => ⟨S1x128x10240, .bf16⟩
  | .local _ .vmem, ⟨14, _⟩ => ⟨S1x128x640, .bf16⟩
  | .local _ .vmem, ⟨15, _⟩ => ⟨S1x128x640, .bf16⟩
  | .local _ .vmem, ⟨16, _⟩ => ⟨S1x128x512, .f32⟩
  | .local _ .vmem, ⟨17, _⟩ => ⟨S1x128x512, .f32⟩
  | .local _ .vmem, ⟨18, _⟩ => ⟨S1x128x64, .f32⟩
  | .local _ .vmem, ⟨19, _⟩ => ⟨S1x128x64, .f32⟩
  | _, _ => ⟨S4x2048x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20_0 : Ref sig .tc := ⟨.hbm, 25, rfl⟩
abbrev main_v20_1 : Ref sig .tc := ⟨.hbm, 26, rfl⟩
abbrev main_v20_2 : Ref sig .tc := ⟨.hbm, 27, rfl⟩
abbrev main_v20_3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_2 (i : grid0.Coords) : Fin 3 → Nat :=
  let arg0 : BitVec 32 := BitVec.ofNat 32 (i 0).val
  let arg1 : BitVec 32 := BitVec.ofNat 32 (i 1).val
  let c28_i32 : BitVec 32 := 28#32
  let c0_i32 : BitVec 32 := 0#32
  ![arg0.toNat, arg1.toNat, c28_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S128x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x128x10240 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x640 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference6Ideal.lean ====
abbrev S4x2048x3840 : Shape := ⟨3, ![4, 2048, 3840]⟩
abbrev S512 : Shape := ⟨1, ![512]⟩
abbrev S512x4096 : Shape := ⟨2, ![512, 4096]⟩
abbrev S2048 : Shape := ⟨1, ![2048]⟩
abbrev S4x2048x3072 : Shape := ⟨3, ![4, 2048, 3072]⟩
abbrev S4x2048x512 : Shape := ⟨3, ![4, 2048, 512]⟩
abbrev S4x2048x64 : Shape := ⟨3, ![4, 2048, 64]⟩
abbrev S4x2048x192 : Shape := ⟨3, ![4, 2048, 192]⟩
abbrev S4x2048x16x192 : Shape := ⟨4, ![4, 2048, 16, 192]⟩
abbrev S4x2048x16x128 : Shape := ⟨4, ![4, 2048, 16, 128]⟩
abbrev S512x16x256 : Shape := ⟨3, ![512, 16, 256]⟩
abbrev S512x16x128 : Shape := ⟨3, ![512, 16, 128]⟩
abbrev S16x512x4x2048 : Shape := ⟨4, ![16, 512, 4, 2048]⟩
abbrev S4x2048x16x512 : Shape := ⟨4, ![4, 2048, 16, 512]⟩
abbrev S4x2048x16x64 : Shape := ⟨4, ![4, 2048, 16, 64]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S4x2048x16x32 : Shape := ⟨4, ![4, 2048, 16, 32]⟩
abbrev S1x2048x1x32 : Shape := ⟨4, ![1, 2048, 1, 32]⟩
abbrev S4x2048 : Shape := ⟨2, ![4, 2048]⟩
abbrev S4x2048x1 : Shape := ⟨3, ![4, 2048, 1]⟩
abbrev S1x1x512 : Shape := ⟨3, ![1, 1, 512]⟩
abbrev S4x2048x32 : Shape := ⟨3, ![4, 2048, 32]⟩
abbrev S1x2048x32 : Shape := ⟨3, ![1, 2048, 32]⟩
abbrev S4x2048x16x640 : Shape := ⟨4, ![4, 2048, 16, 640]⟩
abbrev S4x2048x640 : Shape := ⟨3, ![4, 2048, 640]⟩
abbrev S4x2048x10240 : Shape := ⟨3, ![4, 2048, 10240]⟩

abbrev nBuf : Space → Nat
  | .hbm => 107
  | .vmem => 0
  | .smem => 0
  | _ => 0

abbrev bufTy : (tb : Table) → Fin (tcTables nBuf tb) → BufTy
  | .hbm, ⟨0, _⟩ => ⟨S4x2048x3840, .f32⟩
  | .hbm, ⟨1, _⟩ => ⟨S512, .f32⟩
  | .hbm, ⟨2, _⟩ => ⟨S512x4096, .f32⟩
  | .hbm, ⟨3, _⟩ => ⟨S2048, .i32⟩
  | .hbm, ⟨4, _⟩ => ⟨S4x2048x3072, .f32⟩
  | .hbm, ⟨5, _⟩ => ⟨S4x2048x512, .f32⟩
  | .hbm, ⟨6, _⟩ => ⟨S4x2048x64, .f32⟩
  | .hbm, ⟨7, _⟩ => ⟨S4x2048x192, .f32⟩
  | .hbm, ⟨8, _⟩ => ⟨S4x2048x16x192, .f32⟩
  | .hbm, ⟨9, _⟩ => ⟨S4x2048x16x128, .f32⟩
  | .hbm, ⟨10, _⟩ => ⟨S512x16x256, .f32⟩
  | .hbm, ⟨11, _⟩ => ⟨S512x16x128, .f32⟩
  | .hbm, ⟨12, _⟩ => ⟨S16x512x4x2048, .f32⟩
  | .hbm, ⟨13, _⟩ => ⟨S4x2048x16x512, .f32⟩
  | .hbm, ⟨14, _⟩ => ⟨S4x2048x16x64, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S2048, .f32⟩
  | .hbm, ⟨24, _⟩ => ⟨S2048x1, .f32⟩
  | .hbm, ⟨25, _⟩ => ⟨S1x32, .f32⟩
  | .hbm, ⟨26, _⟩ => ⟨S2048x32, .f32⟩
  | .hbm, ⟨27, _⟩ => ⟨S2048x32, .f32⟩
  | .hbm, ⟨28, _⟩ => ⟨S2048x32, .f32⟩
  | .hbm, ⟨29, _⟩ => ⟨S2048x1x32, .f32⟩
  | .hbm, ⟨30, _⟩ => ⟨S2048x1x32, .f32⟩
  | .hbm, ⟨31, _⟩ => ⟨S2048x1x32, .f32⟩
  | .hbm, ⟨32, _⟩ => ⟨S4x2048x16x32, .f32⟩
  | .hbm, ⟨33, _⟩ => ⟨S4x2048x16x32, .f32⟩
  | .hbm, ⟨34, _⟩ => ⟨S1x2048x1x32, .f32⟩
  | .hbm, ⟨35, _⟩ => ⟨S4x2048x16x32, .f32⟩
  | .hbm, ⟨36, _⟩ => ⟨S4x2048x16x32, .f32⟩
  | .hbm, ⟨37, _⟩ => ⟨S1x2048x1x32, .f32⟩
  | .hbm, ⟨38, _⟩ => ⟨S4x2048x16x32, .f32⟩
  | .hbm, ⟨39, _⟩ => ⟨S4x2048x16x32, .f32⟩
  | .hbm, ⟨40, _⟩ => ⟨S4x2048x16x32, .f32⟩
  | .hbm, ⟨41, _⟩ => ⟨S1x2048x1x32, .f32⟩
  | .hbm, ⟨42, _⟩ => ⟨S4x2048x16x32, .f32⟩
  | .hbm, ⟨43, _⟩ => ⟨S4x2048x16x32, .f32⟩
  | .hbm, ⟨44, _⟩ => ⟨S1x2048x1x32, .f32⟩
  | .hbm, ⟨45, _⟩ => ⟨S4x2048x16x32, .f32⟩
  | .hbm, ⟨46, _⟩ => ⟨S4x2048x16x32, .f32⟩
  | .hbm, ⟨47, _⟩ => ⟨S4x2048x16x32, .f32⟩
  | .hbm, ⟨48, _⟩ => ⟨S4x2048x16x64, .f32⟩
  | .hbm, ⟨49, _⟩ => ⟨S4x2048x512, .f32⟩
  | .hbm, ⟨50, _⟩ => ⟨S_, .f32⟩
  | .hbm, ⟨51, _⟩ => ⟨S4x2048, .f32⟩
  | .hbm, ⟨52, _⟩ => ⟨S4x2048x1, .f32⟩
  | .hbm, ⟨53, _⟩ => ⟨S_, .f32⟩
  | .hbm, ⟨54, _⟩ => ⟨S4x2048x1, .f32⟩
  | .hbm, ⟨55, _⟩ => ⟨S4x2048x1, .f32⟩
  | .hbm, ⟨56, _⟩ => ⟨S_, .f32⟩
  | .hbm, ⟨57, _⟩ => ⟨S4x2048x1, .f32⟩
  | .hbm, ⟨58, _⟩ => ⟨S4x2048x1, .f32⟩
  | .hbm, ⟨59, _⟩ => ⟨S4x2048x1, .f32⟩
  | .hbm, ⟨60, _⟩ => ⟨S4x2048x512, .f32⟩
  | .hbm, ⟨61, _⟩ => ⟨S4x2048x512, .f32⟩
  | .hbm, ⟨62, _⟩ => ⟨S1x1x512, .f32⟩
  | .hbm, ⟨63, _⟩ => ⟨S4x2048x512, .f32⟩
  | .hbm, ⟨64, _⟩ => ⟨S4x2048x512, .f32⟩
  | .hbm, ⟨65, _⟩ => ⟨S32, .f32⟩
  | .hbm, ⟨66, _⟩ => ⟨S32, .f32⟩
  | .hbm, ⟨67, _⟩ => ⟨S_, .f32⟩
  | .hbm, ⟨68, _⟩ => ⟨S32, .f32⟩
  | .hbm, ⟨69, _⟩ => ⟨S32, .f32⟩
  | .hbm, ⟨70, _⟩ => ⟨S_, .f32⟩
  | .hbm, ⟨71, _⟩ => ⟨S32, .f32⟩
  | .hbm, ⟨72, _⟩ => ⟨S32, .f32⟩
  | .hbm, ⟨73, _⟩ => ⟨S2048, .f32⟩
  | .hbm, ⟨74, _⟩ => ⟨S2048x1, .f32⟩
  | .hbm, ⟨75, _⟩ => ⟨S1x32, .f32⟩
  | .hbm, ⟨76, _⟩ => ⟨S2048x32, .f32⟩
  | .hbm, ⟨77, _⟩ => ⟨S2048x32, .f32⟩
  | .hbm, ⟨78, _⟩ => ⟨S2048x32, .f32⟩
  | .hbm, ⟨79, _⟩ => ⟨S2048x32, .f32⟩
  | .hbm, ⟨80, _⟩ => ⟨S2048x32, .f32⟩
  | .hbm, ⟨81, _⟩ => ⟨S4x2048x32, .f32⟩
  | .hbm, ⟨82, _⟩ => ⟨S4x2048x32, .f32⟩
  | .hbm, ⟨83, _⟩ => ⟨S1x2048x32, .f32⟩
  | .hbm, ⟨84, _⟩ => ⟨S4x2048x32, .f32⟩
  | .hbm, ⟨85, _⟩ => ⟨S4x2048x32, .f32⟩
  | .hbm, ⟨86, _⟩ => ⟨S1x2048x32, .f32⟩
  | .hbm, ⟨87, _⟩ => ⟨S4x2048x32, .f32⟩
  | .hbm, ⟨88, _⟩ => ⟨S4x2048x32, .f32⟩
  | .hbm, ⟨89, _⟩ => ⟨S4x2048x32, .f32⟩
  | .hbm, ⟨90, _⟩ => ⟨S1x2048x32, .f32⟩
  | .hbm, ⟨91, _⟩ => ⟨S4x2048x32, .f32⟩
  | .hbm, ⟨92, _⟩ => ⟨S4x2048x32, .f32⟩
  | .hbm, ⟨93, _⟩ => ⟨S1x2048x32, .f32⟩
  | .hbm, ⟨94, _⟩ => ⟨S4x2048x32, .f32⟩
  | .hbm, ⟨95, _⟩ => ⟨S4x2048x32, .f32⟩
  | .hbm, ⟨96, _⟩ => ⟨S4x2048x32, .f32⟩
  | .hbm, ⟨97, _⟩ => ⟨S4x2048x64, .f32⟩
  | .hbm, ⟨98, _⟩ => ⟨S_, .f32⟩
  | .hbm, ⟨99, _⟩ => ⟨S4x2048x16x64, .f32⟩
  | .hbm, ⟨100, _⟩ => ⟨S4x2048x16x640, .f32⟩
  | .hbm, ⟨101, _⟩ => ⟨S_, .f32⟩
  | .hbm, ⟨102, _⟩ => ⟨S4x2048x64, .f32⟩
  | .hbm, ⟨103, _⟩ => ⟨S4x2048x640, .f32⟩
  | .hbm, ⟨104, _⟩ => ⟨S4x2048x10240, .f32⟩
  | .hbm, ⟨105, _⟩ => ⟨S4x2048x10240, .bf16⟩
  | .hbm, ⟨106, _⟩ => ⟨S4x2048x640, .bf16⟩
  | _, _ => ⟨S4x2048x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_cst_1 : Ref sig .tc := ⟨.hbm, 50, rfl⟩
abbrev main_v45 : Ref sig .tc := ⟨.hbm, 51, rfl⟩
abbrev main_v46 : Ref sig .tc := ⟨.hbm, 52, rfl⟩
abbrev main_cst_2 : Ref sig .tc := ⟨.hbm, 53, rfl⟩
abbrev main_v47 : Ref sig .tc := ⟨.hbm, 54, rfl⟩
abbrev main_v48 : Ref sig .tc := ⟨.hbm, 55, rfl⟩
abbrev main_cst_3 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_cst_4 : Ref sig .tc := ⟨.hbm, 67, rfl⟩
abbrev main_v59 : Ref sig .tc := ⟨.hbm, 68, rfl⟩
abbrev main_v60 : Ref sig .tc := ⟨.hbm, 69, rfl⟩
abbrev main_cst_5 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_cst_6 : Ref sig .tc := ⟨.hbm, 98, rfl⟩
abbrev main_v88 : Ref sig .tc := ⟨.hbm, 99, rfl⟩
abbrev main_v89 : Ref sig .tc := ⟨.hbm, 100, rfl⟩
abbrev main_cst_7 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩

abbrev nD : Nat := 1
abbrev τ : Topo := Topo.v7x

variable {F : FTy → Type} [FloatOps F]
-- ==== Kernel7.lean ====
abbrev S8192x2048 : Shape := ⟨2, ![8192, 2048]⟩
abbrev S2048 : Shape := ⟨1, ![2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel8.lean ====
abbrev S512x2048 : Shape := ⟨2, ![512, 2048]⟩
abbrev S2048 : Shape := ⟨1, ![2048]⟩
abbrev S1x2048 : Shape := ⟨2, ![1, 2048]⟩
abbrev S512 : Shape := ⟨1, ![512]⟩
abbrev S512x1 : Shape := ⟨2, ![512, 1]⟩

abbrev nBuf : Space → Nat
  | .hbm => 4
  | .vmem => 3
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S1x2048, .f32⟩
  | .hbm, ⟨3, _⟩ => ⟨S512x2048, .f32⟩
  | .local _ .vmem, ⟨0, _⟩ => ⟨S512x2048, .f32⟩
  | .local _ .vmem, ⟨1, _⟩ => ⟨S1x2048, .f32⟩
  | .local _ .vmem, ⟨2, _⟩ => ⟨S512x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference8Ideal.lean ====
abbrev S512x2048 : Shape := ⟨2, ![512, 2048]⟩
abbrev S2048 : Shape := ⟨1, ![2048]⟩
abbrev S_ : Shape := ⟨0, ![]⟩
abbrev S512 : Shape := ⟨1, ![512]⟩
abbrev S512x1 : Shape := ⟨2, ![512, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S512x2048, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S_, .f32⟩
  | .hbm, ⟨7, _⟩ => ⟨S512x1, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S512x1, .f32⟩
  | .hbm, ⟨13, _⟩ => ⟨S512x2048, .f32⟩
  | .hbm, ⟨14, _⟩ => ⟨S512x2048, .f32⟩
  | .hbm, ⟨15, _⟩ => ⟨S1x2048, .f32⟩
  | .hbm, ⟨16, _⟩ => ⟨S512x2048, .f32⟩
  | .hbm, ⟨17, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel9.lean ====
abbrev S512x2048 : Shape := ⟨2, ![512, 2048]⟩
abbrev S2048 : Shape := ⟨1, ![2048]⟩
abbrev S2048x3840 : Shape := ⟨2, ![2048, 3840]⟩
abbrev S1x2048 : Shape := ⟨2, ![1, 2048]⟩
abbrev S512x3840 : Shape := ⟨2, ![512, 3840]⟩
abbrev S2048x768 : Shape := ⟨2, ![2048, 768]⟩
abbrev S512x768 : Shape := ⟨2, ![512, 768]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S2048x3840, .f32⟩
  | .hbm, ⟨3, _⟩ => ⟨S1x2048, .f32⟩
  | .hbm, ⟨4, _⟩ => ⟨S512x3840, .f32⟩
  | .local _ .vmem, ⟨0, _⟩ => ⟨S512x2048, .f32⟩
  | .local _ .vmem, ⟨1, _⟩ => ⟨S1x2048, .f32⟩
  | .local _ .vmem, ⟨2, _⟩ => ⟨S2048x768, .f32⟩
  | .local _ .vmem, ⟨3, _⟩ => ⟨S2048x768, .f32⟩
  | .local _ .vmem, ⟨4, _⟩ => ⟨S512x768, .f32⟩
  | .local _ .vmem, ⟨5, _⟩ => ⟨S512x768, .f32⟩
  | .local _ .vmem, ⟨6, _⟩ => ⟨S512x2048, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S512x2048 : Shape := ⟨2, ![512, 2048]⟩
abbrev S2048 : Shape := ⟨1, ![2048]⟩
abbrev S2048x3840 : Shape := ⟨2, ![2048, 3840]⟩
abbrev S_ : Shape := ⟨0, ![]⟩
abbrev S512 : Shape := ⟨1, ![512]⟩
abbrev S512x1 : Shape := ⟨2, ![512, 1]⟩
abbrev S1x2048 : Shape := ⟨2, ![1, 2048]⟩
abbrev S512x3840 : Shape := ⟨2, ![512, 3840]⟩

abbrev nBuf : Space → Nat
  | .hbm => 20
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S2048x3840, .f32⟩
  | .hbm, ⟨3, _⟩ => ⟨S512x2048, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x2048, .f32⟩
  | .hbm, ⟨15, _⟩ => ⟨S512x2048, .f32⟩
  | .hbm, ⟨16, _⟩ => ⟨S1x2048, .f32⟩
  | .hbm, ⟨17, _⟩ => ⟨S512x2048, .f32⟩
  | .hbm, ⟨18, _⟩ => ⟨S512x2048, .f32⟩
  | .hbm, ⟨19, _⟩ => ⟨S512x3840, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel10.lean ====
abbrev S128x8x3840 : Shape := ⟨3, ![128, 8, 3840]⟩
abbrev S512 : Shape := ⟨1, ![512]⟩
abbrev S512x4096 : Shape := ⟨2, ![512, 4096]⟩
abbrev S512x16x256 : Shape := ⟨3, ![512, 16, 256]⟩
abbrev S512x16x128 : Shape := ⟨3, ![512, 16, 128]⟩
abbrev S16x128x512 : Shape := ⟨3, ![16, 128, 512]⟩
abbrev S8 : Shape := ⟨1, ![8]⟩
abbrev S_ : Shape := ⟨0, ![]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S1x512 : Shape := ⟨2, ![1, 512]⟩
abbrev S128x8x10240 : Shape := ⟨3, ![128, 8, 10240]⟩
abbrev S128x8x640 : Shape := ⟨3, ![128, 8, 640]⟩
abbrev S128x8x512 : Shape := ⟨3, ![128, 8, 512]⟩
abbrev S128x8x64 : Shape := ⟨3, ![128, 8, 64]⟩
abbrev S1x8x3072 : Shape := ⟨3, ![1, 8, 3072]⟩
abbrev S1x8x512 : Shape := ⟨3, ![1, 8, 512]⟩
abbrev S1x8x128 : Shape := ⟨3, ![1, 8, 128]⟩
abbrev S1x8x10240 : Shape := ⟨3, ![1, 8, 10240]⟩
abbrev S1x8x640 : Shape := ⟨3, ![1, 8, 640]⟩
abbrev S1x8x64 : Shape := ⟨3, ![1, 8, 64]⟩
abbrev S8x512 : Shape := ⟨2, ![8, 512]⟩
abbrev S8x128 : Shape := ⟨2, ![8, 128]⟩
abbrev S8x64 : Shape := ⟨2, ![8, 64]⟩
abbrev S8x640 : Shape := ⟨2, ![8, 640]⟩
abbrev S1x128x512 : Shape := ⟨3, ![1, 128, 512]⟩
abbrev S128x512 : Shape := ⟨2, ![128, 512]⟩

abbrev nBuf : Space → Nat
  | .hbm => 32
  | .vmem => 18
  | .smem => 0
  | _ => 0

abbrev bufTy : (tb : Table) → Fin (tcTables nBuf tb) → BufTy
  | .hbm, ⟨0, _⟩ => ⟨S128x8x3840, .f32⟩
  | .hbm, ⟨1, _⟩ => ⟨S512, .f32⟩
  | .hbm, ⟨2, _⟩ => ⟨S512x4096, .f32⟩
  | .hbm, ⟨3, _⟩ => ⟨S512x16x256, .f32⟩
  | .hbm, ⟨4, _⟩ => ⟨S512x16x128, .f32⟩
  | .hbm, ⟨5, _⟩ => ⟨S16x128x512, .f32⟩
  | .hbm, ⟨6, _⟩ => ⟨S16x128x512, .bf16⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S8, .f32⟩
  | .hbm, ⟨20, _⟩ => ⟨S8x1, .f32⟩
  | .hbm, ⟨21, _⟩ => ⟨S1x32, .f32⟩
  | .hbm, ⟨22, _⟩ => ⟨S8x32, .f32⟩
  | .hbm, ⟨23, _⟩ => ⟨S8x32, .f32⟩
  | .hbm, ⟨24, _⟩ => ⟨S8x32, .f32⟩
  | .hbm, ⟨25, _⟩ => ⟨S8x32, .f32⟩
  | .hbm, ⟨26, _⟩ => ⟨S8x32, .f32⟩
  | .hbm, ⟨27, _⟩ => ⟨S1x512, .f32⟩
  | .hbm, ⟨28, _⟩ => ⟨S128x8x10240, .bf16⟩
  | .hbm, ⟨29, _⟩ => ⟨S128x8x640, .bf16⟩
  | .hbm, ⟨30, _⟩ => ⟨S128x8x512, .f32⟩
  | .hbm, ⟨31, _⟩ => ⟨S128x8x64, .f32⟩
  | .local _ .vmem, ⟨0, _⟩ => ⟨S1x8x3072, .f32⟩
  | .local _ .vmem, ⟨1, _⟩ => ⟨S1x8x3072, .f32⟩
  | .local _ .vmem, ⟨2, _⟩ => ⟨S1x8x512, .f32⟩
  | .local _ .vmem, ⟨3, _⟩ => ⟨S1x8x512, .f32⟩
  | .local _ .vmem, ⟨4, _⟩ => ⟨S1x8x128, .f32⟩
  | .local _ .vmem, ⟨5, _⟩ => ⟨S1x8x128, .f32⟩
  | .local _ .vmem, ⟨6, _⟩ => ⟨S1x512, .f32⟩
  | .local _ .vmem, ⟨7, _⟩ => ⟨S16x128x512, .bf16⟩
  | .local _ .vmem, ⟨8, _⟩ => ⟨S8x32, .f32⟩
  | .local _ .vmem, ⟨9, _⟩ => ⟨S8x32, .f32⟩
  | .local _ .vmem, ⟨10, _⟩ => ⟨S1x8x10240, .bf16⟩
  | .local _ .vmem, ⟨11, _⟩ => ⟨S1x8x10240, .bf16⟩
  | .local _ .vmem, ⟨12, _⟩ => ⟨S1x8x640, .bf16⟩
  | .local _ .vmem, ⟨13, _⟩ => ⟨S1x8x640, .bf16⟩
  | .local _ .vmem, ⟨14, _⟩ => ⟨S1x8x512, .f32⟩
  | .local _ .vmem, ⟨15, _⟩ => ⟨S1x8x512, .f32⟩
  | .local _ .vmem, ⟨16, _⟩ => ⟨S1x8x64, .f32⟩
  | .local _ .vmem, ⟨17, _⟩ => ⟨S1x8x64, .f32⟩
  | _, _ => ⟨S128x8x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22_0 : Ref sig .tc := ⟨.hbm, 28, rfl⟩
abbrev main_v22_1 : Ref sig .tc := ⟨.hbm, 29, rfl⟩
abbrev main_v22_2 : Ref sig .tc := ⟨.hbm, 30, rfl⟩
abbrev main_v22_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![128, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_2 (i : grid0.Coords) : Fin 3 → Nat :=
  let arg0 : BitVec 32 := BitVec.ofNat 32 (i 0).val
  let arg1 : BitVec 32 := BitVec.ofNat 32 (i 1).val
  let c28_i32 : BitVec 32 := 28#32
  let c0_i32 : BitVec 32 := 0#32
  ![arg0.toNat, arg1.toNat, c28_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S8x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 2 → Memref sig .tc .vmem S1x8x10240 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x640 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference10Ideal.lean ====
abbrev S128x8x3840 : Shape := ⟨3, ![128, 8, 3840]⟩
abbrev S512 : Shape := ⟨1, ![512]⟩
abbrev S512x4096 : Shape := ⟨2, ![512, 4096]⟩
abbrev S8 : Shape := ⟨1, ![8]⟩
abbrev S_ : Shape := ⟨0, ![]⟩
abbrev S128x8x3072 : Shape := ⟨3, ![128, 8, 3072]⟩
abbrev S128x8x512 : Shape := ⟨3, ![128, 8, 512]⟩
abbrev S128x8x64 : Shape := ⟨3, ![128, 8, 64]⟩
abbrev S128x8x192 : Shape := ⟨3, ![128, 8, 192]⟩
abbrev S128x8x16x192 : Shape := ⟨4, ![128, 8, 16, 192]⟩
abbrev S128x8x16x128 : Shape := ⟨4, ![128, 8, 16, 128]⟩
abbrev S512x16x256 : Shape := ⟨3, ![512, 16, 256]⟩
abbrev S512x16x128 : Shape := ⟨3, ![512, 16, 128]⟩
abbrev S16x512x128x8 : Shape := ⟨4, ![16, 512, 128, 8]⟩
abbrev S128x8x16x512 : Shape := ⟨4, ![128, 8, 16, 512]⟩
abbrev S128x8x16x64 : Shape := ⟨4, ![128, 8, 16, 64]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S8x1x32 : Shape := ⟨3, ![8, 1, 32]⟩
abbrev S128x8x16x32 : Shape := ⟨4, ![128, 8, 16, 32]⟩
abbrev S1x8x1x32 : Shape := ⟨4, ![1, 8, 1, 32]⟩
abbrev S128x8 : Shape := ⟨2, ![128, 8]⟩
abbrev S128x8x1 : Shape := ⟨3, ![128, 8, 1]⟩
abbrev S1x1x512 : Shape := ⟨3, ![1, 1, 512]⟩
abbrev S128x8x32 : Shape := ⟨3, ![128, 8, 32]⟩
abbrev S1x8x32 : Shape := ⟨3, ![1, 8, 32]⟩
abbrev S128x8x16x640 : Shape := ⟨4, ![128, 8, 16, 640]⟩
abbrev S128x8x640 : Shape := ⟨3, ![128, 8, 640]⟩
abbrev S128x8x10240 : Shape := ⟨3, ![128, 8, 10240]⟩

abbrev nBuf : Space → Nat
  | .hbm => 110
  | .vmem => 0
  | .smem => 0
  | _ => 0

abbrev bufTy : (tb : Table) → Fin (tcTables nBuf tb) → BufTy
  | .hbm, ⟨0, _⟩ => ⟨S128x8x3840, .f32⟩
  | .hbm, ⟨1, _⟩ => ⟨S512, .f32⟩
  | .hbm, ⟨2, _⟩ => ⟨S512x4096, .f32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S128x8x3072, .f32⟩
  | .hbm, ⟨8, _⟩ => ⟨S128x8x512, .f32⟩
  | .hbm, ⟨9, _⟩ => ⟨S128x8x64, .f32⟩
  | .hbm, ⟨10, _⟩ => ⟨S128x8x192, .f32⟩
  | .hbm, ⟨11, _⟩ => ⟨S128x8x16x192, .f32⟩
  | .hbm, ⟨12, _⟩ => ⟨S128x8x16x128, .f32⟩
  | .hbm, ⟨13, _⟩ => ⟨S512x16x256, .f32⟩
  | .hbm, ⟨14, _⟩ => ⟨S512x16x128, .f32⟩
  | .hbm, ⟨15, _⟩ => ⟨S16x512x128x8, .f32⟩
  | .hbm, ⟨16, _⟩ => ⟨S128x8x16x512, .f32⟩
  | .hbm, ⟨17, _⟩ => ⟨S128x8x16x64, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S8, .f32⟩
  | .hbm, ⟨27, _⟩ => ⟨S8x1, .f32⟩
  | .hbm, ⟨28, _⟩ => ⟨S1x32, .f32⟩
  | .hbm, ⟨29, _⟩ => ⟨S8x32, .f32⟩
  | .hbm, ⟨30, _⟩ => ⟨S8x32, .f32⟩
  | .hbm, ⟨31, _⟩ => ⟨S8x32, .f32⟩
  | .hbm, ⟨32, _⟩ => ⟨S8x1x32, .f32⟩
  | .hbm, ⟨33, _⟩ => ⟨S8x1x32, .f32⟩
  | .hbm, ⟨34, _⟩ => ⟨S8x1x32, .f32⟩
  | .hbm, ⟨35, _⟩ => ⟨S128x8x16x32, .f32⟩
  | .hbm, ⟨36, _⟩ => ⟨S128x8x16x32, .f32⟩
  | .hbm, ⟨37, _⟩ => ⟨S1x8x1x32, .f32⟩
  | .hbm, ⟨38, _⟩ => ⟨S128x8x16x32, .f32⟩
  | .hbm, ⟨39, _⟩ => ⟨S128x8x16x32, .f32⟩
  | .hbm, ⟨40, _⟩ => ⟨S1x8x1x32, .f32⟩
  | .hbm, ⟨41, _⟩ => ⟨S128x8x16x32, .f32⟩
  | .hbm, ⟨42, _⟩ => ⟨S128x8x16x32, .f32⟩
  | .hbm, ⟨43, _⟩ => ⟨S128x8x16x32, .f32⟩
  | .hbm, ⟨44, _⟩ => ⟨S1x8x1x32, .f32⟩
  | .hbm, ⟨45, _⟩ => ⟨S128x8x16x32, .f32⟩
  | .hbm, ⟨46, _⟩ => ⟨S128x8x16x32, .f32⟩
  | .hbm, ⟨47, _⟩ => ⟨S1x8x1x32, .f32⟩
  | .hbm, ⟨48, _⟩ => ⟨S128x8x16x32, .f32⟩
  | .hbm, ⟨49, _⟩ => ⟨S128x8x16x32, .f32⟩
  | .hbm, ⟨50, _⟩ => ⟨S128x8x16x32, .f32⟩
  | .hbm, ⟨51, _⟩ => ⟨S128x8x16x64, .f32⟩
  | .hbm, ⟨52, _⟩ => ⟨S128x8x512, .f32⟩
  | .hbm, ⟨53, _⟩ => ⟨S_, .f32⟩
  | .hbm, ⟨54, _⟩ => ⟨S128x8, .f32⟩
  | .hbm, ⟨55, _⟩ => ⟨S128x8x1, .f32⟩
  | .hbm, ⟨56, _⟩ => ⟨S_, .f32⟩
  | .hbm, ⟨57, _⟩ => ⟨S128x8x1, .f32⟩
  | .hbm, ⟨58, _⟩ => ⟨S128x8x1, .f32⟩
  | .hbm, ⟨59, _⟩ => ⟨S_, .f32⟩
  | .hbm, ⟨60, _⟩ => ⟨S128x8x1, .f32⟩
  | .hbm, ⟨61, _⟩ => ⟨S128x8x1, .f32⟩
  | .hbm, ⟨62, _⟩ => ⟨S128x8x1, .f32⟩
  | .hbm, ⟨63, _⟩ => ⟨S128x8x512, .f32⟩
  | .hbm, ⟨64, _⟩ => ⟨S128x8x512, .f32⟩
  | .hbm, ⟨65, _⟩ => ⟨S1x1x512, .f32⟩
  | .hbm, ⟨66, _⟩ => ⟨S128x8x512, .f32⟩
  | .hbm, ⟨67, _⟩ => ⟨S128x8x512, .f32⟩
  | .hbm, ⟨68, _⟩ => ⟨S32, .f32⟩
  | .hbm, ⟨69, _⟩ => ⟨S32, .f32⟩
  | .hbm, ⟨70, _⟩ => ⟨S_, .f32⟩
  | .hbm, ⟨71, _⟩ => ⟨S32, .f32⟩
  | .hbm, ⟨72, _⟩ => ⟨S32, .f32⟩
  | .hbm, ⟨73, _⟩ => ⟨S_, .f32⟩
  | .hbm, ⟨74, _⟩ => ⟨S32, .f32⟩
  | .hbm, ⟨75, _⟩ => ⟨S32, .f32⟩
  | .hbm, ⟨76, _⟩ => ⟨S8, .f32⟩
  | .hbm, ⟨77, _⟩ => ⟨S8x1, .f32⟩
  | .hbm, ⟨78, _⟩ => ⟨S1x32, .f32⟩
  | .hbm, ⟨79, _⟩ => ⟨S8x32, .f32⟩
  | .hbm, ⟨80, _⟩ => ⟨S8x32, .f32⟩
  | .hbm, ⟨81, _⟩ => ⟨S8x32, .f32⟩
  | .hbm, ⟨82, _⟩ => ⟨S8x32, .f32⟩
  | .hbm, ⟨83, _⟩ => ⟨S8x32, .f32⟩
  | .hbm, ⟨84, _⟩ => ⟨S128x8x32, .f32⟩
  | .hbm, ⟨85, _⟩ => ⟨S128x8x32, .f32⟩
  | .hbm, ⟨86, _⟩ => ⟨S1x8x32, .f32⟩
  | .hbm, ⟨87, _⟩ => ⟨S128x8x32, .f32⟩
  | .hbm, ⟨88, _⟩ => ⟨S128x8x32, .f32⟩
  | .hbm, ⟨89, _⟩ => ⟨S1x8x32, .f32⟩
  | .hbm, ⟨90, _⟩ => ⟨S128x8x32, .f32⟩
  | .hbm, ⟨91, _⟩ => ⟨S128x8x32, .f32⟩
  | .hbm, ⟨92, _⟩ => ⟨S128x8x32, .f32⟩
  | .hbm, ⟨93, _⟩ => ⟨S1x8x32, .f32⟩
  | .hbm, ⟨94, _⟩ => ⟨S128x8x32, .f32⟩
  | .hbm, ⟨95, _⟩ => ⟨S128x8x32, .f32⟩
  | .hbm, ⟨96, _⟩ => ⟨S1x8x32, .f32⟩
  | .hbm, ⟨97, _⟩ => ⟨S128x8x32, .f32⟩
  | .hbm, ⟨98, _⟩ => ⟨S128x8x32, .f32⟩
  | .hbm, ⟨99, _⟩ => ⟨S128x8x32, .f32⟩
  | .hbm, ⟨100, _⟩ => ⟨S128x8x64, .f32⟩
  | .hbm, ⟨101, _⟩ => ⟨S_, .f32⟩
  | .hbm, ⟨102, _⟩ => ⟨S128x8x16x64, .f32⟩
  | .hbm, ⟨103, _⟩ => ⟨S128x8x16x640, .f32⟩
  | .hbm, ⟨104, _⟩ => ⟨S_, .f32⟩
  | .hbm, ⟨105, _⟩ => ⟨S128x8x64, .f32⟩
  | .hbm, ⟨106, _⟩ => ⟨S128x8x640, .f32⟩
  | .hbm, ⟨107, _⟩ => ⟨S128x8x10240, .f32⟩
  | .hbm, ⟨108, _⟩ => ⟨S128x8x10240, .bf16⟩
  | .hbm, ⟨109, _⟩ => ⟨S128x8x640, .bf16⟩
  | _, _ => ⟨S128x8x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_cst_1 : Ref sig .tc := ⟨.hbm, 53, rfl⟩
abbrev main_v47 : Ref sig .tc := ⟨.hbm, 54, rfl⟩
abbrev main_v48 : Ref sig .tc := ⟨.hbm, 55, rfl⟩
abbrev main_cst_2 : Ref sig .tc := ⟨.hbm, 56, rfl⟩
abbrev main_v49 : Ref sig .tc := ⟨.hbm, 57, rfl⟩
abbrev main_v50 : Ref sig .tc := ⟨.hbm, 58, rfl⟩
abbrev main_cst_3 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_cst_4 : Ref sig .tc := ⟨.hbm, 70, rfl⟩
abbrev main_v61 : Ref sig .tc := ⟨.hbm, 71, rfl⟩
abbrev main_v62 : Ref sig .tc := ⟨.hbm, 72, rfl⟩
abbrev main_cst_5 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_cst_6 : Ref sig .tc := ⟨.hbm, 101, rfl⟩
abbrev main_v90 : Ref sig .tc := ⟨.hbm, 102, rfl⟩
abbrev main_v91 : Ref sig .tc := ⟨.hbm, 103, rfl⟩
abbrev main_cst_7 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩

abbrev nD : Nat := 1
abbrev τ : Topo := Topo.v7x

variable {F : FTy → Type} [FloatOps F]
-- ==== Kernel11.lean ====
abbrev S512x2048 : Shape := ⟨2, ![512, 2048]⟩
abbrev S4x2048 : Shape := ⟨2, ![4, 2048]⟩
abbrev S4x2048x8192 : Shape := ⟨3, ![4, 2048, 8192]⟩
abbrev S4x3x4096 : Shape := ⟨3, ![4, 3, 4096]⟩
abbrev S4x4096 : Shape := ⟨2, ![4, 4096]⟩
abbrev S4x128x2x4096 : Shape := ⟨4, ![4, 128, 2, 4096]⟩
abbrev S1x2048 : Shape := ⟨2, ![1, 2048]⟩
abbrev S2048 : Shape := ⟨1, ![2048]⟩
abbrev S1x3x4096 : Shape := ⟨3, ![1, 3, 4096]⟩
abbrev S3x4096 : Shape := ⟨2, ![3, 4096]⟩
abbrev S1x4096 : Shape := ⟨2, ![1, 4096]⟩
abbrev S4096 : Shape := ⟨1, ![4096]⟩
abbrev S1x128x2x4096 : Shape := ⟨4, ![1, 128, 2, 4096]⟩
abbrev S128x2x4096 : Shape := ⟨3, ![128, 2, 4096]⟩
abbrev S128x1x4096 : Shape := ⟨3, ![128, 1, 4096]⟩
abbrev S_ : Shape := ⟨0, ![]⟩
abbrev S128x4x4096 : Shape := ⟨3, ![128, 4, 4096]⟩
abbrev S512x4096 : Shape := ⟨2, ![512, 4096]⟩
abbrev S1x2048x512 : Shape := ⟨3, ![1, 2048, 512]⟩
abbrev S3x512 : Shape := ⟨2, ![3, 512]⟩
abbrev S1x512 : Shape := ⟨2, ![1, 512]⟩
abbrev S512x512 : Shape := ⟨2, ![512, 512]⟩
abbrev S512 : Shape := ⟨1, ![512]⟩
abbrev S512x1 : Shape := ⟨2, ![512, 1]⟩
abbrev S1x2048x256 : Shape := ⟨3, ![1, 2048, 256]⟩
abbrev S2048x256 : Shape := ⟨2, ![2048, 256]⟩
abbrev S512x256 : Shape := ⟨2, ![512, 256]⟩
abbrev S3x256 : Shape := ⟨2, ![3, 256]⟩
abbrev S1x256 : Shape := ⟨2, ![1, 256]⟩

abbrev nBuf : Space → Nat
  | .hbm => 28
  | .vmem => 19
  | .smem => 0
  | _ => 0

abbrev bufTy : (tb : Table) → Fin (tcTables nBuf tb) → BufTy
  | .hbm, ⟨0, _⟩ => ⟨S512x2048, .f32⟩
  | .hbm, ⟨1, _⟩ => ⟨S4x2048, .f32⟩
  | .hbm, ⟨2, _⟩ => ⟨S4x2048x8192, .f32⟩
  | .hbm, ⟨3, _⟩ => ⟨S4x3x4096, .f32⟩
  | .hbm, ⟨4, _⟩ => ⟨S4x4096, .f32⟩
  | .hbm, ⟨5, _⟩ => ⟨S4x128x2x4096, .f32⟩
  | .hbm, ⟨6, _⟩ => ⟨S1x2048, .f32⟩
  | .hbm, ⟨7, _⟩ => ⟨S2048, .f32⟩
  | .hbm, ⟨8, _⟩ => ⟨S1x3x4096, .f32⟩
  | .hbm, ⟨9, _⟩ => ⟨S3x4096, .f32⟩
  | .hbm, ⟨10, _⟩ => ⟨S1x4096, .f32⟩
  | .hbm, ⟨11, _⟩ => ⟨S4096, .f32⟩
  | .hbm, ⟨12, _⟩ => ⟨S1x128x2x4096, .f32⟩
  | .hbm, ⟨13, _⟩ => ⟨S128x2x4096, .f32⟩
  | .hbm, ⟨14, _⟩ => ⟨S1x2048, .f32⟩
  | .hbm, ⟨15, _⟩ => ⟨S1x4096, .f32⟩
  | .hbm, ⟨16, _⟩ => ⟨S128x1x4096, .f32⟩
  | .hbm, ⟨17, _⟩ => ⟨S_, .f32⟩
  | .hbm, ⟨18, _⟩ => ⟨S128x1x4096, .f32⟩
  | .hbm, ⟨19, _⟩ => ⟨S128x1x4096, .f32⟩
  | .hbm, ⟨20, _⟩ => ⟨S128x4x4096, .f32⟩
  | .hbm, ⟨21, _⟩ => ⟨S512x4096, .f32⟩
  | .hbm, ⟨22, _⟩ => ⟨S128x1x4096, .f32⟩
  | .hbm, ⟨23, _⟩ => ⟨S128x1x4096, .f32⟩
  | .hbm, ⟨24, _⟩ => ⟨S128x4x4096, .f32⟩
  | .hbm, ⟨25, _⟩ => ⟨S512x4096, .f32⟩
  | .hbm, ⟨26, _⟩ => ⟨S512x4096, .bf16⟩
  | .hbm, ⟨27, _⟩ => ⟨S512x4096, .f32⟩
  | .local _ .vmem, ⟨0, _⟩ => ⟨S512x2048, .f32⟩
  | .local _ .vmem, ⟨1, _⟩ => ⟨S1x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S3x512, .f32⟩
  | .local _ .vmem, ⟨7, _⟩ => ⟨S3x512, .f32⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .bf16⟩
  | .local _ .vmem, ⟨15, _⟩ => ⟨S512x512, .bf16⟩
  | .local _ .vmem, ⟨16, _⟩ => ⟨S512x512, .f32⟩
  | .local _ .vmem, ⟨17, _⟩ => ⟨S512x512, .f32⟩
  | .local _ .vmem, ⟨18, _⟩ => ⟨S512x2048, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19_0 : Ref sig .tc := ⟨.hbm, 26, rfl⟩
abbrev main_v19_1 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c1_i32 : BitVec 32 := 1#32
  let c0_i32 : BitVec 32 := 0#32
  let c0_i32_0 : BitVec 32 := 0#32
  ![c1_i32.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference11Ideal.lean ====
abbrev S512x2048 : Shape := ⟨2, ![512, 2048]⟩
abbrev S4x2048 : Shape := ⟨2, ![4, 2048]⟩
abbrev S4x2048x8192 : Shape := ⟨3, ![4, 2048, 8192]⟩
abbrev S4x3x4096 : Shape := ⟨3, ![4, 3, 4096]⟩
abbrev S4x4096 : Shape := ⟨2, ![4, 4096]⟩
abbrev S4x128x2x4096 : Shape := ⟨4, ![4, 128, 2, 4096]⟩
abbrev S128x4x2048 : Shape := ⟨3, ![128, 4, 2048]⟩
abbrev S1x2048 : Shape := ⟨2, ![1, 2048]⟩
abbrev S2048 : Shape := ⟨1, ![2048]⟩
abbrev S_ : Shape := ⟨0, ![]⟩
abbrev S128x4 : Shape := ⟨2, ![128, 4]⟩
abbrev S128x4x1 : Shape := ⟨3, ![128, 4, 1]⟩
abbrev S1x1x2048 : Shape := ⟨3, ![1, 1, 2048]⟩
abbrev S1x2048x8192 : Shape := ⟨3, ![1, 2048, 8192]⟩
abbrev S2048x8192 : Shape := ⟨2, ![2048, 8192]⟩
abbrev S128x4x8192 : Shape := ⟨3, ![128, 4, 8192]⟩
abbrev S128x4x4096 : Shape := ⟨3, ![128, 4, 4096]⟩
abbrev S1x128x2x4096 : Shape := ⟨4, ![1, 128, 2, 4096]⟩
abbrev S128x2x4096 : Shape := ⟨3, ![128, 2, 4096]⟩
abbrev S128x6x4096 : Shape := ⟨3, ![128, 6, 4096]⟩
abbrev S1x4096 : Shape := ⟨2, ![1, 4096]⟩
abbrev S4096 : Shape := ⟨1, ![4096]⟩
abbrev S1x1x4096 : Shape := ⟨3, ![1, 1, 4096]⟩
abbrev S512x4096 : Shape := ⟨2, ![512, 4096]⟩

abbrev nBuf : Space → Nat
  | .hbm => 71
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S4x2048, .f32⟩
  | .hbm, ⟨2, _⟩ => ⟨S4x2048x8192, .f32⟩
  | .hbm, ⟨3, _⟩ => ⟨S4x3x4096, .f32⟩
  | .hbm, ⟨4, _⟩ => ⟨S4x4096, .f32⟩
  | .hbm, ⟨5, _⟩ => ⟨S4x128x2x4096, .f32⟩
  | .hbm, ⟨6, _⟩ => ⟨S128x4x2048, .f32⟩
  | .hbm, ⟨7, _⟩ => ⟨S1x2048, .f32⟩
  | .hbm, ⟨8, _⟩ => ⟨S2048, .f32⟩
  | .hbm, ⟨9, _⟩ => ⟨S128x4x2048, .f32⟩
  | .hbm, ⟨10, _⟩ => ⟨S_, .f32⟩
  | .hbm, ⟨11, _⟩ => ⟨S128x4, .f32⟩
  | .hbm, ⟨12, _⟩ => ⟨S128x4x1, .f32⟩
  | .hbm, ⟨13, _⟩ => ⟨S_, .f32⟩
  | .hbm, ⟨14, _⟩ => ⟨S128x4x1, .f32⟩
  | .hbm, ⟨15, _⟩ => ⟨S128x4x1, .f32⟩
  | .hbm, ⟨16, _⟩ => ⟨S_, .f32⟩
  | .hbm, ⟨17, _⟩ => ⟨S128x4x1, .f32⟩
  | .hbm, ⟨18, _⟩ => ⟨S128x4x1, .f32⟩
  | .hbm, ⟨19, _⟩ => ⟨S128x4x1, .f32⟩
  | .hbm, ⟨20, _⟩ => ⟨S128x4x2048, .f32⟩
  | .hbm, ⟨21, _⟩ => ⟨S128x4x2048, .f32⟩
  | .hbm, ⟨22, _⟩ => ⟨S1x1x2048, .f32⟩
  | .hbm, ⟨23, _⟩ => ⟨S128x4x2048, .f32⟩
  | .hbm, ⟨24, _⟩ => ⟨S128x4x2048, .f32⟩
  | .hbm, ⟨25, _⟩ => ⟨S1x2048x8192, .f32⟩
  | .hbm, ⟨26, _⟩ => ⟨S2048x8192, .f32⟩
  | .hbm, ⟨27, _⟩ => ⟨S128x4x8192, .f32⟩
  | .hbm, ⟨28, _⟩ => ⟨S128x4x4096, .f32⟩
  | .hbm, ⟨29, _⟩ => ⟨S128x4x4096, .f32⟩
  | .hbm, ⟨30, _⟩ => ⟨S1x128x2x4096, .f32⟩
  | .hbm, ⟨31, _⟩ => ⟨S128x2x4096, .f32⟩
  | .hbm, ⟨32, _⟩ => ⟨S128x6x4096, .f32⟩
  | .hbm, ⟨33, _⟩ => ⟨S1x4096, .f32⟩
  | .hbm, ⟨34, _⟩ => ⟨S4096, .f32⟩
  | .hbm, ⟨35, _⟩ => ⟨S128x4x4096, .f32⟩
  | .hbm, ⟨36, _⟩ => ⟨S1x1x4096, .f32⟩
  | .hbm, ⟨37, _⟩ => ⟨S4096, .f32⟩
  | .hbm, ⟨38, _⟩ => ⟨S1x1x4096, .f32⟩
  | .hbm, ⟨39, _⟩ => ⟨S128x4x4096, .f32⟩
  | .hbm, ⟨40, _⟩ => ⟨S128x4x4096, .f32⟩
  | .hbm, ⟨41, _⟩ => ⟨S1x1x4096, .f32⟩
  | .hbm, ⟨42, _⟩ => ⟨S128x4x4096, .f32⟩
  | .hbm, ⟨43, _⟩ => ⟨S128x4x4096, .f32⟩
  | .hbm, ⟨44, _⟩ => ⟨S128x4x4096, .f32⟩
  | .hbm, ⟨45, _⟩ => ⟨S1x1x4096, .f32⟩
  | .hbm, ⟨46, _⟩ => ⟨S4096, .f32⟩
  | .hbm, ⟨47, _⟩ => ⟨S1x1x4096, .f32⟩
  | .hbm, ⟨48, _⟩ => ⟨S128x4x4096, .f32⟩
  | .hbm, ⟨49, _⟩ => ⟨S128x4x4096, .f32⟩
  | .hbm, ⟨50, _⟩ => ⟨S128x4x4096, .f32⟩
  | .hbm, ⟨51, _⟩ => ⟨S128x4x4096, .f32⟩
  | .hbm, ⟨52, _⟩ => ⟨S1x1x4096, .f32⟩
  | .hbm, ⟨53, _⟩ => ⟨S4096, .f32⟩
  | .hbm, ⟨54, _⟩ => ⟨S1x1x4096, .f32⟩
  | .hbm, ⟨55, _⟩ => ⟨S128x4x4096, .f32⟩
  | .hbm, ⟨56, _⟩ => ⟨S128x4x4096, .f32⟩
  | .hbm, ⟨57, _⟩ => ⟨S128x4x4096, .f32⟩
  | .hbm, ⟨58, _⟩ => ⟨S128x4x4096, .f32⟩
  | .hbm, ⟨59, _⟩ => ⟨S128x4x4096, .f32⟩
  | .hbm, ⟨60, _⟩ => ⟨S_, .f32⟩
  | .hbm, ⟨61, _⟩ => ⟨S128x4x4096, .f32⟩
  | .hbm, ⟨62, _⟩ => ⟨S128x4x4096, .f32⟩
  | .hbm, ⟨63, _⟩ => ⟨S_, .f32⟩
  | .hbm, ⟨64, _⟩ => ⟨S128x4x4096, .f32⟩
  | .hbm, ⟨65, _⟩ => ⟨S128x4x4096, .f32⟩
  | .hbm, ⟨66, _⟩ => ⟨S128x4x4096, .f32⟩
  | .hbm, ⟨67, _⟩ => ⟨S128x4x4096, .f32⟩
  | .hbm, ⟨68, _⟩ => ⟨S512x4096, .f32⟩
  | .hbm, ⟨69, _⟩ => ⟨S512x4096, .bf16⟩
  | .hbm, ⟨70, _⟩ => ⟨S512x4096, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩

abbrev nD : Nat := 1
abbrev τ : Topo := Topo.v7x

variable {F : FTy → Type} [FloatOps F]
-- ==== Kernel12.lean ====
abbrev S512x2048 : Shape := ⟨2, ![512, 2048]⟩
abbrev S1x2048x2048 : Shape := ⟨3, ![1, 2048, 2048]⟩
abbrev S1x2048x512 : Shape := ⟨3, ![1, 2048, 512]⟩
abbrev S512x512 : Shape := ⟨2, ![512, 512]⟩
abbrev S2048x512 : Shape := ⟨2, ![2048, 512]⟩

abbrev nBuf : Space → Nat
  | .hbm => 4
  | .vmem => 8
  | .smem => 0
  | _ => 0

abbrev bufTy : (tb : Table) → Fin (tcTables nBuf tb) → BufTy
  | .hbm, ⟨0, _⟩ => ⟨S512x2048, .f32⟩
  | .hbm, ⟨1, _⟩ => ⟨S1x2048x2048, .f32⟩
  | .hbm, ⟨2, _⟩ => ⟨S512x2048, .f32⟩
  | .hbm, ⟨3, _⟩ => ⟨S512x2048, .f32⟩
  | .local _ .vmem, ⟨0, _⟩ => ⟨S512x2048, .f32⟩
  | .local _ .vmem, ⟨1, _⟩ => ⟨S1x2048x512, .f32⟩
  | .local _ .vmem, ⟨2, _⟩ => ⟨S1x2048x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x2048, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S512x2048 : Shape := ⟨2, ![512, 2048]⟩
abbrev S1x2048x2048 : Shape := ⟨3, ![1, 2048, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S1x2048x2048, .f32⟩
  | .hbm, ⟨2, _⟩ => ⟨S512x2048, .f32⟩
  | .hbm, ⟨3, _⟩ => ⟨S2048x2048, .f32⟩
  | .hbm, ⟨4, _⟩ => ⟨S512x2048, .f32⟩
  | .hbm, ⟨5, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel13.lean ====
abbrev S512x4096 : Shape := ⟨2, ![512, 4096]⟩
abbrev S4x4096x2048 : Shape := ⟨3, ![4, 4096, 2048]⟩
abbrev S512x2048 : Shape := ⟨2, ![512, 2048]⟩
abbrev S1x4096x512 : Shape := ⟨3, ![1, 4096, 512]⟩
abbrev S512x512 : Shape := ⟨2, ![512, 512]⟩
abbrev S4096x512 : Shape := ⟨2, ![4096, 512]⟩

abbrev nBuf : Space → Nat
  | .hbm => 4
  | .vmem => 7
  | .smem => 0
  | _ => 0

abbrev bufTy : (tb : Table) → Fin (tcTables nBuf tb) → BufTy
  | .hbm, ⟨0, _⟩ => ⟨S512x4096, .bf16⟩
  | .hbm, ⟨1, _⟩ => ⟨S4x4096x2048, .f32⟩
  | .hbm, ⟨2, _⟩ => ⟨S512x2048, .f32⟩
  | .hbm, ⟨3, _⟩ => ⟨S512x2048, .f32⟩
  | .local _ .vmem, ⟨0, _⟩ => ⟨S512x4096, .bf16⟩
  | .local _ .vmem, ⟨1, _⟩ => ⟨S1x4096x512, .f32⟩
  | .local _ .vmem, ⟨2, _⟩ => ⟨S1x4096x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference13Ideal.lean ====
abbrev S512x4096 : Shape := ⟨2, ![512, 4096]⟩
abbrev S4x4096x2048 : Shape := ⟨3, ![4, 4096, 2048]⟩
abbrev S512x2048 : Shape := ⟨2, ![512, 2048]⟩
abbrev S1x4096x2048 : Shape := ⟨3, ![1, 4096, 2048]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S512x4096, .bf16⟩
  | .hbm, ⟨1, _⟩ => ⟨S4x4096x2048, .f32⟩
  | .hbm, ⟨2, _⟩ => ⟨S512x2048, .f32⟩
  | .hbm, ⟨3, _⟩ => ⟨S512x4096, .f32⟩
  | .hbm, ⟨4, _⟩ => ⟨S1x4096x2048, .f32⟩
  | .hbm, ⟨5, _⟩ => ⟨S4096x2048, .f32⟩
  | .hbm, ⟨6, _⟩ => ⟨S512x2048, .f32⟩
  | .hbm, ⟨7, _⟩ => ⟨S512x2048, .f32⟩
  | _, _ => ⟨S512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Body.lean ====
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section
open Idealize.ShloMosaic Idealize.ShloMosaic.TcCoe Idealize.SL.Sem
open Idealize.ShloMosaic.Pipeline (Dat)
namespace Cert.Body
open Cert.KernelIdeal Cert.KernelIdeal.Gen Cert.KernelIdeal.Value
variable (m : (ℓ : Loc nD τ sig) → Buf (Elt Ideal) ℓ)

/-- What one step carries: the output window, the stacked queries, the running maxima and the running sums. -/
abbrev St := Vec Ideal S1x128x2048 .f32 × Vec Ideal S2048x640 .bf16 × Vec Ideal S2048x128 .f32 × Vec Ideal S2048x640 .f32

/-- The query block with its heads stacked along the rows: row `128 * h + q` is head `h` of query `q`. -/
def qrows (X : Vec Ideal S1x128x10240 .bf16) : Vec Ideal S2048x640 .bf16 := fun y =>
  X (ix3 (0 : Fin 1) (⟨(y 0).val % 128, Nat.mod_lt _ (by norm_num)⟩ : Fin 128)
    (⟨640 * ((y 0).val / 128) + (y 1).val, by
      have h0 : (y 0).val < 2048 := (y 0).isLt
      have h1 : (y 1).val < 640 := (y 1).isLt
      show _ < 10240
      omega⟩ : Fin 10240))

/-- The output window from the normalised rows: head `h` of query `q` times head `h` of the value projection. -/
def outOf (o : Vec Ideal S2048x512 .f32) (W : Vec Ideal S16x512x128 .bf16) : Vec Ideal S1x128x2048 .f32 := fun y =>
  ∑ c : Fin 512, o (ix2 (⟨128 * ((y 2).val / 128) + (y 1).val, by
      have h1 : (y 1).val < 128 := (y 1).isLt
      have h2 : (y 2).val < 2048 := (y 2).isLt
      show _ < 2048
      omega⟩ : Fin 2048) c) *
    W (ix3 (⟨(y 2).val / 128, by
      have h2 : (y 2).val < 2048 := (y 2).isLt
      show _ < 16
      omega⟩ : Fin 16) c (⟨(y 2).val % 128, Nat.mod_lt _ (by norm_num)⟩ : Fin 128))

theorem ix3_eq {n₀ n₁ n₂ : ℕ} {a a' : Fin n₀} {b b' : Fin n₁} {d d' : Fin n₂} (h0 : a.val = a'.val) (h1 : b.val = b'.val) (h2 : d.val = d'.val) :
    ix3 a b d = ix3 a' b' d' := by
  rw [Fin.ext h0, Fin.ext h1, Fin.ext h2]

theorem ix2_eq {n₀ n₁ : ℕ} {a a' : Fin n₀} {b b' : Fin n₁} (h0 : a.val = a'.val) (h1 : b.val = b'.val) : ix2 a b = ix2 a' b' := by
  rw [Fin.ext h0, Fin.ext h1]

theorem pay1_id (x : Vec Ideal S2048x128 .f32) : k0_pay1 (F := Ideal) x = x := by funext y; pointwise [k0_pay1]
theorem pay4_id (x : FVec Ideal S2048x128 .f32) : k0_pay4 (F := Ideal) x = x := by funext y; pointwise [k0_pay4]
theorem pay3_id (x : FVec Ideal S2048x640 .f32) : k0_pay3 (F := Ideal) x = x := by funext y; pointwise [k0_pay3]

/-- The first query row of the tile and the first key row of the chunk at a point, as the program counts them. -/
abbrev qpos (t : Fin cfg0.N) : BitVec 32 := Scalar.addi (0#32) (Scalar.muli (BitVec.ofNat 32 ↑(grid0.coords t 1)) 128#32)
abbrev kpos (t : Fin cfg0.N) : BitVec 32 := Scalar.addi (0#32) (Scalar.muli (BitVec.ofNat 32 ↑(grid0.coords t 3)) 512#32)

/-- The normalised rows of a running maximum and a running sum. -/
abbrev normed (mx : Vec Ideal S2048x128 .f32) (ac : Vec Ideal S2048x640 .f32) : Vec Ideal S2048x512 .f32 :=
  k0_pay29 mx (View.ld ac (Rect.unit ![0, 512] ![2048, 128] inb_S2048x640_S2048x128_0_512))
    (View.ld ac (Rect.unit ![0, 0] ![2048, 512] inb_S2048x640_S2048x512_0_0))

/-- The first step of a run stacks the query block. -/
theorem qs_A (c : Dev nD) (t : Fin cfg0.N) (acc : St)
    (h0 : t.val % 4 = 0) (h1 : 4 * (t.val % 4) ≤ t.val / 4 % 16) (h2 : ¬t.val % 4 = 3) :
    (stAt0 m c t.val t.isLt acc).2.1 = qrows (iblk m c 0 t) := by
  rw [stAt0_A m c t acc h0 h1 h2]
  frame_out
  funext y
  canon_tiles x h
  all_goals
    pointwise [k0_pay8, k0_pay9, k0_pay10, k0_pay11, k0_pay12, k0_pay13, k0_pay14, k0_pay15, k0_pay16, k0_pay17,
      k0_pay18, k0_pay19, k0_pay20, k0_pay21, k0_pay22, k0_pay23, k0_pay24, qrows]
  all_goals
    refine congrArg (iblk m c 0 t) (ix3_eq rfl ?_ ?_)
    · show (x 0).val = (y 0).val % 128
      omega
    · show _ = 640 * ((y 0).val / 128) + (y 1).val
      dsimp only
      omega

theorem rd_whole (L : List (View.Piece (Elt Ideal) S2048x640 .bf16)) :
    (View.whole cc0_scratch0).readCov L (Rect.unit ![0, 0] ![2048, 640] inb_S2048x640_S2048x640_0_0).toLoadRect = View.canon L := by
  rw [View.readCov_eq_canon']
  funext j
  refine congrArg _ ?_
  funext a
  refine Fin.ext ?_
  fin_cases a <;> simp [LoadRect.idx]

/-- … and starts the running maxima and sums from nothing. -/
theorem mx_A (c : Dev nD) (t : Fin cfg0.N) (acc : St)
    (h0 : t.val % 4 = 0) (h1 : 4 * (t.val % 4) ≤ t.val / 4 % 16) (h2 : ¬t.val % 4 = 3) :
    (stAt0 m c t.val t.isLt acc).2.2.1 = k0_pay27 (qpos t) (kpos t) (iblk m c 1 t) (qrows (iblk m c 0 t)) (k0_pay25 (F := Ideal)) := by
  rw [← qs_A m c t acc h0 h1 h2, stAt0_A m c t acc h0 h1 h2]
  frame_out
  simp only [pay1_id, pay4_id, rd_whole]

theorem ac_A (c : Dev nD) (t : Fin cfg0.N) (acc : St)
    (h0 : t.val % 4 = 0) (h1 : 4 * (t.val % 4) ≤ t.val / 4 % 16) (h2 : ¬t.val % 4 = 3) :
    (stAt0 m c t.val t.isLt acc).2.2.2
      = k0_pay28 (qpos t) (kpos t) (iblk m c 1 t) (qrows (iblk m c 0 t)) (k0_pay25 (F := Ideal)) (X0_2 m c t) (k0_pay2 (F := Ideal)) := by
  rw [← qs_A m c t acc h0 h1 h2, stAt0_A m c t acc h0 h1 h2]
  frame_out
  simp only [pay1_id, pay3_id, rd_whole]

/-- A chunk of keys after every query of the tile changes nothing carried. -/
theorem st_B (c : Dev nD) (t : Fin cfg0.N) (acc : St) (h0 : ¬t.val % 4 = 0) (h1 : ¬4 * (t.val % 4) ≤ t.val / 4 % 16) (h2 : ¬t.val % 4 = 3) :
    (stAt0 m c t.val t.isLt acc).2 = acc.2 := by
  rw [stAt0_B m c t acc h0 h1 h2]
  rfl

theorem st_C (c : Dev nD) (t : Fin cfg0.N) (acc : St) (h0 : ¬t.val % 4 = 0) (h1 : ¬4 * (t.val % 4) ≤ t.val / 4 % 16) (h2 : t.val % 4 = 3) :
    (stAt0 m c t.val t.isLt acc).2 = acc.2 := by
  rw [stAt0_C m c t acc h0 h1 h2]
  rfl

/-- A further chunk of keys leaves the stacked queries and takes the maxima and the sums one step on. -/
theorem qs_D (c : Dev nD) (t : Fin cfg0.N) (acc : St) (h0 : ¬t.val % 4 = 0) (h1 : 4 * (t.val % 4) ≤ t.val / 4 % 16) (h2 : ¬t.val % 4 = 3) :
    (stAt0 m c t.val t.isLt acc).2.1 = acc.2.1 := by
  rw [stAt0_D m c t acc h0 h1 h2]
  rfl

theorem mx_D (c : Dev nD) (t : Fin cfg0.N) (acc : St) (h0 : ¬t.val % 4 = 0) (h1 : 4 * (t.val % 4) ≤ t.val / 4 % 16) (h2 : ¬t.val % 4 = 3) :
    (stAt0 m c t.val t.isLt acc).2.2.1 = k0_pay27 (qpos t) (kpos t) (iblk m c 1 t) acc.2.1 acc.2.2.1 := by
  rw [stAt0_D m c t acc h0 h1 h2]
  frame_out
  simp only [read_unread_whole, pay4_id]

theorem ac_D (c : Dev nD) (t : Fin cfg0.N) (acc : St) (h0 : ¬t.val % 4 = 0) (h1 : 4 * (t.val % 4) ≤ t.val / 4 % 16) (h2 : ¬t.val % 4 = 3) :
    (stAt0 m c t.val t.isLt acc).2.2.2
      = k0_pay28 (qpos t) (kpos t) (iblk m c 1 t) acc.2.1 acc.2.2.1 (X0_2 m c t) acc.2.2.2 := by
  rw [stAt0_D m c t acc h0 h1 h2]
  frame_out
  simp only [read_unread_whole, pay3_id]

theorem mx_E (c : Dev nD) (t : Fin cfg0.N) (acc : St) (h0 : ¬t.val % 4 = 0) (h1 : 4 * (t.val % 4) ≤ t.val / 4 % 16) (h2 : t.val % 4 = 3) :
    (stAt0 m c t.val t.isLt acc).2.2.1 = k0_pay27 (qpos t) (kpos t) (iblk m c 1 t) acc.2.1 acc.2.2.1 := by
  rw [stAt0_E m c t acc h0 h1 h2]
  frame_out
  simp only [read_unread_whole, pay4_id]

theorem ac_E (c : Dev nD) (t : Fin cfg0.N) (acc : St) (h0 : ¬t.val % 4 = 0) (h1 : 4 * (t.val % 4) ≤ t.val / 4 % 16) (h2 : t.val % 4 = 3) :
    (stAt0 m c t.val t.isLt acc).2.2.2
      = k0_pay28 (qpos t) (kpos t) (iblk m c 1 t) acc.2.1 acc.2.2.1 (X0_2 m c t) acc.2.2.2 := by
  rw [stAt0_E m c t acc h0 h1 h2]
  frame_out
  simp only [read_unread_whole, pay3_id]

/-- The last chunk writes the output from the normalised rows. -/
theorem out_C (c : Dev nD) (t : Fin cfg0.N) (acc : St) (h0 : ¬t.val % 4 = 0) (h1 : ¬4 * (t.val % 4) ≤ t.val / 4 % 16) (h2 : t.val % 4 = 3) :
    (stAt0 m c t.val t.isLt acc).1 = outOf (normed acc.2.2.1 acc.2.2.2) (iblk m c 3 t) := by
  rw [stAt0_C m c t acc h0 h1 h2]
  frame_out
  simp only [read_unread_whole]
  funext y
  canon_tiles x h
  all_goals
    pointwise [k0_pay5, k0_pay6, k0_pay7, k0_pay30, k0_pay31, k0_pay32, k0_pay33, k0_pay34, k0_pay35, k0_pay36,
      k0_pay37, k0_pay38, k0_pay39, k0_pay40, k0_pay41, k0_pay42, k0_pay43, k0_pay44, k0_pay45, k0_pay46, outOf]
  all_goals
    refine Finset.sum_congr rfl fun k _ => ?_
    refine congrArg₂ (· * ·) (congrArg _ (ix2_eq ?_ rfl)) (congrArg (iblk m c 3 t) (ix3_eq ?_ rfl ?_)) <;>
    · dsimp
      omega

theorem out_E (c : Dev nD) (t : Fin cfg0.N) (acc : St) (h0 : ¬t.val % 4 = 0) (h1 : 4 * (t.val % 4) ≤ t.val / 4 % 16) (h2 : t.val % 4 = 3) :
    (stAt0 m c t.val t.isLt acc).1
      = outOf (normed (stAt0 m c t.val t.isLt acc).2.2.1 (stAt0 m c t.val t.isLt acc).2.2.2) (iblk m c 3 t) := by
  rw [mx_E m c t acc h0 h1 h2, ac_E m c t acc h0 h1 h2, stAt0_E m c t acc h0 h1 h2]
  frame_out
  simp only [read_unread_whole, pay3_id, pay4_id]
  obtain ⟨mn, hmn⟩ : ∃ z, z = k0_pay27 (qpos t) (kpos t) (iblk m c 1 t) acc.2.1 acc.2.2.1 := ⟨_, rfl⟩
  obtain ⟨an, han⟩ : ∃ z, z = k0_pay28 (qpos t) (kpos t) (iblk m c 1 t) acc.2.1 acc.2.2.1 (X0_2 m c t) acc.2.2.2 := ⟨_, rfl⟩
  rw [← hmn, ← han]
  funext y
  canon_tiles x h
  all_goals rw [View.readCov_fill _ _ _ _ _ (by decide), View.readCov_fill _ _ _ _ _ (by decide)]
  all_goals
    pointwise [k0_pay5, k0_pay6, k0_pay7, k0_pay30, k0_pay31, k0_pay32, k0_pay33, k0_pay34, k0_pay35, k0_pay36,
      k0_pay37, k0_pay38, k0_pay39, k0_pay40, k0_pay41, k0_pay42, k0_pay43, k0_pay44, k0_pay45, k0_pay46, outOf]
  all_goals
    refine Finset.sum_congr rfl fun k _ => ?_
    refine congrArg₂ (· * ·) (congrArg _ (ix2_eq ?_ rfl)) (congrArg (iblk m c 3 t) (ix3_eq ?_ rfl ?_)) <;>
    · dsimp
      omega

end Cert.Body
-- ==== Proof.Step.lean ====
module

public import proofs.«01_k».proof.Proof.Body
public import Idealize.ShloMosaic.Lib.Pipeline.ValueKit
public import Idealize.ShloMosaic.Lib.Pipeline.ReadBack
public import Idealize.ShloMosaic.Lib.Pointwise

@[expose] public section

set_option maxRecDepth 16384

noncomputable section
open Idealize.ShloMosaic Idealize.ShloMosaic.TcCoe Idealize.SL.Sem
open Idealize.ShloMosaic.Pipeline (Dat)
namespace Cert.Step
open Cert.KernelIdeal Cert.KernelIdeal.Gen Cert.KernelIdeal.Value Cert.Body

/-- The name of the mask value is minus infinity. -/
theorem mask_bot : Named.named (F := Ideal) κ (φ := .f32) "mask" 0xF149F2CA#32 = (⊥ : EReal) :=
  IdealRules.named_const.ideal_named_scalar _ _ _ _ rfl
theorem half_bot : Named.named (F := Ideal) κ (φ := .f32) "half_mask" 0xF0C9F2CA#32 = (⊥ : EReal) :=
  IdealRules.named_const.ideal_named_scalar _ _ _ _ rfl

theorem bot_bits : Ideal.ofBits FTy.f32 4286578688#32 = (⊥ : EReal) := by
  simp only [Ideal.ofBits, Ideal.ieee]
  rw [if_pos (by decide), if_pos (by decide), if_pos (by decide)]

/-- A maximum of values below `⊤`, one of them above `⊥`, is a real. -/
theorem fold_real {n : ℕ} (s : Fin n → EReal) (z : EReal) (hz : z ≠ ⊤) (ht : ∀ k, s k ≠ ⊤) (hb : z ≠ ⊥ ∨ ∃ k, s k ≠ ⊥) :
    ∃ M : ℝ, max z (Finset.univ.fold max ⊥ s) = (M : EReal) := by
  have h1 : max z (Finset.univ.fold max ⊥ s) < ⊤ :=
    max_lt (lt_top_iff_ne_top.mpr hz) ((Finset.fold_max_lt _).mpr ⟨bot_lt_top, fun x _ => lt_top_iff_ne_top.mpr (ht x)⟩)
  have h2 : ⊥ < max z (Finset.univ.fold max ⊥ s) := by
    rcases hb with h | ⟨k, h⟩
    · exact lt_max_of_lt_left (bot_lt_iff_ne_bot.mpr h)
    · exact lt_max_of_lt_right ((Finset.lt_fold_max _).mpr (Or.inr ⟨k, Finset.mem_univ _, bot_lt_iff_ne_bot.mpr h⟩))
  exact ⟨_, (EReal.coe_toReal h1.ne h2.ne').symm⟩

/-- The score of a key against a row, before the mask. -/
abbrev dotS (qs : Vec Ideal S2048x640 .bf16) (kb : Vec Ideal S1x512x640 .bf16) (r : Fin 2048) (k : Fin 512) : EReal :=
  (∑ e : Fin 640, qs (ix2 r e) * kb (ix3 (0 : Fin 1) k e)) * Ideal.ofBits FTy.f32 0x3D93CD3A#32

theorem sle_pos (a b i k : ℕ) (ha : a ≤ 4096) (hb : b ≤ 4096) (hi : i < 4096) (hk : k < 4096) :
    IntOp.cmpi CmpIPredicate.sle (IntOp.addi (BitVec.ofNat 32 b) (BitVec.ofNat 32 k)) (IntOp.addi (BitVec.ofNat 32 a) (BitVec.ofNat 32 i))
      = if b + k ≤ a + i then 1#1 else 0#1 := by
  have e1 : (BitVec.ofNat 32 (b + k)).toInt = ((b + k : ℕ) : ℤ) := by
    rw [BitVec.toInt_eq_toNat_of_lt] <;> rw [BitVec.toNat_ofNat] <;> omega
  have e2 : (BitVec.ofNat 32 (a + i)).toInt = ((a + i : ℕ) : ℤ) := by
    rw [BitVec.toInt_eq_toNat_of_lt] <;> rw [BitVec.toNat_ofNat] <;> omega
  simp only [show ∀ x y : BitVec 32, IntOp.cmpi .sle x y = BitVec.ofBool (decide (x.toInt ≤ y.toInt)) from fun _ _ => rfl, IntOp.addi, ← BitVec.ofNat_add, e1, e2, Nat.cast_le]
  by_cases h : b + k ≤ a + i <;> simp [h]

theorem dite_all {α : Type} {p : Prop} [Decidable p] {x y z : α} (hx : p → x = z) (hy : ¬p → y = z) : (if _h : p then x else y) = z := by
  by_cases h : p
  · rw [dif_pos h, hx h]
  · rw [dif_neg h, hy h]

theorem pay26_at (a b : ℕ) (ha : a ≤ 4096) (hb : b ≤ 4096) (kb : Vec Ideal S1x512x640 .bf16) (qs : Vec Ideal S2048x640 .bf16) (r : Fin 2048) (k : Fin 512) :
    k0_pay26 (BitVec.ofNat 32 a) (BitVec.ofNat 32 b) kb qs (ix2 r k) = dotS qs kb r k + if b + k.val ≤ a + r.val % 128 then 0 else ⊥ := by
  have hr : r.val < 2048 := r.isLt
  pointwise [k0_pay26]
  refine congrArg₂ (· + ·) rfl ?_
  simp only [mask_bot]
  have key : ∀ i, i = r.val % 128 → Scalar.select (IntOp.cmpi CmpIPredicate.sle (IntOp.addi (BitVec.ofNat 32 b) (BitVec.ofNat 32 k.val)) (IntOp.addi (BitVec.ofNat 32 a) (BitVec.ofNat 32 i))) (0 : EReal) ⊥ = if b + k.val ≤ a + r.val % 128 then 0 else ⊥ := by
    intro i hi
    rw [hi, sle_pos a b (r.val % 128) k.val ha hb (by omega) (by omega)]
    split <;> rfl
  generalize (if b + k.val ≤ a + r.val % 128 then (0 : EReal) else ⊥) = z at key ⊢
  iterate 15 refine dite_all (fun h => key _ ?_) (fun h => ?_) <;> [omega; skip]
  refine key _ ?_
  omega

/-- The value block with its columns of ones. -/
def vext (vb : Vec Ideal S1x512x512 .bf16) (k : Fin 512) (d : Fin 640) : EReal :=
  if h : d.val < 512 then vb (ix3 (0 : Fin 1) k (⟨d.val, h⟩ : Fin 512)) else 1

/-- One step of the running maxima, lanes alike. -/
theorem pay27_at (v1 v6 : BitVec 32) (kb : Vec Ideal S1x512x640 .bf16) (qs : Vec Ideal S2048x640 .bf16) (mo : Vec Ideal S2048x128 .f32) (r : Fin 2048) (l : Fin 128) :
    k0_pay27 v1 v6 kb qs mo (ix2 r l) = max (mo (ix2 r l)) (Finset.univ.fold max ⊥ fun k : Fin 512 => k0_pay26 v1 v6 kb qs (ix2 r k)) := by
  unfold k0_pay27
  generalize k0_pay26 v1 v6 kb qs = s
  pointwise []
  rw [bot_bits]

/-- One step of the running sums, at a row whose lanes agree. -/
theorem pay28_at (v1 v6 : BitVec 32) (kb : Vec Ideal S1x512x640 .bf16) (qs : Vec Ideal S2048x640 .bf16) (mo : Vec Ideal S2048x128 .f32)
    (vb : Vec Ideal S1x512x512 .bf16) (ac : Vec Ideal S2048x640 .f32) (r : Fin 2048) (d : Fin 640) (M M' : EReal)
    (hM : ∀ l, mo (ix2 r l) = M) (hM' : ∀ l, k0_pay27 v1 v6 kb qs mo (ix2 r l) = M') :
    k0_pay28 v1 v6 kb qs mo vb ac (ix2 r d)
      = ac (ix2 r d) * Ideal.exp (M - M') + ∑ k : Fin 512, Ideal.exp (k0_pay26 v1 v6 kb qs (ix2 r k) - M') * vext vb k d := by
  unfold k0_pay28
  generalize k0_pay26 v1 v6 kb qs = s
  generalize k0_pay27 v1 v6 kb qs mo = mn at hM'
  pointwise []
  simp only [hM, hM', dite_eq_ite, ite_self]
  rfl

theorem pay29_at (mo l : Vec Ideal S2048x128 .f32) (ac : Vec Ideal S2048x512 .f32) (r : Fin 2048) (d : Fin 512) (M L : ℝ)
    (hM : ∀ j, mo (ix2 r j) = (M : EReal)) (hL : ∀ j, l (ix2 r j) = (L : EReal)) :
    k0_pay29 mo l ac (ix2 r d) = ac (ix2 r d) * Ideal.div 1 (L : EReal) := by
  pointwise [k0_pay29]
  simp only [half_bot, hM, hL, EReal.bot_lt_coe, if_true, dite_eq_ite, ite_self]

theorem pay25_at (r : Fin 2048) (l : Fin 128) : k0_pay25 (F := Ideal) (ix2 r l) = ⊥ := by
  pointwise [k0_pay25]
  exact mask_bot

theorem pay2_at (r : Fin 2048) (d : Fin 640) : k0_pay2 (F := Ideal) (ix2 r d) = 0 := by
  pointwise [k0_pay2]

/-- The maxima and sums carried stand for the unnormalised sums `A`: there is a real maximum `M` per row, and the sums are
    `A` scaled by `exp (-M)`. -/
def Seen (mx : Vec Ideal S2048x128 .f32) (ac : Vec Ideal S2048x640 .f32) (A : Fin 2048 → Fin 640 → ℝ) : Prop :=
  ∃ M : Fin 2048 → ℝ, (∀ r l, mx (ix2 r l) = (M r : EReal)) ∧ ∀ r d, ac (ix2 r d) = ((Real.exp (-M r) * A r d : ℝ) : EReal)

/-- The weight of a key: the exponential of its score, or nothing under the mask. -/
def wt (vis : Prop) [Decidable vis] (σ : ℝ) : ℝ := if vis then Real.exp σ else 0

theorem exp_wt (vis : Prop) [Decidable vis] (σ M : ℝ) :
    Ideal.exp (((σ : ℝ) : EReal) + (if vis then 0 else ⊥) - (M : EReal)) = ((Real.exp (-M) * wt vis σ : ℝ) : EReal) := by
  unfold wt
  split_ifs
  · rw [add_zero, ← EReal.coe_sub, Ideal.exp_coe, ← Real.exp_add]
    congr 2
    ring
  · rw [EReal.add_bot, EReal.bot_sub, Ideal.exp_bot, mul_zero, EReal.coe_zero]

theorem coe_sum {n : ℕ} (f : Fin n → ℝ) : ∑ k, ((f k : ℝ) : EReal) = ((∑ k, f k : ℝ) : EReal) :=
  (map_sum (⟨⟨Real.toEReal, EReal.coe_zero⟩, EReal.coe_add⟩ : ℝ →+ EReal) f Finset.univ).symm

section
variable {a b : ℕ} (ha : a ≤ 4096) (hb : b ≤ 4096) {kb : Vec Ideal S1x512x640 .bf16} {qs : Vec Ideal S2048x640 .bf16} {vb : Vec Ideal S1x512x512 .bf16}
  {σ : Fin 2048 → Fin 512 → ℝ} (hσ : ∀ r k, dotS qs kb r k = (σ r k : EReal))
  {ν : Fin 512 → Fin 640 → ℝ} (hν : ∀ k d, vext vb k d = (ν k d : EReal))
include ha hb hσ

theorem s_ne_top (r : Fin 2048) (k : Fin 512) : k0_pay26 (BitVec.ofNat 32 a) (BitVec.ofNat 32 b) kb qs (ix2 r k) ≠ ⊤ := by
  rw [pay26_at a b ha hb, hσ]
  split_ifs
  · rw [add_zero]; exact EReal.coe_ne_top _
  · rw [EReal.add_bot]; exact bot_ne_top

include hν

theorem new_sum (r : Fin 2048) (d : Fin 640) (M' : ℝ) :
    ∑ k : Fin 512, Ideal.exp (k0_pay26 (BitVec.ofNat 32 a) (BitVec.ofNat 32 b) kb qs (ix2 r k) - (M' : EReal)) * vext vb k d
      = ((Real.exp (-M') * ∑ k : Fin 512, wt (b + k.val ≤ a + r.val % 128) (σ r k) * ν k d : ℝ) : EReal) := by
  rw [Finset.mul_sum, ← coe_sum]
  refine Finset.sum_congr rfl fun k _ => ?_
  rw [pay26_at a b ha hb, hσ, hν, exp_wt, ← EReal.coe_mul, mul_assoc]

/-- The first chunk: every row sees its first key. -/
theorem seen_first (h0 : b = 0) :
    Seen (k0_pay27 (BitVec.ofNat 32 a) (BitVec.ofNat 32 b) kb qs (k0_pay25 (F := Ideal)))
      (k0_pay28 (BitVec.ofNat 32 a) (BitVec.ofNat 32 b) kb qs (k0_pay25 (F := Ideal)) vb (k0_pay2 (F := Ideal)))
      (fun r d => ∑ k : Fin 512, wt (b + k.val ≤ a + r.val % 128) (σ r k) * ν k d) := by
  have key : ∀ r : Fin 2048, ∃ M : ℝ, ∀ l, k0_pay27 (BitVec.ofNat 32 a) (BitVec.ofNat 32 b) kb qs (k0_pay25 (F := Ideal)) (ix2 r l) = (M : EReal) := by
    intro r
    obtain ⟨M, hM⟩ := fold_real (fun k : Fin 512 => k0_pay26 (BitVec.ofNat 32 a) (BitVec.ofNat 32 b) kb qs (ix2 r k)) ⊥ bot_ne_top
      (s_ne_top ha hb hσ r) (Or.inr ⟨0, by
        rw [pay26_at a b ha hb, hσ, if_pos (by rw [h0]; simp), add_zero]
        exact EReal.coe_ne_bot _⟩)
    refine ⟨M, fun l => ?_⟩
    rw [pay27_at, pay25_at]
    exact hM
  choose M hM using key
  refine ⟨M, hM, fun r d => ?_⟩
  rw [pay28_at _ _ _ _ _ _ _ r d ⊥ (M r) (fun l => pay25_at r l) (hM r), pay2_at, new_sum ha hb hσ hν, zero_mul, zero_add]

/-- A further chunk. -/
theorem seen_step {mo : Vec Ideal S2048x128 .f32} {ac : Vec Ideal S2048x640 .f32} {A : Fin 2048 → Fin 640 → ℝ} (h : Seen mo ac A) :
    Seen (k0_pay27 (BitVec.ofNat 32 a) (BitVec.ofNat 32 b) kb qs mo)
      (k0_pay28 (BitVec.ofNat 32 a) (BitVec.ofNat 32 b) kb qs mo vb ac)
      (fun r d => A r d + ∑ k : Fin 512, wt (b + k.val ≤ a + r.val % 128) (σ r k) * ν k d) := by
  obtain ⟨M, hM, hA⟩ := h
  have key : ∀ r : Fin 2048, ∃ M' : ℝ, ∀ l, k0_pay27 (BitVec.ofNat 32 a) (BitVec.ofNat 32 b) kb qs mo (ix2 r l) = (M' : EReal) := by
    intro r
    obtain ⟨M', hM'⟩ := fold_real (fun k : Fin 512 => k0_pay26 (BitVec.ofNat 32 a) (BitVec.ofNat 32 b) kb qs (ix2 r k)) (M r) (EReal.coe_ne_top _)
      (s_ne_top ha hb hσ r) (Or.inl (EReal.coe_ne_bot _))
    refine ⟨M', fun l => ?_⟩
    rw [pay27_at, hM]
    exact hM'
  choose M' hM' using key
  refine ⟨M', hM', fun r d => ?_⟩
  rw [pay28_at _ _ _ _ _ _ _ r d (M r) (M' r) (hM r) (hM' r), new_sum ha hb hσ hν, hA, ← EReal.coe_sub, Ideal.exp_coe, ← EReal.coe_mul,
    ← EReal.coe_add, mul_add, mul_right_comm, ← Real.exp_add]
  congr 3
  ring_nf
end

/-- The normalised rows: the sums over the total weight, which the last columns hold. -/
theorem normed_at {mx : Vec Ideal S2048x128 .f32} {ac : Vec Ideal S2048x640 .f32} {A : Fin 2048 → Fin 640 → ℝ} (h : Seen mx ac A)
    (L : Fin 2048 → ℝ) (hL : ∀ r (d : Fin 640), 512 ≤ d.val → A r d = L r) (hpos : ∀ r, 0 < L r) (r : Fin 2048) (d : Fin 512) :
    normed mx ac (ix2 r d) = ((A r (⟨d.val, by omega⟩ : Fin 640) / L r : ℝ) : EReal) := by
  obtain ⟨M, hM, hA⟩ := h
  have hd := d.isLt
  unfold normed
  rw [pay29_at _ _ _ r d (M r) (Real.exp (-M r) * L r) (hM r) (fun j => by
    have := j.isLt
    pointwise []
    rw [hA, hL r _ (by simp)])]
  have hne : Real.exp (-M r) * L r ≠ 0 := (mul_pos (Real.exp_pos _) (hpos r)).ne'
  have hr : View.ld ac (Rect.unit ![0, 0] ![2048, 512] inb_S2048x640_S2048x512_0_0) (ix2 r d) = ac (ix2 r (⟨d.val, by omega⟩ : Fin 640)) := by
    pointwise []
  rw [hr, hA, Ideal.div_coe hne, one_mul, ← EReal.coe_mul]
  congr 1
  have h1 := (hpos r).ne'
  have h2 := (Real.exp_pos (-M r)).ne'
  field_simp

end Cert.Step
-- ==== Proof.Blocks.lean ====
/-
  The arrays the call is given on the host's side and the blocks its windows cut from them, each read at an index: the
  queries padded from 576 to 640 columns, the latents and rope keys padded likewise, and the value weights by head.
-/
module

public import proofs.«01_k».proof.Proof.Step
public import Idealize.ShloMosaic.Lib.Pipeline.ValueKit
public import Idealize.ShloMosaic.Lib.Pipeline.ReadBack
public import Idealize.ShloMosaic.Lib.Pointwise

@[expose] public section

set_option maxRecDepth 16384

noncomputable section
open Idealize.ShloMosaic Idealize.ShloMosaic.TcCoe Idealize.SL.Sem
open Idealize.ShloMosaic.Pipeline (Dat)
namespace Cert.Blocks
open Cert.KernelIdeal Cert.KernelIdeal.Gen Cert.KernelIdeal.Value Cert.Body Cert.Step
set_option maxHeartbeats 1000000
variable (m : (ℓ : Loc nD τ sig) → Buf (Elt Ideal) ℓ)

abbrev aQ (c : Dev nD) : Vec Ideal S4x2048x16x512 .bf16 := m (c, Proc.tc.devRef main_arg0)
abbrev aR (c : Dev nD) : Vec Ideal S4x2048x16x64 .bf16 := m (c, Proc.tc.devRef main_arg1)
abbrev aC (c : Dev nD) : Vec Ideal S4x2048x512 .bf16 := m (c, Proc.tc.devRef main_arg2)
abbrev aK (c : Dev nD) : Vec Ideal S4x2048x64 .bf16 := m (c, Proc.tc.devRef main_arg3)
abbrev aW (c : Dev nD) : Vec Ideal S512x4096 .f32 := m (c, Proc.tc.devRef main_arg4)

/-- A padded query, of batch `b`, row `t` and head `h`, at column `e`. -/
def qv (c : Dev nD) (b : Fin 4) (t : Fin 2048) (h : Fin 16) (e : Fin 640) : EReal :=
  if he : e.val < 512 then aQ m c (ix4 b t h (⟨e.val, he⟩ : Fin 512))
  else if he : e.val - 512 < 64 then aR m c (ix4 b t h (⟨e.val - 512, he⟩ : Fin 64)) else 0

/-- A padded key, of batch `b` and row `k`, at column `e`. -/
def kv (c : Dev nD) (b : Fin 4) (k : Fin 2048) (e : Fin 640) : EReal :=
  if he : e.val < 512 then aC m c (ix3 b k (⟨e.val, he⟩ : Fin 512))
  else if he : e.val - 512 < 64 then aK m c (ix3 b k (⟨e.val - 512, he⟩ : Fin 64)) else 0

theorem concat3_congr {S1 S2 S3 out : Shape} {d : Fin out.rank} {x x' : Vec Ideal S1 .bf16} {y y' : Vec Ideal S2 .bf16}
    {z z' : Vec Ideal S3 .bf16} (h) (hx : x = x') (hy : y = y') (hz : z = z') :
    concatenate out d [⟨S1, x⟩, ⟨S2, y⟩, ⟨S3, z⟩] h = concatenate out d [⟨S1, x'⟩, ⟨S2, y'⟩, ⟨S3, z'⟩] h := by
  subst hx hy hz; rfl

theorem keys_eq (c : Dev nD) : V m c main_v8 = concatenate S4x2048x640 2
      [⟨S4x2048x512, aC m c⟩, ⟨S4x2048x64, aK m c⟩,
       ⟨S4x2048x64, broadcastInDim S4x2048x64 ![] bcast_S_S4x2048x64 (constant (F := Ideal) S_ FTy.bf16 0#16)⟩]
      concatenates_S4x2048x512_S4x2048x64_S4x2048x64_S4x2048x640_d2 := by
  unfold V
  simp only [hostOps0, StableHlo.after_cons, StableHlo.after_nil]
  rw [StableHlo.nary_result]
  refine concat3_congr _ ?_ ?_ ?_
  · after_results_simp; rfl
  · after_results_simp; rfl
  · change HloOp.result _ _ (Proc.tc.devRef main_v5) = _
    after_results_simp

theorem queries_eq (c : Dev nD) : V m c main_v7 = shapeCast S4x2048x10240 (concatenate S4x2048x16x640 3
      [⟨S4x2048x16x512, aQ m c⟩, ⟨S4x2048x16x64, aR m c⟩,
       ⟨S4x2048x16x64, broadcastInDim S4x2048x16x64 ![] bcast_S_S4x2048x16x64 (constant (F := Ideal) S_ FTy.bf16 0#16)⟩]
      concatenates_S4x2048x16x512_S4x2048x16x64_S4x2048x16x64_S4x2048x16x640_d3) shapeCasts_S4x2048x16x640_S4x2048x10240 := by
  unfold V
  simp only [hostOps0, StableHlo.after_cons, StableHlo.after_nil]
  rw [StableHlo.nary_result_ne (h := by decide), StableHlo.reshape_result, StableHlo.nary_result]
  refine congrArg (fun x => shapeCast S4x2048x10240 x shapeCasts_S4x2048x16x640_S4x2048x10240) (concat3_congr _ ?_ ?_ ?_)
  · after_results_simp; rfl
  · after_results_simp; rfl
  · change HloOp.result _ _ (Proc.tc.devRef main_v4) = _
    after_results_simp

abbrev wHost (x : FVec Ideal S512x4096 .f32) : FVec Ideal S16x512x128 .bf16 :=
  truncf .bf16 (transpose S16x512x128 [1, 0, 2] (extractStridedSlice S512x16x128 ![0, 0, 128]
    (shapeCast S512x16x256 x shapeCasts_S512x4096_S512x16x256) slices_S512x16x256_S512x16x128_0_0_128)
    transposes_S512x16x128_S16x512x128_1_0_2) bitsLt_bf16_f32

theorem weights_eq (c : Dev nD) : V m c main_v3 = wHost (aW m c) := by
  entry_read <;> rfl

theorem keys_at (x : Vec Ideal S4x2048x512 .bf16) (y : Vec Ideal S4x2048x64 .bf16) (b : Fin 4) (k : Fin 2048) (e : Fin 640) :
    concatenate S4x2048x640 2
      [⟨S4x2048x512, x⟩, ⟨S4x2048x64, y⟩,
       ⟨S4x2048x64, broadcastInDim S4x2048x64 ![] bcast_S_S4x2048x64 (constant (F := Ideal) S_ FTy.bf16 0#16)⟩]
      concatenates_S4x2048x512_S4x2048x64_S4x2048x64_S4x2048x640_d2 (ix3 b k e)
    = if he : e.val < 512 then x (ix3 b k (⟨e.val, he⟩ : Fin 512))
      else if he : e.val - 512 < 64 then y (ix3 b k (⟨e.val - 512, he⟩ : Fin 64)) else 0 := by
  pointwise

theorem queries_at (x : Vec Ideal S4x2048x16x512 .bf16) (y : Vec Ideal S4x2048x16x64 .bf16) (b : Fin 4) (k : Fin 2048) (h : Fin 16) (e : Fin 640) :
    shapeCast S4x2048x10240 (concatenate S4x2048x16x640 3
      [⟨S4x2048x16x512, x⟩, ⟨S4x2048x16x64, y⟩,
       ⟨S4x2048x16x64, broadcastInDim S4x2048x16x64 ![] bcast_S_S4x2048x16x64 (constant (F := Ideal) S_ FTy.bf16 0#16)⟩]
      concatenates_S4x2048x16x512_S4x2048x16x64_S4x2048x16x64_S4x2048x16x640_d3) shapeCasts_S4x2048x16x640_S4x2048x10240
        (ix3 b k (⟨640 * h.val + e.val, by omega⟩ : Fin 10240))
    = if he : e.val < 512 then x (ix4 b k h (⟨e.val, he⟩ : Fin 512))
      else if he : e.val - 512 < 64 then y (ix4 b k h (⟨e.val - 512, he⟩ : Fin 64)) else 0 := by
  pointwise

theorem weights_at (x : FVec Ideal S512x4096 .f32) (h : Fin 16) (k : Fin 512) (e : Fin 128) :
    wHost x (ix3 h k e) = x (ix2 k (⟨256 * h.val + 128 + e.val, by omega⟩ : Fin 4096)) := by
  pointwise
  exact congrArg x (ix2_eq rfl (by show h.val * 256 + (128 + e.val) = 256 * h.val + 128 + e.val; omega))

/-! The blocks, over any array. -/

theorem index0 : ∀ t : Fin cfg0.N, win0_0.index t (0 : Fin 3) = t.val / 64 ∧ win0_0.index t (1 : Fin 3) = t.val / 4 % 16 ∧ win0_0.index t (2 : Fin 3) = 0 :=
  (by decide +kernel : ∀ t : Fin grid0.N, _)
theorem index1 : ∀ t : Fin cfg0.N, 4 * (t.val % 4) ≤ t.val / 4 % 16 →
    win0_1.index t (0 : Fin 3) = t.val / 64 ∧ win0_1.index t (1 : Fin 3) = t.val % 4 ∧ win0_1.index t (2 : Fin 3) = 0 :=
  (by decide +kernel : ∀ t : Fin grid0.N, _)
theorem index2 : ∀ t : Fin cfg0.N, 4 * (t.val % 4) ≤ t.val / 4 % 16 →
    win0_2.index t (0 : Fin 3) = t.val / 64 ∧ win0_2.index t (1 : Fin 3) = t.val % 4 ∧ win0_2.index t (2 : Fin 3) = 0 :=
  (by decide +kernel : ∀ t : Fin grid0.N, _)
theorem index3 : ∀ t : Fin cfg0.N, win0_3.index t (0 : Fin 3) = 0 ∧ win0_3.index t (1 : Fin 3) = 0 ∧ win0_3.index t (2 : Fin 3) = 0 :=
  (by decide +kernel : ∀ t : Fin grid0.N, _)
theorem coords_at : ∀ t : Fin cfg0.N, (grid0.coords t 1).val = t.val / 4 % 16 ∧ (grid0.coords t 3).val = t.val % 4 :=
  (by decide +kernel : ∀ t : Fin grid0.N, _)

theorem lt_N (t : Fin cfg0.N) : t.val < 256 := lt_of_lt_of_eq t.isLt (by decide)

theorem qpos_eq (t : Fin cfg0.N) : qpos t = BitVec.ofNat 32 (128 * (t.val / 4 % 16)) := by
  unfold qpos
  rw [(coords_at t).1]
  have : t.val / 4 % 16 < 16 := Nat.mod_lt _ (by norm_num)
  generalize t.val / 4 % 16 = n at this
  interval_cases n <;> rfl
theorem kpos_eq (t : Fin cfg0.N) : kpos t = BitVec.ofNat 32 (512 * (t.val % 4)) := by
  unfold kpos
  rw [(coords_at t).2]
  have : t.val % 4 < 4 := Nat.mod_lt _ (by norm_num)
  generalize t.val % 4 = n at this
  interval_cases n <;> rfl

theorem read0 (X : Vec Ideal S4x2048x10240 .bf16) (t : Fin cfg0.N) (q : Fin 128) (e : Fin 10240) :
    View.read (Elt Ideal) ((cfg0.win 0).blk t).view X (ix3 (0 : Fin 1) q e)
      = X (ix3 (⟨t.val / 64, by have := lt_N t; omega⟩ : Fin 4) (⟨128 * (t.val / 4 % 16) + q.val, by omega⟩ : Fin 2048) e) := by
  show X (((cfg0.win 0).blk t).view.emb (ix3 (0 : Fin 1) q e)) = _
  obtain ⟨i0, i1, i2⟩ := index0 t
  refine congrArg X (funext fun a => Fin.ext ?_)
  match a with
  | ⟨0, _⟩ => show win0_0.index t (0 : Fin 3) * 1 + 1 * 0 = t.val / 64; omega
  | ⟨1, _⟩ => show win0_0.index t (1 : Fin 3) * 128 + 1 * q.val = 128 * (t.val / 4 % 16) + q.val; omega
  | ⟨2, _⟩ => show win0_0.index t (2 : Fin 3) * 10240 + 1 * e.val = e.val; omega

theorem read1 (X : Vec Ideal S4x2048x640 .bf16) (t : Fin cfg0.N) (h1 : 4 * (t.val % 4) ≤ t.val / 4 % 16) (k : Fin 512) (e : Fin 640) :
    View.read (Elt Ideal) ((cfg0.win 1).blk t).view X (ix3 (0 : Fin 1) k e)
      = X (ix3 (⟨t.val / 64, by have := lt_N t; omega⟩ : Fin 4) (⟨512 * (t.val % 4) + k.val, by omega⟩ : Fin 2048) e) := by
  show X (((cfg0.win 1).blk t).view.emb (ix3 (0 : Fin 1) k e)) = _
  obtain ⟨i0, i1, i2⟩ := index1 t h1
  refine congrArg X (funext fun a => Fin.ext ?_)
  match a with
  | ⟨0, _⟩ => show win0_1.index t (0 : Fin 3) * 1 + 1 * 0 = t.val / 64; omega
  | ⟨1, _⟩ => show win0_1.index t (1 : Fin 3) * 512 + 1 * k.val = 512 * (t.val % 4) + k.val; omega
  | ⟨2, _⟩ => show win0_1.index t (2 : Fin 3) * 640 + 1 * e.val = e.val; omega

theorem whole2 : ∀ t : Fin cfg0.N, ∀ a : Fin 3, win0_2.clip (grid0.coords t) a = none :=
  (by decide +kernel : ∀ t : Fin grid0.N, ∀ a : Fin 3, win0_2.clip (grid0.coords t) a = none)

theorem read2 (X : Vec Ideal S4x2048x640 .bf16) (t : Fin cfg0.N) (h1 : 4 * (t.val % 4) ≤ t.val / 4 % 16) (k : Fin 512) (d : Fin 512) :
    (cfg0.win 2).fill (cfg0.grid.coords t) (dflt0_2 (F := Ideal)) (View.read (Elt Ideal) ((cfg0.win 2).blk t).view X) (ix3 (0 : Fin 1) k d)
      = X (ix3 (⟨t.val / 64, by have := lt_N t; omega⟩ : Fin 4) (⟨512 * (t.val % 4) + k.val, by omega⟩ : Fin 2048) (⟨d.val, by omega⟩ : Fin 640)) := by
  obtain ⟨i0, i1, i2⟩ := index2 t h1
  have hm : (cfg0.win 2).moved (cfg0.grid.coords t) (ix3 (0 : Fin 1) k d) = true :=
    ((cfg0.win 2).moved_iff _ _).mpr fun a => by
      have h := (ix3 (0 : Fin 1) k d a).isLt
      unfold Pipeline.Window.xsize
      rw [whole2 t a]
      exact h
  unfold Pipeline.Window.fill
  rw [dif_pos hm]
  refine congrArg X (funext fun a => Fin.ext ?_)
  match a with
  | ⟨0, _⟩ => show win0_2.index t (0 : Fin 3) * 1 + 1 * 0 = t.val / 64; omega
  | ⟨1, _⟩ => show win0_2.index t (1 : Fin 3) * 512 + 1 * k.val = 512 * (t.val % 4) + k.val; omega
  | ⟨2, _⟩ => show win0_2.index t (2 : Fin 3) * 512 + 1 * d.val = d.val; omega

theorem read3 (X : Vec Ideal S16x512x128 .bf16) (t : Fin cfg0.N) (h : Fin 16) (k : Fin 512) (e : Fin 128) :
    View.read (Elt Ideal) ((cfg0.win 3).blk t).view X (ix3 h k e) = X (ix3 h k e) := by
  show X (((cfg0.win 3).blk t).view.emb (ix3 h k e)) = _
  obtain ⟨i0, i1, i2⟩ := index3 t
  refine congrArg X (funext fun a => Fin.ext ?_)
  match a with
  | ⟨0, _⟩ => show win0_3.index t (0 : Fin 3) * 16 + 1 * h.val = h.val; omega
  | ⟨1, _⟩ => show win0_3.index t (1 : Fin 3) * 512 + 1 * k.val = k.val; omega
  | ⟨2, _⟩ => show win0_3.index t (2 : Fin 3) * 128 + 1 * e.val = e.val; omega

/-! The blocks of the call. -/

theorem blk0 (c : Dev nD) (t : Fin cfg0.N) (q : Fin 128) (h : Fin 16) (e : Fin 640) :
    iblk m c 0 t (ix3 (0 : Fin 1) q (⟨640 * h.val + e.val, by omega⟩ : Fin 10240))
      = qv m c (⟨t.val / 64, by have := lt_N t; omega⟩ : Fin 4) (⟨128 * (t.val / 4 % 16) + q.val, by omega⟩ : Fin 2048) h e :=
  (read0 (V m c main_v7) t q _).trans ((congrFun (queries_eq m c) _).trans (queries_at _ _ _ _ h e))

theorem blk1 (c : Dev nD) (t : Fin cfg0.N) (h1 : 4 * (t.val % 4) ≤ t.val / 4 % 16) (k : Fin 512) (e : Fin 640) :
    iblk m c 1 t (ix3 (0 : Fin 1) k e)
      = kv m c (⟨t.val / 64, by have := lt_N t; omega⟩ : Fin 4) (⟨512 * (t.val % 4) + k.val, by omega⟩ : Fin 2048) e :=
  (read1 (V m c main_v8) t h1 k e).trans ((congrFun (keys_eq m c) _).trans (keys_at _ _ _ _ e))

theorem blk2 (c : Dev nD) (t : Fin cfg0.N) (h1 : 4 * (t.val % 4) ≤ t.val / 4 % 16) (k : Fin 512) (d : Fin 512) :
    X0_2 m c t (ix3 (0 : Fin 1) k d)
      = kv m c (⟨t.val / 64, by have := lt_N t; omega⟩ : Fin 4) (⟨512 * (t.val % 4) + k.val, by omega⟩ : Fin 2048) (⟨d.val, by omega⟩ : Fin 640) :=
  (read2 (V m c main_v8) t h1 k d).trans ((congrFun (keys_eq m c) _).trans (keys_at _ _ _ _ _))

theorem blk3 (c : Dev nD) (t : Fin cfg0.N) (h : Fin 16) (k : Fin 512) (e : Fin 128) :
    iblk m c 3 t (ix3 h k e) = aW m c (ix2 k (⟨256 * h.val + 128 + e.val, by omega⟩ : Fin 4096)) :=
  (read3 (V m c main_v3) t h k e).trans ((congrFun (weights_eq m c) _).trans (weights_at _ h k e))

end Cert.Blocks
-- ==== Proof.Pre.lean ====
/-
  The precondition, read: where `finite` holds, every query, rope query, latent and rope key is a real number.
-/
module

public import proofs.«01_k».proof.Defs
public import proofs.«01_k».proof.Proof.Blocks
public import Idealize.ShloMosaic.Lib.ReduceAll
public import Idealize.ShloMosaic.Lib.Pointwise

@[expose] public section

set_option maxRecDepth 16384

noncomputable section
open Idealize.ShloMosaic Idealize.ShloMosaic.TcCoe Idealize.SL.Sem

namespace Cert.Pre

/-- The side conditions of the precondition's own operations. -/
theorem facts : Cert.Pre_finite.Facts where
  bitsLt_bf16_f32 := by decide
  bcast_S_S4x2048x16x512 := by decide
  reducesTo_S4x2048x16x512_S_d0_1_2_3 := by decide
  h_S_ := by decide
  bcast_S_S4x2048x16x64 := by decide
  reducesTo_S4x2048x16x64_S_d0_1_2_3 := by decide
  bcast_S_S4x2048x512 := by decide
  reducesTo_S4x2048x512_S_d0_1_2 := by decide
  bcast_S_S4x2048x64 := by decide
  reducesTo_S4x2048x64_S_d0_1_2 := by decide

/-- The word of plus infinity is the top element. -/
theorem top_bits : Ideal.ofBits FTy.f32 0x7F800000#32 = (⊤ : EReal) := by
  simp only [Ideal.ofBits, Ideal.ieee]
  rw [if_pos (by decide)]
  simp

/-- An extended real whose absolute value compares below plus infinity is a real number. -/
theorem real_of_cmp (x : EReal) (h : Ideal.cmp .olt (max x (-x)) (⊤ : EReal) = 1#1) : x = ((x.toReal : ℝ) : EReal) := by
  have h' : max x (-x) < ⊤ := (Ideal.cmp_olt_eq_one _ _).1 h
  rw [max_lt_iff] at h'
  refine (EReal.coe_toReal h'.1.ne fun e => ?_).symm
  rw [e] at h'
  exact absurd h'.2 (by simp)

instance : Subsingleton Cert.Pre_finite.S_.Idx := ⟨fun a b => funext fun i => i.elim0⟩

/-- All of an array's elements have an absolute value below plus infinity: all are real numbers. -/
theorem real_of_all {s : Shape} {axes : List (Fin s.rank)} (x : FVec Ideal s .bf16) (hb : Cert.Pre_finite.S_.BroadcastsInDim s (![] : Fin 0 → Fin s.rank))
    (hr : s.ReducesTo axes Cert.Pre_finite.S_) (hu : 0 < Cert.Pre_finite.S_.numel) (hx : FTy.bits .bf16 < FTy.bits .f32) (j : Cert.Pre_finite.S_.Idx)
    (e : Host.reduce IntOp.andi (cmpf .olt (Host.absf (extf .f32 x hx)) (broadcastInDim s ![] hb (constant (F := Ideal) Cert.Pre_finite.S_ .f32 0x7F800000#32)))
      (constantI Cert.Pre_finite.S_ 1 1#1) hr hu j = 1#1) (i : s.Idx) : x i = ((EReal.toReal (x i) : ℝ) : EReal) := by
  have h := Host.reduce_andi_all _ _ hr hu j e i
  refine real_of_cmp (x i) ?_
  rw [← top_bits]
  exact h

open Cert.KernelIdeal Cert.Blocks

variable (m : (ℓ : Loc nD τ sig) → Buf (Elt Ideal) ℓ)

/-- Where the precondition holds, the four arrays of queries and keys hold real numbers. -/
theorem real_args [Cert.Pre_finite.Facts] (h : Cert.Pre_KernelIdeal_finite m) (c : Dev nD) :
    (∀ i, aQ m c i = ((EReal.toReal (aQ m c i) : ℝ) : EReal)) ∧ (∀ i, aR m c i = ((EReal.toReal (aR m c i) : ℝ) : EReal))
    ∧ (∀ i, aC m c i = ((EReal.toReal (aC m c i) : ℝ) : EReal)) ∧ (∀ i, aK m c i = ((EReal.toReal (aK m c i) : ℝ) : EReal)) := by
  have h0 := congrFun (h c) (Shape.Idx.first Cert.Pre_finite.Facts.h_S_)
  dsimp only [Cert.Pre_finite.fn, Cert.Pre_finite.fn_part1] at h0
  obtain ⟨h1, hk⟩ := IntOp.andi_eq_one.1 h0
  obtain ⟨h2, hc⟩ := IntOp.andi_eq_one.1 h1
  obtain ⟨hq, hr⟩ := IntOp.andi_eq_one.1 h2
  exact ⟨real_of_all _ _ _ _ _ _ hq, real_of_all _ _ _ _ _ _ hr, real_of_all _ _ _ _ _ _ hc, real_of_all _ _ _ _ _ _ hk⟩

end Cert.Pre
-- ==== Proof.Fold.lean ====
/-
  The whole sweep, at real queries and keys: after the chunks seen so far a row carries the unnormalised weighted sums over
  the keys of those chunks, and the last step writes the normalised sums through the value weights.
-/
module

public import proofs.«01_k».proof.Proof.Blocks
public import Idealize.ShloMosaic.Lib.Pipeline.ValueKit
public import Idealize.ShloMosaic.Lib.Pipeline.ReadBack
public import Idealize.ShloMosaic.Lib.Pointwise

@[expose] public section

set_option maxRecDepth 16384

noncomputable section
open Idealize.ShloMosaic Idealize.ShloMosaic.TcCoe Idealize.SL.Sem
open Idealize.ShloMosaic.Pipeline (Dat)
namespace Cert.Fold
open Cert.Blocks Cert.KernelIdeal Cert.KernelIdeal.Gen Cert.KernelIdeal.Value Cert.Body Cert.Step
set_option maxHeartbeats 1000000
variable (m : (ℓ : Loc nD τ sig) → Buf (Elt Ideal) ℓ)

theorem scale_real : ∃ s : ℝ, Ideal.ofBits FTy.f32 0x3D93CD3A#32 = (s : EReal) := by
  simp only [Ideal.ofBits, Ideal.ieee]
  rw [if_neg (by decide), if_neg (by decide)]
  exact ⟨_, rfl⟩

/-- The scale of the scores. -/
def scl : ℝ := scale_real.choose
theorem scl_eq : Ideal.ofBits FTy.f32 0x3D93CD3A#32 = (scl : EReal) := scale_real.choose_spec

/-- The query row and the head a stacked row of tile `i` stands for. -/
def rowQ (i : Fin 16) (r : Fin 2048) : Fin 2048 := ⟨128 * i.val + r.val % 128, by omega⟩
def rowH (r : Fin 2048) : Fin 16 := ⟨r.val / 128, by omega⟩

variable (Qr : Fin 4 → Fin 2048 → Fin 16 → Fin 640 → ℝ) (Kr : Fin 4 → Fin 2048 → Fin 640 → ℝ)

/-- The scaled score of query `t` of head `h` and key `k`. -/
def sco (b : Fin 4) (t : Fin 2048) (h : Fin 16) (k : Fin 2048) : ℝ := (∑ e : Fin 640, Qr b t h e * Kr b k e) * scl

/-- A value's column, the columns past the value's own 512 holding one. -/
def nu (b : Fin 4) (k : Fin 2048) (d : Fin 640) : ℝ := if d.val < 512 then Kr b k d else 1

/-- Key `k`'s part of the weighted sum of a query at column `d`. -/
def term (b : Fin 4) (t : Fin 2048) (h : Fin 16) (d : Fin 640) (k : ℕ) : ℝ :=
  if hk : k < 2048 then wt (k ≤ t.val) (sco Qr Kr b t h ⟨k, hk⟩) * nu Kr b ⟨k, hk⟩ d else 0

/-- The weighted sum of a query over the keys below `n`. -/
def psum (b : Fin 4) (t : Fin 2048) (h : Fin 16) (n : ℕ) (d : Fin 640) : ℝ := ∑ k ∈ Finset.range n, term Qr Kr b t h d k

theorem psum_full (b : Fin 4) (t : Fin 2048) (h : Fin 16) (n : ℕ) (hn : t.val < n) (hn' : n ≤ 2048) (d : Fin 640) :
    psum Qr Kr b t h n d = psum Qr Kr b t h 2048 d := by
  unfold psum
  refine Finset.sum_subset (fun k hk => Finset.mem_range.2 (lt_of_lt_of_le (Finset.mem_range.1 hk) hn')) fun k _ hk => ?_
  rw [Finset.mem_range] at hk
  unfold term wt
  split
  · rw [if_neg (by omega), zero_mul]
  · rfl

theorem psum_chunk (b : Fin 4) (i : Fin 16) (r : Fin 2048) (j : ℕ) (hj : j < 4) (d : Fin 640) :
    psum Qr Kr b (rowQ i r) (rowH r) (512 * j) d
      + ∑ k : Fin 512, wt (512 * j + k.val ≤ 128 * i.val + r.val % 128) (sco Qr Kr b (rowQ i r) (rowH r) ⟨512 * j + k.val, by omega⟩)
          * nu Kr b ⟨512 * j + k.val, by omega⟩ d
      = psum Qr Kr b (rowQ i r) (rowH r) (512 * (j + 1)) d := by
  unfold psum
  rw [show 512 * (j + 1) = 512 * j + 512 from by ring, Finset.sum_range_add, Finset.sum_range (n := 512)]
  refine congrArg _ (Finset.sum_congr rfl fun k _ => ?_)
  unfold term
  rw [dif_pos (by omega)]
  rfl

theorem psum_first (b : Fin 4) (i : Fin 16) (r : Fin 2048) (j : ℕ) (hj : j = 0) (d : Fin 640) :
      ∑ k : Fin 512, wt (512 * j + k.val ≤ 128 * i.val + r.val % 128) (sco Qr Kr b (rowQ i r) (rowH r) ⟨512 * j + k.val, by omega⟩)
          * nu Kr b ⟨512 * j + k.val, by omega⟩ d
      = psum Qr Kr b (rowQ i r) (rowH r) (512 * (j + 1)) d := by
  rw [← psum_chunk Qr Kr b i r j (by omega) d]
  subst hj
  simp [psum]

theorem psum_pos (b : Fin 4) (t : Fin 2048) (h : Fin 16) (d : Fin 640) (hd : 512 ≤ d.val) : 0 < psum Qr Kr b t h 2048 d := by
  have hnu : ∀ k, nu Kr b k d = 1 := fun k => if_neg (by omega)
  refine Finset.sum_pos' (fun k _ => ?_) ⟨0, Finset.mem_range.2 (by norm_num), ?_⟩
  · unfold term wt
    split
    · rw [hnu, mul_one]
      split
      · exact (Real.exp_pos _).le
      · exact le_refl _
    · exact le_refl _
  · unfold term wt
    rw [dif_pos (by norm_num), hnu, mul_one, if_pos (Nat.zero_le _)]
    exact Real.exp_pos _

theorem psum_norm (b : Fin 4) (t : Fin 2048) (h : Fin 16) (n : ℕ) (d d' : Fin 640) (hd : 512 ≤ d.val) (hd' : 512 ≤ d'.val) :
    psum Qr Kr b t h n d = psum Qr Kr b t h n d' := by
  unfold psum
  refine Finset.sum_congr rfl fun k _ => ?_
  unfold term nu
  simp only [if_neg (not_lt.2 hd), if_neg (not_lt.2 hd')]

/-- The batch and the tile of a point. -/
def bOf (t : Fin cfg0.N) : Fin 4 := ⟨t.val / 64, by have := lt_N t; omega⟩
def iOf (t : Fin cfg0.N) : Fin 16 := ⟨t.val / 4 % 16, Nat.mod_lt _ (by norm_num)⟩

/-- The number of keys seen once a point is done. -/
def cnt (t : Fin cfg0.N) : ℕ := 512 * (min (t.val % 4) (t.val / 4 % 16 / 4) + 1)

/-- The stacked queries of a point are its tile's. -/
def HasQ (t : Fin cfg0.N) (qs : Vec Ideal S2048x640 .bf16) : Prop :=
  ∀ r e, qs (ix2 r e) = (Qr (bOf t) (rowQ (iOf t) r) (rowH r) e : EReal)

/-- What a point leaves: its stacked queries, unless it is the tile's last, and the sums over the keys seen. -/
def Inv (t : Fin cfg0.N) (st : St) : Prop :=
  (¬t.val % 4 = 3 → HasQ Qr t st.2.1)
    ∧ Seen st.2.2.1 st.2.2.2 (fun r d => psum Qr Kr (bOf t) (rowQ (iOf t) r) (rowH r) (cnt t) d)

variable (c : Dev nD) (hQ : ∀ b t h e, qv m c b t h e = (Qr b t h e : EReal)) (hK : ∀ b k e, kv m c b k e = (Kr b k e : EReal))

include hQ in
theorem rows_q (t : Fin cfg0.N) : HasQ Qr t (qrows (iblk m c 0 t)) := by
  intro r e
  rw [← hQ]
  exact blk0 m c t (⟨r.val % 128, Nat.mod_lt _ (by norm_num)⟩ : Fin 128) (rowH r) e

include hK in
theorem scores (t : Fin cfg0.N) (h1 : 4 * (t.val % 4) ≤ t.val / 4 % 16) (qs : Vec Ideal S2048x640 .bf16) (hq : HasQ Qr t qs) (r : Fin 2048) (k : Fin 512) :
    dotS qs (iblk m c 1 t) r k = (sco Qr Kr (bOf t) (rowQ (iOf t) r) (rowH r) ⟨512 * (t.val % 4) + k.val, by omega⟩ : EReal) := by
  unfold dotS sco
  rw [scl_eq, EReal.coe_mul, ← coe_sum]
  refine congrArg (· * _) (Finset.sum_congr rfl fun e _ => ?_)
  rw [hq, blk1 m c t h1 k e, hK, ← EReal.coe_mul]
  rfl

include hK in
theorem values (t : Fin cfg0.N) (h1 : 4 * (t.val % 4) ≤ t.val / 4 % 16) (k : Fin 512) (d : Fin 640) :
    vext (X0_2 m c t) k d = (nu Kr (bOf t) ⟨512 * (t.val % 4) + k.val, by omega⟩ d : EReal) := by
  unfold vext nu
  by_cases h : d.val < 512
  · rw [dif_pos h, if_pos h, blk2 m c t h1 k _, hK]
    rfl
  · rw [dif_neg h, if_neg h, EReal.coe_one]

include hQ hK in
theorem inv_step (t : Fin cfg0.N) (acc : St)
    (h : ∀ t' : Fin cfg0.N, t'.val + 1 = t.val → ¬t.val % 4 = 0 → Inv Qr Kr t' acc) : Inv Qr Kr t (stAt0 m c t.val t.isLt acc) := by
  have hN := lt_N t
  have ha : 128 * (iOf t).val ≤ 4096 := by have := (iOf t).isLt; omega
  have hb : 512 * (t.val % 4) ≤ 4096 := by omega
  by_cases h0 : t.val % 4 = 0
  · have h1 : 4 * (t.val % 4) ≤ t.val / 4 % 16 := by omega
    have h2 : ¬t.val % 4 = 3 := by omega
    have hq := rows_q m Qr c hQ t
    refine ⟨fun _ => ?_, ?_⟩
    · rw [qs_A m c t acc h0 h1 h2]; exact hq
    · rw [mx_A m c t acc h0 h1 h2, ac_A m c t acc h0 h1 h2, qpos_eq, kpos_eq]
      have := seen_first (a := 128 * (iOf t).val) ha hb (scores m Qr Kr c hK t h1 _ hq) (values m Kr c hK t h1) (by omega)
      refine Eq.mp (congrArg _ (funext fun r => funext fun d => ?_)) this
      rw [psum_first Qr Kr (bOf t) (iOf t) r (t.val % 4) h0 d]
      congr 1
      unfold cnt
      rw [h0]; simp
  · have hp := h ⟨t.val - 1, lt_of_le_of_lt (Nat.sub_le _ _) t.isLt⟩ (by show t.val - 1 + 1 = _; omega) h0
    generalize hs : (⟨t.val - 1, lt_of_le_of_lt (Nat.sub_le _ _) t.isLt⟩ : Fin cfg0.N) = s at hp
    have hsv : s.val = t.val - 1 := by rw [← hs]
    have eb : bOf s = bOf t := Fin.ext (by show s.val / 64 = t.val / 64; omega)
    have ei : iOf s = iOf t := Fin.ext (by show s.val / 4 % 16 = t.val / 4 % 16; omega)
    obtain ⟨hq, hseen⟩ := hp
    have hq := hq (by omega)
    unfold HasQ at hq
    rw [eb, ei] at hq hseen
    by_cases h1 : 4 * (t.val % 4) ≤ t.val / 4 % 16
    · have key : Seen (k0_pay27 (qpos t) (kpos t) (iblk m c 1 t) acc.2.1 acc.2.2.1)
          (k0_pay28 (qpos t) (kpos t) (iblk m c 1 t) acc.2.1 acc.2.2.1 (X0_2 m c t) acc.2.2.2)
          (fun r d => psum Qr Kr (bOf t) (rowQ (iOf t) r) (rowH r) (cnt t) d) := by
        rw [qpos_eq, kpos_eq]
        have := seen_step (a := 128 * (iOf t).val) ha hb (scores m Qr Kr c hK t h1 _ hq) (values m Kr c hK t h1) hseen
        refine Eq.mp (congrArg _ (funext fun r => funext fun d => ?_)) this
        have e1 : cnt s = 512 * (t.val % 4) := by
          have hd : s.val / 4 % 16 = t.val / 4 % 16 := congrArg Fin.val ei
          unfold cnt; rw [hd, hsv]; omega
        have e2 : cnt t = 512 * (t.val % 4 + 1) := by unfold cnt; omega
        rw [e1, e2]
        exact psum_chunk Qr Kr (bOf t) (iOf t) r (t.val % 4) (by omega) d
      by_cases h2 : t.val % 4 = 3
      · refine ⟨fun h => absurd h2 h, ?_⟩
        rw [mx_E m c t acc h0 h1 h2, ac_E m c t acc h0 h1 h2]
        exact key
      · refine ⟨fun _ => ?_, ?_⟩
        · rw [qs_D m c t acc h0 h1 h2]; exact hq
        · rw [mx_D m c t acc h0 h1 h2, ac_D m c t acc h0 h1 h2]
          exact key
    · have e : cnt s = cnt t := by
        have hd : s.val / 4 % 16 = t.val / 4 % 16 := congrArg Fin.val ei
        unfold cnt; rw [hd, hsv]; omega
      rw [e] at hseen
      by_cases h2 : t.val % 4 = 3
      · refine ⟨fun h => absurd h2 h, ?_⟩
        rw [st_C m c t acc h0 h1 h2]; exact hseen
      · refine ⟨fun _ => ?_, ?_⟩
        · rw [st_B m c t acc h0 h1 h2]; exact hq
        · rw [st_B m c t acc h0 h1 h2]; exact hseen

include hQ hK in
theorem inv_all : ∀ (n : ℕ) (hn : n < cfg0.N), Inv Qr Kr ⟨n, hn⟩ (outsAt0 m c n hn)
  | 0, hn => by
    rw [outsAt0_zero]
    exact inv_step m Qr Kr c hQ hK ⟨0, hn⟩ _ fun t' h _ => absurd h (Nat.succ_ne_zero _)
  | n + 1, hn => by
    rw [outsAt0_succ]
    refine inv_step m Qr Kr c hQ hK ⟨n + 1, hn⟩ _ fun t' h _ => ?_
    have : t' = ⟨n, Nat.lt_of_succ_lt hn⟩ := Fin.ext (Nat.succ.inj h)
    rw [this]
    exact inv_all n (Nat.lt_of_succ_lt hn)

/-- The last step of a tile writes the normalised sums through the value weights. -/
theorem out_last (n : ℕ) (hn : n < cfg0.N) (h2 : n % 4 = 3) :
    (outsAt0 m c n hn).1 = outOf (normed (outsAt0 m c n hn).2.2.1 (outsAt0 m c n hn).2.2.2) (iblk m c 3 ⟨n, hn⟩) := by
  cases n with
  | zero => omega
  | succ n =>
    rw [outsAt0_succ]
    by_cases h1 : 4 * ((n + 1) % 4) ≤ (n + 1) / 4 % 16
    · exact out_E m c ⟨n + 1, hn⟩ _ (by show ¬(n + 1) % 4 = 0; omega) h1 h2
    · rw [out_C m c ⟨n + 1, hn⟩ _ (by show ¬(n + 1) % 4 = 0; omega) h1 h2,
        st_C m c ⟨n + 1, hn⟩ _ (by show ¬(n + 1) % 4 = 0; omega) h1 h2]

include hQ hK in
/-- What the call computes: the normalised weighted sums of the latents, through the value weights. -/
theorem result_at (b : Fin 4) (t : Fin 2048) (h : Fin 16) (d : Fin 128) :
    G4 m c (ix3 b t (⟨128 * h.val + d.val, by omega⟩ : Fin 2048))
      = ∑ k : Fin 512, ((psum Qr Kr b t h 2048 ⟨k.val, by omega⟩ / psum Qr Kr b t h 2048 ⟨512, by norm_num⟩ : ℝ) : EReal)
          * aW m c (ix2 k (⟨256 * h.val + 128 + d.val, by omega⟩ : Fin 4096)) := by
  have hh := h.isLt
  have hd := d.isLt
  have hp : pt4Of (ix3 b t (⟨128 * h.val + d.val, by omega⟩ : Fin 2048)) = 4 * (16 * b.val + t.val / 128) + 3 := by
    show 4 * (16 * (b.val / 1 - 0) + 1 * (t.val / 128 - 0) + 1 * ((128 * h.val + d.val) / 2048 - 0)) + 3 = _
    omega
  have hlt : 4 * (16 * b.val + t.val / 128) + 3 < cfg0.N := lt_of_lt_of_eq (b := 256) (by omega) (by decide)
  unfold G4
  rw [dif_pos (by rw [hp]; exact hlt), fold0_congr m c _ _ _ (by simpa using hlt) hp, ← outsAt0_sweep m c _ hlt, out_last m c _ hlt (by show _ % 4 = 3; omega)]
  obtain ⟨-, hseen⟩ := inv_all m Qr Kr c hQ hK _ hlt
  have eb : bOf ⟨_, hlt⟩ = b := Fin.ext (by show (4 * (16 * b.val + t.val / 128) + 3) / 64 = _; omega)
  have ei : (iOf ⟨_, hlt⟩).val = t.val / 128 := by show (4 * (16 * b.val + t.val / 128) + 3) / 4 % 16 = _; omega
  have ec : ∀ r, (rowQ (iOf ⟨_, hlt⟩) r).val < cnt ⟨_, hlt⟩ := by
    intro r
    show 128 * (iOf ⟨_, hlt⟩).val + r.val % 128 < 512 * (min ((4 * (16 * b.val + t.val / 128) + 3) % 4) ((4 * (16 * b.val + t.val / 128) + 3) / 4 % 16 / 4) + 1)
    rw [ei]
    omega
  have ec' : cnt ⟨_, hlt⟩ ≤ 2048 := by
    show 512 * (min ((4 * (16 * b.val + t.val / 128) + 3) % 4) ((4 * (16 * b.val + t.val / 128) + 3) / 4 % 16 / 4) + 1) ≤ 2048
    omega
  simp only [psum_full Qr Kr _ _ _ _ (ec _) ec', eb] at hseen
  have hnorm := normed_at hseen (fun r => psum Qr Kr b (rowQ (iOf ⟨_, hlt⟩) r) (rowH r) 2048 ⟨512, by norm_num⟩)
    (fun r d hd => psum_norm Qr Kr _ _ _ _ _ _ hd (le_refl _)) (fun r => psum_pos Qr Kr _ _ _ _ (le_refl _))
  show outOf _ (iblk m c 3 ⟨_, hlt⟩) (ix3 (⟨b.val % 1, by omega⟩ : Fin 1) (⟨t.val % 128, by omega⟩ : Fin 128) (⟨(128 * h.val + d.val) % 2048, by omega⟩ : Fin 2048)) = _
  refine Finset.sum_congr rfl fun k _ => ?_
  have er : ∀ r : Fin 2048, r.val = 128 * ((128 * h.val + d.val) % 2048 / 128) + t.val % 128 → rowQ (iOf ⟨_, hlt⟩) r = t ∧ rowH r = h := by
    intro r hr
    refine ⟨Fin.ext ?_, Fin.ext ?_⟩
    · show 128 * (iOf ⟨_, hlt⟩).val + r.val % 128 = t.val
      rw [ei]; omega
    · show r.val / 128 = h.val
      omega
  have ew : ∀ (h' : Fin 16) (d' : Fin 128), h'.val = (128 * h.val + d.val) % 2048 / 128 → d'.val = (128 * h.val + d.val) % 2048 % 128 → h' = h ∧ d' = d :=
    fun h' d' e e' => ⟨Fin.ext (by omega), Fin.ext (by omega)⟩
  refine congrArg₂ (· * ·) ?_ ?_
  · refine (hnorm _ _).trans ?_
    rw [(er _ rfl).1, (er _ rfl).2]
  · refine Eq.trans ?_ (blk3 m c ⟨_, hlt⟩ h k d)
    refine congrArg (iblk m c 3 ⟨_, hlt⟩) ?_
    exact ix3_eq (congrArg Fin.val (ew _ d rfl (by omega)).1) rfl (by show (128 * h.val + d.val) % 2048 % 128 = d.val; omega)

end Cert.Fold
-- ==== Proof.Ref.lean ====
/-
  The reference, read at an index, over real scores: a masked softmax over all the keys, the weighted sum of the latents,
  and the value weights.
-/
module

public import proofs.«01_k».proof.Proof.Fold
public import proofs.«01_k».proof.Proof.Gen.ReferenceIdeal.Read
public import Idealize.ShloMosaic.Lib.Pointwise

@[expose] public section

set_option maxRecDepth 16384

noncomputable section
open Idealize.ShloMosaic Idealize.ShloMosaic.TcCoe Idealize.SL.Sem
namespace Cert.Ref
open Cert.ReferenceIdeal Cert.ReferenceIdeal.Gen Cert.ReferenceIdeal.Read Cert.Step
set_option maxHeartbeats 1000000
variable (x0 : Vec Ideal S4x2048x16x512 .bf16) (x1 : Vec Ideal S4x2048x16x64 .bf16) (x2 : Vec Ideal S4x2048x512 .bf16) (x3 : Vec Ideal S4x2048x64 .bf16)
  (x4 : Vec Ideal S512x4096 .f32)

theorem score_at (b : Fin 4) (h : Fin 16) (t k : Fin 2048) : val_main_v14 (F := Ideal) x0 x1 x2 x3 (ix4 b h t k)
    = (∑ x : Fin 512, x2 (ix3 b k x) * x0 (ix4 b t h x) + ∑ x : Fin 64, x3 (ix3 b k x) * x1 (ix4 b t h x)) * Ideal.ofBits FTy.f32 0x3D93CD3A#32 := by
  pointwise [val_main_v14, val_main_v13, val_main_cst, val_main_v12, val_main_v11, val_main_v10, val_main_v9, val_main_v8, val_main_v3, val_main_v2, val_main_v1, val_main_v0]

theorem sle_val (k t : Fin 2048) : IntOp.cmpi CmpIPredicate.sle (BitVec.ofNat 32 k.val) (BitVec.ofNat 32 t.val) = if k.val ≤ t.val then 1#1 else 0#1 := by
  have := sle_pos 0 0 t.val k.val (by norm_num) (by norm_num) (by omega) (by omega)
  simpa [IntOp.addi] using this

variable (σ : Fin 4 → Fin 2048 → Fin 16 → Fin 2048 → ℝ) (hσ : ∀ b h t k, val_main_v14 (F := Ideal) x0 x1 x2 x3 (ix4 b h t k) = (σ b t h k : EReal))

include hσ in
theorem masked_at (b : Fin 4) (h : Fin 16) (t k : Fin 2048) :
    val_main_v21 (F := Ideal) x0 x1 x2 x3 (ix4 b h t k) = if k.val ≤ t.val then (σ b t h k : EReal) else ⊥ := by
  rw [← hσ]
  unfold val_main_v21
  generalize val_main_v14 (F := Ideal) x0 x1 x2 x3 = s
  pointwise [val_main_call0_v1, val_main_call0_v2, val_main_call0_v0, val_main_v20, val_main_v19, val_main_v18, val_main_v17, val_main_v16, val_main_v15, val_main_v7, val_main_cst_0]
  rw [sle_val]
  by_cases hk : k.val ≤ t.val
  · rw [if_pos hk, if_pos hk]; rfl
  · rw [if_neg hk, if_neg hk]; exact bot_bits

/-- A maximum over an axis is a real when no element is `⊤` and one of those it covers is not `⊥`. -/
theorem max_real (s : Vec Ideal S4x16x2048x2048 .f32) (ht : ∀ i, s i ≠ ⊤) (j : S4x16x2048.Idx) (i : S4x16x2048x2048.Idx)
    (hd : reducesTo_S4x16x2048x2048_S4x16x2048_d3.drop i = j) (hb : s i ≠ ⊥) :
    ∃ M : ℝ, Host.reduce (FloatOps.maximumf (F := Ideal) (φ := .f32)) s (val_main_cst_1 (F := Ideal)) reducesTo_S4x16x2048x2048_S4x16x2048_d3 h_S_ j = (M : EReal) := by
  have e : Host.reduce (FloatOps.maximumf (F := Ideal) (φ := .f32)) s (val_main_cst_1 (F := Ideal)) reducesTo_S4x16x2048x2048_S4x16x2048_d3 h_S_ j
      = (Finset.univ.filter fun i => reducesTo_S4x16x2048x2048_S4x16x2048_d3.drop i = j).fold max (⊥ : EReal) s := by
    rw [← bot_bits]
    exact Host.reduce_eq_fold (max : EReal → EReal → EReal) s (val_main_cst_1 (F := Ideal)) _ h_S_ j
  rw [e]
  have h1 : (Finset.univ.filter fun i => reducesTo_S4x16x2048x2048_S4x16x2048_d3.drop i = j).fold max (⊥ : EReal) s < ⊤ :=
    (Finset.fold_max_lt _).mpr ⟨bot_lt_top, fun x _ => lt_top_iff_ne_top.mpr (ht x)⟩
  have h2 : (⊥ : EReal) < (Finset.univ.filter fun i => reducesTo_S4x16x2048x2048_S4x16x2048_d3.drop i = j).fold max (⊥ : EReal) s :=
    (Finset.lt_fold_max _).mpr (Or.inr ⟨i, Finset.mem_filter.mpr ⟨Finset.mem_univ _, hd⟩, bot_lt_iff_ne_bot.mpr hb⟩)
  generalize (Finset.univ.filter fun i => reducesTo_S4x16x2048x2048_S4x16x2048_d3.drop i = j).fold max (⊥ : EReal) s = y at h1 h2
  exact ⟨y.toReal, (EReal.coe_toReal h1.ne h2.ne').symm⟩

theorem drop_at (b : Fin 4) (h : Fin 16) (t k : Fin 2048) : reducesTo_S4x16x2048x2048_S4x16x2048_d3.drop (ix4 b h t k) = ix3 b h t := by
  funext a
  match a with
  | ⟨0, _⟩ => rfl
  | ⟨1, _⟩ => rfl
  | ⟨2, _⟩ => rfl

include hσ in
theorem keymax_real (b : Fin 4) (h : Fin 16) (t : Fin 2048) : ∃ M : ℝ, val_main_v22 (F := Ideal) x0 x1 x2 x3 (ix3 b h t) = (M : EReal) := by
  have hm := masked_at x0 x1 x2 x3 σ hσ
  have ht : ∀ i, val_main_v21 (F := Ideal) x0 x1 x2 x3 i ≠ (⊤ : EReal) := by
    intro i
    have e : i = ix4 (show Fin 4 from i 0) (show Fin 16 from i 1) (show Fin 2048 from i 2) (show Fin 2048 from i 3) := eq_ix4 i
    rw [e, hm]
    split_ifs
    · exact EReal.coe_ne_top _
    · exact bot_ne_top
  have hb : val_main_v21 (F := Ideal) x0 x1 x2 x3 (ix4 b h t (0 : Fin 2048)) ≠ (⊥ : EReal) := by
    rw [hm, if_pos (show (0 : Fin 2048).val ≤ t.val from Nat.zero_le _)]
    exact EReal.coe_ne_bot _
  exact max_real _ ht (ix3 b h t) _ (drop_at b h t 0) hb

theorem max_eq (a b : EReal) : FloatOps.maximumf (F := Ideal) (φ := .f32) a b = max a b := rfl

include hσ in
theorem rowmax_real (b : Fin 4) (h : Fin 16) (t : Fin 2048) : ∃ M : ℝ, val_main_v24 (F := Ideal) x0 x1 x2 x3 (ix3 b h t) = (M : EReal) := by
  obtain ⟨M, hM⟩ := keymax_real x0 x1 x2 x3 σ hσ b h t
  refine ⟨M, ?_⟩
  have hv : val_main_v23 (F := Ideal) (ix3 b h t) = ⊥ := by
    pointwise [val_main_v23, val_main_cst_2]
    exact bot_bits
  rw [val_main_v24_apply, hv, hM, max_eq]
  exact max_eq_right bot_le

include hσ in
theorem exp_at (b : Fin 4) (h : Fin 16) (t : Fin 2048) : ∃ M : ℝ, ∀ k : Fin 2048,
    val_main_v28 (F := Ideal) x0 x1 x2 x3 (ix4 b h t k) = ((Real.exp (-M) * wt (k.val ≤ t.val) (σ b t h k) : ℝ) : EReal) := by
  obtain ⟨M, hM⟩ := rowmax_real x0 x1 x2 x3 σ hσ b h t
  refine ⟨M, fun k => ?_⟩
  have hm := masked_at x0 x1 x2 x3 σ hσ b h t k
  have e : val_main_v28 (F := Ideal) x0 x1 x2 x3 (ix4 b h t k)
      = Ideal.exp (val_main_v21 (F := Ideal) x0 x1 x2 x3 (ix4 b h t k) - val_main_v24 (F := Ideal) x0 x1 x2 x3 (ix3 b h t)) := by
    unfold val_main_v28 val_main_v27 val_main_v26 val_main_v25
    generalize val_main_v21 (F := Ideal) x0 x1 x2 x3 = s
    generalize val_main_v24 (F := Ideal) x0 x1 x2 x3 = s'
    pointwise []
  rw [e, hm, hM, ← exp_wt]
  split_ifs
  · rw [add_zero]
  · rw [EReal.add_bot]

/-- The normaliser of a query: the sum of the weights over all the keys. -/
def den (b : Fin 4) (h : Fin 16) (t : Fin 2048) : ℝ := ∑ k : Fin 2048, wt (k.val ≤ t.val) (σ b t h k)

theorem den_pos (b : Fin 4) (h : Fin 16) (t : Fin 2048) : 0 < den σ b h t := by
  refine Finset.sum_pos' (fun k _ => ?_) ⟨0, Finset.mem_univ _, ?_⟩
  · unfold wt
    split_ifs
    · exact (Real.exp_pos _).le
    · exact le_refl _
  · unfold wt
    rw [if_pos (show (0 : Fin 2048).val ≤ t.val from Nat.zero_le _)]
    exact Real.exp_pos _

include hσ in
theorem prob_at (b : Fin 4) (h : Fin 16) (t k : Fin 2048) :
    val_main_v35 (F := Ideal) x0 x1 x2 x3 (ix4 b h t k) = ((wt (k.val ≤ t.val) (σ b t h k) / den σ b h t : ℝ) : EReal) := by
  obtain ⟨M, hM⟩ := exp_at x0 x1 x2 x3 σ hσ b h t
  have e : val_main_v35 (F := Ideal) x0 x1 x2 x3 (ix4 b h t k)
      = Ideal.div (val_main_v28 (F := Ideal) x0 x1 x2 x3 (ix4 b h t k)) (∑ x : Fin 2048, val_main_v28 (F := Ideal) x0 x1 x2 x3 (ix4 b h t x))
        * (FloatOps.uitofp (F := Ideal) FTy.f32 (IntOp.cmpi CmpIPredicate.sle (BitVec.ofNat 32 k.val) (BitVec.ofNat 32 t.val)) : EReal) := by
    unfold val_main_v35 val_main_v32 val_main_v31 val_main_v30 val_main_v29
    generalize val_main_v28 (F := Ideal) x0 x1 x2 x3 = s
    pointwise [val_main_cst_3, val_main_v34, val_main_v33, val_main_v20, val_main_v19, val_main_v18, val_main_v17, val_main_v16, val_main_v15, val_main_v7]
  have hs : ∑ x : Fin 2048, val_main_v28 (F := Ideal) x0 x1 x2 x3 (ix4 b h t x) = ((Real.exp (-M) * den σ b h t : ℝ) : EReal) := by
    unfold den
    rw [Finset.mul_sum, ← coe_sum]
    exact Finset.sum_congr rfl fun x _ => hM x
  have hp := den_pos σ b h t
  have he := Real.exp_pos (-M)
  rw [e, hs, hM, Ideal.div_coe (mul_pos he hp).ne', sle_val, ← EReal.coe_mul]
  have hq : Real.exp (-M) * wt (k.val ≤ t.val) (σ b t h k) * (1 / (Real.exp (-M) * den σ b h t)) = wt (k.val ≤ t.val) (σ b t h k) / den σ b h t := by
    field_simp
  rw [hq]
  by_cases hk : k.val ≤ t.val
  · rw [if_pos hk]
    have : (FloatOps.uitofp (F := Ideal) FTy.f32 (1#1 : BitVec 1) : EReal) = 1 := by simp [FloatOps.uitofp]
    rw [this, mul_one]
  · rw [if_neg hk]
    unfold wt
    rw [if_neg hk, zero_div, EReal.coe_zero, zero_mul]

theorem out_at (b : Fin 4) (h : Fin 16) (t : Fin 2048) (d : Fin 128) :
    val_main_v40 (F := Ideal) x0 x1 x2 x3 x4 (ix3 b t (⟨128 * h.val + d.val, by omega⟩ : Fin 2048))
      = ∑ x : Fin 512, x4 (ix2 x (⟨h.val * 256 + (128 + d.val), by omega⟩ : Fin 4096))
          * ∑ k : Fin 2048, x2 (ix3 b k x) * val_main_v35 (F := Ideal) x0 x1 x2 x3 (ix4 b h t k) := by
  unfold val_main_v40 val_main_v39 val_main_v38 val_main_v37 val_main_v36
  generalize val_main_v35 (F := Ideal) x0 x1 x2 x3 = s
  pointwise [val_main_v2, val_main_v6, val_main_v4]

end Cert.Ref
-- ==== Proof.Equation.lean ====
/-
  The equation: where the queries and keys are real numbers, the kernel's blockwise running softmax and the reference's
  whole masked softmax leave the same array.
-/
module

public import proofs.«01_k».proof.Proof.Pre
public import proofs.«01_k».proof.Proof.Ref

@[expose] public section

set_option maxRecDepth 16384

noncomputable section
open Idealize.ShloMosaic Idealize.ShloMosaic.TcCoe Idealize.SL.Sem
namespace Cert.Equation
open Cert.KernelIdeal Cert.KernelIdeal.Value Cert.Blocks Cert.Body Cert.Step Cert.Fold Cert.Ref
set_option maxHeartbeats 1000000
variable (m : (ℓ : Loc nD τ sig) → Buf (Elt Ideal) ℓ) (c : Dev nD)

/-- The padded queries as real numbers. -/
def qr (b : Fin 4) (t : Fin 2048) (h : Fin 16) (e : Fin 640) : ℝ := (qv m c b t h e).toReal

/-- The padded keys as real numbers. -/
def kr (b : Fin 4) (k : Fin 2048) (e : Fin 640) : ℝ := (kv m c b k e).toReal

theorem zero_real : (0 : EReal) = (((0 : EReal).toReal : ℝ) : EReal) := by simp

/-- A sum over the 640 padded columns is the sum over the 512 latent columns and the 64 rope columns: the rest is zero. -/
theorem sum_pad (f : Fin 640 → ℝ) (h0 : ∀ e : Fin 640, 576 ≤ e.val → f e = 0) :
    ∑ e : Fin 640, f e = ∑ x : Fin 512, f ⟨x.val, by omega⟩ + ∑ x : Fin 64, f ⟨512 + x.val, by omega⟩ := by
  have h1 : ∑ e : Fin 640, f e = ∑ x : Fin 512, f ⟨x.val, by omega⟩ + ∑ x : Fin 128, f ⟨512 + x.val, by omega⟩ := Fin.sum_univ_add (a := 512) (b := 128) f
  have h2 : ∑ x : Fin 128, f ⟨512 + x.val, by omega⟩ = ∑ x : Fin 64, f ⟨512 + x.val, by omega⟩ + ∑ x : Fin 64, f ⟨512 + (64 + x.val), by omega⟩ :=
    Fin.sum_univ_add (a := 64) (b := 64) fun x : Fin 128 => f ⟨512 + x.val, by omega⟩
  rw [h1, h2, Finset.sum_eq_zero (s := Finset.univ) (f := fun x : Fin 64 => f ⟨512 + (64 + x.val), by omega⟩) (fun x _ => h0 _ (by show 576 ≤ 512 + (64 + x.val); omega)), add_zero]

section
variable (hq : ∀ i, aQ m c i = ((EReal.toReal (aQ m c i) : ℝ) : EReal)) (hr : ∀ i, aR m c i = ((EReal.toReal (aR m c i) : ℝ) : EReal))
  (hc : ∀ i, aC m c i = ((EReal.toReal (aC m c i) : ℝ) : EReal)) (hk : ∀ i, aK m c i = ((EReal.toReal (aK m c i) : ℝ) : EReal))

include hq hr in
theorem qv_real (b : Fin 4) (t : Fin 2048) (h : Fin 16) (e : Fin 640) : qv m c b t h e = (qr m c b t h e : EReal) := by
  unfold qr qv
  split_ifs
  · exact hq _
  · exact hr _
  · exact zero_real

include hc hk in
theorem kv_real (b : Fin 4) (k : Fin 2048) (e : Fin 640) : kv m c b k e = (kr m c b k e : EReal) := by
  unfold kr kv
  split_ifs
  · exact hc _
  · exact hk _
  · exact zero_real

include hq hr hc hk in
/-- The reference's score of a query and a key is the kernel's, over the reals. -/
theorem score_real (b : Fin 4) (h : Fin 16) (t k : Fin 2048) :
    Cert.ReferenceIdeal.Read.val_main_v14 (F := Ideal) (aQ m c) (aR m c) (aC m c) (aK m c) (ix4 b h t k)
      = ((sco (qr m c) (kr m c) b t h k : ℝ) : EReal) := by
  rw [score_at, scl_eq]
  unfold sco
  rw [sum_pad _ fun e he => by
    have : qr m c b t h e = 0 := by
      unfold qr qv
      rw [dif_neg (by omega), dif_neg (by omega)]; rfl
    rw [this, zero_mul]]
  rw [EReal.coe_mul, EReal.coe_add, ← coe_sum, ← coe_sum]
  congr 2
  · refine Finset.sum_congr rfl fun x _ => ?_
    rw [EReal.coe_mul, ← qv_real m c hq hr, ← kv_real m c hc hk, mul_comm]
    unfold qv kv
    rw [dif_pos x.isLt, dif_pos x.isLt]
  · refine Finset.sum_congr rfl fun x _ => ?_
    have hx := x.isLt
    have e : (⟨512 + x.val - 512, by omega⟩ : Fin 64) = x := Fin.ext (by simp)
    rw [EReal.coe_mul, ← qv_real m c hq hr, ← kv_real m c hc hk, mul_comm]
    unfold qv kv
    rw [dif_neg (show ¬ 512 + x.val < 512 by omega), dif_pos (show 512 + x.val - 512 < 64 by omega),
      dif_neg (show ¬ 512 + x.val < 512 by omega), dif_pos (show 512 + x.val - 512 < 64 by omega), e]

/-- The kernel's sums over all the keys, as one sum. -/
theorem psum_all (Qr : Fin 4 → Fin 2048 → Fin 16 → Fin 640 → ℝ) (Kr : Fin 4 → Fin 2048 → Fin 640 → ℝ) (b : Fin 4) (t : Fin 2048) (h : Fin 16) (d) :
    psum Qr Kr b t h 2048 d = ∑ k : Fin 2048, wt (k.val ≤ t.val) (sco Qr Kr b t h k) * nu Kr b k d := by
  unfold psum
  rw [Finset.sum_range]
  refine Finset.sum_congr rfl fun k _ => ?_
  unfold term
  rw [dif_pos k.isLt]

/-- The kernel's sum of the weights is the softmax's denominator. -/
theorem psum_den (Qr : Fin 4 → Fin 2048 → Fin 16 → Fin 640 → ℝ) (Kr : Fin 4 → Fin 2048 → Fin 640 → ℝ) (b : Fin 4) (t : Fin 2048) (h : Fin 16) :
    psum Qr Kr b t h 2048 ⟨512, by norm_num⟩ = den (sco Qr Kr) b h t := by
  rw [psum_all]
  unfold den
  refine Finset.sum_congr rfl fun k _ => ?_
  unfold nu
  rw [if_neg (by norm_num), mul_one]

include hq hr hc hk in
/-- The kernel's result is the reference's, element by element. -/
theorem result_eq_at (b : Fin 4) (t : Fin 2048) (h : Fin 16) (d : Fin 128) :
    G4 m c (ix3 b t (⟨128 * h.val + d.val, by omega⟩ : Fin 2048))
      = Cert.ReferenceIdeal.Read.val_main_v40 (F := Ideal) (aQ m c) (aR m c) (aC m c) (aK m c) (aW m c)
          (ix3 b t (⟨128 * h.val + d.val, by omega⟩ : Fin 2048)) := by
  refine (result_at m (qr m c) (kr m c) c (qv_real m c hq hr) (kv_real m c hc hk) b t h d).trans (Eq.trans ?_ (out_at _ _ _ _ _ b h t d).symm)
  show (∑ x : Fin 512, ((psum (qr m c) (kr m c) b t h 2048 ⟨x.val, by omega⟩ / psum (qr m c) (kr m c) b t h 2048 ⟨512, by norm_num⟩ : ℝ) : EReal)
      * aW m c (ix2 x (⟨256 * h.val + 128 + d.val, by omega⟩ : Fin 4096)) : EReal) = _
  refine Finset.sum_congr rfl fun x _ => ?_
  have ei : (⟨h.val * 256 + (128 + d.val), by omega⟩ : Fin 4096) = ⟨256 * h.val + 128 + d.val, by omega⟩ := Fin.ext (by show h.val * 256 + (128 + d.val) = 256 * h.val + 128 + d.val; omega)
  rw [ei, mul_comm]
  congr 1
  rw [psum_den, psum_all, Finset.sum_div, ← coe_sum]
  refine Finset.sum_congr rfl fun k _ => ?_
  rw [prob_at _ _ _ _ (sco (qr m c) (kr m c)) (score_real m c hq hr hc hk)]
  have ek : aC m c (ix3 b k x) = ((kr m c b k ⟨x.val, by omega⟩ : ℝ) : EReal) := by
    rw [← kv_real m c hc hk]
    unfold kv
    rw [dif_pos x.isLt]
  rw [ek, ← EReal.coe_mul]
  unfold nu
  rw [if_pos x.isLt]
  congr 1
  ring

include hq hr hc hk in
/-- The kernel's result is the reference's. -/
theorem result_eq : G4 m c
      = Cert.ReferenceIdeal.Read.val_main_v40 (F := Ideal) (aQ m c) (aR m c) (aC m c) (aK m c) (aW m c) := by
  funext i
  have h2 : (show Fin 2048 from i 2).val < 2048 := (show Fin 2048 from i 2).isLt
  have e : i = ix3 (show Fin 4 from i 0) (show Fin 2048 from i 1)
      (⟨128 * (⟨(show Fin 2048 from i 2).val / 128, by omega⟩ : Fin 16).val + (⟨(show Fin 2048 from i 2).val % 128, by omega⟩ : Fin 128).val, by
        show 128 * (_ / 128) + _ % 128 < 2048; omega⟩ : Fin 2048) := by
    have e0 : i = ix3 (show Fin 4 from i 0) (show Fin 2048 from i 1) (show Fin 2048 from i 2) := eq_ix3 i
    refine e0.trans (congrArg _ (Fin.ext ?_))
    show _ = 128 * (_ / 128) + _ % 128
    omega
  rw [e]
  exact result_eq_at m c hq hr hc hk _ _ _ _

end
end Cert.Equation
-- ==== Proof.Down.lean ====
/-
  The down projection with its residual: a blocked product is the whole product, block by block.
-/
module

public import proofs.«01_k».proof.Proof.Gen.Kernel3Ideal.Value
public import proofs.«01_k».proof.Proof.Gen.Reference3Ideal.Run
public import proofs.«01_k».proof.Proof.Gen.Reference3Ideal.Read
public import proofs.«01_k».proof.Proof.Body
public import Idealize.ShloMosaic.Lib.Pipeline.ValueKit
public import Idealize.ShloMosaic.Lib.Pipeline.ReadBack
public import Idealize.ShloMosaic.Lib.Pointwise

@[expose] public section

set_option maxRecDepth 16384

noncomputable section
open Idealize.ShloMosaic Idealize.ShloMosaic.TcCoe Idealize.SL.Sem
open Idealize.ShloMosaic.Pipeline (Dat)
namespace Cert.Down
open Cert.Kernel3Ideal Cert.Kernel3Ideal.Gen Cert.Kernel3Ideal.Value Cert.Body
set_option maxHeartbeats 1000000
variable (m : (ℓ : Loc nD τ sig) → Buf (Elt Ideal) ℓ)

abbrev aF (c : Dev nD) : Vec Ideal S8192x4096 .bf16 := m (c, Proc.tc.devRef main_arg0)
abbrev aW (c : Dev nD) : Vec Ideal S4x4096x2048 .f32 := m (c, Proc.tc.devRef main_arg1)
abbrev aR (c : Dev nD) : Vec Ideal S8192x2048 .f32 := m (c, Proc.tc.devRef main_arg2)

theorem lt_N (t : Fin cfg0.N) : t.val < 32 := lt_of_lt_of_eq t.isLt (by decide)

/-- Which blocks the windows hold at a point. -/
theorem index_all : ∀ t : Fin cfg0.N, (win0_0.index t (0 : Fin 2) = t.val / 4 ∧ win0_0.index t (1 : Fin 2) = 0)
    ∧ (win0_1.index t (0 : Fin 3) = 1 ∧ win0_1.index t (1 : Fin 3) = 0 ∧ win0_1.index t (2 : Fin 3) = t.val % 4)
    ∧ (win0_2.index t (0 : Fin 2) = t.val / 4 ∧ win0_2.index t (1 : Fin 2) = t.val % 4)
    ∧ (win0_3.index t (0 : Fin 2) = t.val / 4 ∧ win0_3.index t (1 : Fin 2) = t.val % 4) :=
  (by decide +kernel : ∀ t : Fin grid0.N, _)

theorem blk0 (c : Dev nD) (t : Fin cfg0.N) (r : Fin 1024) (k : Fin 4096) :
    iblk m c 0 t (ix2 r k) = aF m c (ix2 (⟨1024 * (t.val / 4) + r.val, by have := lt_N t; omega⟩ : Fin 8192) k) := by
  obtain ⟨⟨i0, i1⟩, -⟩ := index_all t
  refine congrArg (aF m c) (funext fun a => Fin.ext ?_)
  match a with
  | ⟨0, _⟩ => show win0_0.index t (0 : Fin 2) * 1024 + 1 * r.val = 1024 * (t.val / 4) + r.val; omega
  | ⟨1, _⟩ => show win0_0.index t (1 : Fin 2) * 4096 + 1 * k.val = k.val; omega

theorem blk1 (c : Dev nD) (t : Fin cfg0.N) (k : Fin 4096) (d : Fin 512) :
    iblk m c 1 t (ix3 (0 : Fin 1) k d) = aW m c (ix3 (1 : Fin 4) k (⟨512 * (t.val % 4) + d.val, by omega⟩ : Fin 2048)) := by
  obtain ⟨-, ⟨i0, i1, i2⟩, -⟩ := index_all t
  refine congrArg (aW m c) (funext fun a => Fin.ext ?_)
  match a with
  | ⟨0, _⟩ => show win0_1.index t (0 : Fin 3) * 1 + 1 * 0 = 1; omega
  | ⟨1, _⟩ => show win0_1.index t (1 : Fin 3) * 4096 + 1 * k.val = k.val; omega
  | ⟨2, _⟩ => show win0_1.index t (2 : Fin 3) * 512 + 1 * d.val = 512 * (t.val % 4) + d.val; omega

theorem blk2 (c : Dev nD) (t : Fin cfg0.N) (r : Fin 1024) (d : Fin 512) :
    iblk m c 2 t (ix2 r d) = aR m c (ix2 (⟨1024 * (t.val / 4) + r.val, by have := lt_N t; omega⟩ : Fin 8192) (⟨512 * (t.val % 4) + d.val, by omega⟩ : Fin 2048)) := by
  obtain ⟨-, -, ⟨i0, i1⟩, -⟩ := index_all t
  refine congrArg (aR m c) (funext fun a => Fin.ext ?_)
  match a with
  | ⟨0, _⟩ => show win0_2.index t (0 : Fin 2) * 1024 + 1 * r.val = 1024 * (t.val / 4) + r.val; omega
  | ⟨1, _⟩ => show win0_2.index t (1 : Fin 2) * 512 + 1 * d.val = 512 * (t.val % 4) + d.val; omega

/-- One block of the result: a product of a row block and a column block, and the residual's block. -/
theorem pay_at (a : Vec Ideal S1024x4096 .bf16) (w : Vec Ideal S1x4096x512 .f32) (r : Vec Ideal S1024x512 .f32) (i : Fin 1024) (j : Fin 512) :
    k0_pay1 (F := Ideal) a w r (ix2 i j) = ∑ k : Fin 4096, a (ix2 i k) * w (ix3 (0 : Fin 1) k j) + r (ix2 i j) := by
  pointwise [k0_pay1]

/-- The reference's result at an index. -/
theorem ref_at (x0 : Vec Ideal S8192x4096 .bf16) (x1 : Vec Ideal S4x4096x2048 .f32) (x2 : Vec Ideal S8192x2048 .f32) (i : Fin 8192) (j : Fin 2048) :
    Cert.Reference3Ideal.Read.val_main_v4 (F := Ideal) x0 x1 x2 (ix2 i j) = x2 (ix2 i j) + ∑ k : Fin 4096, x0 (ix2 i k) * x1 (ix3 (1 : Fin 4) k j) := by
  pointwise [Cert.Reference3Ideal.Read.val_main_v4, Cert.Reference3Ideal.Read.val_main_v3, Cert.Reference3Ideal.Read.val_main_v2, Cert.Reference3Ideal.Read.val_main_v1, Cert.Reference3Ideal.Read.val_main_v0]

theorem final (c : Dev nD) : (dats m 0 c).arrAt 3 cfg0.N = Cert.Reference3Ideal.Read.val_main_v4 (F := Ideal) (aF m c) (aW m c) (aR m c) := by
  refine (dats m 0 c).arrAt_eq_of_covers 3 _ (by decide +kernel) fun t hf y => ?_
  blk_simp
  rw [after0_3]
  frame_out
  obtain ⟨i, j, rfl⟩ : ∃ (i : Fin 1024) (j : Fin 512), y = ix2 i j := ⟨y 0, y 1, eq_ix2 y⟩
  have e : (((View.whole main_v0).slice (win0_3.rect t)).emb (ix2 i j) : S8192x2048.Idx)
      = ix2 (⟨1024 * (t.val / 4) + i.val, by have := lt_N t; omega⟩ : Fin 8192) (⟨512 * (t.val % 4) + j.val, by omega⟩ : Fin 2048) := by
    obtain ⟨-, -, -, ⟨i0, i1⟩⟩ := index_all t
    refine funext fun a => Fin.ext ?_
    match a with
    | ⟨0, _⟩ => show win0_3.index t (0 : Fin 2) * 1024 + 1 * i.val = 1024 * (t.val / 4) + i.val; omega
    | ⟨1, _⟩ => show win0_3.index t (1 : Fin 2) * 512 + 1 * j.val = 512 * (t.val % 4) + j.val; omega
  rw [e, ref_at, pay_at, blk2 m c t i j, add_comm]
  refine congrArg _ (Finset.sum_congr rfl fun k _ => ?_)
  rw [blk0 m c t i k, blk1 m c t k j]

end Cert.Down
-- ==== Proof.In.lean ====
/-
  The input projection with its norm: the row block is normalised once per row of blocks, into a scratch, and each block of
  the result is a block of the whole product.
-/
module

public import proofs.«01_k».proof.Proof.Gen.Kernel4Ideal.Value
public import proofs.«01_k».proof.Proof.Gen.Reference4Ideal.Run
public import proofs.«01_k».proof.Proof.Gen.Reference4Ideal.Read
public import proofs.«01_k».proof.Proof.Body
public import Idealize.ShloMosaic.Lib.Pipeline.ValueKit
public import Idealize.ShloMosaic.Lib.Pipeline.ReadBack
public import Idealize.ShloMosaic.Lib.Pointwise

@[expose] public section

set_option maxRecDepth 16384

noncomputable section
open Idealize.ShloMosaic Idealize.ShloMosaic.TcCoe Idealize.SL.Sem
open Idealize.ShloMosaic.Pipeline (Dat)
namespace Cert.In
open Cert.Kernel4Ideal Cert.Kernel4Ideal.Gen Cert.Kernel4Ideal.Value Cert.Body
set_option maxHeartbeats 1000000
variable (m : (ℓ : Loc nD τ sig) → Buf (Elt Ideal) ℓ)

abbrev aX (c : Dev nD) : Vec Ideal S8192x2048 .f32 := m (c, Proc.tc.devRef main_arg0)
abbrev aG (c : Dev nD) : Vec Ideal S2048 .f32 := m (c, Proc.tc.devRef main_arg1)
abbrev aW (c : Dev nD) : Vec Ideal S2048x3840 .f32 := m (c, Proc.tc.devRef main_arg2)

theorem lt_N (t : Fin cfg0.N) : t.val < 40 := lt_of_lt_of_eq t.isLt (by decide)

/-- Which blocks the windows hold at a point. -/
theorem index_all : ∀ t : Fin cfg0.N, (win0_0.index t (0 : Fin 2) = t.val / 5 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val % 5)
    ∧ (win0_3.index t (0 : Fin 2) = t.val / 5 ∧ win0_3.index t (1 : Fin 2) = t.val % 5) :=
  (by decide +kernel : ∀ t : Fin grid0.N, _)

theorem blk0 (c : Dev nD) (t : Fin cfg0.N) (r : Fin 1024) (k : Fin 2048) :
    iblk m c 0 t (ix2 r k) = aX m c (ix2 (⟨1024 * (t.val / 5) + r.val, by have := lt_N t; omega⟩ : Fin 8192) k) := by
  obtain ⟨⟨i0, i1⟩, -⟩ := index_all t
  refine congrArg (aX m c) (funext fun a => Fin.ext ?_)
  match a with
  | ⟨0, _⟩ => show win0_0.index t (0 : Fin 2) * 1024 + 1 * r.val = 1024 * (t.val / 5) + r.val; omega
  | ⟨1, _⟩ => show win0_0.index t (1 : Fin 2) * 2048 + 1 * k.val = k.val; omega

theorem gain_eq (c : Dev nD) : V m c main_v0 = shapeCast S1x2048 (aG m c) shapeCasts_S2048_S1x2048 := by
  rfl

theorem blk1 (c : Dev nD) (t : Fin cfg0.N) (k : Fin 2048) :
    iblk m c 1 t (ix2 (0 : Fin 1) k) = aG m c (ix1 k) := by
  obtain ⟨-, ⟨i0, i1⟩, -⟩ := index_all t
  have e : iblk m c 1 t (ix2 (0 : Fin 1) k) = V m c main_v0 (ix2 (0 : Fin 1) k) := by
    refine congrArg (V m c main_v0) (funext fun a => Fin.ext ?_)
    match a with
    | ⟨0, _⟩ => show win0_1.index t (0 : Fin 2) * 1 + 1 * 0 = 0; omega
    | ⟨1, _⟩ => show win0_1.index t (1 : Fin 2) * 2048 + 1 * k.val = k.val; omega
  refine e.trans ?_
  rw [gain_eq]
  pointwise []

theorem blk2 (c : Dev nD) (t : Fin cfg0.N) (k : Fin 2048) (d : Fin 768) :
    iblk m c 2 t (ix2 k d) = aW m c (ix2 k (⟨768 * (t.val % 5) + d.val, by omega⟩ : Fin 3840)) := by
  obtain ⟨-, -, ⟨i0, i1⟩, -⟩ := index_all t
  refine congrArg (aW m c) (funext fun a => Fin.ext ?_)
  match a with
  | ⟨0, _⟩ => show win0_2.index t (0 : Fin 2) * 2048 + 1 * k.val = k.val; omega
  | ⟨1, _⟩ => show win0_2.index t (1 : Fin 2) * 768 + 1 * d.val = 768 * (t.val % 5) + d.val; omega

/-- A row over the root of the mean of its squares, times the gain. -/
def nrm (x : Fin 2048 → EReal) (g : Fin 2048 → EReal) (k : Fin 2048) : EReal :=
  x k * Ideal.rsqrt (Ideal.div (∑ j, x j * x j) (Ideal.ofBits FTy.f32 0x45000000#32) + Ideal.ofBits FTy.f32 0x358637BD#32) * g k

/-- The normalised row block. -/
theorem norm_at (x : Vec Ideal S1024x2048 .f32) (g : Vec Ideal S1x2048 .f32) (i : Fin 1024) (k : Fin 2048) :
    k0_pay1 (F := Ideal) x g (ix2 i k) = nrm (fun k => x (ix2 i k)) (fun k => g (ix2 (0 : Fin 1) k)) k := by
  pointwise [k0_pay1]
  rfl

theorem ref_norm_at (x0 : Vec Ideal S8192x2048 .f32) (x1 : Vec Ideal S2048 .f32) (i : Fin 8192) (k : Fin 2048) :
    Cert.Reference4Ideal.Read.val_main_v12 (F := Ideal) x0 x1 (ix2 i k) = nrm (fun k => x0 (ix2 i k)) (fun k => x1 (ix1 k)) k := by
  pointwise [Cert.Reference4Ideal.Read.val_main_v12, Cert.Reference4Ideal.Read.val_main_v11, Cert.Reference4Ideal.Read.val_main_v10, Cert.Reference4Ideal.Read.val_main_v9, Cert.Reference4Ideal.Read.val_main_v8, Cert.Reference4Ideal.Read.val_main_v7, Cert.Reference4Ideal.Read.val_main_v6, Cert.Reference4Ideal.Read.val_main_v5, Cert.Reference4Ideal.Read.val_main_v4, Cert.Reference4Ideal.Read.val_main_v3, Cert.Reference4Ideal.Read.val_main_v2, Cert.Reference4Ideal.Read.val_main_v1, Cert.Reference4Ideal.Read.val_main_v0, Cert.Reference4Ideal.Read.val_main_cst, Cert.Reference4Ideal.Read.val_main_cst_0, Cert.Reference4Ideal.Read.val_main_cst_1]
  rfl

/-- One block of the result: a product of a row block and a column block. -/
theorem pay_at (a : Vec Ideal S1024x2048 .bf16) (w : Vec Ideal S2048x768 .f32) (i : Fin 1024) (j : Fin 768) :
    k0_pay2 (F := Ideal) a w (ix2 i j) = ∑ k : Fin 2048, a (ix2 i k) * w (ix2 k j) := by
  pointwise [k0_pay2]

/-- The reference's result at an index. -/
theorem ref_at (x0 : Vec Ideal S8192x2048 .f32) (x1 : Vec Ideal S2048 .f32) (x2 : Vec Ideal S2048x3840 .f32) (i : Fin 8192) (j : Fin 3840) :
    Cert.Reference4Ideal.Read.val_main_v13 (F := Ideal) x0 x1 x2 (ix2 i j)
      = ∑ k : Fin 2048, nrm (fun k => x0 (ix2 i k)) (fun k => x1 (ix1 k)) k * x2 (ix2 k j) := by
  have e : Cert.Reference4Ideal.Read.val_main_v13 (F := Ideal) x0 x1 x2 (ix2 i j)
      = ∑ k : Fin 2048, Cert.Reference4Ideal.Read.val_main_v12 (F := Ideal) x0 x1 (ix2 i k) * x2 (ix2 k j) := by
    pointwise [Cert.Reference4Ideal.Read.val_main_v13]
  exact e.trans (Finset.sum_congr rfl fun k _ => congrArg (· * _) (ref_norm_at x0 x1 i k))

abbrev St := Vec Ideal S1024x768 .f32 × Vec Ideal S1024x2048 .bf16

theorem st_A (c : Dev nD) (t : Fin cfg0.N) (acc : St) (h0 : t.val % 5 = 0) :
    stAt0 m c t.val t.isLt acc = (k0_pay2 (F := Ideal) (k0_pay1 (iblk m c 0 t) (iblk m c 1 t)) (iblk m c 2 t), k0_pay1 (iblk m c 0 t) (iblk m c 1 t)) := by
  rw [stAt0_A m c t acc h0]
  refine Prod.ext ?_ ?_
  · frame_out
  · frame_out

theorem st_B (c : Dev nD) (t : Fin cfg0.N) (acc : St) (h0 : ¬t.val % 5 = 0) :
    stAt0 m c t.val t.isLt acc = (k0_pay2 (F := Ideal) acc.2 (iblk m c 2 t), acc.2) := by
  rw [stAt0_B m c t acc h0]
  refine Prod.ext ?_ ?_
  · frame_out
    simp only [read_unread_whole]
  · rfl

/-- The normalised row block a point lays out, at an index. -/
theorem row_at (c : Dev nD) (t : Fin cfg0.N) (i : Fin 1024) (k : Fin 2048) :
    k0_pay1 (F := Ideal) (iblk m c 0 t) (iblk m c 1 t) (ix2 i k)
      = nrm (fun k => aX m c (ix2 (⟨1024 * (t.val / 5) + i.val, by have := lt_N t; omega⟩ : Fin 8192) k)) (fun k => aG m c (ix1 k)) k := by
  refine (norm_at _ _ i k).trans ?_
  rw [funext fun k => blk0 m c t i k, funext fun k => blk1 m c t k]

/-- After any point of a row of blocks the scratch holds the row's normalised block. -/
theorem scratch_at (c : Dev nD) : ∀ (n : ℕ) (hn : n < cfg0.N) (i : Fin 1024) (k : Fin 2048),
    (outsAt0 m c n hn).2 (ix2 i k)
      = nrm (fun k => aX m c (ix2 (⟨1024 * (n / 5) + i.val, by have := lt_N ⟨n, hn⟩; dsimp only at this; omega⟩ : Fin 8192) k)) (fun k => aG m c (ix1 k)) k
  | 0, hn, i, k => by
    rw [outsAt0_zero, st_A m c ⟨0, hn⟩ _ (Nat.zero_mod _)]
    exact row_at m c ⟨0, hn⟩ i k
  | n + 1, hn, i, k => by
    rw [outsAt0_succ]
    by_cases h0 : (n + 1) % 5 = 0
    · rw [st_A m c ⟨n + 1, hn⟩ _ h0]
      exact row_at m c ⟨n + 1, hn⟩ i k
    · rw [st_B m c ⟨n + 1, hn⟩ _ h0]
      refine (scratch_at c n _ i k).trans (congrArg (fun x => nrm x _ k) (funext fun k => congrArg _ (ix2_eq ?_ rfl)))
      show 1024 * (n / 5) + i.val = 1024 * ((n + 1) / 5) + i.val
      omega

/-- What a point writes is the product of the row's block, whether it laid it out itself or found it. -/
theorem out_at (c : Dev nD) (t : Fin cfg0.N) (i : Fin 1024) (j : Fin 768) :
    (outsAt0 m c t.val t.isLt).1 (ix2 i j)
      = ∑ k : Fin 2048, nrm (fun k => aX m c (ix2 (⟨1024 * (t.val / 5) + i.val, by have := lt_N t; omega⟩ : Fin 8192) k)) (fun k => aG m c (ix1 k)) k
          * iblk m c 2 t (ix2 k j) := by
  have hs := scratch_at m c t.val t.isLt i
  obtain ⟨n, hn⟩ := t
  cases n with
  | zero =>
    rw [outsAt0_zero, st_A m c ⟨0, hn⟩ _ (Nat.zero_mod _)] at hs ⊢
    refine (pay_at _ _ i j).trans ?_
    exact Finset.sum_congr rfl fun k _ => congrArg (· * _) (hs k)
  | succ n =>
    rw [outsAt0_succ] at hs ⊢
    by_cases h0 : (n + 1) % 5 = 0
    · rw [st_A m c ⟨n + 1, hn⟩ _ h0] at hs ⊢
      refine (pay_at _ _ i j).trans ?_
      exact Finset.sum_congr rfl fun k _ => congrArg (· * _) (hs k)
    · rw [st_B m c ⟨n + 1, hn⟩ _ h0] at hs ⊢
      refine (pay_at _ _ i j).trans ?_
      exact Finset.sum_congr rfl fun k _ => congrArg (· * _) (hs k)

theorem final (c : Dev nD) : (dats m 0 c).arrAt 3 cfg0.N = Cert.Reference4Ideal.Read.val_main_v13 (F := Ideal) (aX m c) (aG m c) (aW m c) := by
  refine (dats m 0 c).arrAt_eq_of_covers 3 _ (by decide +kernel) fun t hf y => ?_
  blk_simp
  rw [after0_3]
  obtain ⟨i, j, rfl⟩ : ∃ (i : Fin 1024) (j : Fin 768), y = ix2 i j := ⟨y 0, y 1, eq_ix2 y⟩
  have e : (((View.whole main_v1).slice (win0_3.rect t)).emb (ix2 i j) : S8192x3840.Idx)
      = ix2 (⟨1024 * (t.val / 5) + i.val, by have := lt_N t; omega⟩ : Fin 8192) (⟨768 * (t.val % 5) + j.val, by omega⟩ : Fin 3840) := by
    obtain ⟨-, -, -, ⟨i0, i1⟩⟩ := index_all t
    refine funext fun a => Fin.ext ?_
    match a with
    | ⟨0, _⟩ => show win0_3.index t (0 : Fin 2) * 1024 + 1 * i.val = 1024 * (t.val / 5) + i.val; omega
    | ⟨1, _⟩ => show win0_3.index t (1 : Fin 2) * 768 + 1 * j.val = 768 * (t.val % 5) + j.val; omega
  rw [e, ref_at, out_at]
  exact Finset.sum_congr (M := EReal) rfl fun k _ => congrArg (_ * ·) (blk2 m c t k j)

end Cert.In
-- ==== Proof.Out.lean ====
/-
  The output projection with its residual: the row block is laid out once per row of blocks, in a scratch, and each block of
  the result is a block of the whole product.
-/
module

public import proofs.«01_k».proof.Proof.Gen.Kernel5Ideal.Value
public import proofs.«01_k».proof.Proof.Gen.Reference5Ideal.Run
public import proofs.«01_k».proof.Proof.Gen.Reference5Ideal.Read
public import proofs.«01_k».proof.Proof.Body
public import Idealize.ShloMosaic.Lib.Pipeline.ValueKit
public import Idealize.ShloMosaic.Lib.Pipeline.ReadBack
public import Idealize.ShloMosaic.Lib.Pointwise

@[expose] public section

set_option maxRecDepth 16384

noncomputable section
open Idealize.ShloMosaic Idealize.ShloMosaic.TcCoe Idealize.SL.Sem
open Idealize.ShloMosaic.Pipeline (Dat)
namespace Cert.Out
open Cert.Kernel5Ideal Cert.Kernel5Ideal.Gen Cert.Kernel5Ideal.Value Cert.Body
set_option maxHeartbeats 1000000
variable (m : (ℓ : Loc nD τ sig) → Buf (Elt Ideal) ℓ)

abbrev aO (c : Dev nD) : Vec Ideal S8192x2048 .f32 := m (c, Proc.tc.devRef main_arg0)
abbrev aW (c : Dev nD) : Vec Ideal S1x2048x2048 .f32 := m (c, Proc.tc.devRef main_arg1)
abbrev aR (c : Dev nD) : Vec Ideal S8192x2048 .f32 := m (c, Proc.tc.devRef main_arg2)

theorem lt_N (t : Fin cfg0.N) : t.val < 32 := lt_of_lt_of_eq t.isLt (by decide)

/-- Which blocks the windows hold at a point. -/
theorem index_all : ∀ t : Fin cfg0.N, (win0_0.index t (0 : Fin 2) = t.val / 4 ∧ win0_0.index t (1 : Fin 2) = 0)
    ∧ (win0_1.index t (0 : Fin 3) = 0 ∧ win0_1.index t (1 : Fin 3) = 0 ∧ win0_1.index t (2 : Fin 3) = t.val % 4)
    ∧ (win0_2.index t (0 : Fin 2) = t.val / 4 ∧ win0_2.index t (1 : Fin 2) = t.val % 4)
    ∧ (win0_3.index t (0 : Fin 2) = t.val / 4 ∧ win0_3.index t (1 : Fin 2) = t.val % 4) :=
  (by decide +kernel : ∀ t : Fin grid0.N, _)

theorem blk0 (c : Dev nD) (t : Fin cfg0.N) (r : Fin 1024) (k : Fin 2048) :
    iblk m c 0 t (ix2 r k) = aO m c (ix2 (⟨1024 * (t.val / 4) + r.val, by have := lt_N t; omega⟩ : Fin 8192) k) := by
  obtain ⟨⟨i0, i1⟩, -⟩ := index_all t
  refine congrArg (aO m c) (funext fun a => Fin.ext ?_)
  match a with
  | ⟨0, _⟩ => show win0_0.index t (0 : Fin 2) * 1024 + 1 * r.val = 1024 * (t.val / 4) + r.val; omega
  | ⟨1, _⟩ => show win0_0.index t (1 : Fin 2) * 2048 + 1 * k.val = k.val; omega

theorem blk1 (c : Dev nD) (t : Fin cfg0.N) (k : Fin 2048) (d : Fin 512) :
    iblk m c 1 t (ix3 (0 : Fin 1) k d) = aW m c (ix3 (0 : Fin 1) k (⟨512 * (t.val % 4) + d.val, by omega⟩ : Fin 2048)) := by
  obtain ⟨-, ⟨i0, i1, i2⟩, -⟩ := index_all t
  refine congrArg (aW m c) (funext fun a => Fin.ext ?_)
  match a with
  | ⟨0, _⟩ => show win0_1.index t (0 : Fin 3) * 1 + 1 * 0 = 0; omega
  | ⟨1, _⟩ => show win0_1.index t (1 : Fin 3) * 2048 + 1 * k.val = k.val; omega
  | ⟨2, _⟩ => show win0_1.index t (2 : Fin 3) * 512 + 1 * d.val = 512 * (t.val % 4) + d.val; omega

theorem blk2 (c : Dev nD) (t : Fin cfg0.N) (r : Fin 1024) (d : Fin 512) :
    iblk m c 2 t (ix2 r d) = aR m c (ix2 (⟨1024 * (t.val / 4) + r.val, by have := lt_N t; omega⟩ : Fin 8192) (⟨512 * (t.val % 4) + d.val, by omega⟩ : Fin 2048)) := by
  obtain ⟨-, -, ⟨i0, i1⟩, -⟩ := index_all t
  refine congrArg (aR m c) (funext fun a => Fin.ext ?_)
  match a with
  | ⟨0, _⟩ => show win0_2.index t (0 : Fin 2) * 1024 + 1 * r.val = 1024 * (t.val / 4) + r.val; omega
  | ⟨1, _⟩ => show win0_2.index t (1 : Fin 2) * 512 + 1 * d.val = 512 * (t.val % 4) + d.val; omega

/-- One block of the result: a product of a row block and a column block, and the residual's block. -/
theorem pay_at (a : Vec Ideal S1024x2048 .bf16) (w : Vec Ideal S1x2048x512 .f32) (r : Vec Ideal S1024x512 .f32) (i : Fin 1024) (j : Fin 512) :
    k0_pay2 (F := Ideal) a w r (ix2 i j) = ∑ k : Fin 2048, a (ix2 i k) * w (ix3 (0 : Fin 1) k j) + r (ix2 i j) := by
  pointwise [k0_pay2]

/-- The reference's result at an index. -/
theorem ref_at (x0 : Vec Ideal S8192x2048 .f32) (x1 : Vec Ideal S1x2048x2048 .f32) (x2 : Vec Ideal S8192x2048 .f32) (i : Fin 8192) (j : Fin 2048) :
    Cert.Reference5Ideal.Read.val_main_v2 (F := Ideal) x0 x1 x2 (ix2 i j) = x2 (ix2 i j) + ∑ k : Fin 2048, x0 (ix2 i k) * x1 (ix3 (0 : Fin 1) k j) := by
  pointwise [Cert.Reference5Ideal.Read.val_main_v2, Cert.Reference5Ideal.Read.val_main_v1, Cert.Reference5Ideal.Read.val_main_v0]

abbrev St := Vec Ideal S1024x512 .f32 × Vec Ideal S1024x2048 .bf16

theorem cast_id (x : Vec Ideal S1024x2048 .f32) : k0_pay1 (F := Ideal) x = x := by funext y; pointwise [k0_pay1]

theorem st_A (c : Dev nD) (t : Fin cfg0.N) (acc : St) (h0 : t.val % 4 = 0) :
    stAt0 m c t.val t.isLt acc = (k0_pay2 (F := Ideal) (iblk m c 0 t) (iblk m c 1 t) (iblk m c 2 t), iblk m c 0 t) := by
  rw [stAt0_A m c t acc h0]
  refine Prod.ext ?_ ?_
  · frame_out
    rw [cast_id]
  · frame_out
    rw [cast_id]

theorem st_B (c : Dev nD) (t : Fin cfg0.N) (acc : St) (h0 : ¬t.val % 4 = 0) :
    stAt0 m c t.val t.isLt acc = (k0_pay2 (F := Ideal) acc.2 (iblk m c 1 t) (iblk m c 2 t), acc.2) := by
  rw [stAt0_B m c t acc h0]
  refine Prod.ext ?_ ?_
  · frame_out
    simp only [read_unread_whole]
  · rfl

/-- After any point of a row of blocks the scratch holds the row's block of the left factor. -/
theorem scratch_at (c : Dev nD) : ∀ (n : ℕ) (hn : n < cfg0.N) (i : Fin 1024) (k : Fin 2048),
    (outsAt0 m c n hn).2 (ix2 i k) = aO m c (ix2 (⟨1024 * (n / 4) + i.val, by have := lt_N ⟨n, hn⟩; dsimp only at this; omega⟩ : Fin 8192) k)
  | 0, hn, i, k => by
    rw [outsAt0_zero, st_A m c ⟨0, hn⟩ _ (Nat.zero_mod _)]
    exact blk0 m c ⟨0, hn⟩ i k
  | n + 1, hn, i, k => by
    rw [outsAt0_succ]
    by_cases h0 : (n + 1) % 4 = 0
    · rw [st_A m c ⟨n + 1, hn⟩ _ h0]
      exact blk0 m c ⟨n + 1, hn⟩ i k
    · rw [st_B m c ⟨n + 1, hn⟩ _ h0]
      refine (scratch_at c n _ i k).trans (congrArg _ (ix2_eq ?_ rfl))
      show 1024 * (n / 4) + i.val = 1024 * ((n + 1) / 4) + i.val
      omega

/-- What a point writes is the product of the row's block, whether it laid it out itself or found it. -/
theorem out_at (c : Dev nD) (t : Fin cfg0.N) (i : Fin 1024) (j : Fin 512) :
    (outsAt0 m c t.val t.isLt).1 (ix2 i j)
      = ∑ k : Fin 2048, aO m c (ix2 (⟨1024 * (t.val / 4) + i.val, by have := lt_N t; omega⟩ : Fin 8192) k) * iblk m c 1 t (ix3 (0 : Fin 1) k j)
        + iblk m c 2 t (ix2 i j) := by
  have hs := scratch_at m c t.val t.isLt i
  obtain ⟨n, hn⟩ := t
  cases n with
  | zero =>
    rw [outsAt0_zero, st_A m c ⟨0, hn⟩ _ (Nat.zero_mod _)] at hs ⊢
    refine (pay_at _ _ _ i j).trans ?_
    exact congrArg (· + _) (Finset.sum_congr rfl fun k _ => congrArg (· * _) (hs k))
  | succ n =>
    rw [outsAt0_succ] at hs ⊢
    by_cases h0 : (n + 1) % 4 = 0
    · rw [st_A m c ⟨n + 1, hn⟩ _ h0] at hs ⊢
      refine (pay_at _ _ _ i j).trans ?_
      exact congrArg (· + _) (Finset.sum_congr rfl fun k _ => congrArg (· * _) (hs k))
    · rw [st_B m c ⟨n + 1, hn⟩ _ h0] at hs ⊢
      refine (pay_at _ _ _ i j).trans ?_
      exact congrArg (· + _) (Finset.sum_congr rfl fun k _ => congrArg (· * _) (hs k))

theorem final (c : Dev nD) : (dats m 0 c).arrAt 3 cfg0.N = Cert.Reference5Ideal.Read.val_main_v2 (F := Ideal) (aO m c) (aW m c) (aR m c) := by
  refine (dats m 0 c).arrAt_eq_of_covers 3 _ (by decide +kernel) fun t hf y => ?_
  blk_simp
  rw [after0_3]
  obtain ⟨i, j, rfl⟩ : ∃ (i : Fin 1024) (j : Fin 512), y = ix2 i j := ⟨y 0, y 1, eq_ix2 y⟩
  have e : (((View.whole main_v0).slice (win0_3.rect t)).emb (ix2 i j) : S8192x2048.Idx)
      = ix2 (⟨1024 * (t.val / 4) + i.val, by have := lt_N t; omega⟩ : Fin 8192) (⟨512 * (t.val % 4) + j.val, by omega⟩ : Fin 2048) := by
    obtain ⟨-, -, -, ⟨i0, i1⟩⟩ := index_all t
    refine funext fun a => Fin.ext ?_
    match a with
    | ⟨0, _⟩ => show win0_3.index t (0 : Fin 2) * 1024 + 1 * i.val = 1024 * (t.val / 4) + i.val; omega
    | ⟨1, _⟩ => show win0_3.index t (1 : Fin 2) * 512 + 1 * j.val = 512 * (t.val % 4) + j.val; omega
  rw [e, ref_at, out_at, blk2 m c t i j, add_comm]
  refine congrArg _ (Finset.sum_congr rfl fun k _ => ?_)
  rw [blk1 m c t k j]

end Cert.Out
-- ==== Proof.PrepRef.lean ====
/-
  The query and key preparation as the reference has it, at an index: a norm, a turn of the rotary pairs, and three columns
  of blocks laid side by side.
-/
module

public import proofs.«01_k».proof.Proof.Gen.Reference6Ideal.Run
public import proofs.«01_k».proof.Proof.Gen.Reference6Ideal.Read
public import proofs.«01_k».proof.Proof.Body
public import Idealize.ShloMosaic.Lib.Pipeline.ValueKit
public import Idealize.ShloMosaic.Lib.Pipeline.ReadBack
public import Idealize.ShloMosaic.Lib.Pointwise

@[expose] public section

set_option maxRecDepth 16384

noncomputable section
open Idealize.ShloMosaic Idealize.ShloMosaic.TcCoe Idealize.SL.Sem
namespace Cert.Prep
open Cert.Reference6Ideal Cert.Reference6Ideal.Gen Cert.Reference6Ideal.Read Cert.Body
set_option maxHeartbeats 1000000

/-- A row over the root of the mean of its squares, times the gain. -/
def nrm (x : Fin 512 → EReal) (g : Fin 512 → EReal) (k : Fin 512) : EReal :=
  x k * Ideal.rsqrt (Ideal.div (∑ j, x j * x j) (Ideal.ofBits FTy.f32 0x44000000#32) + Ideal.ofBits FTy.f32 0x358637BD#32) * g k

/-- A row of rotary pairs turned by the angles whose cosines and sines are given. -/
def turn (x : Fin 64 → EReal) (cs sn : Fin 32 → EReal) (d : Fin 64) : EReal :=
  if h : d.val < 32 then x ⟨d.val, d.isLt⟩ * cs ⟨d.val, h⟩ - x ⟨32 + d.val, by omega⟩ * sn ⟨d.val, h⟩
  else x ⟨d.val - 32, by omega⟩ * sn ⟨d.val - 32, by omega⟩ + x ⟨32 + (d.val - 32), by omega⟩ * cs ⟨d.val - 32, by omega⟩

/-- A latent row, a rotary row and zeros, side by side. -/
def side (l : Fin 512 → EReal) (r : Fin 64 → EReal) (e : Fin 640) : EReal :=
  if he : e.val < 512 then l ⟨e.val, he⟩ else if he : e.val - 512 < 64 then r ⟨e.val - 512, he⟩ else 0

variable (x0 : Vec Ideal S4x2048x3840 .f32) (x1 : Vec Ideal S512 .f32) (x2 : Vec Ideal S512x4096 .f32)

/-- The cosines and sines of a position's angles. -/
abbrev cs (p : Fin 2048) (j : Fin 32) : EReal := val_main_v69 (F := Ideal) (ix2 p j)
abbrev sn (p : Fin 2048) (j : Fin 32) : EReal := val_main_v70 (F := Ideal) (ix2 p j)

theorem v23_eq : val_main_v23 (F := Ideal) = val_main_v68 := rfl

theorem v25_at (p : Fin 2048) (j : Fin 32) : val_main_v25 (F := Ideal) (ix3 p (0 : Fin 1) j) = cs p j := by
  show _ = val_main_v69 (F := Ideal) (ix2 p j)
  pointwise [val_main_v25, val_main_v24, val_main_v69]
  rw [v23_eq]
theorem v26_at (p : Fin 2048) (j : Fin 32) : val_main_v26 (F := Ideal) (ix3 p (0 : Fin 1) j) = sn p j := by
  show _ = val_main_v70 (F := Ideal) (ix2 p j)
  pointwise [val_main_v26, val_main_v24, val_main_v70]
  rw [v23_eq]

theorem v5_at (b : Fin 4) (p : Fin 2048) (h : Fin 16) (d : Fin 192) :
    val_main_v5 (F := Ideal) x0 (ix4 b p h d) = x0 (ix3 b p (⟨192 * h.val + d.val, by omega⟩ : Fin 3840)) := by
  rw [val_main_v5_apply]
  unfold val_main_v1
  pointwise []
  refine congrArg x0 (ix3_eq ?_ ?_ ?_) <;> dsimp only <;> omega

/-- The rotary columns of a head's query. -/
theorem v43_at (b : Fin 4) (p : Fin 2048) (h : Fin 16) (d : Fin 64) :
    val_main_v43 (F := Ideal) x0 (ix4 b p h d)
      = turn (fun d => x0 (ix3 b p (⟨192 * h.val + (128 + d.val), by omega⟩ : Fin 3840))) (cs p) (sn p) d := by
  have e : ∀ d : Fin 64, val_main_v11 (F := Ideal) x0 (ix4 b p h d) = x0 (ix3 b p (⟨192 * h.val + (128 + d.val), by omega⟩ : Fin 3840)) := by
    intro d
    have e' : val_main_v11 (F := Ideal) x0 (ix4 b p h d) = val_main_v5 (F := Ideal) x0 (ix4 b p h (⟨128 + d.val, by omega⟩ : Fin 192)) := by
      pointwise [val_main_v11]
    exact e'.trans (v5_at x0 b p h _)
  rw [← funext e, ← funext (v25_at p), ← funext (v26_at p)]
  pointwise [val_main_v43, val_main_v42, val_main_v41, val_main_v40, val_main_v39, val_main_v38, val_main_v37, val_main_v36, val_main_v35, val_main_v34,
    val_main_v33, val_main_v32, val_main_v31, val_main_v30, val_main_v29, val_main_v28, val_main_v27, turn]

/-- The latent columns of a head's query. -/
theorem v10_at (b : Fin 4) (p : Fin 2048) (h : Fin 16) (d : Fin 512) :
    val_main_v10 (F := Ideal) x0 x2 (ix4 b p h d)
      = ∑ k : Fin 128, x2 (ix2 d (⟨256 * h.val + k.val, by omega⟩ : Fin 4096)) * x0 (ix3 b p (⟨192 * h.val + k.val, by omega⟩ : Fin 3840)) := by
  have e : val_main_v10 (F := Ideal) x0 x2 (ix4 b p h d)
      = ∑ k : Fin 128, val_main_v8 (F := Ideal) x2 (ix3 d h k) * val_main_v6 (F := Ideal) x0 (ix4 b p h k) := by
    pointwise [val_main_v10, val_main_v9]
  refine e.trans (Finset.sum_congr (M := EReal) rfl fun k _ => congrArg₂ (· * ·) ?_ ?_)
  · pointwise [val_main_v8, val_main_v7]
    exact congrArg x2 (ix2_eq rfl (by show h.val * 256 + k.val = 256 * h.val + k.val; omega))
  · have e' : val_main_v6 (F := Ideal) x0 (ix4 b p h k) = val_main_v5 (F := Ideal) x0 (ix4 b p h (⟨k.val, by omega⟩ : Fin 192)) := by
      pointwise [val_main_v6]
    exact e'.trans (v5_at x0 b p h _)

theorem heads_at (x : Vec Ideal S4x2048x16x640 .f32) (b : Fin 4) (p : Fin 2048) (h : Fin 16) (e : Fin 640) :
    (truncf FTy.bf16 (shapeCast S4x2048x10240 x shapeCasts_S4x2048x16x640_S4x2048x10240 : FVec Ideal S4x2048x10240 .f32) bitsLt_bf16_f32 : FVec Ideal S4x2048x10240 .bf16)
      (ix3 b p (⟨640 * h.val + e.val, by omega⟩ : Fin 10240)) = x (ix4 b p h e) := by
  pointwise

theorem v88_at (b : Fin 4) (p : Fin 2048) (h : Fin 16) (d : Fin 64) : val_main_v88 (F := Ideal) (ix4 b p h d) = 0 := by
  pointwise [val_main_v88, val_main_cst_6]

theorem beside_at (x : Vec Ideal S4x2048x16x512 .f32) (y z : Vec Ideal S4x2048x16x64 .f32) (b : Fin 4) (p : Fin 2048) (h : Fin 16) (e : Fin 640)
    (hz : ∀ d, z (ix4 b p h d) = 0) :
    concatenate S4x2048x16x640 3 [⟨S4x2048x16x512, x⟩, ⟨S4x2048x16x64, y⟩, ⟨S4x2048x16x64, z⟩]
      concatenates_S4x2048x16x512_S4x2048x16x64_S4x2048x16x64_S4x2048x16x640_d3 (ix4 b p h e)
    = side (fun d => x (ix4 b p h d)) (fun d => y (ix4 b p h d)) e := by
  pointwise [side]
  simp only [hz]

theorem v93_at (b : Fin 4) (p : Fin 2048) (h : Fin 16) (e : Fin 640) :
    val_main_v93 (F := Ideal) x0 x2 (ix3 b p (⟨640 * h.val + e.val, by omega⟩ : Fin 10240)) = val_main_v89 (F := Ideal) x0 x2 (ix4 b p h e) := by
  unfold val_main_v93 val_main_v92
  generalize val_main_v89 (F := Ideal) x0 x2 = y
  exact heads_at y b p h e

theorem v89_at (b : Fin 4) (p : Fin 2048) (h : Fin 16) (e : Fin 640) :
    val_main_v89 (F := Ideal) x0 x2 (ix4 b p h e)
      = side (fun d => val_main_v10 (F := Ideal) x0 x2 (ix4 b p h d)) (fun d => val_main_v43 (F := Ideal) x0 (ix4 b p h d)) e := by
  have hz := v88_at b p h
  unfold val_main_v89
  generalize val_main_v10 (F := Ideal) x0 x2 = x
  generalize val_main_v43 (F := Ideal) x0 = y
  generalize val_main_v88 (F := Ideal) = z at hz ⊢
  exact beside_at x y z b p h e hz

/-- The prepared query. -/
theorem ref_q (b : Fin 4) (p : Fin 2048) (h : Fin 16) (e : Fin 640) :
    val_main_v93 (F := Ideal) x0 x2 (ix3 b p (⟨640 * h.val + e.val, by omega⟩ : Fin 10240))
      = side (fun d => ∑ k : Fin 128, x2 (ix2 d (⟨256 * h.val + k.val, by omega⟩ : Fin 4096)) * x0 (ix3 b p (⟨192 * h.val + k.val, by omega⟩ : Fin 3840)))
          (turn (fun d => x0 (ix3 b p (⟨192 * h.val + (128 + d.val), by omega⟩ : Fin 3840))) (cs p) (sn p)) e :=
  (v93_at x0 x2 b p h e).trans ((v89_at x0 x2 b p h e).trans
    (congrArg₂ (fun l r => side l r e) (funext (v10_at x0 x2 b p h)) (funext (v43_at x0 b p h))))

/-- The normalised latent. -/
theorem ref_c (b : Fin 4) (p : Fin 2048) (d : Fin 512) :
    val_main_v56 (F := Ideal) x0 x1 (ix3 b p d) = nrm (fun d => x0 (ix3 b p (⟨3072 + d.val, by omega⟩ : Fin 3840))) (fun d => x1 (ix1 d)) d := by
  pointwise [val_main_v56, val_main_v55, val_main_v54, val_main_v53, val_main_v52, val_main_v51, val_main_v50, val_main_v49, val_main_v48, val_main_v47,
    val_main_v46, val_main_v45, val_main_v44, val_main_v2, val_main_cst_1, val_main_cst_2, val_main_cst_3]
  rfl

/-- The turned key columns. -/
theorem ref_r (b : Fin 4) (p : Fin 2048) (d : Fin 64) :
    val_main_v87 (F := Ideal) x0 (ix3 b p d) = turn (fun d => x0 (ix3 b p (⟨3584 + d.val, by omega⟩ : Fin 3840))) (cs p) (sn p) d := by
  have e : ∀ d : Fin 64, val_main_v3 (F := Ideal) x0 (ix3 b p d) = x0 (ix3 b p (⟨3584 + d.val, by omega⟩ : Fin 3840)) := by
    intro d
    pointwise [val_main_v3]
  rw [← funext e]
  pointwise [val_main_v87, val_main_v86, val_main_v85, val_main_v84, val_main_v83, val_main_v82, val_main_v81, val_main_v80, val_main_v79, val_main_v78,
    val_main_v77, val_main_v76, val_main_v75, val_main_v74, val_main_v73, val_main_v72, val_main_v71, turn]

/-- The prepared key. -/
theorem ref_k (b : Fin 4) (p : Fin 2048) (e : Fin 640) :
    val_main_v94 (F := Ideal) x0 x1 (ix3 b p e)
      = side (nrm (fun d => x0 (ix3 b p (⟨3072 + d.val, by omega⟩ : Fin 3840))) (fun d => x1 (ix1 d)))
          (turn (fun d => x0 (ix3 b p (⟨3584 + d.val, by omega⟩ : Fin 3840))) (cs p) (sn p)) e := by
  rw [← funext (ref_r x0 b p), ← funext (ref_c x0 x1 b p)]
  pointwise [val_main_v94, val_main_v91, val_main_v90, val_main_cst_7, side]

end Cert.Prep
-- ==== Proof.Prep.lean ====
/-
  The query and key preparation, block by block.
-/
module

public import proofs.«01_k».proof.Proof.Gen.Kernel6Ideal.Value
public import proofs.«01_k».proof.Proof.PrepRef

@[expose] public section

set_option maxRecDepth 16384

noncomputable section
open Idealize.ShloMosaic Idealize.ShloMosaic.TcCoe Idealize.SL.Sem
open Idealize.ShloMosaic.Pipeline (Dat)
namespace Cert.Prep
open Cert.Kernel6Ideal Cert.Kernel6Ideal.Gen Cert.Kernel6Ideal.Value Cert.Body
set_option maxHeartbeats 1000000

/-- The norm of a block's latent rows. -/
theorem pay4_at (x : Vec Ideal S1x128x512 .f32) (g : Vec Ideal S1x512 .f32) (i : Fin 128) (k : Fin 512) :
    k0_pay4 (F := Ideal) x g (ix2 i k) = nrm (fun k => x (ix3 (0 : Fin 1) i k)) (fun k => g (ix2 (0 : Fin 1) k)) k := by
  pointwise [k0_pay4]
  rfl
theorem pay6_at (x : Vec Ideal S1x128x512 .f32) (g : Vec Ideal S1x512 .f32) (i : Fin 128) (k : Fin 512) :
    k0_pay6 (F := Ideal) x g (ix3 (0 : Fin 1) i k) = nrm (fun k => x (ix3 (0 : Fin 1) i k)) (fun k => g (ix2 (0 : Fin 1) k)) k := by
  rw [← pay4_at]
  pointwise [k0_pay6]

/-- The turned key columns of a block. -/
theorem pay5_at (c s : Vec Ideal S128x32 .f32) (z : Vec Ideal S1x128x128 .f32) (i : Fin 128) (d : Fin 64) :
    k0_pay5 (F := Ideal) c s z (ix2 i d)
      = turn (fun d => z (ix3 (0 : Fin 1) i (⟨d.val, by omega⟩ : Fin 128))) (fun j => c (ix2 i j)) (fun j => s (ix2 i j)) d := by
  pointwise [k0_pay5, k0_pay2, k0_pay3, turn]
theorem pay7_at (x : FVec Ideal S128x64 .f32) (i : Fin 128) (d : Fin 64) : k0_pay7 (F := Ideal) x (ix3 (0 : Fin 1) i d) = x (ix2 i d) := by
  pointwise [k0_pay7]

/-- The prepared key of a block. -/
theorem pay9_at (a : FVec Ideal S128x512 .f32) (r : FVec Ideal S128x64 .f32) (i : Fin 128) (e : Fin 640) :
    k0_pay9 (F := Ideal) a r (ix3 (0 : Fin 1) i e) = side (fun d => a (ix2 i d)) (fun d => r (ix2 i d)) e := by
  pointwise [k0_pay9, k0_pay8, side]

/-- One head of the prepared query of a block. -/
theorem pay10_at (c s : FVec Ideal S128x32 .f32) (a : Vec Ideal S1x128x128 .f32) (r : Vec Ideal S1x128x64 .f32) (w : Vec Ideal S1x128x512 .bf16) (i : Fin 128) (e : Fin 640) :
    k0_pay10 (F := Ideal) c s a r w (ix3 (0 : Fin 1) i e)
      = side (fun d => ∑ k : Fin 128, a (ix3 (0 : Fin 1) i k) * w (ix3 (0 : Fin 1) k d))
          (turn (fun d => r (ix3 (0 : Fin 1) i d)) (fun j => c (ix2 i j)) (fun j => s (ix2 i j))) e := by
  pointwise [k0_pay10, k0_pay8, side, turn]

/-- The query columns of head `h`, its weights, and the block of the prepared query, whole. -/
def qOf (x : Vec Ideal S1x128x3072 .f32) (w : Vec Ideal S16x128x512 .bf16) (c s : Vec Ideal S128x32 .f32) : Vec Ideal S1x128x10240 .bf16 := fun y =>
  side (fun d => ∑ k : Fin 128, x (ix3 (0 : Fin 1) (⟨(y 1).val, (y 1).isLt⟩ : Fin 128)
      (⟨192 * ((y 2).val / 640) + k.val, by have h2 : (y 2).val < 10240 := (y 2).isLt; omega⟩ : Fin 3072))
        * w (ix3 (⟨(y 2).val / 640, by have h2 : (y 2).val < 10240 := (y 2).isLt; omega⟩ : Fin 16) k d))
    (turn (fun d => x (ix3 (0 : Fin 1) (⟨(y 1).val, (y 1).isLt⟩ : Fin 128)
      (⟨192 * ((y 2).val / 640) + (128 + d.val), by have h2 : (y 2).val < 10240 := (y 2).isLt; omega⟩ : Fin 3072)))
      (fun j => c (ix2 (⟨(y 1).val, (y 1).isLt⟩ : Fin 128) j)) (fun j => s (ix2 (⟨(y 1).val, (y 1).isLt⟩ : Fin 128) j)))
    (⟨(y 2).val % 640, Nat.mod_lt _ (by norm_num)⟩ : Fin 640)

end Cert.Prep
-- ==== Proof.PrepBlk.lean ====
/-
  The blocks the query and key preparation reads.
-/
module

public import proofs.«01_k».proof.Proof.Prep
public import Idealize.ShloMosaic.Lib.Pipeline.ValueKit
public import Idealize.ShloMosaic.Lib.Pipeline.ReadBack
public import Idealize.ShloMosaic.Lib.Pointwise

@[expose] public section

set_option maxRecDepth 16384

noncomputable section
open Idealize.ShloMosaic Idealize.ShloMosaic.TcCoe Idealize.SL.Sem
open Idealize.ShloMosaic.Pipeline (Dat)
namespace Cert.Prep
open Cert.Kernel6Ideal Cert.Kernel6Ideal.Gen Cert.Kernel6Ideal.Value Cert.Body
set_option maxHeartbeats 1000000
variable (m : (ℓ : Loc nD τ sig) → Buf (Elt Ideal) ℓ)

abbrev aZ (c : Dev nD) : Vec Ideal S4x2048x3840 .f32 := m (c, Proc.tc.devRef main_arg0)
abbrev aG (c : Dev nD) : Vec Ideal S512 .f32 := m (c, Proc.tc.devRef main_arg1)
abbrev aW (c : Dev nD) : Vec Ideal S512x4096 .f32 := m (c, Proc.tc.devRef main_arg2)

theorem lt_N (t : Fin cfg0.N) : t.val < 64 := lt_of_lt_of_eq t.isLt (by decide)

/-- Which blocks the windows hold at a point. -/
theorem index_in : ∀ t : Fin cfg0.N,
    (win0_0.index t (0 : Fin 3) = t.val / 16 ∧ win0_0.index t (1 : Fin 3) = t.val % 16 ∧ win0_0.index t (2 : Fin 3) = 0)
    ∧ (win0_1.index t (0 : Fin 3) = t.val / 16 ∧ win0_1.index t (1 : Fin 3) = t.val % 16 ∧ win0_1.index t (2 : Fin 3) = 6)
    ∧ (win0_2.index t (0 : Fin 3) = t.val / 16 ∧ win0_2.index t (1 : Fin 3) = t.val % 16 ∧ win0_2.index t (2 : Fin 3) = 28)
    ∧ (win0_3.index t (0 : Fin 2) = 0 ∧ win0_3.index t (1 : Fin 2) = 0)
    ∧ (win0_4.index t (0 : Fin 3) = 0 ∧ win0_4.index t (1 : Fin 3) = 0 ∧ win0_4.index t (2 : Fin 3) = 0)
    ∧ (win0_5.index t (0 : Fin 2) = t.val % 16 ∧ win0_5.index t (1 : Fin 2) = 0)
    ∧ (win0_6.index t (0 : Fin 2) = t.val % 16 ∧ win0_6.index t (1 : Fin 2) = 0) :=
  (by decide +kernel : ∀ t : Fin grid0.N, _)
theorem index_out : ∀ t : Fin cfg0.N,
    (win0_7.index t (0 : Fin 3) = t.val / 16 ∧ win0_7.index t (1 : Fin 3) = t.val % 16 ∧ win0_7.index t (2 : Fin 3) = 0)
    ∧ (win0_8.index t (0 : Fin 3) = t.val / 16 ∧ win0_8.index t (1 : Fin 3) = t.val % 16 ∧ win0_8.index t (2 : Fin 3) = 0)
    ∧ (win0_9.index t (0 : Fin 3) = t.val / 16 ∧ win0_9.index t (1 : Fin 3) = t.val % 16 ∧ win0_9.index t (2 : Fin 3) = 0)
    ∧ (win0_10.index t (0 : Fin 3) = t.val / 16 ∧ win0_10.index t (1 : Fin 3) = t.val % 16 ∧ win0_10.index t (2 : Fin 3) = 0) :=
  (by decide +kernel : ∀ t : Fin grid0.N, _)

/-- A block's batch, and the whole array's row of a block's. -/
abbrev bOf (t : Fin cfg0.N) : Fin 4 := ⟨t.val / 16, by have := lt_N t; omega⟩
abbrev pOf (t : Fin cfg0.N) (i : Fin 128) : Fin 2048 := ⟨128 * (t.val % 16) + i.val, by omega⟩

theorem whole0 : ∀ t : Fin cfg0.N, ∀ a : Fin 3, win0_0.clip (grid0.coords t) a = none :=
  (by decide +kernel : ∀ t : Fin grid0.N, ∀ a : Fin 3, win0_0.clip (grid0.coords t) a = none)
theorem whole1 : ∀ t : Fin cfg0.N, ∀ a : Fin 3, win0_1.clip (grid0.coords t) a = none :=
  (by decide +kernel : ∀ t : Fin grid0.N, ∀ a : Fin 3, win0_1.clip (grid0.coords t) a = none)

theorem read0 (X : Vec Ideal S4x2048x3840 .f32) (t : Fin cfg0.N) (i : Fin 128) (k : Fin 3072) :
    (cfg0.win 0).fill (cfg0.grid.coords t) (dflt0_0 (F := Ideal)) (View.read (Elt Ideal) ((cfg0.win 0).blk t).view X) (ix3 (0 : Fin 1) i k)
      = X (ix3 (bOf t) (pOf t i) (⟨k.val, by omega⟩ : Fin 3840)) := by
  obtain ⟨⟨i0, i1, i2⟩, -⟩ := index_in t
  have hm : (cfg0.win 0).moved (cfg0.grid.coords t) (ix3 (0 : Fin 1) i k) = true :=
    ((cfg0.win 0).moved_iff _ _).mpr fun a => by
      have h := (ix3 (0 : Fin 1) i k a).isLt
      unfold Pipeline.Window.xsize
      rw [whole0 t a]
      exact h
  unfold Pipeline.Window.fill
  rw [dif_pos hm]
  refine congrArg X (funext fun a => Fin.ext ?_)
  match a with
  | ⟨0, _⟩ => show win0_0.index t (0 : Fin 3) * 1 + 1 * 0 = t.val / 16; omega
  | ⟨1, _⟩ => show win0_0.index t (1 : Fin 3) * 128 + 1 * i.val = 128 * (t.val % 16) + i.val; omega
  | ⟨2, _⟩ => show win0_0.index t (2 : Fin 3) * 3072 + 1 * k.val = k.val; omega

theorem read1 (X : Vec Ideal S4x2048x3840 .f32) (t : Fin cfg0.N) (i : Fin 128) (k : Fin 512) :
    (cfg0.win 1).fill (cfg0.grid.coords t) (dflt0_1 (F := Ideal)) (View.read (Elt Ideal) ((cfg0.win 1).blk t).view X) (ix3 (0 : Fin 1) i k)
      = X (ix3 (bOf t) (pOf t i) (⟨3072 + k.val, by omega⟩ : Fin 3840)) := by
  obtain ⟨-, ⟨i0, i1, i2⟩, -⟩ := index_in t
  have hm : (cfg0.win 1).moved (cfg0.grid.coords t) (ix3 (0 : Fin 1) i k) = true :=
    ((cfg0.win 1).moved_iff _ _).mpr fun a => by
      have h := (ix3 (0 : Fin 1) i k a).isLt
      unfold Pipeline.Window.xsize
      rw [whole1 t a]
      exact h
  unfold Pipeline.Window.fill
  rw [dif_pos hm]
  refine congrArg X (funext fun a => Fin.ext ?_)
  match a with
  | ⟨0, _⟩ => show win0_1.index t (0 : Fin 3) * 1 + 1 * 0 = t.val / 16; omega
  | ⟨1, _⟩ => show win0_1.index t (1 : Fin 3) * 128 + 1 * i.val = 128 * (t.val % 16) + i.val; omega
  | ⟨2, _⟩ => show win0_1.index t (2 : Fin 3) * 512 + 1 * k.val = 3072 + k.val; omega

theorem blk0 (c : Dev nD) (t : Fin cfg0.N) (i : Fin 128) (k : Fin 3072) :
    X0_0 m c t (ix3 (0 : Fin 1) i k) = aZ m c (ix3 (bOf t) (pOf t i) (⟨k.val, by omega⟩ : Fin 3840)) :=
  read0 (aZ m c) t i k
theorem blk1 (c : Dev nD) (t : Fin cfg0.N) (i : Fin 128) (k : Fin 512) :
    X0_1 m c t (ix3 (0 : Fin 1) i k) = aZ m c (ix3 (bOf t) (pOf t i) (⟨3072 + k.val, by omega⟩ : Fin 3840)) :=
  read1 (aZ m c) t i k

theorem blk2 (c : Dev nD) (t : Fin cfg0.N) (i : Fin 128) (k : Fin 128) :
    iblk m c 2 t (ix3 (0 : Fin 1) i k) = aZ m c (ix3 (bOf t) (pOf t i) (⟨3584 + k.val, by omega⟩ : Fin 3840)) := by
  obtain ⟨-, -, ⟨i0, i1, i2⟩, -⟩ := index_in t
  refine congrArg (aZ m c) (funext fun a => Fin.ext ?_)
  match a with
  | ⟨0, _⟩ => show win0_2.index t (0 : Fin 3) * 1 + 1 * 0 = t.val / 16; omega
  | ⟨1, _⟩ => show win0_2.index t (1 : Fin 3) * 128 + 1 * i.val = 128 * (t.val % 16) + i.val; omega
  | ⟨2, _⟩ => show win0_2.index t (2 : Fin 3) * 128 + 1 * k.val = 3584 + k.val; omega

theorem gain_eq (c : Dev nD) : V m c main_v19 = shapeCast S1x512 (aG m c) shapeCasts_S512_S1x512 := by
  rfl

theorem blk3 (c : Dev nD) (t : Fin cfg0.N) (k : Fin 512) :
    iblk m c 3 t (ix2 (0 : Fin 1) k) = aG m c (ix1 k) := by
  obtain ⟨-, -, -, ⟨i0, i1⟩, -⟩ := index_in t
  have e : iblk m c 3 t (ix2 (0 : Fin 1) k) = V m c main_v19 (ix2 (0 : Fin 1) k) := by
    refine congrArg (V m c main_v19) (funext fun a => Fin.ext ?_)
    match a with
    | ⟨0, _⟩ => show win0_3.index t (0 : Fin 2) * 1 + 1 * 0 = 0; omega
    | ⟨1, _⟩ => show win0_3.index t (1 : Fin 2) * 512 + 1 * k.val = k.val; omega
  refine e.trans ?_
  rw [gain_eq]
  pointwise []

/-- The weights as the call takes them: one matrix a head. -/
abbrev wOf (x : FVec Ideal S512x4096 .f32) : FVec Ideal S16x128x512 .bf16 :=
  truncf .bf16 (transpose S16x128x512 [1, 2, 0] (extractStridedSlice S512x16x128 ![0, 0, 0]
    (shapeCast S512x16x256 x shapeCasts_S512x4096_S512x16x256) slices_S512x16x256_S512x16x128_0_0_0)
    transposes_S512x16x128_S16x128x512_1_2_0) bitsLt_bf16_f32

theorem weights_eq (c : Dev nD) : V m c main_v3 = wOf (aW m c) := by
  rfl

theorem weights_at (x : Vec Ideal S512x4096 .f32) (h : Fin 16) (k : Fin 128) (d : Fin 512) :
    wOf x (ix3 h k d) = x (ix2 d (⟨256 * h.val + k.val, by omega⟩ : Fin 4096)) := by
  pointwise
  exact congrArg x (ix2_eq rfl (by show h.val * 256 + k.val = 256 * h.val + k.val; omega))

theorem blk4 (c : Dev nD) (t : Fin cfg0.N) (h : Fin 16) (k : Fin 128) (d : Fin 512) :
    iblk m c 4 t (ix3 h k d) = aW m c (ix2 d (⟨256 * h.val + k.val, by omega⟩ : Fin 4096)) := by
  obtain ⟨-, -, -, -, ⟨i0, i1, i2⟩, -⟩ := index_in t
  have e : iblk m c 4 t (ix3 h k d) = V m c main_v3 (ix3 h k d) := by
    refine congrArg (V m c main_v3) (funext fun a => Fin.ext ?_)
    match a with
    | ⟨0, _⟩ => show win0_4.index t (0 : Fin 3) * 16 + 1 * h.val = h.val; omega
    | ⟨1, _⟩ => show win0_4.index t (1 : Fin 3) * 128 + 1 * k.val = k.val; omega
    | ⟨2, _⟩ => show win0_4.index t (2 : Fin 3) * 512 + 1 * d.val = d.val; omega
  exact e.trans ((congrFun (weights_eq m c) _).trans (weights_at _ h k d))

theorem cos_eq (c : Dev nD) : V m c main_v17 = Cert.Reference6Ideal.Read.val_main_v69 (F := Ideal) := by
  rfl
theorem sin_eq (c : Dev nD) : V m c main_v18 = Cert.Reference6Ideal.Read.val_main_v70 (F := Ideal) := by
  rfl

theorem blk5 (c : Dev nD) (t : Fin cfg0.N) (i : Fin 128) (j : Fin 32) : iblk m c 5 t (ix2 i j) = cs (pOf t i) j := by
  obtain ⟨-, -, -, -, -, ⟨i0, i1⟩, -⟩ := index_in t
  have e : iblk m c 5 t (ix2 i j) = V m c main_v17 (ix2 (pOf t i) j) := by
    refine congrArg (V m c main_v17) (funext fun a => Fin.ext ?_)
    match a with
    | ⟨0, _⟩ => show win0_5.index t (0 : Fin 2) * 128 + 1 * i.val = 128 * (t.val % 16) + i.val; omega
    | ⟨1, _⟩ => show win0_5.index t (1 : Fin 2) * 32 + 1 * j.val = j.val; omega
  exact e.trans (congrFun (cos_eq m c) _)
theorem blk6 (c : Dev nD) (t : Fin cfg0.N) (i : Fin 128) (j : Fin 32) : iblk m c 6 t (ix2 i j) = sn (pOf t i) j := by
  obtain ⟨-, -, -, -, -, -, ⟨i0, i1⟩⟩ := index_in t
  have e : iblk m c 6 t (ix2 i j) = V m c main_v18 (ix2 (pOf t i) j) := by
    refine congrArg (V m c main_v18) (funext fun a => Fin.ext ?_)
    match a with
    | ⟨0, _⟩ => show win0_6.index t (0 : Fin 2) * 128 + 1 * i.val = 128 * (t.val % 16) + i.val; omega
    | ⟨1, _⟩ => show win0_6.index t (1 : Fin 2) * 32 + 1 * j.val = j.val; omega
  exact e.trans (congrFun (sin_eq m c) _)

end Cert.Prep
-- ==== Proof.PrepFinal.lean ====
/-
  The four results of the query and key preparation are the reference's.
-/
module

public import proofs.«01_k».proof.Proof.PrepBlk

@[expose] public section

set_option maxRecDepth 16384

noncomputable section
open Idealize.ShloMosaic Idealize.ShloMosaic.TcCoe Idealize.SL.Sem
open Idealize.ShloMosaic.Pipeline (Dat)
namespace Cert.Prep
open Cert.Kernel6Ideal Cert.Kernel6Ideal.Gen Cert.Kernel6Ideal.Value Cert.Body
set_option maxHeartbeats 4000000
variable (m : (ℓ : Loc nD τ sig) → Buf (Elt Ideal) ℓ)

theorem out_c (c : Dev nD) (t : Fin cfg0.N) (i : Fin 128) (d : Fin 512) :
    (outsAt0 m c t).2.2.1 (ix3 (0 : Fin 1) i d) = nrm (fun d => aZ m c (ix3 (bOf t) (pOf t i) (⟨3072 + d.val, by omega⟩ : Fin 3840))) (fun d => aG m c (ix1 d)) d := by
  unfold outsAt0
  frame_out
  rw [pay6_at, funext fun k => blk1 m c t i k, funext fun k => blk3 m c t k]

theorem keyTurn (c : Dev nD) (t : Fin cfg0.N) (i : Fin 128) (d : Fin 64) :
    k0_pay5 (F := Ideal) (iblk m c 5 t) (iblk m c 6 t) (iblk m c 2 t) (ix2 i d)
      = turn (fun d => aZ m c (ix3 (bOf t) (pOf t i) (⟨3584 + d.val, by omega⟩ : Fin 3840))) (cs (pOf t i)) (sn (pOf t i)) d := by
  rw [pay5_at]
  have e : (fun d : Fin 64 => iblk m c 2 t (ix3 (0 : Fin 1) i (⟨d.val, by omega⟩ : Fin 128)))
      = fun d => aZ m c (ix3 (bOf t) (pOf t i) (⟨3584 + d.val, by omega⟩ : Fin 3840)) := funext fun d => blk2 m c t i ⟨d.val, by omega⟩
  have e5 : (fun j : Fin 32 => iblk m c 5 t (ix2 i j)) = cs (pOf t i) := funext fun j => blk5 m c t i j
  have e6 : (fun j : Fin 32 => iblk m c 6 t (ix2 i j)) = sn (pOf t i) := funext fun j => blk6 m c t i j
  exact congrFun (congr (congr (congrArg turn e) e5) e6) d

theorem out_r (c : Dev nD) (t : Fin cfg0.N) (i : Fin 128) (d : Fin 64) :
    (outsAt0 m c t).2.2.2 (ix3 (0 : Fin 1) i d)
      = turn (fun d => aZ m c (ix3 (bOf t) (pOf t i) (⟨3584 + d.val, by omega⟩ : Fin 3840))) (cs (pOf t i)) (sn (pOf t i)) d := by
  unfold outsAt0
  frame_out
  rw [pay7_at]
  exact keyTurn m c t i d

theorem out_k (c : Dev nD) (t : Fin cfg0.N) (i : Fin 128) (e : Fin 640) :
    (outsAt0 m c t).2.1 (ix3 (0 : Fin 1) i e)
      = side (nrm (fun d => aZ m c (ix3 (bOf t) (pOf t i) (⟨3072 + d.val, by omega⟩ : Fin 3840))) (fun d => aG m c (ix1 d)))
          (turn (fun d => aZ m c (ix3 (bOf t) (pOf t i) (⟨3584 + d.val, by omega⟩ : Fin 3840))) (cs (pOf t i)) (sn (pOf t i))) e := by
  unfold outsAt0
  frame_out
  rw [pay9_at, funext fun d => keyTurn m c t i d]
  refine congrArg (fun f => side f _ e) (funext fun d => ?_)
  rw [pay4_at, funext fun k => blk1 m c t i k, funext fun k => blk3 m c t k]

/-- Columns of the query part, at a start. -/
theorem ldA (X : Vec Ideal S1x128x3072 .f32) (a : ℕ) (p : ∀ b, ![0, 0, a] b + ![1, 128, 128] b ≤ S1x128x3072.size b) (i k : Fin 128) (h : a + k.val < 3072) :
    View.ld X (Rect.unit ![0, 0, a] ![1, 128, 128] p) (ix3 (0 : Fin 1) i k) = X (ix3 (0 : Fin 1) i (⟨a + k.val, h⟩ : Fin 3072)) := by
  refine congrArg X (funext fun b => Fin.ext ?_)
  match b with
  | ⟨0, _⟩ => rfl
  | ⟨1, _⟩ => show 0 + 1 * i.val = i.val; omega
  | ⟨2, _⟩ => show a + 1 * k.val = a + k.val; omega
theorem ldR (X : Vec Ideal S1x128x3072 .f32) (a : ℕ) (p : ∀ b, ![0, 0, a] b + ![1, 128, 64] b ≤ S1x128x3072.size b) (i : Fin 128) (k : Fin 64) (h : a + k.val < 3072) :
    View.ld X (Rect.unit ![0, 0, a] ![1, 128, 64] p) (ix3 (0 : Fin 1) i k) = X (ix3 (0 : Fin 1) i (⟨a + k.val, h⟩ : Fin 3072)) := by
  refine congrArg X (funext fun b => Fin.ext ?_)
  match b with
  | ⟨0, _⟩ => rfl
  | ⟨1, _⟩ => show 0 + 1 * i.val = i.val; omega
  | ⟨2, _⟩ => show a + 1 * k.val = a + k.val; omega
/-- The weights of a head. -/
theorem ldW (X : Vec Ideal S16x128x512 .bf16) (a : ℕ) (p : ∀ b, ![a, 0, 0] b + ![1, 128, 512] b ≤ S16x128x512.size b) (k : Fin 128) (d : Fin 512) (h : a < 16) :
    View.ld X (Rect.unit ![a, 0, 0] ![1, 128, 512] p) (ix3 (0 : Fin 1) k d) = X (ix3 (⟨a, h⟩ : Fin 16) k d) := by
  refine congrArg X (funext fun b => Fin.ext ?_)
  match b with
  | ⟨0, _⟩ => show a + 1 * 0 = a; omega
  | ⟨1, _⟩ => show 0 + 1 * k.val = k.val; omega
  | ⟨2, _⟩ => show 0 + 1 * d.val = d.val; omega

theorem pay2_id (c : Vec Ideal S128x32 .f32) : k0_pay2 (F := Ideal) c = c := by
  funext y
  obtain ⟨i, j, rfl⟩ : ∃ (i : Fin 128) (j : Fin 32), y = ix2 i j := ⟨y 0, y 1, eq_ix2 y⟩
  pointwise [k0_pay2]
theorem pay3_id (c : Vec Ideal S128x32 .f32) : k0_pay3 (F := Ideal) c = c := by
  funext y
  obtain ⟨i, j, rfl⟩ : ∃ (i : Fin 128) (j : Fin 32), y = ix2 i j := ⟨y 0, y 1, eq_ix2 y⟩
  pointwise [k0_pay3]

/-- One head of the prepared query, read off the whole block. -/
theorem head_at (X : Vec Ideal S1x128x3072 .f32) (W : Vec Ideal S16x128x512 .bf16) (C S : Vec Ideal S128x32 .f32) (h a r : ℕ) (hh : h < 16)
    (ha : a = 192 * h) (hr : r = 192 * h + 128)
    (pa : ∀ b, ![0, 0, a] b + ![1, 128, 128] b ≤ S1x128x3072.size b) (pr : ∀ b, ![0, 0, r] b + ![1, 128, 64] b ≤ S1x128x3072.size b)
    (pw : ∀ b, ![h, 0, 0] b + ![1, 128, 512] b ≤ S16x128x512.size b) (x : S1x128x640.Idx) (y : S1x128x10240.Idx)
    (h1 : (y 1).val = (x 1).val) (h2 : (y 2).val = 640 * h + (x 2).val) :
    k0_pay10 (F := Ideal) (k0_pay2 C) (k0_pay3 S) (View.ld X (Rect.unit ![0, 0, a] ![1, 128, 128] pa)) (View.ld X (Rect.unit ![0, 0, r] ![1, 128, 64] pr))
      (View.ld W (Rect.unit ![h, 0, 0] ![1, 128, 512] pw)) x = qOf X W C S y := by
  subst ha hr
  obtain ⟨z, i, e, rfl⟩ : ∃ (z : Fin 1) (i : Fin 128) (e : Fin 640), x = ix3 z i e := ⟨x 0, x 1, x 2, eq_ix3 x⟩
  obtain rfl : z = 0 := Subsingleton.elim _ _
  obtain ⟨z, j, f, rfl⟩ : ∃ (z : Fin 1) (i : Fin 128) (e : Fin 10240), y = ix3 z i e := ⟨y 0, y 1, y 2, eq_ix3 y⟩
  have h1 : j.val = i.val := h1
  have h2 : f.val = 640 * h + e.val := h2
  obtain rfl : j = i := Fin.ext h1
  have hq : f.val / 640 = h := by omega
  have hm : f.val % 640 = e.val := by omega
  subst hq
  rw [pay10_at, pay2_id, pay3_id]
  have he : (⟨f.val % 640, Nat.mod_lt _ (by norm_num)⟩ : Fin 640) = e := Fin.ext hm
  show _ = side _ _ (⟨f.val % 640, Nat.mod_lt _ (by norm_num)⟩ : Fin 640)
  rw [he]
  refine congrFun (congr (congrArg side (funext fun d => ?_)) ?_) e
  · refine Finset.sum_congr (M := EReal) rfl fun k _ => ?_
    exact congrArg₂ (· * ·) (ldA X _ pa j k (by omega)) (ldW W _ pw k d hh)
  · refine congrFun (congrFun (congrArg turn (funext fun d => ?_)) _) _
    exact (ldR X _ pr j d (by omega)).trans (congrArg X (ix3_eq rfl rfl (by show 192 * (f.val / 640) + 128 + d.val = 192 * (f.val / 640) + (128 + d.val); omega)))

theorem out_q (c : Dev nD) (t : Fin cfg0.N) :
    (outsAt0 m c t).1 = qOf (X0_0 m c t) (iblk m c 4 t) (iblk m c 5 t) (iblk m c 6 t) := by
  unfold outsAt0
  frame_out
  funext y
  canon_tiles x h
  · exact head_at (X0_0 m c t) (iblk m c 4 t) (iblk m c 5 t) (iblk m c 6 t) 15 2880 3008 (by decide) rfl rfl inb_S1x128x3072_S1x128x128_0_0_2880 inb_S1x128x3072_S1x128x64_0_0_3008 inb_S16x128x512_S1x128x512_15_0_0 x y h1 (by omega)
  · exact head_at (X0_0 m c t) (iblk m c 4 t) (iblk m c 5 t) (iblk m c 6 t) 14 2688 2816 (by decide) rfl rfl inb_S1x128x3072_S1x128x128_0_0_2688 inb_S1x128x3072_S1x128x64_0_0_2816 inb_S16x128x512_S1x128x512_14_0_0 x y h1 (by omega)
  · exact head_at (X0_0 m c t) (iblk m c 4 t) (iblk m c 5 t) (iblk m c 6 t) 13 2496 2624 (by decide) rfl rfl inb_S1x128x3072_S1x128x128_0_0_2496 inb_S1x128x3072_S1x128x64_0_0_2624 inb_S16x128x512_S1x128x512_13_0_0 x y h1 (by omega)
  · exact head_at (X0_0 m c t) (iblk m c 4 t) (iblk m c 5 t) (iblk m c 6 t) 12 2304 2432 (by decide) rfl rfl inb_S1x128x3072_S1x128x128_0_0_2304 inb_S1x128x3072_S1x128x64_0_0_2432 inb_S16x128x512_S1x128x512_12_0_0 x y h1 (by omega)
  · exact head_at (X0_0 m c t) (iblk m c 4 t) (iblk m c 5 t) (iblk m c 6 t) 11 2112 2240 (by decide) rfl rfl inb_S1x128x3072_S1x128x128_0_0_2112 inb_S1x128x3072_S1x128x64_0_0_2240 inb_S16x128x512_S1x128x512_11_0_0 x y h1 (by omega)
  · exact head_at (X0_0 m c t) (iblk m c 4 t) (iblk m c 5 t) (iblk m c 6 t) 10 1920 2048 (by decide) rfl rfl inb_S1x128x3072_S1x128x128_0_0_1920 inb_S1x128x3072_S1x128x64_0_0_2048 inb_S16x128x512_S1x128x512_10_0_0 x y h1 (by omega)
  · exact head_at (X0_0 m c t) (iblk m c 4 t) (iblk m c 5 t) (iblk m c 6 t) 9 1728 1856 (by decide) rfl rfl inb_S1x128x3072_S1x128x128_0_0_1728 inb_S1x128x3072_S1x128x64_0_0_1856 inb_S16x128x512_S1x128x512_9_0_0 x y h1 (by omega)
  · exact head_at (X0_0 m c t) (iblk m c 4 t) (iblk m c 5 t) (iblk m c 6 t) 8 1536 1664 (by decide) rfl rfl inb_S1x128x3072_S1x128x128_0_0_1536 inb_S1x128x3072_S1x128x64_0_0_1664 inb_S16x128x512_S1x128x512_8_0_0 x y h1 (by omega)
  · exact head_at (X0_0 m c t) (iblk m c 4 t) (iblk m c 5 t) (iblk m c 6 t) 7 1344 1472 (by decide) rfl rfl inb_S1x128x3072_S1x128x128_0_0_1344 inb_S1x128x3072_S1x128x64_0_0_1472 inb_S16x128x512_S1x128x512_7_0_0 x y h1 (by omega)
  · exact head_at (X0_0 m c t) (iblk m c 4 t) (iblk m c 5 t) (iblk m c 6 t) 6 1152 1280 (by decide) rfl rfl inb_S1x128x3072_S1x128x128_0_0_1152 inb_S1x128x3072_S1x128x64_0_0_1280 inb_S16x128x512_S1x128x512_6_0_0 x y h1 (by omega)
  · exact head_at (X0_0 m c t) (iblk m c 4 t) (iblk m c 5 t) (iblk m c 6 t) 5 960 1088 (by decide) rfl rfl inb_S1x128x3072_S1x128x128_0_0_960 inb_S1x128x3072_S1x128x64_0_0_1088 inb_S16x128x512_S1x128x512_5_0_0 x y h1 (by omega)
  · exact head_at (X0_0 m c t) (iblk m c 4 t) (iblk m c 5 t) (iblk m c 6 t) 4 768 896 (by decide) rfl rfl inb_S1x128x3072_S1x128x128_0_0_768 inb_S1x128x3072_S1x128x64_0_0_896 inb_S16x128x512_S1x128x512_4_0_0 x y h1 (by omega)
  · exact head_at (X0_0 m c t) (iblk m c 4 t) (iblk m c 5 t) (iblk m c 6 t) 3 576 704 (by decide) rfl rfl inb_S1x128x3072_S1x128x128_0_0_576 inb_S1x128x3072_S1x128x64_0_0_704 inb_S16x128x512_S1x128x512_3_0_0 x y h1 (by omega)
  · exact head_at (X0_0 m c t) (iblk m c 4 t) (iblk m c 5 t) (iblk m c 6 t) 2 384 512 (by decide) rfl rfl inb_S1x128x3072_S1x128x128_0_0_384 inb_S1x128x3072_S1x128x64_0_0_512 inb_S16x128x512_S1x128x512_2_0_0 x y h1 (by omega)
  · exact head_at (X0_0 m c t) (iblk m c 4 t) (iblk m c 5 t) (iblk m c 6 t) 1 192 320 (by decide) rfl rfl inb_S1x128x3072_S1x128x128_0_0_192 inb_S1x128x3072_S1x128x64_0_0_320 inb_S16x128x512_S1x128x512_1_0_0 x y h1 (by omega)
  · exact head_at (X0_0 m c t) (iblk m c 4 t) (iblk m c 5 t) (iblk m c 6 t) 0 0 128 (by decide) rfl rfl inb_S1x128x3072_S1x128x128_0_0_0 inb_S1x128x3072_S1x128x64_0_0_128 inb_S16x128x512_S1x128x512_0_0_0 x y h1 (by omega)

/-- The reference's prepared query at any column. -/
theorem ref_q' (x0 : Vec Ideal S4x2048x3840 .f32) (x2 : Vec Ideal S512x4096 .f32) (b : Fin 4) (p : Fin 2048) (f : Fin 10240) :
    Cert.Reference6Ideal.Read.val_main_v93 (F := Ideal) x0 x2 (ix3 b p f)
      = side (fun d => ∑ k : Fin 128, x2 (ix2 d (⟨256 * (f.val / 640) + k.val, by omega⟩ : Fin 4096)) * x0 (ix3 b p (⟨192 * (f.val / 640) + k.val, by omega⟩ : Fin 3840)))
          (turn (fun d => x0 (ix3 b p (⟨192 * (f.val / 640) + (128 + d.val), by omega⟩ : Fin 3840))) (cs p) (sn p)) (⟨f.val % 640, Nat.mod_lt _ (by norm_num)⟩ : Fin 640) := by
  have e : f = (⟨640 * (⟨f.val / 640, by omega⟩ : Fin 16).val + (⟨f.val % 640, Nat.mod_lt _ (by norm_num)⟩ : Fin 640).val, by dsimp only; omega⟩ : Fin 10240) :=
    Fin.ext (by show f.val = 640 * (f.val / 640) + f.val % 640; omega)
  exact (congrArg (fun f => Cert.Reference6Ideal.Read.val_main_v93 (F := Ideal) x0 x2 (ix3 b p f)) e).trans
    (ref_q x0 x2 b p (⟨f.val / 640, by omega⟩ : Fin 16) (⟨f.val % 640, Nat.mod_lt _ (by norm_num)⟩ : Fin 640))

theorem q_at (c : Dev nD) (t : Fin cfg0.N) (i : Fin 128) (f : Fin 10240) :
    (outsAt0 m c t).1 (ix3 (0 : Fin 1) i f)
      = side (fun d => ∑ k : Fin 128, aW m c (ix2 d (⟨256 * (f.val / 640) + k.val, by omega⟩ : Fin 4096)) * aZ m c (ix3 (bOf t) (pOf t i) (⟨192 * (f.val / 640) + k.val, by omega⟩ : Fin 3840)))
          (turn (fun d => aZ m c (ix3 (bOf t) (pOf t i) (⟨192 * (f.val / 640) + (128 + d.val), by omega⟩ : Fin 3840))) (cs (pOf t i)) (sn (pOf t i))) (⟨f.val % 640, Nat.mod_lt _ (by norm_num)⟩ : Fin 640) := by
  rw [out_q]
  refine congrFun (congr (congrArg side (funext fun d => ?_)) ?_) _
  · refine Finset.sum_congr (M := EReal) rfl fun k _ => ?_
    rw [mul_comm (aW m c _)]
    exact congrArg₂ (· * ·) (blk0 m c t i _) (blk4 m c t _ k d)
  · exact congr (congr (congrArg turn (funext fun d => blk0 m c t i _)) (funext fun j => blk5 m c t i j)) (funext fun j => blk6 m c t i j)

theorem final_c (c : Dev nD) : (dats m 0 c).arrAt 9 cfg0.N = Cert.Reference6Ideal.Read.val_main_v56 (F := Ideal) (aZ m c) (aG m c) := by
  refine (dats m 0 c).arrAt_eq_of_covers 9 _ (by decide +kernel) fun t hf y => ?_
  blk_simp
  rw [after0_9]
  obtain ⟨z, i, d, rfl⟩ : ∃ (z : Fin 1) (i : Fin 128) (d : Fin 512), y = ix3 z i d := ⟨y 0, y 1, y 2, eq_ix3 y⟩
  obtain rfl : z = 0 := Subsingleton.elim _ _
  have e : (((View.whole main_v20_2).slice (win0_9.rect t)).emb (ix3 (0 : Fin 1) i d) : S4x2048x512.Idx) = ix3 (bOf t) (pOf t i) d := by
    obtain ⟨⟨p0, p1, p2⟩, ⟨q0, q1, q2⟩, ⟨r0, r1, r2⟩, ⟨s0, s1, s2⟩⟩ := index_out t
    refine funext fun a => Fin.ext ?_
    match a with
    | ⟨0, _⟩ => show win0_9.index t (0 : Fin 3) * 1 + 1 * 0 = t.val / 16; omega
    | ⟨1, _⟩ => show win0_9.index t (1 : Fin 3) * 128 + 1 * i.val = 128 * (t.val % 16) + i.val; omega
    | ⟨2, _⟩ => show win0_9.index t (2 : Fin 3) * 512 + 1 * d.val = d.val; omega
  rw [e]
  exact (out_c m c t i d).trans (ref_c (aZ m c) (aG m c) (bOf t) (pOf t i) d).symm

theorem final_r (c : Dev nD) : (dats m 0 c).arrAt 10 cfg0.N = Cert.Reference6Ideal.Read.val_main_v87 (F := Ideal) (aZ m c) := by
  refine (dats m 0 c).arrAt_eq_of_covers 10 _ (by decide +kernel) fun t hf y => ?_
  blk_simp
  rw [after0_10]
  obtain ⟨z, i, d, rfl⟩ : ∃ (z : Fin 1) (i : Fin 128) (d : Fin 64), y = ix3 z i d := ⟨y 0, y 1, y 2, eq_ix3 y⟩
  obtain rfl : z = 0 := Subsingleton.elim _ _
  have e : (((View.whole main_v20_3).slice (win0_10.rect t)).emb (ix3 (0 : Fin 1) i d) : S4x2048x64.Idx) = ix3 (bOf t) (pOf t i) d := by
    obtain ⟨⟨p0, p1, p2⟩, ⟨q0, q1, q2⟩, ⟨r0, r1, r2⟩, ⟨s0, s1, s2⟩⟩ := index_out t
    refine funext fun a => Fin.ext ?_
    match a with
    | ⟨0, _⟩ => show win0_10.index t (0 : Fin 3) * 1 + 1 * 0 = t.val / 16; omega
    | ⟨1, _⟩ => show win0_10.index t (1 : Fin 3) * 128 + 1 * i.val = 128 * (t.val % 16) + i.val; omega
    | ⟨2, _⟩ => show win0_10.index t (2 : Fin 3) * 64 + 1 * d.val = d.val; omega
  rw [e]
  exact (out_r m c t i d).trans (ref_r (aZ m c) (bOf t) (pOf t i) d).symm

theorem final_k (c : Dev nD) : (dats m 0 c).arrAt 8 cfg0.N = Cert.Reference6Ideal.Read.val_main_v94 (F := Ideal) (aZ m c) (aG m c) := by
  refine (dats m 0 c).arrAt_eq_of_covers 8 _ (by decide +kernel) fun t hf y => ?_
  blk_simp
  rw [after0_8]
  obtain ⟨z, i, d, rfl⟩ : ∃ (z : Fin 1) (i : Fin 128) (d : Fin 640), y = ix3 z i d := ⟨y 0, y 1, y 2, eq_ix3 y⟩
  obtain rfl : z = 0 := Subsingleton.elim _ _
  have e : (((View.whole main_v20_1).slice (win0_8.rect t)).emb (ix3 (0 : Fin 1) i d) : S4x2048x640.Idx) = ix3 (bOf t) (pOf t i) d := by
    obtain ⟨⟨p0, p1, p2⟩, ⟨q0, q1, q2⟩, ⟨r0, r1, r2⟩, ⟨s0, s1, s2⟩⟩ := index_out t
    refine funext fun a => Fin.ext ?_
    match a with
    | ⟨0, _⟩ => show win0_8.index t (0 : Fin 3) * 1 + 1 * 0 = t.val / 16; omega
    | ⟨1, _⟩ => show win0_8.index t (1 : Fin 3) * 128 + 1 * i.val = 128 * (t.val % 16) + i.val; omega
    | ⟨2, _⟩ => show win0_8.index t (2 : Fin 3) * 640 + 1 * d.val = d.val; omega
  rw [e]
  exact (out_k m c t i d).trans (ref_k (aZ m c) (aG m c) (bOf t) (pOf t i) d).symm

theorem final_q (c : Dev nD) : (dats m 0 c).arrAt 7 cfg0.N = Cert.Reference6Ideal.Read.val_main_v93 (F := Ideal) (aZ m c) (aW m c) := by
  refine (dats m 0 c).arrAt_eq_of_covers 7 _ (by decide +kernel) fun t hf y => ?_
  blk_simp
  rw [after0_7]
  obtain ⟨z, i, d, rfl⟩ : ∃ (z : Fin 1) (i : Fin 128) (d : Fin 10240), y = ix3 z i d := ⟨y 0, y 1, y 2, eq_ix3 y⟩
  obtain rfl : z = 0 := Subsingleton.elim _ _
  have e : (((View.whole main_v20_0).slice (win0_7.rect t)).emb (ix3 (0 : Fin 1) i d) : S4x2048x10240.Idx) = ix3 (bOf t) (pOf t i) d := by
    obtain ⟨⟨p0, p1, p2⟩, ⟨q0, q1, q2⟩, ⟨r0, r1, r2⟩, ⟨s0, s1, s2⟩⟩ := index_out t
    refine funext fun a => Fin.ext ?_
    match a with
    | ⟨0, _⟩ => show win0_7.index t (0 : Fin 3) * 1 + 1 * 0 = t.val / 16; omega
    | ⟨1, _⟩ => show win0_7.index t (1 : Fin 3) * 128 + 1 * i.val = 128 * (t.val % 16) + i.val; omega
    | ⟨2, _⟩ => show win0_7.index t (2 : Fin 3) * 10240 + 1 * d.val = d.val; omega
  rw [e]
  exact (q_at m c t i d).trans (ref_q' (aZ m c) (aW m c) (bOf t) (pOf t i) d).symm

end Cert.Prep
-- ==== Proof.Final.lean ====
/-
  The norm of the last hidden rows, block by block.
-/
module

public import proofs.«01_k».proof.Proof.Gen.Kernel7Ideal.Value
public import proofs.«01_k».proof.Proof.Gen.Reference7Ideal.Run
public import proofs.«01_k».proof.Proof.Gen.Reference7Ideal.Read
public import proofs.«01_k».proof.Proof.Body
public import Idealize.ShloMosaic.Lib.Pipeline.ValueKit
public import Idealize.ShloMosaic.Lib.Pipeline.ReadBack
public import Idealize.ShloMosaic.Lib.Pointwise

@[expose] public section

set_option maxRecDepth 16384

noncomputable section
open Idealize.ShloMosaic Idealize.ShloMosaic.TcCoe Idealize.SL.Sem
open Idealize.ShloMosaic.Pipeline (Dat)
namespace Cert.Final
open Cert.Kernel7Ideal Cert.Kernel7Ideal.Gen Cert.Kernel7Ideal.Value Cert.Body
set_option maxHeartbeats 1000000
variable (m : (ℓ : Loc nD τ sig) → Buf (Elt Ideal) ℓ)

abbrev aX (c : Dev nD) : Vec Ideal S8192x2048 .f32 := m (c, Proc.tc.devRef main_arg0)
abbrev aG (c : Dev nD) : Vec Ideal S2048 .f32 := m (c, Proc.tc.devRef main_arg1)

theorem lt_N (t : Fin cfg0.N) : t.val < 8 := lt_of_lt_of_eq t.isLt (by decide)

/-- Which blocks the windows hold at a point. -/
theorem index_all : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

theorem blk0 (c : Dev nD) (t : Fin cfg0.N) (r : Fin 1024) (k : Fin 2048) :
    iblk m c 0 t (ix2 r k) = aX m c (ix2 (⟨1024 * t.val + r.val, by have := lt_N t; omega⟩ : Fin 8192) k) := by
  obtain ⟨⟨i0, i1⟩, -⟩ := index_all t
  refine congrArg (aX m c) (funext fun a => Fin.ext ?_)
  match a with
  | ⟨0, _⟩ => show win0_0.index t (0 : Fin 2) * 1024 + 1 * r.val = 1024 * t.val + r.val; omega
  | ⟨1, _⟩ => show win0_0.index t (1 : Fin 2) * 2048 + 1 * k.val = k.val; omega

theorem gain_eq (c : Dev nD) : V m c main_v0 = shapeCast S1x2048 (aG m c) shapeCasts_S2048_S1x2048 := by
  rfl

theorem blk1 (c : Dev nD) (t : Fin cfg0.N) (k : Fin 2048) :
    iblk m c 1 t (ix2 (0 : Fin 1) k) = aG m c (ix1 k) := by
  obtain ⟨-, ⟨i0, i1⟩, -⟩ := index_all t
  have e : iblk m c 1 t (ix2 (0 : Fin 1) k) = V m c main_v0 (ix2 (0 : Fin 1) k) := by
    refine congrArg (V m c main_v0) (funext fun a => Fin.ext ?_)
    match a with
    | ⟨0, _⟩ => show win0_1.index t (0 : Fin 2) * 1 + 1 * 0 = 0; omega
    | ⟨1, _⟩ => show win0_1.index t (1 : Fin 2) * 2048 + 1 * k.val = k.val; omega
  refine e.trans ?_
  rw [gain_eq]
  pointwise []

/-- A row over the root of the mean of its squares, times the gain. -/
def nrm (x : Fin 2048 → EReal) (g : Fin 2048 → EReal) (k : Fin 2048) : EReal :=
  x k * Ideal.rsqrt (Ideal.div (∑ j, x j * x j) (Ideal.ofBits FTy.f32 0x45000000#32) + Ideal.ofBits FTy.f32 0x358637BD#32) * g k

theorem norm_at (x : Vec Ideal S1024x2048 .f32) (g : Vec Ideal S1x2048 .f32) (i : Fin 1024) (k : Fin 2048) :
    k0_pay1 (F := Ideal) x g (ix2 i k) = nrm (fun k => x (ix2 i k)) (fun k => g (ix2 (0 : Fin 1) k)) k := by
  pointwise [k0_pay1]
  rfl

theorem ref_at (x0 : Vec Ideal S8192x2048 .f32) (x1 : Vec Ideal S2048 .f32) (i : Fin 8192) (k : Fin 2048) :
    Cert.Reference7Ideal.Read.val_main_v12 (F := Ideal) x0 x1 (ix2 i k) = nrm (fun k => x0 (ix2 i k)) (fun k => x1 (ix1 k)) k := by
  pointwise [Cert.Reference7Ideal.Read.val_main_v12, Cert.Reference7Ideal.Read.val_main_v11, Cert.Reference7Ideal.Read.val_main_v10, Cert.Reference7Ideal.Read.val_main_v9, Cert.Reference7Ideal.Read.val_main_v8, Cert.Reference7Ideal.Read.val_main_v7, Cert.Reference7Ideal.Read.val_main_v6, Cert.Reference7Ideal.Read.val_main_v5, Cert.Reference7Ideal.Read.val_main_v4, Cert.Reference7Ideal.Read.val_main_v3, Cert.Reference7Ideal.Read.val_main_v2, Cert.Reference7Ideal.Read.val_main_v1, Cert.Reference7Ideal.Read.val_main_v0, Cert.Reference7Ideal.Read.val_main_cst, Cert.Reference7Ideal.Read.val_main_cst_0, Cert.Reference7Ideal.Read.val_main_cst_1]
  rfl

theorem final (c : Dev nD) : (dats m 0 c).arrAt 2 cfg0.N = Cert.Reference7Ideal.Read.val_main_v12 (F := Ideal) (aX m c) (aG m c) := by
  refine (dats m 0 c).arrAt_eq_of_covers 2 _ (by decide +kernel) fun t hf y => ?_
  blk_simp
  rw [after0_2]
  frame_out
  obtain ⟨i, j, rfl⟩ : ∃ (i : Fin 1024) (j : Fin 2048), y = ix2 i j := ⟨y 0, y 1, eq_ix2 y⟩
  have e : (((View.whole main_v1).slice (win0_2.rect t)).emb (ix2 i j) : S8192x2048.Idx)
      = ix2 (⟨1024 * t.val + i.val, by have := lt_N t; omega⟩ : Fin 8192) j := by
    obtain ⟨-, -, ⟨i0, i1⟩⟩ := index_all t
    refine funext fun a => Fin.ext ?_
    match a with
    | ⟨0, _⟩ => show win0_2.index t (0 : Fin 2) * 1024 + 1 * i.val = 1024 * t.val + i.val; omega
    | ⟨1, _⟩ => show win0_2.index t (1 : Fin 2) * 2048 + 1 * j.val = j.val; omega
  rw [e, ref_at, norm_at]
  rw [funext fun k => blk0 m c t i k, funext fun k => blk1 m c t k]

end Cert.Final
-- ==== Proof.UpRunIdeal.lean ====
module

public import proofs.«01_k».proof.Proof.Gen.Kernel2Ideal.Frame
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition: the column index is zero. -/
abbrev cond0_0 (i : grid0.Coords) : Prop := (Scalar.cmpi .ne (Scalar.extui (Scalar.cmpi .eq (BitVec.ofNat 32 (i 1).val) 0#32)) 0#32) = 1#1
/-- The second branch's condition: the row block's index is zero. -/
abbrev cond0_1 (i : grid0.Coords) : Prop := k0_cond2 i = 1#1

set_option maxHeartbeats 2000000 in
/-- The body's run when the first branch is taken and the second taken: what its stores leave, as pieces, last first. -/
noncomputable def runA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1024x512 .bf16) (harg8 : arg8.IsWhole) (arg9 : Memref sig .tc .vmem S1x8x512 .f32) (harg9 : arg9.IsWhole) (arg10 : Memref sig .tc .vmem S1024x2048 .bf16) (harg10 : arg10.IsWhole) (arg11 : Memref sig .tc .vmem S8x8x512 .f32) (harg11 : arg11.IsWhole) (hc0 : cond0_0 i) (hc1 : cond0_1 i)
    (x0 : Vec F S1024x2048 .f32) (x1 : Vec F S1x2048 .f32) (x2 : Vec F S1x2048x512 .f32) (x3 : Vec F S1x2048x512 .f32) (x4 : Vec F S3x512 .f32) (x5 : Vec F S1x512 .f32) (xs1 : Vec F S8x8x512 .f32) :
    Σ' (L6 : List (View.Piece (Elt F) S1024x512 .bf16)) (L7 : List (View.Piece (Elt F) S1x8x512 .f32)) (LS0 : List (View.Piece (Elt F) S1024x2048 .bf16)), { LS1 : List (View.Piece (Elt F) S8x8x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (arg11.view.loc (c : Thread nD τ) ↦[arg11.view.set]{fullShare} arg11.view.writes (Elt F) (harg11.unread xs1) LS1)) -∗ K ⟨⟩))
          ⊢ wp frame (wpE (defs₀ (F := F)) Variants.none c none) E (cc0_ffn_up i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_ffn_up_eq_skeleton]; unfold cc0_ffn_up_skel
    simp only [k0_part1_eq_skeleton, k0_part2_eq_skeleton, k0_part3_eq_skeleton, k0_part4_eq_skeleton]; unfold k0_part1_skel k0_part2_skel k0_part3_skel k0_part4_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexists _; iexact HS0
    iexact HS1

set_option maxHeartbeats 2000000 in
/-- The body's run when the first branch is taken and the second not taken: what its stores leave, as pieces, last first. -/
noncomputable def runB (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1024x512 .bf16) (harg8 : arg8.IsWhole) (arg9 : Memref sig .tc .vmem S1x8x512 .f32) (harg9 : arg9.IsWhole) (arg10 : Memref sig .tc .vmem S1024x2048 .bf16) (harg10 : arg10.IsWhole) (arg11 : Memref sig .tc .vmem S8x8x512 .f32) (harg11 : arg11.IsWhole) (hc0 : cond0_0 i) (hc1 : ¬cond0_1 i)
    (x0 : Vec F S1024x2048 .f32) (x1 : Vec F S1x2048 .f32) (x2 : Vec F S1x2048x512 .f32) (x3 : Vec F S1x2048x512 .f32) (x4 : Vec F S3x512 .f32) (x5 : Vec F S1x512 .f32) (xs1 : Vec F S8x8x512 .f32) :
    Σ' (L6 : List (View.Piece (Elt F) S1024x512 .bf16)) (L7 : List (View.Piece (Elt F) S1x8x512 .f32)) (LS0 : List (View.Piece (Elt F) S1024x2048 .bf16)), { LS1 : List (View.Piece (Elt F) S8x8x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (arg11.view.loc (c : Thread nD τ) ↦[arg11.view.set]{fullShare} arg11.view.writes (Elt F) (harg11.unread xs1) LS1)) -∗ K ⟨⟩))
          ⊢ wp frame (wpE (defs₀ (F := F)) Variants.none c none) E (cc0_ffn_up i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_ffn_up_eq_skeleton]; unfold cc0_ffn_up_skel
    simp only [k0_part1_eq_skeleton, k0_part2_eq_skeleton, k0_part3_eq_skeleton, k0_part4_eq_skeleton]; unfold k0_part1_skel k0_part2_skel k0_part3_skel k0_part4_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexists _; iexact HS0
    iexact HS1

set_option maxHeartbeats 2000000 in
/-- The body's run when the first branch is not taken and the second taken: what its stores leave, as pieces, last first. -/
noncomputable def runC (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1024x512 .bf16) (harg8 : arg8.IsWhole) (arg9 : Memref sig .tc .vmem S1x8x512 .f32) (harg9 : arg9.IsWhole) (arg10 : Memref sig .tc .vmem S1024x2048 .bf16) (harg10 : arg10.IsWhole) (arg11 : Memref sig .tc .vmem S8x8x512 .f32) (harg11 : arg11.IsWhole) (hc0 : ¬cond0_0 i) (hc1 : cond0_1 i)
    (x0 : Vec F S1024x2048 .f32) (x1 : Vec F S1x2048 .f32) (x2 : Vec F S1x2048x512 .f32) (x3 : Vec F S1x2048x512 .f32) (x4 : Vec F S3x512 .f32) (x5 : Vec F S1x512 .f32) (xs0 : Vec F S1024x2048 .bf16) (xs1 : Vec F S8x8x512 .f32) :
    Σ' (L6 : List (View.Piece (Elt F) S1024x512 .bf16)) (L7 : List (View.Piece (Elt F) S1x8x512 .f32)), { LS1 : List (View.Piece (Elt F) S8x8x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg10 fullShare xs0 ∗ (arg11.view.loc (c : Thread nD τ) ↦[arg11.view.set]{fullShare} arg11.view.writes (Elt F) (harg11.unread xs1) LS1)) -∗ K ⟨⟩))
          ⊢ wp frame (wpE (defs₀ (F := F)) Variants.none c none) E (cc0_ffn_up i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_ffn_up_eq_skeleton]; unfold cc0_ffn_up_skel
    simp only [k0_part1_eq_skeleton, k0_part2_eq_skeleton, k0_part3_eq_skeleton, k0_part4_eq_skeleton]; unfold k0_part1_skel k0_part2_skel k0_part3_skel k0_part4_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]
    · iexists _; isplitr; · ipureintro; exact harg10.read_unread _
      iexact HS0
    iexact HS1

set_option maxHeartbeats 2000000 in
/-- The body's run when the first branch is not taken and the second not taken: what its stores leave, as pieces, last first. -/
noncomputable def runD (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1024x512 .bf16) (harg8 : arg8.IsWhole) (arg9 : Memref sig .tc .vmem S1x8x512 .f32) (harg9 : arg9.IsWhole) (arg10 : Memref sig .tc .vmem S1024x2048 .bf16) (harg10 : arg10.IsWhole) (arg11 : Memref sig .tc .vmem S8x8x512 .f32) (harg11 : arg11.IsWhole) (hc0 : ¬cond0_0 i) (hc1 : ¬cond0_1 i)
    (x0 : Vec F S1024x2048 .f32) (x1 : Vec F S1x2048 .f32) (x2 : Vec F S1x2048x512 .f32) (x3 : Vec F S1x2048x512 .f32) (x4 : Vec F S3x512 .f32) (x5 : Vec F S1x512 .f32) (xs0 : Vec F S1024x2048 .bf16) (xs1 : Vec F S8x8x512 .f32) :
    Σ' (L6 : List (View.Piece (Elt F) S1024x512 .bf16)) (L7 : List (View.Piece (Elt F) S1x8x512 .f32)), { LS1 : List (View.Piece (Elt F) S8x8x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg10 fullShare xs0 ∗ (arg11.view.loc (c : Thread nD τ) ↦[arg11.view.set]{fullShare} arg11.view.writes (Elt F) (harg11.unread xs1) LS1)) -∗ K ⟨⟩))
          ⊢ wp frame (wpE (defs₀ (F := F)) Variants.none c none) E (cc0_ffn_up i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_ffn_up_eq_skeleton]; unfold cc0_ffn_up_skel
    simp only [k0_part1_eq_skeleton, k0_part2_eq_skeleton, k0_part3_eq_skeleton, k0_part4_eq_skeleton]; unfold k0_part1_skel k0_part2_skel k0_part3_skel k0_part4_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]
    · iexists _; isplitr; · ipureintro; exact harg10.read_unread _
      iexact HS0
    iexact HS1

end Cert.Kernel2Ideal.Gen

end
-- ==== Proof.UpBodyIdeal.lean ====
module

public import proofs.«01_k».proof.Proof.UpRunIdeal
public import proofs.«01_k».proof.Proof.Gen.Kernel2Ideal.Frame
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.WritesUnit
public import Idealize.ShloMosaic.Lib.VecWindow
public import Idealize.ShloMosaic.Lib.Pipeline.ReadBack
public import Idealize.ShloMosaic.Lib.Pointwise

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Whether the row block opens a sequence, as the kernel computes it. -/
def flagOf (a : Fin 8) : BitVec 1 :=
  let v18 : BitVec 1 := Scalar.cmpi .eq 2#32 0#32
  let v19 : BitVec 32 := Scalar.select v18 1#32 2#32
  let v20 : BitVec 32 := Scalar.remsi (BitVec.ofNat 32 a.val) v19
  let v21 : BitVec 1 := Scalar.cmpi .ne v20 0#32
  let v22 : BitVec 1 := Scalar.cmpi .slt v20 0#32
  let v23 : BitVec 1 := Scalar.cmpi .slt v19 0#32
  let v24 : BitVec 1 := Scalar.xori v22 v23
  let v25 : BitVec 1 := Scalar.andi v24 v21
  let v26 : BitVec 32 := Scalar.addi v20 v19
  let v27 : BitVec 32 := Scalar.select v25 v26 v20
  Scalar.cmpi .eq v27 0#32

theorem flagOf_eq : ∀ a : Fin 8, flagOf a = if a.val % 2 = 0 then 1#1 else 0#1 := by decide

/-- The same at a grid point. -/
def flag (i : grid0.Coords) : BitVec 1 := flagOf (i 0)

/-- The lower half of the columns of a block of weights. -/
abbrev lo (x : Vec F S1x2048x512 .f32) : Vec F S1x2048x256 .f32 :=
  View.ld x (Rect.unit (s := S1x2048x512) ![0, 0, 0] S1x2048x256.size inb_S1x2048x512_S1x2048x256_0_0_0)
/-- The upper half of the columns of a block of weights. -/
abbrev hi (x : Vec F S1x2048x512 .f32) : Vec F S1x2048x256 .f32 :=
  View.ld x (Rect.unit (s := S1x2048x512) ![0, 0, 256] S1x2048x256.size inb_S1x2048x512_S1x2048x256_0_0_256)
/-- The halves of a block of convolution weights. -/
abbrev cLo (x : Vec F S3x512 .f32) : Vec F S3x256 .f32 :=
  View.ld x (Rect.unit (s := S3x512) ![0, 0] S3x256.size inb_S3x512_S3x256_0_0)
abbrev cHi (x : Vec F S3x512 .f32) : Vec F S3x256 .f32 :=
  View.ld x (Rect.unit (s := S3x512) ![0, 256] S3x256.size inb_S3x512_S3x256_0_256)
/-- The halves of a block of the convolution's bias. -/
abbrev bLo (x : Vec F S1x512 .f32) : Vec F S1x256 .f32 :=
  View.ld x (Rect.unit (s := S1x512) ![0, 0] S1x256.size inb_S1x512_S1x256_0_0)
abbrev bHi (x : Vec F S1x512 .f32) : Vec F S1x256 .f32 :=
  View.ld x (Rect.unit (s := S1x512) ![0, 256] S1x256.size inb_S1x512_S1x256_0_256)
/-- The halves of a row of carried values. -/
abbrev rLo (x : Vec F S1x8x512 .f32) : Vec F S1x8x256 .f32 :=
  View.ld x (Rect.unit (s := S1x8x512) ![0, 0, 0] S1x8x256.size inb_S1x8x512_S1x8x256_0_0_0)
abbrev rHi (x : Vec F S1x8x512 .f32) : Vec F S1x8x256 .f32 :=
  View.ld x (Rect.unit (s := S1x8x512) ![0, 0, 256] S1x8x256.size inb_S1x8x512_S1x8x256_0_0_256)

/-- The rows' numbers. -/
abbrev rowNo : IVec S1024x256 32 := iota .tc S1024x256 32 [0] iota_S1024x256_d0_w32

/-- What a point stores in the first output's block, last first. -/
def piecesH (fl : BitVec 1) (v3 : Vec F S1024x2048 .bf16) (g0 g1 u0 u1 : Vec F S1x2048x256 .f32) (c0 c1 : Vec F S3x256 .f32)
    (b0 b1 : Vec F S1x256 .f32) (r0 r1 : Vec F S1x8x256 .f32) : List (View.Piece (Elt F) S1024x512 .bf16) :=
  [⟨Rect.unit ![0, 256] S1024x256.size inb_S1024x512_S1024x256_0_256,
      k0_pay1 (k0_pay14 v3 u1) (k0_pay20 (k0_pay13 v3 g1) rowNo (k0_pay15 v3 g1) (k0_pay16 v3 g1) fl r1 c1 b1)⟩,
    ⟨Rect.unit ![0, 0] S1024x256.size inb_S1024x512_S1024x256_0_0,
      k0_pay12 (k0_pay5 v3 u0) (k0_pay11 (k0_pay4 v3 g0) rowNo (k0_pay6 v3 g0) (k0_pay7 v3 g0) fl r0 c0 b0)⟩]

/-- What a point stores in the second output's block, last first. -/
def piecesT (v3 : Vec F S1024x2048 .bf16) (g0 g1 : Vec F S1x2048x256 .f32) : List (View.Piece (Elt F) S1x8x512 .f32) :=
  [⟨Rect.unit ![0, 0, 256] S1x8x256.size inb_S1x8x512_S1x8x256_0_0_256, k0_pay19 (k0_pay13 v3 g1)⟩,
    ⟨Rect.unit ![0, 0, 0] S1x8x256.size inb_S1x8x512_S1x8x256_0_0_0, k0_pay10 (k0_pay4 v3 g0)⟩]

/-- What a point leaves in the first output's block. -/
def outH (fl : BitVec 1) (v3 : Vec F S1024x2048 .bf16) (x2 x3 : Vec F S1x2048x512 .f32) (x4 : Vec F S3x512 .f32) (x5 : Vec F S1x512 .f32)
    (row : Vec F S1x8x512 .f32) : Vec F S1024x512 .bf16 :=
  View.canon (piecesH fl v3 (lo x2) (hi x2) (lo x3) (hi x3) (cLo x4) (cHi x4) (bLo x5) (bHi x5) (rLo row) (rHi row))

/-- What a point leaves in the second output's block. -/
def outT (v3 : Vec F S1024x2048 .bf16) (x2 : Vec F S1x2048x512 .f32) : Vec F S1x8x512 .f32 :=
  View.canon (piecesT v3 (lo x2) (hi x2))

theorem coverH (fl : BitVec 1) (v3 : Vec F S1024x2048 .bf16) (g0 g1 u0 u1 : Vec F S1x2048x256 .f32) (c0 c1 : Vec F S3x256 .f32)
    (b0 b1 : Vec F S1x256 .f32) (r0 r1 : Vec F S1x8x256 .f32) (y : S1024x512.Idx) :
    ∃ pc ∈ piecesH fl v3 g0 g1 u0 u1 c0 c1 b0 b1 r0 r1, y ∈ pc.1.set :=
  View.cover_of_tiledL (piecesH fl v3 g0 g1 u0 u1 c0 c1 b0 b1 r0 r1) S1024x256.size (by sl_kernel_rfl) y

theorem coverT (v3 : Vec F S1024x2048 .bf16) (g0 g1 : Vec F S1x2048x256 .f32) (y : S1x8x512.Idx) :
    ∃ pc ∈ piecesT v3 g0 g1, y ∈ pc.1.set :=
  View.cover_of_tiledL (piecesT v3 g0 g1) S1x8x256.size (by sl_kernel_rfl) y

/-- Where a sequence opens, the carried row is not read. -/
theorem pay11_open (v10 : FVec F S1024x256 .f32) (v15 : IVec S1024x256 32) (v16 v17 : FVec F S1024x256 .f32) (r r' : Vec F S1x8x256 .f32)
    (c : Vec F S3x256 .f32) (b : Vec F S1x256 .f32) :
    k0_pay11 v10 v15 v16 v17 1#1 r c b = k0_pay11 v10 v15 v16 v17 1#1 r' c b := rfl
theorem pay20_open (v10 : FVec F S1024x256 .f32) (v15 : IVec S1024x256 32) (v16 v17 : FVec F S1024x256 .f32) (r r' : Vec F S1x8x256 .f32)
    (c : Vec F S3x256 .f32) (b : Vec F S1x256 .f32) :
    k0_pay20 v10 v15 v16 v17 1#1 r c b = k0_pay20 v10 v15 v16 v17 1#1 r' c b := rfl

theorem piecesH_open (v3 : Vec F S1024x2048 .bf16) (g0 g1 u0 u1 : Vec F S1x2048x256 .f32) (c0 c1 : Vec F S3x256 .f32)
    (b0 b1 : Vec F S1x256 .f32) (r0 r1 r0' r1' : Vec F S1x8x256 .f32) :
    piecesH 1#1 v3 g0 g1 u0 u1 c0 c1 b0 b1 r0 r1 = piecesH 1#1 v3 g0 g1 u0 u1 c0 c1 b0 b1 r0' r1' := by
  unfold piecesH
  rw [pay11_open _ _ _ _ r0 r0', pay20_open _ _ _ _ r1 r1']

/-- At the first row block the flag is set. -/
theorem flag_of_zero (i : grid0.Coords) (h : cond0_1 i) : flag i = 1#1 := by
  have key : ∀ a : Fin 8, (Scalar.cmpi .ne (Scalar.extui (Scalar.cmpi .eq (BitVec.ofNat 32 a.val) 0#32)) 0#32 : BitVec 1) = 1#1 → a = 0 := by decide
  have e : i 0 = (0 : Fin 8) := key (i 0) h
  unfold flag
  rw [e, flagOf_eq]
  rfl

theorem piecesH_congr (fl : BitVec 1) {v3 v3' : Vec F S1024x2048 .bf16} {g0 g0' g1 g1' u0 u0' u1 u1' : Vec F S1x2048x256 .f32} {c0 c0' c1 c1' : Vec F S3x256 .f32}
    {b0 b0' b1 b1' : Vec F S1x256 .f32} {r0 r0' r1 r1' : Vec F S1x8x256 .f32}
    (h3 : v3 = v3') (hg0 : g0 = g0') (hg1 : g1 = g1') (hu0 : u0 = u0') (hu1 : u1 = u1') (hc0 : c0 = c0') (hc1 : c1 = c1')
    (hb0 : b0 = b0') (hb1 : b1 = b1') (hr0 : r0 = r0') (hr1 : r1 = r1') :
    piecesH fl v3 g0 g1 u0 u1 c0 c1 b0 b1 r0 r1 = piecesH fl v3' g0' g1' u0' u1' c0' c1' b0' b1' r0' r1' := by
  subst h3 hg0 hg1 hu0 hu1 hc0 hc1 hb0 hb1 hr0 hr1; rfl

theorem piecesT_congr {v3 v3' : Vec F S1024x2048 .bf16} {g0 g0' g1 g1' : Vec F S1x2048x256 .f32}
    (h3 : v3 = v3') (hg0 : g0 = g0') (hg1 : g1 = g1') : piecesT v3 g0 g1 = piecesT v3' g0' g1' := by
  subst h3 hg0 hg1; rfl

/-- A grid point's column of blocks. -/
abbrev col (i : grid0.Coords) : Fin 8 := i 1

/-- Row `a` of the carried values is the row `w`. -/
def RowIs (xs : Vec F S8x8x512 .f32) (a : Fin 8) (w : Vec F S1x8x512 .f32) : Prop :=
  ∀ (r : Fin 8) (k : Fin 512), xs (ix3 a r k) = w (ix3 0 r k)

theorem off2_eq (i : grid0.Coords) : k0_off2 i = ![(i 1).val, 0, 0] := by
  have key : ∀ a : Fin 8, (Scalar.indexCast (BitVec.ofNat 32 a.val) : Index).toNat = a.val := by decide
  show ![(Scalar.indexCast (BitVec.ofNat 32 (i 1).val) : Index).toNat, 0, 0] = _
  rw [key (i 1)]
theorem off1_eq (i : grid0.Coords) : k0_off1 i = ![(i 1).val, 0, 0] := off2_eq i
theorem off3_eq (i : grid0.Coords) : k0_off3 i = ![(i 1).val, 0, 256] := by
  have key : ∀ a : Fin 8, (Scalar.indexCast (BitVec.ofNat 32 a.val) : Index).toNat = a.val := by decide
  show ![(Scalar.indexCast (BitVec.ofNat 32 (i 1).val) : Index).toNat, 0, (256#32 : BitVec 32).toNat] = _
  rw [key (i 1)]; rfl

/-- The two loads of a row held in the carried scratch. -/
theorem row_lo (i : grid0.Coords) (arg11 : Memref sig .tc .vmem S8x8x512 .f32) (harg11 : arg11.IsWhole) (xs1 : Vec F S8x8x512 .f32) (row : Vec F S1x8x512 .f32)
    (h : RowIs xs1 (col i) row) :
    arg11.view.readAt (Elt F) (Rect.unit (s := S8x8x512) (k0_off2 i) S1x8x256.size (k0_off2_inb i)).toLoadRect (harg11.unread xs1) = rLo row := by
  refine funext fun (y : S1x8x256.Idx) => ?_
  refine (harg11.readAt_unread xs1 (Rect.unit (s := S8x8x512) (k0_off2 i) S1x8x256.size (k0_off2_inb i)).toLoadRect y).trans ?_
  have h0 : (y 0).val < 1 := (y 0).isLt
  have e := off2_eq i
  refine (congrArg xs1 (?_ : _ = ix3 (col i) (y 1) ⟨(y 2).val, by have : (y 2).val < 256 := (y 2).isLt; omega⟩)).trans ((h _ _).trans (congrArg row ?_))
  · funext a
    refine Fin.ext ?_
    show k0_off2 i a + 1 * (y a).val = _
    match a with
    | ⟨0, _⟩ => exact (congrArg (· + 1 * (y 0).val) (congrFun e 0)).trans (by show (i 1).val + 1 * (y 0).val = (i 1).val; omega)
    | ⟨1, _⟩ => exact (congrArg (· + 1 * (y 1).val) (congrFun e 1)).trans (by show 0 + 1 * (y 1).val = (y 1).val; omega)
    | ⟨2, _⟩ => exact (congrArg (· + 1 * (y 2).val) (congrFun e 2)).trans (by show 0 + 1 * (y 2).val = (y 2).val; omega)
  · funext a
    refine Fin.ext ?_
    match a with
    | ⟨0, _⟩ => show 0 = 0 + 1 * (y 0).val; omega
    | ⟨1, _⟩ => show (y 1).val = 0 + 1 * (y 1).val; omega
    | ⟨2, _⟩ => show (y 2).val = 0 + 1 * (y 2).val; omega

theorem row_hi (i : grid0.Coords) (arg11 : Memref sig .tc .vmem S8x8x512 .f32) (harg11 : arg11.IsWhole) (xs1 : Vec F S8x8x512 .f32) (row : Vec F S1x8x512 .f32)
    (h : RowIs xs1 (col i) row) :
    arg11.view.readAt (Elt F) (Rect.unit (s := S8x8x512) (k0_off3 i) S1x8x256.size (k0_off3_inb i)).toLoadRect (harg11.unread xs1) = rHi row := by
  refine funext fun (y : S1x8x256.Idx) => ?_
  refine (harg11.readAt_unread xs1 (Rect.unit (s := S8x8x512) (k0_off3 i) S1x8x256.size (k0_off3_inb i)).toLoadRect y).trans ?_
  have h0 : (y 0).val < 1 := (y 0).isLt
  have e := off3_eq i
  refine (congrArg xs1 (?_ : _ = ix3 (col i) (y 1) ⟨256 + (y 2).val, by have : (y 2).val < 256 := (y 2).isLt; omega⟩)).trans ((h _ _).trans (congrArg row ?_))
  · funext a
    refine Fin.ext ?_
    show k0_off3 i a + 1 * (y a).val = _
    match a with
    | ⟨0, _⟩ => exact (congrArg (· + 1 * (y 0).val) (congrFun e 0)).trans (by show (i 1).val + 1 * (y 0).val = (i 1).val; omega)
    | ⟨1, _⟩ => exact (congrArg (· + 1 * (y 1).val) (congrFun e 1)).trans (by show 0 + 1 * (y 1).val = (y 1).val; omega)
    | ⟨2, _⟩ => exact (congrArg (· + 1 * (y 2).val) (congrFun e 2)).trans (by show 256 + 1 * (y 2).val = 256 + (y 2).val; omega)
  · funext a
    refine Fin.ext ?_
    match a with
    | ⟨0, _⟩ => show 0 = 0 + 1 * (y 0).val; omega
    | ⟨1, _⟩ => show (y 1).val = 0 + 1 * (y 1).val; omega
    | ⟨2, _⟩ => show 256 + (y 2).val = 256 + 1 * (y 2).val; omega

/-- The tail's two halves. -/
theorem outT_lo (v3 : Vec F S1024x2048 .bf16) (x2 : Vec F S1x2048x512 .f32) (r : Fin 8) (k : Fin 512) (h : k.val < 256) :
    outT v3 x2 (ix3 0 r k) = k0_pay10 (k0_pay4 v3 (lo x2)) (ix3 0 r ⟨k.val, h⟩) := by
  unfold outT
  rw [← View.read_writes_junk_eq_canon (View.whole cc0_stg7_0)]
  unfold piecesT
  rw [View.read_writes_cons_unit_of_not_mem (View.whole cc0_stg7_0) _ _ _ _ _ rfl (2 : Fin 3) (Or.inl h)]
  exact View.read_writes_cons_unit_of_mem (View.whole cc0_stg7_0) _ _ _ _ _ (ix3 0 r ⟨k.val, h⟩) rfl (fun a => by
    match a with
    | ⟨0, _⟩ => rfl
    | ⟨1, _⟩ => exact (Nat.zero_add _).symm
    | ⟨2, _⟩ => exact (Nat.zero_add _).symm)
theorem outT_hi (v3 : Vec F S1024x2048 .bf16) (x2 : Vec F S1x2048x512 .f32) (r : Fin 8) (k : Fin 512) (h : 256 ≤ k.val) :
    outT v3 x2 (ix3 0 r k) = k0_pay19 (k0_pay13 v3 (hi x2)) (ix3 0 r ⟨k.val - 256, by have := k.isLt; omega⟩) := by
  unfold outT
  rw [← View.read_writes_junk_eq_canon (View.whole cc0_stg7_0)]
  unfold piecesT
  exact View.read_writes_cons_unit_of_mem (View.whole cc0_stg7_0) _ _ _ _ _ (ix3 0 r ⟨k.val - 256, by have := k.isLt; omega⟩) rfl (fun a => by
    match a with
    | ⟨0, _⟩ => rfl
    | ⟨1, _⟩ => exact (Nat.zero_add _).symm
    | ⟨2, _⟩ => exact (Nat.add_sub_of_le h).symm)

/-- What the carried scratch reads after a point: its own row the tail stored, the other rows as they were. -/
theorem rows_after (i : grid0.Coords) (v : View sig .tc .vmem S8x8x512 .f32) (f : v.ty.Contents (Elt F))
    (v3 : Vec F S1024x2048 .bf16) (x2 : Vec F S1x2048x512 .f32) (L : List (View.Piece (Elt F) S8x8x512 .f32))
    (hL : ∀ (a : Fin 8), a ≠ col i → ∀ r k, v.read (Elt F) (v.writes (Elt F) f L) (ix3 a r k) = v.read (Elt F) f (ix3 a r k))
    (a r : Fin 8) (k : Fin 512) :
    v.read (Elt F) (v.writes (Elt F) f
        ((⟨Rect.unit (s := S8x8x512) (k0_off3 i) S1x8x256.size (k0_off3_inb i), k0_pay18 (k0_pay13 v3 (hi x2))⟩ : View.Piece (Elt F) S8x8x512 .f32) ::
          (⟨Rect.unit (s := S8x8x512) (k0_off2 i) S1x8x256.size (k0_off2_inb i), k0_pay9 (k0_pay4 v3 (lo x2))⟩ : View.Piece (Elt F) S8x8x512 .f32) :: L)) (ix3 a r k)
      = if a = col i then outT v3 x2 (ix3 0 r k) else v.read (Elt F) f (ix3 a r k) := by
  by_cases ha : a = col i
  · rw [if_pos ha]
    by_cases hk : k.val < 256
    · rw [outT_lo _ _ _ _ hk, View.read_writes_cons_unit_of_not_mem v f _ _ _ _ (off3_eq i) (2 : Fin 3) (Or.inl hk)]
      exact View.read_writes_cons_unit_of_mem v f _ _ _ _ (ix3 0 r ⟨k.val, hk⟩) (off2_eq i) (fun b => by
        match b with
        | ⟨0, _⟩ => exact congrArg Fin.val ha
        | ⟨1, _⟩ => exact (Nat.zero_add _).symm
        | ⟨2, _⟩ => exact (Nat.zero_add _).symm)
    · rw [outT_hi _ _ _ _ (Nat.le_of_not_lt hk)]
      exact View.read_writes_cons_unit_of_mem v f _ _ _ _ (ix3 0 r ⟨k.val - 256, by have := k.isLt; omega⟩) (off3_eq i) (fun b => by
        match b with
        | ⟨0, _⟩ => exact congrArg Fin.val ha
        | ⟨1, _⟩ => exact (Nat.zero_add _).symm
        | ⟨2, _⟩ => exact (Nat.add_sub_of_le (Nat.le_of_not_lt hk)).symm)
  · have hv : a.val ≠ (i 1).val := fun h => ha (Fin.ext h)
    rw [if_neg ha, View.read_writes_cons_unit_of_not_mem v f _ _ _ _ (off3_eq i) (0 : Fin 3) (by
        show a.val < (i 1).val ∨ (i 1).val + 1 ≤ a.val; omega),
      View.read_writes_cons_unit_of_not_mem v f _ _ _ _ (off2_eq i) (0 : Fin 3) (by
        show a.val < (i 1).val ∨ (i 1).val + 1 ≤ a.val; omega)]
    exact hL a ha r k

/-- What a point stores in the carried scratch, last first, over what it stored there before. -/
def piecesS (i : grid0.Coords) (v3 : Vec F S1024x2048 .bf16) (g0 g1 : Vec F S1x2048x256 .f32) (L : List (View.Piece (Elt F) S8x8x512 .f32)) :
    List (View.Piece (Elt F) S8x8x512 .f32) :=
  (⟨Rect.unit (s := S8x8x512) (k0_off3 i) S1x8x256.size (k0_off3_inb i), k0_pay18 (k0_pay13 v3 g1)⟩ : View.Piece (Elt F) S8x8x512 .f32) ::
    (⟨Rect.unit (s := S8x8x512) (k0_off2 i) S1x8x256.size (k0_off2_inb i), k0_pay9 (k0_pay4 v3 g0)⟩ : View.Piece (Elt F) S8x8x512 .f32) :: L

theorem piecesS_congr (i : grid0.Coords) (L : List (View.Piece (Elt F) S8x8x512 .f32)) {v3 v3' : Vec F S1024x2048 .bf16} {g0 g0' g1 g1' : Vec F S1x2048x256 .f32}
    (h3 : v3 = v3') (hg0 : g0 = g0') (hg1 : g1 = g1') : piecesS i v3 g0 g1 L = piecesS i v3' g0' g1' L := by
  subst h3 hg0 hg1; rfl

/-- The fill of a row with zeros, at the first row block. -/
def fill (i : grid0.Coords) (hc1 : cond0_1 i) : List (View.Piece (Elt F) S8x8x512 .f32) :=
  [⟨Rect.unit (s := S8x8x512) (k0_off1 i) S1x8x512.size (k0_off1_inb i hc1), k0_pay3 (F := F)⟩]

theorem fill_off (i : grid0.Coords) (hc1 : cond0_1 i) (v : View sig .tc .vmem S8x8x512 .f32) (f : v.ty.Contents (Elt F)) (a : Fin 8) (ha : a ≠ col i) (r : Fin 8) (k : Fin 512) :
    v.read (Elt F) (v.writes (Elt F) f (fill (F := F) i hc1)) (ix3 a r k) = v.read (Elt F) f (ix3 a r k) := by
  have hv : a.val ≠ (i 1).val := fun h => ha (Fin.ext h)
  exact View.read_writes_cons_unit_of_not_mem v f _ _ _ _ (off1_eq i) (0 : Fin 3) (by
    show a.val < (i 1).val ∨ (i 1).val + 1 ≤ a.val; omega)

/-- A load of a whole memref at contents that read `X` reads `X`. -/
theorem rd_whole {s : Shape} {e : EltTy} {off : Fin s.rank → ℕ} {arg : Memref sig .tc .vmem s e} (h : arg.IsWhole) (inb : ∀ a, off a + s.size a ≤ s.size a) (x : Vec F s e) :
    arg.view.readAt (Elt F) (Rect.unit (s := s) off s.size inb).toLoadRect (h.unread x) = x := by
  rw [View.readAt_full]
  exact h.read_unread x

theorem v3_new (arg2 : Memref sig .tc .vmem S1024x2048 .f32) (harg2 : arg2.IsWhole) (arg3 : Memref sig .tc .vmem S1x2048 .f32) (harg3 : arg3.IsWhole) (arg10 : Memref sig .tc .vmem S1024x2048 .bf16)
    (x0 : Vec F S1024x2048 .f32) (x1 : Vec F S1x2048 .f32) :
    View.readCov (Val := Elt F) arg10.view [⟨Rect.unit (s := S1024x2048) ![0, 0] S1024x2048.size inb_S1024x2048_S1024x2048_0_0,
      k0_pay2 (arg2.view.readAt (Elt F) (Rect.unit (s := S1024x2048) ![0, 0] S1024x2048.size inb_S1024x2048_S1024x2048_0_0).toLoadRect (harg2.unread x0))
        (arg3.view.readAt (Elt F) (Rect.unit (s := S1x2048) ![0, 0] S1x2048.size inb_S1x2048_S1x2048_0_0).toLoadRect (harg3.unread x1))⟩]
      (Rect.unit (s := S1024x2048) ![0, 0] S1024x2048.size inb_S1024x2048_S1024x2048_0_0).toLoadRect = k0_pay2 x0 x1 :=
  (View.readCov_cons_toLoadRect _ _ _ _).trans (congrArg₂ k0_pay2 (rd_whole harg2 _ x0) (rd_whole harg3 _ x1))

theorem runA_H (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1024x512 .bf16) (harg8 : arg8.IsWhole) (arg9 : Memref sig .tc .vmem S1x8x512 .f32) (harg9 : arg9.IsWhole) (arg10 : Memref sig .tc .vmem S1024x2048 .bf16) (harg10 : arg10.IsWhole) (arg11 : Memref sig .tc .vmem S8x8x512 .f32) (harg11 : arg11.IsWhole) (hc0 : cond0_0 i) (hc1 : cond0_1 i)
    (x0 : Vec F S1024x2048 .f32) (x1 : Vec F S1x2048 .f32) (x2 : Vec F S1x2048x512 .f32) (x3 : Vec F S1x2048x512 .f32) (x4 : Vec F S3x512 .f32) (x5 : Vec F S1x512 .f32) (xs1 : Vec F S8x8x512 .f32) (row : Vec F S1x8x512 .f32) :
    (runA c i arg2 harg2 arg3 harg3 arg4 harg4 arg5 harg5 arg6 harg6 arg7 harg7 arg8 harg8 arg9 harg9 arg10 harg10 arg11 harg11 hc0 hc1 x0 x1 x2 x3 x4 x5 xs1).1 = piecesH (flag i) (k0_pay2 x0 x1) (lo x2) (hi x2) (lo x3) (hi x3) (cLo x4) (cHi x4) (bLo x5) (bHi x5) (rLo row) (rHi row) := by
  refine (show _ = piecesH (flag i) _ _ _ _ _ _ _ _ _ _ _ from rfl).trans ?_
  rw [flag_of_zero i hc1]
  refine (piecesH_open _ _ _ _ _ _ _ _ _ _ _ (rLo row) (rHi row)).trans ?_
  exact piecesH_congr _ (v3_new arg2 harg2 arg3 harg3 arg10 x0 x1) (funext fun y => harg4.readAt_unread x2 _ y) (funext fun y => harg4.readAt_unread x2 _ y)
      (funext fun y => harg5.readAt_unread x3 _ y) (funext fun y => harg5.readAt_unread x3 _ y)
      (funext fun y => harg6.readAt_unread x4 _ y) (funext fun y => harg6.readAt_unread x4 _ y)
      (funext fun y => harg7.readAt_unread x5 _ y) (funext fun y => harg7.readAt_unread x5 _ y) rfl rfl

theorem runA_T (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1024x512 .bf16) (harg8 : arg8.IsWhole) (arg9 : Memref sig .tc .vmem S1x8x512 .f32) (harg9 : arg9.IsWhole) (arg10 : Memref sig .tc .vmem S1024x2048 .bf16) (harg10 : arg10.IsWhole) (arg11 : Memref sig .tc .vmem S8x8x512 .f32) (harg11 : arg11.IsWhole) (hc0 : cond0_0 i) (hc1 : cond0_1 i)
    (x0 : Vec F S1024x2048 .f32) (x1 : Vec F S1x2048 .f32) (x2 : Vec F S1x2048x512 .f32) (x3 : Vec F S1x2048x512 .f32) (x4 : Vec F S3x512 .f32) (x5 : Vec F S1x512 .f32) (xs1 : Vec F S8x8x512 .f32) :
    (runA c i arg2 harg2 arg3 harg3 arg4 harg4 arg5 harg5 arg6 harg6 arg7 harg7 arg8 harg8 arg9 harg9 arg10 harg10 arg11 harg11 hc0 hc1 x0 x1 x2 x3 x4 x5 xs1).2.1 = piecesT (k0_pay2 x0 x1) (lo x2) (hi x2) := by
  refine (show _ = piecesT _ _ _ from rfl).trans ?_
  exact piecesT_congr (v3_new arg2 harg2 arg3 harg3 arg10 x0 x1) (funext fun y => harg4.readAt_unread x2 _ y) (funext fun y => harg4.readAt_unread x2 _ y)

theorem runA_S (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1024x512 .bf16) (harg8 : arg8.IsWhole) (arg9 : Memref sig .tc .vmem S1x8x512 .f32) (harg9 : arg9.IsWhole) (arg10 : Memref sig .tc .vmem S1024x2048 .bf16) (harg10 : arg10.IsWhole) (arg11 : Memref sig .tc .vmem S8x8x512 .f32) (harg11 : arg11.IsWhole) (hc0 : cond0_0 i) (hc1 : cond0_1 i)
    (x0 : Vec F S1024x2048 .f32) (x1 : Vec F S1x2048 .f32) (x2 : Vec F S1x2048x512 .f32) (x3 : Vec F S1x2048x512 .f32) (x4 : Vec F S3x512 .f32) (x5 : Vec F S1x512 .f32) (xs1 : Vec F S8x8x512 .f32) :
    (runA c i arg2 harg2 arg3 harg3 arg4 harg4 arg5 harg5 arg6 harg6 arg7 harg7 arg8 harg8 arg9 harg9 arg10 harg10 arg11 harg11 hc0 hc1 x0 x1 x2 x3 x4 x5 xs1).2.2.2.1 = piecesS i (k0_pay2 x0 x1) (lo x2) (hi x2) (fill i hc1) := by
  refine (show _ = piecesS i _ _ _ (fill i hc1) from rfl).trans ?_
  exact piecesS_congr i _ (v3_new arg2 harg2 arg3 harg3 arg10 x0 x1) (funext fun y => harg4.readAt_unread x2 _ y) (funext fun y => harg4.readAt_unread x2 _ y)

theorem runA_X (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1024x512 .bf16) (harg8 : arg8.IsWhole) (arg9 : Memref sig .tc .vmem S1x8x512 .f32) (harg9 : arg9.IsWhole) (arg10 : Memref sig .tc .vmem S1024x2048 .bf16) (harg10 : arg10.IsWhole) (arg11 : Memref sig .tc .vmem S8x8x512 .f32) (harg11 : arg11.IsWhole) (hc0 : cond0_0 i) (hc1 : cond0_1 i)
    (x0 : Vec F S1024x2048 .f32) (x1 : Vec F S1x2048 .f32) (x2 : Vec F S1x2048x512 .f32) (x3 : Vec F S1x2048x512 .f32) (x4 : Vec F S3x512 .f32) (x5 : Vec F S1x512 .f32) (xs1 : Vec F S8x8x512 .f32) (f : arg10.view.ty.Contents (Elt F)) :
    arg10.view.read (Elt F) (arg10.view.writes (Elt F) f (runA c i arg2 harg2 arg3 harg3 arg4 harg4 arg5 harg5 arg6 harg6 arg7 harg7 arg8 harg8 arg9 harg9 arg10 harg10 arg11 harg11 hc0 hc1 x0 x1 x2 x3 x4 x5 xs1).2.2.1) = (k0_pay2 x0 x1) := by
  refine (show _ = arg10.view.read (Elt F) (arg10.view.writes (Elt F) f [⟨Rect.unit (s := S1024x2048) ![0, 0] S1024x2048.size inb_S1024x2048_S1024x2048_0_0, k0_pay2 _ _⟩]) from rfl).trans ?_
  refine (View.read_writes_full _ _ _ _ _).trans ?_
  exact congrArg₂ k0_pay2 (rd_whole harg2 _ x0) (rd_whole harg3 _ x1)

theorem runB_H (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1024x512 .bf16) (harg8 : arg8.IsWhole) (arg9 : Memref sig .tc .vmem S1x8x512 .f32) (harg9 : arg9.IsWhole) (arg10 : Memref sig .tc .vmem S1024x2048 .bf16) (harg10 : arg10.IsWhole) (arg11 : Memref sig .tc .vmem S8x8x512 .f32) (harg11 : arg11.IsWhole) (hc0 : cond0_0 i) (hc1 : ¬cond0_1 i)
    (x0 : Vec F S1024x2048 .f32) (x1 : Vec F S1x2048 .f32) (x2 : Vec F S1x2048x512 .f32) (x3 : Vec F S1x2048x512 .f32) (x4 : Vec F S3x512 .f32) (x5 : Vec F S1x512 .f32) (xs1 : Vec F S8x8x512 .f32) (row : Vec F S1x8x512 .f32) (h : RowIs xs1 (col i) row) :
    (runB c i arg2 harg2 arg3 harg3 arg4 harg4 arg5 harg5 arg6 harg6 arg7 harg7 arg8 harg8 arg9 harg9 arg10 harg10 arg11 harg11 hc0 hc1 x0 x1 x2 x3 x4 x5 xs1).1 = piecesH (flag i) (k0_pay2 x0 x1) (lo x2) (hi x2) (lo x3) (hi x3) (cLo x4) (cHi x4) (bLo x5) (bHi x5) (rLo row) (rHi row) := by
  refine (show _ = piecesH (flag i) _ _ _ _ _ _ _ _ _ _ _ from rfl).trans ?_
  exact piecesH_congr _ (v3_new arg2 harg2 arg3 harg3 arg10 x0 x1) (funext fun y => harg4.readAt_unread x2 _ y) (funext fun y => harg4.readAt_unread x2 _ y)
      (funext fun y => harg5.readAt_unread x3 _ y) (funext fun y => harg5.readAt_unread x3 _ y)
      (funext fun y => harg6.readAt_unread x4 _ y) (funext fun y => harg6.readAt_unread x4 _ y)
      (funext fun y => harg7.readAt_unread x5 _ y) (funext fun y => harg7.readAt_unread x5 _ y) (row_lo i arg11 harg11 xs1 row h) (row_hi i arg11 harg11 xs1 row h)

theorem runB_T (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1024x512 .bf16) (harg8 : arg8.IsWhole) (arg9 : Memref sig .tc .vmem S1x8x512 .f32) (harg9 : arg9.IsWhole) (arg10 : Memref sig .tc .vmem S1024x2048 .bf16) (harg10 : arg10.IsWhole) (arg11 : Memref sig .tc .vmem S8x8x512 .f32) (harg11 : arg11.IsWhole) (hc0 : cond0_0 i) (hc1 : ¬cond0_1 i)
    (x0 : Vec F S1024x2048 .f32) (x1 : Vec F S1x2048 .f32) (x2 : Vec F S1x2048x512 .f32) (x3 : Vec F S1x2048x512 .f32) (x4 : Vec F S3x512 .f32) (x5 : Vec F S1x512 .f32) (xs1 : Vec F S8x8x512 .f32) :
    (runB c i arg2 harg2 arg3 harg3 arg4 harg4 arg5 harg5 arg6 harg6 arg7 harg7 arg8 harg8 arg9 harg9 arg10 harg10 arg11 harg11 hc0 hc1 x0 x1 x2 x3 x4 x5 xs1).2.1 = piecesT (k0_pay2 x0 x1) (lo x2) (hi x2) := by
  refine (show _ = piecesT _ _ _ from rfl).trans ?_
  exact piecesT_congr (v3_new arg2 harg2 arg3 harg3 arg10 x0 x1) (funext fun y => harg4.readAt_unread x2 _ y) (funext fun y => harg4.readAt_unread x2 _ y)

theorem runB_S (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1024x512 .bf16) (harg8 : arg8.IsWhole) (arg9 : Memref sig .tc .vmem S1x8x512 .f32) (harg9 : arg9.IsWhole) (arg10 : Memref sig .tc .vmem S1024x2048 .bf16) (harg10 : arg10.IsWhole) (arg11 : Memref sig .tc .vmem S8x8x512 .f32) (harg11 : arg11.IsWhole) (hc0 : cond0_0 i) (hc1 : ¬cond0_1 i)
    (x0 : Vec F S1024x2048 .f32) (x1 : Vec F S1x2048 .f32) (x2 : Vec F S1x2048x512 .f32) (x3 : Vec F S1x2048x512 .f32) (x4 : Vec F S3x512 .f32) (x5 : Vec F S1x512 .f32) (xs1 : Vec F S8x8x512 .f32) :
    (runB c i arg2 harg2 arg3 harg3 arg4 harg4 arg5 harg5 arg6 harg6 arg7 harg7 arg8 harg8 arg9 harg9 arg10 harg10 arg11 harg11 hc0 hc1 x0 x1 x2 x3 x4 x5 xs1).2.2.2.1 = piecesS i (k0_pay2 x0 x1) (lo x2) (hi x2) [] := by
  refine (show _ = piecesS i _ _ _ [] from rfl).trans ?_
  exact piecesS_congr i _ (v3_new arg2 harg2 arg3 harg3 arg10 x0 x1) (funext fun y => harg4.readAt_unread x2 _ y) (funext fun y => harg4.readAt_unread x2 _ y)

theorem runB_X (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1024x512 .bf16) (harg8 : arg8.IsWhole) (arg9 : Memref sig .tc .vmem S1x8x512 .f32) (harg9 : arg9.IsWhole) (arg10 : Memref sig .tc .vmem S1024x2048 .bf16) (harg10 : arg10.IsWhole) (arg11 : Memref sig .tc .vmem S8x8x512 .f32) (harg11 : arg11.IsWhole) (hc0 : cond0_0 i) (hc1 : ¬cond0_1 i)
    (x0 : Vec F S1024x2048 .f32) (x1 : Vec F S1x2048 .f32) (x2 : Vec F S1x2048x512 .f32) (x3 : Vec F S1x2048x512 .f32) (x4 : Vec F S3x512 .f32) (x5 : Vec F S1x512 .f32) (xs1 : Vec F S8x8x512 .f32) (f : arg10.view.ty.Contents (Elt F)) :
    arg10.view.read (Elt F) (arg10.view.writes (Elt F) f (runB c i arg2 harg2 arg3 harg3 arg4 harg4 arg5 harg5 arg6 harg6 arg7 harg7 arg8 harg8 arg9 harg9 arg10 harg10 arg11 harg11 hc0 hc1 x0 x1 x2 x3 x4 x5 xs1).2.2.1) = (k0_pay2 x0 x1) := by
  refine (show _ = arg10.view.read (Elt F) (arg10.view.writes (Elt F) f [⟨Rect.unit (s := S1024x2048) ![0, 0] S1024x2048.size inb_S1024x2048_S1024x2048_0_0, k0_pay2 _ _⟩]) from rfl).trans ?_
  refine (View.read_writes_full _ _ _ _ _).trans ?_
  exact congrArg₂ k0_pay2 (rd_whole harg2 _ x0) (rd_whole harg3 _ x1)

theorem runC_H (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1024x512 .bf16) (harg8 : arg8.IsWhole) (arg9 : Memref sig .tc .vmem S1x8x512 .f32) (harg9 : arg9.IsWhole) (arg10 : Memref sig .tc .vmem S1024x2048 .bf16) (harg10 : arg10.IsWhole) (arg11 : Memref sig .tc .vmem S8x8x512 .f32) (harg11 : arg11.IsWhole) (hc0 : ¬cond0_0 i) (hc1 : cond0_1 i)
    (x0 : Vec F S1024x2048 .f32) (x1 : Vec F S1x2048 .f32) (x2 : Vec F S1x2048x512 .f32) (x3 : Vec F S1x2048x512 .f32) (x4 : Vec F S3x512 .f32) (x5 : Vec F S1x512 .f32) (xs0 : Vec F S1024x2048 .bf16) (xs1 : Vec F S8x8x512 .f32) (row : Vec F S1x8x512 .f32) :
    (runC c i arg2 harg2 arg3 harg3 arg4 harg4 arg5 harg5 arg6 harg6 arg7 harg7 arg8 harg8 arg9 harg9 arg10 harg10 arg11 harg11 hc0 hc1 x0 x1 x2 x3 x4 x5 xs0 xs1).1 = piecesH (flag i) xs0 (lo x2) (hi x2) (lo x3) (hi x3) (cLo x4) (cHi x4) (bLo x5) (bHi x5) (rLo row) (rHi row) := by
  refine (show _ = piecesH (flag i) _ _ _ _ _ _ _ _ _ _ _ from rfl).trans ?_
  rw [flag_of_zero i hc1]
  refine (piecesH_open _ _ _ _ _ _ _ _ _ _ _ (rLo row) (rHi row)).trans ?_
  exact piecesH_congr _ (rd_whole harg10 _ xs0) (funext fun y => harg4.readAt_unread x2 _ y) (funext fun y => harg4.readAt_unread x2 _ y)
      (funext fun y => harg5.readAt_unread x3 _ y) (funext fun y => harg5.readAt_unread x3 _ y)
      (funext fun y => harg6.readAt_unread x4 _ y) (funext fun y => harg6.readAt_unread x4 _ y)
      (funext fun y => harg7.readAt_unread x5 _ y) (funext fun y => harg7.readAt_unread x5 _ y) rfl rfl

theorem runC_T (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1024x512 .bf16) (harg8 : arg8.IsWhole) (arg9 : Memref sig .tc .vmem S1x8x512 .f32) (harg9 : arg9.IsWhole) (arg10 : Memref sig .tc .vmem S1024x2048 .bf16) (harg10 : arg10.IsWhole) (arg11 : Memref sig .tc .vmem S8x8x512 .f32) (harg11 : arg11.IsWhole) (hc0 : ¬cond0_0 i) (hc1 : cond0_1 i)
    (x0 : Vec F S1024x2048 .f32) (x1 : Vec F S1x2048 .f32) (x2 : Vec F S1x2048x512 .f32) (x3 : Vec F S1x2048x512 .f32) (x4 : Vec F S3x512 .f32) (x5 : Vec F S1x512 .f32) (xs0 : Vec F S1024x2048 .bf16) (xs1 : Vec F S8x8x512 .f32) :
    (runC c i arg2 harg2 arg3 harg3 arg4 harg4 arg5 harg5 arg6 harg6 arg7 harg7 arg8 harg8 arg9 harg9 arg10 harg10 arg11 harg11 hc0 hc1 x0 x1 x2 x3 x4 x5 xs0 xs1).2.1 = piecesT xs0 (lo x2) (hi x2) := by
  refine (show _ = piecesT _ _ _ from rfl).trans ?_
  exact piecesT_congr (rd_whole harg10 _ xs0) (funext fun y => harg4.readAt_unread x2 _ y) (funext fun y => harg4.readAt_unread x2 _ y)

theorem runC_S (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1024x512 .bf16) (harg8 : arg8.IsWhole) (arg9 : Memref sig .tc .vmem S1x8x512 .f32) (harg9 : arg9.IsWhole) (arg10 : Memref sig .tc .vmem S1024x2048 .bf16) (harg10 : arg10.IsWhole) (arg11 : Memref sig .tc .vmem S8x8x512 .f32) (harg11 : arg11.IsWhole) (hc0 : ¬cond0_0 i) (hc1 : cond0_1 i)
    (x0 : Vec F S1024x2048 .f32) (x1 : Vec F S1x2048 .f32) (x2 : Vec F S1x2048x512 .f32) (x3 : Vec F S1x2048x512 .f32) (x4 : Vec F S3x512 .f32) (x5 : Vec F S1x512 .f32) (xs0 : Vec F S1024x2048 .bf16) (xs1 : Vec F S8x8x512 .f32) :
    (runC c i arg2 harg2 arg3 harg3 arg4 harg4 arg5 harg5 arg6 harg6 arg7 harg7 arg8 harg8 arg9 harg9 arg10 harg10 arg11 harg11 hc0 hc1 x0 x1 x2 x3 x4 x5 xs0 xs1).2.2.1 = piecesS i xs0 (lo x2) (hi x2) (fill i hc1) := by
  refine (show _ = piecesS i _ _ _ (fill i hc1) from rfl).trans ?_
  exact piecesS_congr i _ (rd_whole harg10 _ xs0) (funext fun y => harg4.readAt_unread x2 _ y) (funext fun y => harg4.readAt_unread x2 _ y)

theorem runD_H (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1024x512 .bf16) (harg8 : arg8.IsWhole) (arg9 : Memref sig .tc .vmem S1x8x512 .f32) (harg9 : arg9.IsWhole) (arg10 : Memref sig .tc .vmem S1024x2048 .bf16) (harg10 : arg10.IsWhole) (arg11 : Memref sig .tc .vmem S8x8x512 .f32) (harg11 : arg11.IsWhole) (hc0 : ¬cond0_0 i) (hc1 : ¬cond0_1 i)
    (x0 : Vec F S1024x2048 .f32) (x1 : Vec F S1x2048 .f32) (x2 : Vec F S1x2048x512 .f32) (x3 : Vec F S1x2048x512 .f32) (x4 : Vec F S3x512 .f32) (x5 : Vec F S1x512 .f32) (xs0 : Vec F S1024x2048 .bf16) (xs1 : Vec F S8x8x512 .f32) (row : Vec F S1x8x512 .f32) (h : RowIs xs1 (col i) row) :
    (runD c i arg2 harg2 arg3 harg3 arg4 harg4 arg5 harg5 arg6 harg6 arg7 harg7 arg8 harg8 arg9 harg9 arg10 harg10 arg11 harg11 hc0 hc1 x0 x1 x2 x3 x4 x5 xs0 xs1).1 = piecesH (flag i) xs0 (lo x2) (hi x2) (lo x3) (hi x3) (cLo x4) (cHi x4) (bLo x5) (bHi x5) (rLo row) (rHi row) := by
  refine (show _ = piecesH (flag i) _ _ _ _ _ _ _ _ _ _ _ from rfl).trans ?_
  exact piecesH_congr _ (rd_whole harg10 _ xs0) (funext fun y => harg4.readAt_unread x2 _ y) (funext fun y => harg4.readAt_unread x2 _ y)
      (funext fun y => harg5.readAt_unread x3 _ y) (funext fun y => harg5.readAt_unread x3 _ y)
      (funext fun y => harg6.readAt_unread x4 _ y) (funext fun y => harg6.readAt_unread x4 _ y)
      (funext fun y => harg7.readAt_unread x5 _ y) (funext fun y => harg7.readAt_unread x5 _ y) (row_lo i arg11 harg11 xs1 row h) (row_hi i arg11 harg11 xs1 row h)

theorem runD_T (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1024x512 .bf16) (harg8 : arg8.IsWhole) (arg9 : Memref sig .tc .vmem S1x8x512 .f32) (harg9 : arg9.IsWhole) (arg10 : Memref sig .tc .vmem S1024x2048 .bf16) (harg10 : arg10.IsWhole) (arg11 : Memref sig .tc .vmem S8x8x512 .f32) (harg11 : arg11.IsWhole) (hc0 : ¬cond0_0 i) (hc1 : ¬cond0_1 i)
    (x0 : Vec F S1024x2048 .f32) (x1 : Vec F S1x2048 .f32) (x2 : Vec F S1x2048x512 .f32) (x3 : Vec F S1x2048x512 .f32) (x4 : Vec F S3x512 .f32) (x5 : Vec F S1x512 .f32) (xs0 : Vec F S1024x2048 .bf16) (xs1 : Vec F S8x8x512 .f32) :
    (runD c i arg2 harg2 arg3 harg3 arg4 harg4 arg5 harg5 arg6 harg6 arg7 harg7 arg8 harg8 arg9 harg9 arg10 harg10 arg11 harg11 hc0 hc1 x0 x1 x2 x3 x4 x5 xs0 xs1).2.1 = piecesT xs0 (lo x2) (hi x2) := by
  refine (show _ = piecesT _ _ _ from rfl).trans ?_
  exact piecesT_congr (rd_whole harg10 _ xs0) (funext fun y => harg4.readAt_unread x2 _ y) (funext fun y => harg4.readAt_unread x2 _ y)

theorem runD_S (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1024x512 .bf16) (harg8 : arg8.IsWhole) (arg9 : Memref sig .tc .vmem S1x8x512 .f32) (harg9 : arg9.IsWhole) (arg10 : Memref sig .tc .vmem S1024x2048 .bf16) (harg10 : arg10.IsWhole) (arg11 : Memref sig .tc .vmem S8x8x512 .f32) (harg11 : arg11.IsWhole) (hc0 : ¬cond0_0 i) (hc1 : ¬cond0_1 i)
    (x0 : Vec F S1024x2048 .f32) (x1 : Vec F S1x2048 .f32) (x2 : Vec F S1x2048x512 .f32) (x3 : Vec F S1x2048x512 .f32) (x4 : Vec F S3x512 .f32) (x5 : Vec F S1x512 .f32) (xs0 : Vec F S1024x2048 .bf16) (xs1 : Vec F S8x8x512 .f32) :
    (runD c i arg2 harg2 arg3 harg3 arg4 harg4 arg5 harg5 arg6 harg6 arg7 harg7 arg8 harg8 arg9 harg9 arg10 harg10 arg11 harg11 hc0 hc1 x0 x1 x2 x3 x4 x5 xs0 xs1).2.2.1 = piecesS i xs0 (lo x2) (hi x2) [] := by
  refine (show _ = piecesS i _ _ _ [] from rfl).trans ?_
  exact piecesS_congr i _ (rd_whole harg10 _ xs0) (funext fun y => harg4.readAt_unread x2 _ y) (funext fun y => harg4.readAt_unread x2 _ y)

set_option maxHeartbeats 1000000 in
/-- The body when the first branch is taken and the second taken: what it leaves. -/
theorem bodyA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1024x512 .bf16) (harg8 : arg8.IsWhole) (arg9 : Memref sig .tc .vmem S1x8x512 .f32) (harg9 : arg9.IsWhole) (arg10 : Memref sig .tc .vmem S1024x2048 .bf16) (harg10 : arg10.IsWhole) (arg11 : Memref sig .tc .vmem S8x8x512 .f32) (harg11 : arg11.IsWhole) (hc0 : cond0_0 i) (hc1 : cond0_1 i)
    (x0 : Vec F S1024x2048 .f32) (x1 : Vec F S1x2048 .f32) (x2 : Vec F S1x2048x512 .f32) (x3 : Vec F S1x2048x512 .f32) (x4 : Vec F S3x512 .f32) (x5 : Vec F S1x512 .f32) (xs1 : Vec F S8x8x512 .f32) (row : Vec F S1x8x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outH (flag i) (k0_pay2 x0 x1) x2 x3 x4 x5 row) ∗ owns (c : Thread nD τ) arg9 fullShare (outT (k0_pay2 x0 x1) x2) ∗ owns (c : Thread nD τ) arg10 fullShare (k0_pay2 x0 x1)
            ∗ (∃ xs, ⌜∀ (a r : Fin 8) (k : Fin 512), xs (ix3 a r k) = if a = col i then outT (k0_pay2 x0 x1) x2 (ix3 0 r k) else xs1 (ix3 a r k)⌝ ∗ owns (c : Thread nD τ) arg11 fullShare xs)) -∗ K ⟨⟩))
      ⊢ wp frame (wpE (defs₀ (F := F)) Variants.none c none) E (cc0_ffn_up i arg2 harg2 arg3 harg3 arg4 harg4 arg5 harg5 arg6 harg6 arg7 harg7 arg8 harg8 arg9 harg9 arg10 harg10 arg11 harg11) K := by
  iintro ⟨H0, H1, H2, H3, H4, H5, ⟨%d6, H6⟩, ⟨%d7, H7⟩, ⟨%ds0, HS0⟩, HS1, Hk⟩
  iapply ((runA c i arg2 harg2 arg3 harg3 arg4 harg4 arg5 harg5 arg6 harg6 arg7 harg7 arg8 harg8 arg9 harg9 arg10 harg10 arg11 harg11 hc0 hc1 x0 x1 x2 x3 x4 x5 xs1).2.2.2.2 E _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexists _; iexact HS0
  isplitl [HS1]; · iexact HS1
  iintro ⟨H0, H1, H2, H3, H4, H5, ⟨%e6, H6⟩, ⟨%e7, H7⟩, ⟨%es0, HS0⟩, HS1⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; rw [runA_H c i arg2 harg2 arg3 harg3 arg4 harg4 arg5 harg5 arg6 harg6 arg7 harg7 arg8 harg8 arg9 harg9 arg10 harg10 arg11 harg11 hc0 hc1 x0 x1 x2 x3 x4 x5 xs1 row]; exact View.read_writes_eq_canon _ _ _ (coverH _ _ _ _ _ _ _ _ _ _ _ _)
  isplitl [H7]
  · unfold owns; iexists _; isplitr
    swap; · iexact H7
    ipureintro; rw [runA_T c i arg2 harg2 arg3 harg3 arg4 harg4 arg5 harg5 arg6 harg6 arg7 harg7 arg8 harg8 arg9 harg9 arg10 harg10 arg11 harg11 hc0 hc1 x0 x1 x2 x3 x4 x5 xs1]; exact View.read_writes_eq_canon _ _ _ (coverT _ _ _)
  isplitl [HS0]
  · unfold owns; iexists _; isplitr
    swap; · iexact HS0
    ipureintro; exact runA_X c i arg2 harg2 arg3 harg3 arg4 harg4 arg5 harg5 arg6 harg6 arg7 harg7 arg8 harg8 arg9 harg9 arg10 harg10 arg11 harg11 hc0 hc1 x0 x1 x2 x3 x4 x5 xs1 _
  iexists (arg11.view.read (Elt F) (arg11.view.writes (Elt F) (harg11.unread xs1) (runA c i arg2 harg2 arg3 harg3 arg4 harg4 arg5 harg5 arg6 harg6 arg7 harg7 arg8 harg8 arg9 harg9 arg10 harg10 arg11 harg11 hc0 hc1 x0 x1 x2 x3 x4 x5 xs1).2.2.2.1))
  isplitr
  · ipureintro; intro a r k; rw [runA_S c i arg2 harg2 arg3 harg3 arg4 harg4 arg5 harg5 arg6 harg6 arg7 harg7 arg8 harg8 arg9 harg9 arg10 harg10 arg11 harg11 hc0 hc1 x0 x1 x2 x3 x4 x5 xs1]
    refine (rows_after i arg11.view (harg11.unread xs1) _ x2 _ (fun a ha r k => fill_off i hc1 arg11.view _ a ha r k) a r k).trans ?_
    rw [harg11.read_unread]
  unfold owns; iexists _; isplitr
  swap; · iexact HS1
  ipureintro; rfl

set_option maxHeartbeats 1000000 in
/-- The body when the first branch is taken and the second not taken: what it leaves. -/
theorem bodyB (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1024x512 .bf16) (harg8 : arg8.IsWhole) (arg9 : Memref sig .tc .vmem S1x8x512 .f32) (harg9 : arg9.IsWhole) (arg10 : Memref sig .tc .vmem S1024x2048 .bf16) (harg10 : arg10.IsWhole) (arg11 : Memref sig .tc .vmem S8x8x512 .f32) (harg11 : arg11.IsWhole) (hc0 : cond0_0 i) (hc1 : ¬cond0_1 i)
    (x0 : Vec F S1024x2048 .f32) (x1 : Vec F S1x2048 .f32) (x2 : Vec F S1x2048x512 .f32) (x3 : Vec F S1x2048x512 .f32) (x4 : Vec F S3x512 .f32) (x5 : Vec F S1x512 .f32) (xs1 : Vec F S8x8x512 .f32) (row : Vec F S1x8x512 .f32) (h : RowIs xs1 (col i) row)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outH (flag i) (k0_pay2 x0 x1) x2 x3 x4 x5 row) ∗ owns (c : Thread nD τ) arg9 fullShare (outT (k0_pay2 x0 x1) x2) ∗ owns (c : Thread nD τ) arg10 fullShare (k0_pay2 x0 x1)
            ∗ (∃ xs, ⌜∀ (a r : Fin 8) (k : Fin 512), xs (ix3 a r k) = if a = col i then outT (k0_pay2 x0 x1) x2 (ix3 0 r k) else xs1 (ix3 a r k)⌝ ∗ owns (c : Thread nD τ) arg11 fullShare xs)) -∗ K ⟨⟩))
      ⊢ wp frame (wpE (defs₀ (F := F)) Variants.none c none) E (cc0_ffn_up i arg2 harg2 arg3 harg3 arg4 harg4 arg5 harg5 arg6 harg6 arg7 harg7 arg8 harg8 arg9 harg9 arg10 harg10 arg11 harg11) K := by
  iintro ⟨H0, H1, H2, H3, H4, H5, ⟨%d6, H6⟩, ⟨%d7, H7⟩, ⟨%ds0, HS0⟩, HS1, Hk⟩
  iapply ((runB c i arg2 harg2 arg3 harg3 arg4 harg4 arg5 harg5 arg6 harg6 arg7 harg7 arg8 harg8 arg9 harg9 arg10 harg10 arg11 harg11 hc0 hc1 x0 x1 x2 x3 x4 x5 xs1).2.2.2.2 E _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexists _; iexact HS0
  isplitl [HS1]; · iexact HS1
  iintro ⟨H0, H1, H2, H3, H4, H5, ⟨%e6, H6⟩, ⟨%e7, H7⟩, ⟨%es0, HS0⟩, HS1⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; rw [runB_H c i arg2 harg2 arg3 harg3 arg4 harg4 arg5 harg5 arg6 harg6 arg7 harg7 arg8 harg8 arg9 harg9 arg10 harg10 arg11 harg11 hc0 hc1 x0 x1 x2 x3 x4 x5 xs1 row h]; exact View.read_writes_eq_canon _ _ _ (coverH _ _ _ _ _ _ _ _ _ _ _ _)
  isplitl [H7]
  · unfold owns; iexists _; isplitr
    swap; · iexact H7
    ipureintro; rw [runB_T c i arg2 harg2 arg3 harg3 arg4 harg4 arg5 harg5 arg6 harg6 arg7 harg7 arg8 harg8 arg9 harg9 arg10 harg10 arg11 harg11 hc0 hc1 x0 x1 x2 x3 x4 x5 xs1]; exact View.read_writes_eq_canon _ _ _ (coverT _ _ _)
  isplitl [HS0]
  · unfold owns; iexists _; isplitr
    swap; · iexact HS0
    ipureintro; exact runB_X c i arg2 harg2 arg3 harg3 arg4 harg4 arg5 harg5 arg6 harg6 arg7 harg7 arg8 harg8 arg9 harg9 arg10 harg10 arg11 harg11 hc0 hc1 x0 x1 x2 x3 x4 x5 xs1 _
  iexists (arg11.view.read (Elt F) (arg11.view.writes (Elt F) (harg11.unread xs1) (runB c i arg2 harg2 arg3 harg3 arg4 harg4 arg5 harg5 arg6 harg6 arg7 harg7 arg8 harg8 arg9 harg9 arg10 harg10 arg11 harg11 hc0 hc1 x0 x1 x2 x3 x4 x5 xs1).2.2.2.1))
  isplitr
  · ipureintro; intro a r k; rw [runB_S c i arg2 harg2 arg3 harg3 arg4 harg4 arg5 harg5 arg6 harg6 arg7 harg7 arg8 harg8 arg9 harg9 arg10 harg10 arg11 harg11 hc0 hc1 x0 x1 x2 x3 x4 x5 xs1]
    refine (rows_after i arg11.view (harg11.unread xs1) _ x2 _ (fun a ha r k => rfl) a r k).trans ?_
    rw [harg11.read_unread]
  unfold owns; iexists _; isplitr
  swap; · iexact HS1
  ipureintro; rfl

set_option maxHeartbeats 1000000 in
/-- The body when the first branch is not taken and the second taken: what it leaves. -/
theorem bodyC (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1024x512 .bf16) (harg8 : arg8.IsWhole) (arg9 : Memref sig .tc .vmem S1x8x512 .f32) (harg9 : arg9.IsWhole) (arg10 : Memref sig .tc .vmem S1024x2048 .bf16) (harg10 : arg10.IsWhole) (arg11 : Memref sig .tc .vmem S8x8x512 .f32) (harg11 : arg11.IsWhole) (hc0 : ¬cond0_0 i) (hc1 : cond0_1 i)
    (x0 : Vec F S1024x2048 .f32) (x1 : Vec F S1x2048 .f32) (x2 : Vec F S1x2048x512 .f32) (x3 : Vec F S1x2048x512 .f32) (x4 : Vec F S3x512 .f32) (x5 : Vec F S1x512 .f32) (xs0 : Vec F S1024x2048 .bf16) (xs1 : Vec F S8x8x512 .f32) (row : Vec F S1x8x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outH (flag i) xs0 x2 x3 x4 x5 row) ∗ owns (c : Thread nD τ) arg9 fullShare (outT xs0 x2) ∗ owns (c : Thread nD τ) arg10 fullShare xs0
            ∗ (∃ xs, ⌜∀ (a r : Fin 8) (k : Fin 512), xs (ix3 a r k) = if a = col i then outT xs0 x2 (ix3 0 r k) else xs1 (ix3 a r k)⌝ ∗ owns (c : Thread nD τ) arg11 fullShare xs)) -∗ K ⟨⟩))
      ⊢ wp frame (wpE (defs₀ (F := F)) Variants.none c none) E (cc0_ffn_up i arg2 harg2 arg3 harg3 arg4 harg4 arg5 harg5 arg6 harg6 arg7 harg7 arg8 harg8 arg9 harg9 arg10 harg10 arg11 harg11) K := by
  iintro ⟨H0, H1, H2, H3, H4, H5, ⟨%d6, H6⟩, ⟨%d7, H7⟩, HS0, HS1, Hk⟩
  iapply ((runC c i arg2 harg2 arg3 harg3 arg4 harg4 arg5 harg5 arg6 harg6 arg7 harg7 arg8 harg8 arg9 harg9 arg10 harg10 arg11 harg11 hc0 hc1 x0 x1 x2 x3 x4 x5 xs0 xs1).2.2.2 E _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  iintro ⟨H0, H1, H2, H3, H4, H5, ⟨%e6, H6⟩, ⟨%e7, H7⟩, HS0, HS1⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; rw [runC_H c i arg2 harg2 arg3 harg3 arg4 harg4 arg5 harg5 arg6 harg6 arg7 harg7 arg8 harg8 arg9 harg9 arg10 harg10 arg11 harg11 hc0 hc1 x0 x1 x2 x3 x4 x5 xs0 xs1 row]; exact View.read_writes_eq_canon _ _ _ (coverH _ _ _ _ _ _ _ _ _ _ _ _)
  isplitl [H7]
  · unfold owns; iexists _; isplitr
    swap; · iexact H7
    ipureintro; rw [runC_T c i arg2 harg2 arg3 harg3 arg4 harg4 arg5 harg5 arg6 harg6 arg7 harg7 arg8 harg8 arg9 harg9 arg10 harg10 arg11 harg11 hc0 hc1 x0 x1 x2 x3 x4 x5 xs0 xs1]; exact View.read_writes_eq_canon _ _ _ (coverT _ _ _)
  isplitl [HS0]; · iexact HS0
  iexists (arg11.view.read (Elt F) (arg11.view.writes (Elt F) (harg11.unread xs1) (runC c i arg2 harg2 arg3 harg3 arg4 harg4 arg5 harg5 arg6 harg6 arg7 harg7 arg8 harg8 arg9 harg9 arg10 harg10 arg11 harg11 hc0 hc1 x0 x1 x2 x3 x4 x5 xs0 xs1).2.2.1))
  isplitr
  · ipureintro; intro a r k; rw [runC_S c i arg2 harg2 arg3 harg3 arg4 harg4 arg5 harg5 arg6 harg6 arg7 harg7 arg8 harg8 arg9 harg9 arg10 harg10 arg11 harg11 hc0 hc1 x0 x1 x2 x3 x4 x5 xs0 xs1]
    refine (rows_after i arg11.view (harg11.unread xs1) _ x2 _ (fun a ha r k => fill_off i hc1 arg11.view _ a ha r k) a r k).trans ?_
    rw [harg11.read_unread]
  unfold owns; iexists _; isplitr
  swap; · iexact HS1
  ipureintro; rfl

set_option maxHeartbeats 1000000 in
/-- The body when the first branch is not taken and the second not taken: what it leaves. -/
theorem bodyD (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1024x512 .bf16) (harg8 : arg8.IsWhole) (arg9 : Memref sig .tc .vmem S1x8x512 .f32) (harg9 : arg9.IsWhole) (arg10 : Memref sig .tc .vmem S1024x2048 .bf16) (harg10 : arg10.IsWhole) (arg11 : Memref sig .tc .vmem S8x8x512 .f32) (harg11 : arg11.IsWhole) (hc0 : ¬cond0_0 i) (hc1 : ¬cond0_1 i)
    (x0 : Vec F S1024x2048 .f32) (x1 : Vec F S1x2048 .f32) (x2 : Vec F S1x2048x512 .f32) (x3 : Vec F S1x2048x512 .f32) (x4 : Vec F S3x512 .f32) (x5 : Vec F S1x512 .f32) (xs0 : Vec F S1024x2048 .bf16) (xs1 : Vec F S8x8x512 .f32) (row : Vec F S1x8x512 .f32) (h : RowIs xs1 (col i) row)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outH (flag i) xs0 x2 x3 x4 x5 row) ∗ owns (c : Thread nD τ) arg9 fullShare (outT xs0 x2) ∗ owns (c : Thread nD τ) arg10 fullShare xs0
            ∗ (∃ xs, ⌜∀ (a r : Fin 8) (k : Fin 512), xs (ix3 a r k) = if a = col i then outT xs0 x2 (ix3 0 r k) else xs1 (ix3 a r k)⌝ ∗ owns (c : Thread nD τ) arg11 fullShare xs)) -∗ K ⟨⟩))
      ⊢ wp frame (wpE (defs₀ (F := F)) Variants.none c none) E (cc0_ffn_up i arg2 harg2 arg3 harg3 arg4 harg4 arg5 harg5 arg6 harg6 arg7 harg7 arg8 harg8 arg9 harg9 arg10 harg10 arg11 harg11) K := by
  iintro ⟨H0, H1, H2, H3, H4, H5, ⟨%d6, H6⟩, ⟨%d7, H7⟩, HS0, HS1, Hk⟩
  iapply ((runD c i arg2 harg2 arg3 harg3 arg4 harg4 arg5 harg5 arg6 harg6 arg7 harg7 arg8 harg8 arg9 harg9 arg10 harg10 arg11 harg11 hc0 hc1 x0 x1 x2 x3 x4 x5 xs0 xs1).2.2.2 E _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  iintro ⟨H0, H1, H2, H3, H4, H5, ⟨%e6, H6⟩, ⟨%e7, H7⟩, HS0, HS1⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; rw [runD_H c i arg2 harg2 arg3 harg3 arg4 harg4 arg5 harg5 arg6 harg6 arg7 harg7 arg8 harg8 arg9 harg9 arg10 harg10 arg11 harg11 hc0 hc1 x0 x1 x2 x3 x4 x5 xs0 xs1 row h]; exact View.read_writes_eq_canon _ _ _ (coverH _ _ _ _ _ _ _ _ _ _ _ _)
  isplitl [H7]
  · unfold owns; iexists _; isplitr
    swap; · iexact H7
    ipureintro; rw [runD_T c i arg2 harg2 arg3 harg3 arg4 harg4 arg5 harg5 arg6 harg6 arg7 harg7 arg8 harg8 arg9 harg9 arg10 harg10 arg11 harg11 hc0 hc1 x0 x1 x2 x3 x4 x5 xs0 xs1]; exact View.read_writes_eq_canon _ _ _ (coverT _ _ _)
  isplitl [HS0]; · iexact HS0
  iexists (arg11.view.read (Elt F) (arg11.view.writes (Elt F) (harg11.unread xs1) (runD c i arg2 harg2 arg3 harg3 arg4 harg4 arg5 harg5 arg6 harg6 arg7 harg7 arg8 harg8 arg9 harg9 arg10 harg10 arg11 harg11 hc0 hc1 x0 x1 x2 x3 x4 x5 xs0 xs1).2.2.1))
  isplitr
  · ipureintro; intro a r k; rw [runD_S c i arg2 harg2 arg3 harg3 arg4 harg4 arg5 harg5 arg6 harg6 arg7 harg7 arg8 harg8 arg9 harg9 arg10 harg10 arg11 harg11 hc0 hc1 x0 x1 x2 x3 x4 x5 xs0 xs1]
    refine (rows_after i arg11.view (harg11.unread xs1) _ x2 _ (fun a ha r k => rfl) a r k).trans ?_
    rw [harg11.read_unread]
  unfold owns; iexists _; isplitr
  swap; · iexact HS1
  ipureintro; rfl

end Cert.Kernel2Ideal.Gen

end
-- ==== Proof.UpFrameIdeal.lean ====
module

public import proofs.«01_k».proof.Proof.UpBodyIdeal
public import proofs.«01_k».proof.Proof.Gen.Kernel2Ideal.Frame
public import proofs.«01_k».proof.Proof.Gen.Kernel2Ideal.Launch
public import Idealize.ShloMosaic.Lib.Claim
public import Idealize.ShloMosaic.Lib.Pointwise
public import Idealize.ShloMosaic.Lib.Pipeline.Value
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem lt_N (t : Fin cfg0.N) : t.val < 64 := lt_of_lt_of_eq t.isLt N_0

theorem coord_0 (t : Fin cfg0.N) : (grid0.coords t 0).val = t.val / 8 := by
  have e : (grid0.coords t 0).val = t.val / 8 % 8 := Pipeline.Grid.coords_val t 0 (by decide) rfl
  have := lt_N t
  omega
theorem coord_1 (t : Fin cfg0.N) : (grid0.coords t 1).val = t.val % 8 := by
  have e : (grid0.coords t 1).val = t.val / 1 % 8 := Pipeline.Grid.coords_val t 1 (by decide) rfl
  omega

theorem bit_eq : ∀ a : Fin 8, (Scalar.cmpi .ne (Scalar.extui (Scalar.cmpi .eq (BitVec.ofNat 32 a.val) 0#32)) 0#32 : BitVec 1) = 1#1 ↔ a.val = 0 := by decide

/-- The first branch is taken where the column is zero, the second where the row block is zero. -/
theorem hcond0_0 (t : Fin cfg0.N) : cond0_0 (grid0.coords t) ↔ t.val % 8 = 0 := by
  rw [← coord_1 t]; exact bit_eq (grid0.coords t 1)
theorem hcond0_1 (t : Fin cfg0.N) : cond0_1 (grid0.coords t) ↔ t.val < 8 := by
  have h : cond0_1 (grid0.coords t) ↔ (grid0.coords t 0).val = 0 := bit_eq (grid0.coords t 0)
  rw [h, coord_0 t]
  omega

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x8x512 .f32 := win0_7.stage (cfg0.slots t 7)
abbrev hs0_7 (t : Fin cfg0.N) : (ms0_7 t).IsWhole := hstage0_7 ((cfg0.slots t 7).cast nbuf0_7)
/-- The carried scratches. -/
abbrev scM0_0 : Memref sig .tc .vmem S1024x2048 .bf16 := Memref.whole cc0_scratch0
abbrev scM0_1 : Memref sig .tc .vmem S8x8x512 .f32 := Memref.whole cc0_scratch1

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The point of a number. -/
def pt (n : ℕ) : Fin cfg0.N := ⟨n % cfg0.N, Nat.mod_lt _ (by rw [show cfg0.N = 64 from N_0]; omega)⟩
theorem pt_val (t : Fin cfg0.N) : pt t.val = t := Fin.ext (Nat.mod_eq_of_lt t.isLt)

/-- The normalised block of rows at a point. -/
def xnAt (c : Dev nD) (n : ℕ) : Vec F S1024x2048 .bf16 := k0_pay2 (iblk m c 0 (pt (n / 8 * 8))) (iblk m c 1 (pt (n / 8 * 8)))
/-- The last rows of the gate's block at a point. -/
def tlAt (c : Dev nD) (n : ℕ) : Vec F S1x8x512 .f32 := outT (xnAt m c n) (iblk m c 2 (pt n))
/-- The row carried into a point: the last rows of the row block before. -/
def rowAt (c : Dev nD) (n : ℕ) : Vec F S1x8x512 .f32 := if n < 8 then k0_pay3 (F := F) else tlAt m c (n - 8)

theorem xnAt_zero (c : Dev nD) (t : Fin cfg0.N) (h : t.val % 8 = 0) : xnAt m c t.val = k0_pay2 (iblk m c 0 t) (iblk m c 1 t) := by
  unfold xnAt
  rw [show t.val / 8 * 8 = t.val by omega, pt_val]
theorem xnAt_succ (c : Dev nD) (n : ℕ) (h : (n + 1) % 8 ≠ 0) : xnAt m c (n + 1) = xnAt m c n := by
  unfold xnAt
  rw [show (n + 1) / 8 * 8 = n / 8 * 8 by omega]

/-- The invariant before position `n`: the normalised rows within a row block, and the last rows of the eight points before. -/
def Inv (c : Dev nD) (n : ℕ) : sProp 𝕄 :=
  iprop(iprop((∃ d, ⌜n % 8 ≠ 0 → d = xnAt m c n⌝ ∗ owns (c : Thread nD τ) scM0_0 fullShare d)
      ∗ (∃ xs, ⌜∀ t', t' < n → n ≤ t' + 8 → RowIs xs ⟨t' % 8, Nat.mod_lt _ (by omega)⟩ (tlAt m c t')⌝ ∗ owns (c : Thread nD τ) scM0_1 fullShare xs))
    ∗ (∃ r, prngReg c r))

theorem row_of (c : Dev nD) (t : Fin cfg0.N) (h : ¬t.val < 8) (xs : Vec F S8x8x512 .f32)
    (hxs : ∀ t', t' < t.val → t.val ≤ t' + 8 → RowIs xs ⟨t' % 8, Nat.mod_lt _ (by omega)⟩ (tlAt m c t')) :
    RowIs xs (col (grid0.coords t)) (rowAt m c t.val) := by
  have e : col (grid0.coords t) = ⟨(t.val - 8) % 8, Nat.mod_lt _ (by omega)⟩ := Fin.ext (by
    show (grid0.coords t 1).val = (t.val - 8) % 8
    rw [coord_1 t]; omega)
  unfold rowAt
  rw [if_neg h, e]
  exact hxs (t.val - 8) (by omega) (by omega)

theorem row_step (c : Dev nD) (t : Fin cfg0.N) (xs xs' : Vec F S8x8x512 .f32)
    (hxs : ∀ t', t' < t.val → t.val ≤ t' + 8 → RowIs xs ⟨t' % 8, Nat.mod_lt _ (by omega)⟩ (tlAt m c t'))
    (h' : ∀ (a r : Fin 8) (k : Fin 512), xs' (ix3 a r k) = if a = col (grid0.coords t) then outT (xnAt m c t.val) (iblk m c 2 t) (ix3 0 r k) else xs (ix3 a r k)) :
    ∀ t', t' < t.val + 1 → t.val + 1 ≤ t' + 8 → RowIs xs' ⟨t' % 8, Nat.mod_lt _ (by omega)⟩ (tlAt m c t') := by
  intro t' h1 h2 r k
  rw [h']
  have ec : (col (grid0.coords t)).val = t.val % 8 := coord_1 t
  by_cases h : t' = t.val
  · subst h
    rw [if_pos (Fin.ext ec.symm)]
    unfold tlAt
    rw [pt_val]
  · rw [if_neg (fun hh => by
      have := congrArg Fin.val hh
      rw [ec] at this
      have h3 : t' % 8 = t.val % 8 := this
      omega)]
    exact hxs t' (by omega) (by omega) r k

/-- The proof data: the inputs' buffers at their blocks, the outputs' at what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (flag (grid0.coords t)) (xnAt m c t.val) (iblk m c 2 t) (iblk m c 3 t) (iblk m c 4 t) (iblk m c 5 t) (rowAt m c t.val)
    | ⟨7, _⟩ => outT (xnAt m c t.val) (iblk m c 2 t)
  Φ t := Inv m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t =
    outH (flag (grid0.coords t)) (xnAt m c t.val) (iblk m c 2 t) (iblk m c 3 t) (iblk m c 4 t) (iblk m c 5 t) (rowAt m c t.val) := by dsimp only [dats]
theorem after0_7 (c : Dev nD) (t : Fin cfg0.N) : (dats m 0 c).after 7 t = outT (xnAt m c t.val) (iblk m c 2 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, after0_7]
  rw [show (dats m 0 c).Φ t.succ = Inv m c (t.val + 1) from rfl, show (dats m 0 c).Φ t.castSucc = Inv m c t.val from rfl]
  unfold Inv
  iintro ⟨⟨⟨⟨%d, %hd, HS0⟩, ⟨%xs, %hxs, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases hc0 : cond0_0 (grid0.coords t)
  · by_cases hc1 : cond0_1 (grid0.coords t)
    · have hx := xnAt_zero m c t ((hcond0_0 t).mp hc0)
      rw [hx]
      iapply (bodyA c (grid0.coords t) _ _ _ _ _ _ _ _ _ _ _ _ _ _ _ _ _ _ _ _ hc0 hc1 (iblk m c 0 t) (iblk m c 1 t) (iblk m c 2 t) (iblk m c 3 t) (iblk m c 4 t) (iblk m c 5 t) xs (rowAt m c t.val) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexists _; iexact HS0
      isplitl [HS1]; · iexact HS1
      iintro ⟨H0, H1, H2, H3, H4, H5, H6, H7, HS0, ⟨%xs2, %hxs2, HS1⟩⟩
      isplitl [HS0 HS1 Hg]
      · isplitl [HS0 HS1]
        · isplitl [HS0]
          · iexists _; isplitr
            swap; · iexact HS0
            ipureintro; intro h; rw [← hx]; exact (xnAt_succ m c t.val h).symm
          · iexists xs2; isplitr
            swap; · iexact HS1
            ipureintro; exact row_step m c t xs xs2 hxs (by rw [hx]; exact hxs2)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hx := xnAt_zero m c t ((hcond0_0 t).mp hc0)
      rw [hx]
      iapply (bodyB c (grid0.coords t) _ _ _ _ _ _ _ _ _ _ _ _ _ _ _ _ _ _ _ _ hc0 hc1 (iblk m c 0 t) (iblk m c 1 t) (iblk m c 2 t) (iblk m c 3 t) (iblk m c 4 t) (iblk m c 5 t) xs (rowAt m c t.val) (row_of m c t (fun h => hc1 ((hcond0_1 t).mpr h)) xs hxs) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexists _; iexact HS0
      isplitl [HS1]; · iexact HS1
      iintro ⟨H0, H1, H2, H3, H4, H5, H6, H7, HS0, ⟨%xs2, %hxs2, HS1⟩⟩
      isplitl [HS0 HS1 Hg]
      · isplitl [HS0 HS1]
        · isplitl [HS0]
          · iexists _; isplitr
            swap; · iexact HS0
            ipureintro; intro h; rw [← hx]; exact (xnAt_succ m c t.val h).symm
          · iexists xs2; isplitr
            swap; · iexact HS1
            ipureintro; exact row_step m c t xs xs2 hxs (by rw [hx]; exact hxs2)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · by_cases hc1 : cond0_1 (grid0.coords t)
    · obtain rfl := hd (fun h => hc0 ((hcond0_0 t).mpr h))
      iapply (bodyC c (grid0.coords t) _ _ _ _ _ _ _ _ _ _ _ _ _ _ _ _ _ _ _ _ hc0 hc1 (iblk m c 0 t) (iblk m c 1 t) (iblk m c 2 t) (iblk m c 3 t) (iblk m c 4 t) (iblk m c 5 t) (xnAt m c t.val) xs (rowAt m c t.val) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, H6, H7, HS0, ⟨%xs2, %hxs2, HS1⟩⟩
      isplitl [HS0 HS1 Hg]
      · isplitl [HS0 HS1]
        · isplitl [HS0]
          · iexists _; isplitr
            swap; · iexact HS0
            ipureintro; intro h; exact (xnAt_succ m c t.val h).symm
          · iexists xs2; isplitr
            swap; · iexact HS1
            ipureintro; exact row_step m c t xs xs2 hxs hxs2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · obtain rfl := hd (fun h => hc0 ((hcond0_0 t).mpr h))
      iapply (bodyD c (grid0.coords t) _ _ _ _ _ _ _ _ _ _ _ _ _ _ _ _ _ _ _ _ hc0 hc1 (iblk m c 0 t) (iblk m c 1 t) (iblk m c 2 t) (iblk m c 3 t) (iblk m c 4 t) (iblk m c 5 t) (xnAt m c t.val) xs (rowAt m c t.val) (row_of m c t (fun h => hc1 ((hcond0_1 t).mpr h)) xs hxs) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, H6, H7, HS0, ⟨%xs2, %hxs2, HS1⟩⟩
      isplitl [HS0 HS1 Hg]
      · isplitl [HS0 HS1]
        · isplitl [HS0]
          · iexists _; isplitr
            swap; · iexact HS0
            ipureintro; intro h; exact (xnAt_succ m c t.val h).symm
          · iexists xs2; isplitr
            swap; · iexact HS1
            ipureintro; exact row_step m c t xs xs2 hxs hxs2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Inv m c 0 from rfl, PhiA0_eq]
  unfold Inv
  iintro ⟨⟨⟨%d, HS0⟩, ⟨%xs, HS1⟩⟩, Hg⟩
  isplitl [HS0 HS1]
  · isplitl [HS0]
    · iexists d; isplitr
      · ipureintro; intro h; exact absurd rfl h
      iexact HS0
    · iexists xs; isplitr
      · ipureintro; intro t' h; exact absurd h (Nat.not_lt_zero _)
      iexact HS1
  iexact Hg

theorem hout (c : Dev nD) : (dats m 0 c).Φ (Fin.last cfg0.N) ⊢ Pipeline.ΦA spec0 c := by
  rw [show (dats m 0 c).Φ (Fin.last cfg0.N) = Inv m c cfg0.N from rfl, PhiA0_eq]
  unfold Inv
  iintro ⟨⟨⟨%d, %hd, HS0⟩, ⟨%xs, %hxs, HS1⟩⟩, Hg⟩
  isplitl [HS0 HS1]
  · isplitl [HS0]
    · iexists _; iexact HS0
    · iexists _; iexact HS1
  iexact Hg

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel2Ideal.Gen

end
-- ==== Proof.Up.lean ====
/-
  The up projection with its norm, its gate's convolution along the rows and its activation: what a point stores.
-/
module

public import proofs.«01_k».proof.Proof.UpFrameIdeal
public import proofs.«01_k».proof.Proof.Body
public import Idealize.ShloMosaic.Lib.Pipeline.ValueKit
public import Idealize.ShloMosaic.Lib.Pipeline.ReadBack
public import Idealize.ShloMosaic.Lib.Pointwise

@[expose] public section

set_option maxRecDepth 16384

noncomputable section
open Idealize.ShloMosaic Idealize.ShloMosaic.TcCoe Idealize.SL.Sem
open Idealize.ShloMosaic.Pipeline (Dat)
namespace Cert.Up
open Cert.Kernel2Ideal Cert.Kernel2Ideal.Gen Cert.Body
set_option maxHeartbeats 1000000

/-- A row over the root of the mean of its squares, times the gain. -/
def nrm (x : Fin 2048 → EReal) (g : Fin 2048 → EReal) (k : Fin 2048) : EReal :=
  x k * Ideal.rsqrt (Ideal.div (∑ j, x j * x j) (Ideal.ofBits FTy.f32 0x45000000#32) + Ideal.ofBits FTy.f32 0x358637BD#32) * g k

/-- A value times its logistic. -/
def silu (x : EReal) : EReal := x * Ideal.div 1 (1 + Ideal.exp (-x))

/-- The three weighted terms of the convolution over its bias. -/
def conv (b p2 c0 p1 c1 g c2 : EReal) : EReal := b + p2 * c0 + p1 * c1 + g * c2

/-- The normalised row block. -/
theorem norm_at (x : Vec Ideal S1024x2048 .f32) (g : Vec Ideal S1x2048 .f32) (i : Fin 1024) (k : Fin 2048) :
    k0_pay2 (F := Ideal) x g (ix2 i k) = nrm (fun k => x (ix2 i k)) (fun k => g (ix2 (0 : Fin 1) k)) k := by
  pointwise [k0_pay2]
  rfl

theorem pay4_at (a : Vec Ideal S1024x2048 .bf16) (w : Vec Ideal S1x2048x256 .f32) (i : Fin 1024) (j : Fin 256) :
    k0_pay4 (F := Ideal) a w (ix2 i j) = ∑ k : Fin 2048, a (ix2 i k) * w (ix3 (0 : Fin 1) k j) := by
  pointwise [k0_pay4]

theorem pay5_eq (a : Vec Ideal S1024x2048 .bf16) (w : Vec Ideal S1x2048x256 .f32) : k0_pay5 (F := Ideal) a w = k0_pay4 a w := rfl
theorem pay13_eq (a : Vec Ideal S1024x2048 .bf16) (w : Vec Ideal S1x2048x256 .f32) : k0_pay13 (F := Ideal) a w = k0_pay4 a w := rfl
theorem pay14_eq (a : Vec Ideal S1024x2048 .bf16) (w : Vec Ideal S1x2048x256 .f32) : k0_pay14 (F := Ideal) a w = k0_pay4 a w := rfl
theorem pay15_eq (a : Vec Ideal S1024x2048 .bf16) (w : Vec Ideal S1x2048x256 .f32) : k0_pay15 (F := Ideal) a w = k0_pay6 a w := rfl
theorem pay16_eq (a : Vec Ideal S1024x2048 .bf16) (w : Vec Ideal S1x2048x256 .f32) : k0_pay16 (F := Ideal) a w = k0_pay7 a w := rfl
theorem pay19_eq (g : Vec Ideal S1024x256 .f32) : k0_pay19 (F := Ideal) g = k0_pay10 g := rfl
theorem pay1_eq (u v : Vec Ideal S1024x256 .f32) : k0_pay1 (F := Ideal) u v = k0_pay12 u v := rfl
theorem pay20_eq (g : Vec Ideal S1024x256 .f32) (n : IVec S1024x256 32) (p q : Vec Ideal S1024x256 .f32) (fl : BitVec 1)
    (r : Vec Ideal S1x8x256 .f32) (c : Vec Ideal S3x256 .f32) (b : Vec Ideal S1x256 .f32) :
    k0_pay20 (F := Ideal) g n p q fl r c b = k0_pay11 g n p q fl r c b := rfl

/-- The rows moved by one and by two, the first rows aside. -/
theorem pay6_at (a : Vec Ideal S1024x2048 .bf16) (w : Vec Ideal S1x2048x256 .f32) (i : Fin 1024) (j : Fin 256) (i' : Fin 1024) (h : i'.val + 1 = i.val) :
    k0_pay6 (F := Ideal) a w (ix2 i j) = k0_pay4 a w (ix2 i' j) := by
  pointwise [k0_pay6]
  refine congrArg (k0_pay4 (F := Ideal) a w) (ix2_eq ?_ rfl)
  show (i.val + 1024 - 1) % 1024 = i'.val
  omega
theorem pay7_at (a : Vec Ideal S1024x2048 .bf16) (w : Vec Ideal S1x2048x256 .f32) (i : Fin 1024) (j : Fin 256) (i' : Fin 1024) (h : i'.val + 2 = i.val) :
    k0_pay7 (F := Ideal) a w (ix2 i j) = k0_pay4 a w (ix2 i' j) := by
  pointwise [k0_pay7]
  refine congrArg (k0_pay4 (F := Ideal) a w) (ix2_eq ?_ rfl)
  show (i.val + 1024 - 2) % 1024 = i'.val
  omega

theorem pay12_at (u v : Vec Ideal S1024x256 .f32) (i : Fin 1024) (j : Fin 256) :
    k0_pay12 (F := Ideal) u v (ix2 i j) = silu (v (ix2 i j)) * u (ix2 i j) := by
  pointwise [k0_pay12, silu]
  rw [zero_sub]

theorem pay10_at (g : Vec Ideal S1024x256 .f32) (r : Fin 8) (j : Fin 256) :
    k0_pay10 (F := Ideal) g (ix3 (0 : Fin 1) r j) = g (ix2 (⟨1016 + r.val, by omega⟩ : Fin 1024) j) := by
  pointwise [k0_pay10, k0_pay8]

/-- A choice by a row's number. -/
theorem select_row {α : Type} (n : Fin 1024) (c : ℕ) (hc : c < 1024) (a b : α) :
    Scalar.select (IntOp.cmpi CmpIPredicate.eq (BitVec.ofNat 32 n.val) (BitVec.ofNat 32 c)) a b = if n.val = c then a else b := by
  have hn := n.isLt
  show (if BitVec.ofBool (BitVec.ofNat 32 n.val == BitVec.ofNat 32 c) = 1#1 then a else b) = _
  by_cases h : n.val = c
  · rw [if_pos h, h]; simp
  · rw [if_neg h, if_neg]
    intro h'
    have e : (BitVec.ofNat 32 n.val == BitVec.ofNat 32 c) = true := by
      revert h'
      cases (BitVec.ofNat 32 n.val == BitVec.ofNat 32 c) <;> decide
    have e' := congrArg BitVec.toNat (eq_of_beq e)
    rw [BitVec.toNat_ofNat, BitVec.toNat_ofNat] at e'
    omega

theorem pay11_at (g : Vec Ideal S1024x256 .f32) (p q : Vec Ideal S1024x256 .f32) (fl : BitVec 1)
    (r : Vec Ideal S1x8x256 .f32) (c : Vec Ideal S3x256 .f32) (b : Vec Ideal S1x256 .f32) (i : Fin 1024) (j : Fin 256) :
    k0_pay11 (F := Ideal) g rowNo p q fl r c b (ix2 i j)
      = conv (b (ix2 (0 : Fin 1) j))
          (if i.val = 0 then (if fl = 1#1 then 0 else r (ix3 (0 : Fin 1) (6 : Fin 8) j)) else if i.val = 1 then (if fl = 1#1 then 0 else r (ix3 (0 : Fin 1) (7 : Fin 8) j)) else q (ix2 i j))
          (c (ix2 (0 : Fin 3) j))
          (if i.val = 0 then (if fl = 1#1 then 0 else r (ix3 (0 : Fin 1) (7 : Fin 8) j)) else p (ix2 i j)) (c (ix2 (1 : Fin 3) j))
          (g (ix2 i j)) (c (ix2 (2 : Fin 3) j)) := by
  pointwise [k0_pay11, conv, rowNo]
  rw [select_row i 0 (by omega), select_row i 0 (by omega), select_row i 1 (by omega)]
  rfl

/-- One entry of a product of a row block and a block of weights. -/
def gl (v3 : Vec Ideal S1024x2048 .bf16) (x : Vec Ideal S1x2048x512 .f32) (j : Fin 512) (i : Fin 1024) : EReal :=
  ∑ k : Fin 2048, v3 (ix2 i k) * x (ix3 (0 : Fin 1) k j)

/-- The row carried into a block: none where the block opens a sequence. -/
def cr (fl : BitVec 1) (row : Vec Ideal S1x8x512 .f32) (a : Fin 8) (j : Fin 512) : EReal := if fl = 1#1 then 0 else row (ix3 (0 : Fin 1) a j)

theorem lo_at (x : Vec Ideal S1x2048x512 .f32) (k : Fin 2048) (j : Fin 512) (h : j.val < 256) :
    lo x (ix3 (0 : Fin 1) k (⟨j.val, h⟩ : Fin 256)) = x (ix3 (0 : Fin 1) k j) := by
  refine congrArg x (funext fun a => Fin.ext ?_)
  match a with
  | ⟨0, _⟩ => rfl
  | ⟨1, _⟩ => show 0 + 1 * k.val = k.val; omega
  | ⟨2, _⟩ => show 0 + 1 * j.val = j.val; omega
theorem hi_at (x : Vec Ideal S1x2048x512 .f32) (k : Fin 2048) (j : Fin 512) (h : 256 ≤ j.val) :
    hi x (ix3 (0 : Fin 1) k (⟨j.val - 256, by omega⟩ : Fin 256)) = x (ix3 (0 : Fin 1) k j) := by
  refine congrArg x (funext fun a => Fin.ext ?_)
  match a with
  | ⟨0, _⟩ => rfl
  | ⟨1, _⟩ => show 0 + 1 * k.val = k.val; omega
  | ⟨2, _⟩ => show 256 + 1 * (j.val - 256) = j.val; omega
theorem rLo_at (x : Vec Ideal S1x8x512 .f32) (k : Fin 8) (j : Fin 512) (h : j.val < 256) :
    rLo x (ix3 (0 : Fin 1) k (⟨j.val, h⟩ : Fin 256)) = x (ix3 (0 : Fin 1) k j) := by
  refine congrArg x (funext fun a => Fin.ext ?_)
  match a with
  | ⟨0, _⟩ => rfl
  | ⟨1, _⟩ => show 0 + 1 * k.val = k.val; omega
  | ⟨2, _⟩ => show 0 + 1 * j.val = j.val; omega
theorem rHi_at (x : Vec Ideal S1x8x512 .f32) (k : Fin 8) (j : Fin 512) (h : 256 ≤ j.val) :
    rHi x (ix3 (0 : Fin 1) k (⟨j.val - 256, by omega⟩ : Fin 256)) = x (ix3 (0 : Fin 1) k j) := by
  refine congrArg x (funext fun a => Fin.ext ?_)
  match a with
  | ⟨0, _⟩ => rfl
  | ⟨1, _⟩ => show 0 + 1 * k.val = k.val; omega
  | ⟨2, _⟩ => show 256 + 1 * (j.val - 256) = j.val; omega
theorem cLo_at (x : Vec Ideal S3x512 .f32) (k : Fin 3) (j : Fin 512) (h : j.val < 256) :
    cLo x (ix2 k (⟨j.val, h⟩ : Fin 256)) = x (ix2 k j) := by
  refine congrArg x (funext fun a => Fin.ext ?_)
  match a with
  | ⟨0, _⟩ => show 0 + 1 * k.val = k.val; omega
  | ⟨1, _⟩ => show 0 + 1 * j.val = j.val; omega
theorem cHi_at (x : Vec Ideal S3x512 .f32) (k : Fin 3) (j : Fin 512) (h : 256 ≤ j.val) :
    cHi x (ix2 k (⟨j.val - 256, by omega⟩ : Fin 256)) = x (ix2 k j) := by
  refine congrArg x (funext fun a => Fin.ext ?_)
  match a with
  | ⟨0, _⟩ => show 0 + 1 * k.val = k.val; omega
  | ⟨1, _⟩ => show 256 + 1 * (j.val - 256) = j.val; omega
theorem bLo_at (x : Vec Ideal S1x512 .f32) (j : Fin 512) (h : j.val < 256) :
    bLo x (ix2 (0 : Fin 1) (⟨j.val, h⟩ : Fin 256)) = x (ix2 (0 : Fin 1) j) := by
  refine congrArg x (funext fun a => Fin.ext ?_)
  match a with
  | ⟨0, _⟩ => rfl
  | ⟨1, _⟩ => show 0 + 1 * j.val = j.val; omega
theorem bHi_at (x : Vec Ideal S1x512 .f32) (j : Fin 512) (h : 256 ≤ j.val) :
    bHi x (ix2 (0 : Fin 1) (⟨j.val - 256, by omega⟩ : Fin 256)) = x (ix2 (0 : Fin 1) j) := by
  refine congrArg x (funext fun a => Fin.ext ?_)
  match a with
  | ⟨0, _⟩ => rfl
  | ⟨1, _⟩ => show 256 + 1 * (j.val - 256) = j.val; omega

theorem gl_lo (v3 : Vec Ideal S1024x2048 .bf16) (x : Vec Ideal S1x2048x512 .f32) (i : Fin 1024) (j : Fin 512) (h : j.val < 256) :
    k0_pay4 (F := Ideal) v3 (lo x) (ix2 i (⟨j.val, h⟩ : Fin 256)) = gl v3 x j i :=
  (pay4_at _ _ _ _).trans (Finset.sum_congr rfl fun k _ => congrArg (_ * ·) (lo_at x k j h))
theorem gl_hi (v3 : Vec Ideal S1024x2048 .bf16) (x : Vec Ideal S1x2048x512 .f32) (i : Fin 1024) (j : Fin 512) (h : 256 ≤ j.val) :
    k0_pay4 (F := Ideal) v3 (hi x) (ix2 i (⟨j.val - 256, by omega⟩ : Fin 256)) = gl v3 x j i :=
  (pay4_at _ _ _ _).trans (Finset.sum_congr rfl fun k _ => congrArg (_ * ·) (hi_at x k j h))

/-- The last rows a point leaves are the last rows of the gate's block. -/
theorem outT_at (v3 : Vec Ideal S1024x2048 .bf16) (x : Vec Ideal S1x2048x512 .f32) (r : Fin 8) (j : Fin 512) :
    outT v3 x (ix3 (0 : Fin 1) r j) = gl v3 x j (⟨1016 + r.val, by omega⟩ : Fin 1024) := by
  by_cases h : j.val < 256
  · exact (outT_lo v3 x r j h).trans ((pay10_at _ r _).trans (gl_lo v3 x _ j h))
  · exact (outT_hi v3 x r j (Nat.le_of_not_lt h)).trans ((congrFun (pay19_eq _) _).trans ((pay10_at _ r _).trans
      ((congrFun (pay13_eq v3 (hi x)) _).trans (gl_hi v3 x _ j (Nat.le_of_not_lt h)))))

/-- The row before a row of a block, and the one before that. -/
def prev1 (G : Fin 1024 → EReal) (c7 : EReal) (i : Fin 1024) : EReal := if i.val = 0 then c7 else G (⟨i.val - 1, by omega⟩ : Fin 1024)
def prev2 (G : Fin 1024 → EReal) (c6 c7 : EReal) (i : Fin 1024) : EReal := if i.val = 0 then c6 else if i.val = 1 then c7 else G (⟨i.val - 2, by omega⟩ : Fin 1024)

/-- One half of a block of the first result. -/
theorem half_at (v3 : Vec Ideal S1024x2048 .bf16) (w u : Vec Ideal S1x2048x256 .f32) (fl : BitVec 1) (r : Vec Ideal S1x8x256 .f32)
    (c : Vec Ideal S3x256 .f32) (b : Vec Ideal S1x256 .f32) (i : Fin 1024) (j : Fin 256) :
    k0_pay12 (F := Ideal) (k0_pay5 v3 u) (k0_pay11 (k0_pay4 v3 w) rowNo (k0_pay6 v3 w) (k0_pay7 v3 w) fl r c b) (ix2 i j)
      = silu (conv (b (ix2 (0 : Fin 1) j))
          (prev2 (fun i => k0_pay4 (F := Ideal) v3 w (ix2 i j)) (if fl = 1#1 then 0 else r (ix3 (0 : Fin 1) (6 : Fin 8) j)) (if fl = 1#1 then 0 else r (ix3 (0 : Fin 1) (7 : Fin 8) j)) i)
          (c (ix2 (0 : Fin 3) j))
          (prev1 (fun i => k0_pay4 (F := Ideal) v3 w (ix2 i j)) (if fl = 1#1 then 0 else r (ix3 (0 : Fin 1) (7 : Fin 8) j)) i) (c (ix2 (1 : Fin 3) j))
          (k0_pay4 (F := Ideal) v3 w (ix2 i j)) (c (ix2 (2 : Fin 3) j))) * k0_pay4 (F := Ideal) v3 u (ix2 i j) := by
  refine (pay12_at _ _ i j).trans ?_
  rw [pay11_at, pay5_eq]
  unfold prev1 prev2
  by_cases h0 : i.val = 0
  · rw [if_pos h0, if_pos h0, if_pos h0, if_pos h0]
  · rw [if_neg h0, if_neg h0, if_neg h0, if_neg h0, pay6_at v3 w i j ⟨i.val - 1, by omega⟩ (by show i.val - 1 + 1 = i.val; omega)]
    by_cases h1 : i.val = 1
    · rw [if_pos h1, if_pos h1]
    · rw [if_neg h1, if_neg h1, pay7_at v3 w i j ⟨i.val - 2, by omega⟩ (by show i.val - 2 + 2 = i.val; omega)]

/-- A block of the first result at an index. -/
def hAt (fl : BitVec 1) (v3 : Vec Ideal S1024x2048 .bf16) (x2 x3 : Vec Ideal S1x2048x512 .f32) (x4 : Vec Ideal S3x512 .f32) (x5 : Vec Ideal S1x512 .f32)
    (row : Vec Ideal S1x8x512 .f32) (i : Fin 1024) (j : Fin 512) : EReal :=
  silu (conv (x5 (ix2 (0 : Fin 1) j)) (prev2 (gl v3 x2 j) (cr fl row 6 j) (cr fl row 7 j) i) (x4 (ix2 (0 : Fin 3) j))
    (prev1 (gl v3 x2 j) (cr fl row 7 j) i) (x4 (ix2 (1 : Fin 3) j)) (gl v3 x2 j i) (x4 (ix2 (2 : Fin 3) j))) * gl v3 x3 j i

theorem half_lo (fl : BitVec 1) (v3 : Vec Ideal S1024x2048 .bf16) (x2 x3 : Vec Ideal S1x2048x512 .f32) (x4 : Vec Ideal S3x512 .f32) (x5 : Vec Ideal S1x512 .f32)
    (row : Vec Ideal S1x8x512 .f32) (i : Fin 1024) (j : Fin 512) (h : j.val < 256) :
    k0_pay12 (F := Ideal) (k0_pay5 v3 (lo x3)) (k0_pay11 (k0_pay4 v3 (lo x2)) rowNo (k0_pay6 v3 (lo x2)) (k0_pay7 v3 (lo x2)) fl (rLo row) (cLo x4) (bLo x5)) (ix2 i (⟨j.val, h⟩ : Fin 256))
      = hAt fl v3 x2 x3 x4 x5 row i j := by
  refine (half_at _ _ _ _ _ _ _ i ⟨j.val, h⟩).trans ?_
  rw [bLo_at x5 j h, cLo_at x4 0 j h, cLo_at x4 1 j h, cLo_at x4 2 j h, rLo_at row 6 j h, rLo_at row 7 j h, gl_lo v3 x3 i j h, gl_lo v3 x2 i j h,
    funext fun i => gl_lo v3 x2 i j h]
  rfl
theorem half_hi (fl : BitVec 1) (v3 : Vec Ideal S1024x2048 .bf16) (x2 x3 : Vec Ideal S1x2048x512 .f32) (x4 : Vec Ideal S3x512 .f32) (x5 : Vec Ideal S1x512 .f32)
    (row : Vec Ideal S1x8x512 .f32) (i : Fin 1024) (j : Fin 512) (h : 256 ≤ j.val) :
    k0_pay12 (F := Ideal) (k0_pay5 v3 (hi x3)) (k0_pay11 (k0_pay4 v3 (hi x2)) rowNo (k0_pay6 v3 (hi x2)) (k0_pay7 v3 (hi x2)) fl (rHi row) (cHi x4) (bHi x5)) (ix2 i (⟨j.val - 256, by omega⟩ : Fin 256))
      = hAt fl v3 x2 x3 x4 x5 row i j := by
  refine (half_at _ _ _ _ _ _ _ i ⟨j.val - 256, by omega⟩).trans ?_
  rw [bHi_at x5 j h, cHi_at x4 0 j h, cHi_at x4 1 j h, cHi_at x4 2 j h, rHi_at row 6 j h, rHi_at row 7 j h, gl_hi v3 x3 i j h, gl_hi v3 x2 i j h,
    funext fun i => gl_hi v3 x2 i j h]
  rfl

theorem outH_at (fl : BitVec 1) (v3 : Vec Ideal S1024x2048 .bf16) (x2 x3 : Vec Ideal S1x2048x512 .f32) (x4 : Vec Ideal S3x512 .f32) (x5 : Vec Ideal S1x512 .f32)
    (row : Vec Ideal S1x8x512 .f32) (i : Fin 1024) (j : Fin 512) :
    outH fl v3 x2 x3 x4 x5 row (ix2 i j) = hAt fl v3 x2 x3 x4 x5 row i j := by
  unfold outH
  rw [← View.read_writes_junk_eq_canon (View.whole cc0_stg6_0)]
  unfold piecesH
  by_cases h : j.val < 256
  · rw [View.read_writes_cons_unit_of_not_mem (View.whole cc0_stg6_0) _ _ _ _ _ rfl (1 : Fin 2) (Or.inl h)]
    refine (View.read_writes_cons_unit_of_mem (View.whole cc0_stg6_0) _ _ _ _ _ (ix2 i (⟨j.val, h⟩ : Fin 256)) rfl (fun a => by
      match a with
      | ⟨0, _⟩ => exact (Nat.zero_add _).symm
      | ⟨1, _⟩ => exact (Nat.zero_add _).symm)).trans (half_lo fl v3 x2 x3 x4 x5 row i j h)
  · have h' := Nat.le_of_not_lt h
    refine (View.read_writes_cons_unit_of_mem (View.whole cc0_stg6_0) _ _ _ _ _ (ix2 i (⟨j.val - 256, by omega⟩ : Fin 256)) rfl (fun a => by
      match a with
      | ⟨0, _⟩ => exact (Nat.zero_add _).symm
      | ⟨1, _⟩ => exact (Nat.add_sub_of_le h').symm)).trans ?_
    rw [pay1_eq, pay14_eq, pay20_eq, pay13_eq, pay15_eq, pay16_eq, ← pay5_eq]
    exact half_hi fl v3 x2 x3 x4 x5 row i j h'

end Cert.Up
-- ==== Proof.UpRef.lean ====
/-
  The up projection's reference, read at an index.
-/
module

public import proofs.«01_k».proof.Proof.Up
public import proofs.«01_k».proof.Proof.Gen.Reference2Ideal.Run
public import proofs.«01_k».proof.Proof.Gen.Reference2Ideal.Read

@[expose] public section

set_option maxRecDepth 16384

noncomputable section
open Idealize.ShloMosaic Idealize.ShloMosaic.TcCoe Idealize.SL.Sem
namespace Cert.Up
open Cert.Reference2Ideal Cert.Reference2Ideal.Read Cert.Body
set_option maxHeartbeats 1000000

/-- One entry of the whole product: a normalised row and a column of the layer's weights. -/
def full (x0 : Vec Ideal S8192x2048 .f32) (x1 : Vec Ideal S4x2048 .f32) (x2 : Vec Ideal S4x2048x8192 .f32) (R : Fin 8192) (J : Fin 8192) : EReal :=
  ∑ k : Fin 2048, nrm (fun k => x0 (ix2 R k)) (fun k => x1 (ix2 (1 : Fin 4) k)) k * x2 (ix3 (1 : Fin 4) k J)

abbrev rw4 (b : Fin 4) (s : Fin 2048) : Fin 8192 := ⟨2048 * b.val + s.val, by omega⟩

theorem v0_at (x0 : Vec Ideal S8192x2048 .f32) (b : Fin 4) (s k : Fin 2048) : val_main_v0 (F := Ideal) x0 (ix3 b s k) = x0 (ix2 (rw4 b s) k) := by
  refine (val_main_v0_apply x0 _).trans (congrArg x0 (funext fun a => Fin.ext ?_))
  match a with
  | ⟨0, _⟩ => show ((b.val * 2048 + s.val) * 2048 + k.val) / 2048 = 2048 * b.val + s.val; omega
  | ⟨1, _⟩ => show ((b.val * 2048 + s.val) * 2048 + k.val) % 2048 = k.val; omega

theorem v2_at (x1 : Vec Ideal S4x2048 .f32) (k : Fin 2048) : val_main_v2 (F := Ideal) x1 (ix1 k) = x1 (ix2 (1 : Fin 4) k) := by
  pointwise [val_main_v2, val_main_v1]

theorem v11_at (x0 : Vec Ideal S8192x2048 .f32) (b : Fin 4) (s k : Fin 2048) : val_main_v11 (F := Ideal) x0 (ix3 b s k)
    = Ideal.rsqrt (Ideal.div (∑ j : Fin 2048, val_main_v0 (F := Ideal) x0 (ix3 b s j) * val_main_v0 (F := Ideal) x0 (ix3 b s j)) (Ideal.ofBits FTy.f32 0x45000000#32) + Ideal.ofBits FTy.f32 0x358637BD#32) := by
  pointwise [val_main_v11, val_main_v10, val_main_v9, val_main_v8, val_main_v7, val_main_v6, val_main_v5, val_main_v4, val_main_v3, val_main_cst, val_main_cst_0, val_main_cst_1]

theorem v14_at (x1 : Vec Ideal S4x2048 .f32) (b : Fin 4) (s k : Fin 2048) : val_main_v14 (F := Ideal) x1 (ix3 b s k) = val_main_v2 (F := Ideal) x1 (ix1 k) := by
  pointwise [val_main_v14, val_main_v13]

theorem v15_at (x0 : Vec Ideal S8192x2048 .f32) (x1 : Vec Ideal S4x2048 .f32) (b : Fin 4) (s k : Fin 2048) :
    val_main_v15 (F := Ideal) x0 x1 (ix3 b s k) = nrm (fun k => x0 (ix2 (rw4 b s) k)) (fun k => x1 (ix2 (1 : Fin 4) k)) k := by
  have e : val_main_v15 (F := Ideal) x0 x1 (ix3 b s k) = val_main_v0 (F := Ideal) x0 (ix3 b s k) * val_main_v11 (F := Ideal) x0 (ix3 b s k) * val_main_v14 (F := Ideal) x1 (ix3 b s k) := by
    pointwise [val_main_v15, val_main_v12]
  rw [e, v11_at, v14_at, v2_at, funext fun j => congrArg₂ (· * ·) (v0_at x0 b s j) (v0_at x0 b s j), v0_at]
  rfl

theorem v18_at (x0 : Vec Ideal S8192x2048 .f32) (x1 : Vec Ideal S4x2048 .f32) (x2 : Vec Ideal S4x2048x8192 .f32) (b : Fin 4) (s : Fin 2048) (J : Fin 8192) :
    val_main_v18 (F := Ideal) x0 x1 x2 (ix3 b s J) = full x0 x1 x2 (rw4 b s) J := by
  have e : val_main_v18 (F := Ideal) x0 x1 x2 (ix3 b s J) = ∑ k : Fin 2048, val_main_v15 (F := Ideal) x0 x1 (ix3 b s k) * x2 (ix3 (1 : Fin 4) k J) := by
    pointwise [val_main_v18, val_main_v17, val_main_v16]
  exact e.trans (Finset.sum_congr rfl fun k _ => congrArg (· * _) (v15_at x0 x1 b s k))

theorem v19_at (x0 : Vec Ideal S8192x2048 .f32) (x1 : Vec Ideal S4x2048 .f32) (x2 : Vec Ideal S4x2048x8192 .f32) (b : Fin 4) (s : Fin 2048) (J : Fin 4096) :
    val_main_v19 (F := Ideal) x0 x1 x2 (ix3 b s J) = full x0 x1 x2 (rw4 b s) ⟨J.val, by omega⟩ := by
  have e : val_main_v19 (F := Ideal) x0 x1 x2 (ix3 b s J) = val_main_v18 (F := Ideal) x0 x1 x2 (ix3 b s (⟨J.val, by omega⟩ : Fin 8192)) := by
    pointwise [val_main_v19]
  exact e.trans (v18_at x0 x1 x2 b s _)
theorem v20_at (x0 : Vec Ideal S8192x2048 .f32) (x1 : Vec Ideal S4x2048 .f32) (x2 : Vec Ideal S4x2048x8192 .f32) (b : Fin 4) (s : Fin 2048) (J : Fin 4096) :
    val_main_v20 (F := Ideal) x0 x1 x2 (ix3 b s J) = full x0 x1 x2 (rw4 b s) ⟨4096 + J.val, by omega⟩ := by
  have e : val_main_v20 (F := Ideal) x0 x1 x2 (ix3 b s J) = val_main_v18 (F := Ideal) x0 x1 x2 (ix3 b s (⟨4096 + J.val, by omega⟩ : Fin 8192)) := by
    pointwise [val_main_v20]
  exact e.trans (v18_at x0 x1 x2 b s _)

/-- The gate's rows behind two rows of zeros. -/
theorem v22_lt (x0 : Vec Ideal S8192x2048 .f32) (x1 : Vec Ideal S4x2048 .f32) (x2 : Vec Ideal S4x2048x8192 .f32) (b : Fin 4) (s : Fin 2050) (J : Fin 4096) (h : s.val < 2) :
    val_main_v22 (F := Ideal) x0 x1 x2 (ix3 b s J) = 0 := by
  unfold val_main_v22
  refine (concatenate_pair_apply_left (s₁ := S4x2x4096) (s₂ := S4x2048x4096) (1 : Fin 3) _ _ _ (ix3 b s J) rfl (ix3 b (⟨s.val, h⟩ : Fin 2) J) (fun a => by
    match a with
    | ⟨0, _⟩ => rfl
    | ⟨1, _⟩ => rfl
    | ⟨2, _⟩ => rfl)).trans ?_
  pointwise [val_main_v21, val_main_cst_2]
theorem v22_ge (x0 : Vec Ideal S8192x2048 .f32) (x1 : Vec Ideal S4x2048 .f32) (x2 : Vec Ideal S4x2048x8192 .f32) (b : Fin 4) (s : Fin 2050) (J : Fin 4096) (s' : Fin 2048) (h : s'.val + 2 = s.val) :
    val_main_v22 (F := Ideal) x0 x1 x2 (ix3 b s J) = full x0 x1 x2 (rw4 b s') ⟨J.val, by omega⟩ := by
  unfold val_main_v22
  refine (concatenate_pair_apply_right (s₁ := S4x2x4096) (s₂ := S4x2048x4096) (1 : Fin 3) _ _ _ (ix3 b s J) rfl rfl (ix3 b s' J) (fun a => by
    match a with
    | ⟨0, _⟩ => exact fun _ => rfl
    | ⟨1, _⟩ => exact fun h => absurd rfl h
    | ⟨2, _⟩ => exact fun _ => rfl) (by show s'.val + 2 = s.val; exact h)).trans ?_
  exact v19_at x0 x1 x2 b s' J

/-- The rows the convolution reads at a row of a sequence. -/
theorem v25_at (x0 : Vec Ideal S8192x2048 .f32) (x1 : Vec Ideal S4x2048 .f32) (x2 : Vec Ideal S4x2048x8192 .f32) (b : Fin 4) (s : Fin 2048) (J : Fin 4096) :
    val_main_v25 (F := Ideal) x0 x1 x2 (ix3 b s J) = val_main_v22 (F := Ideal) x0 x1 x2 (ix3 b (⟨s.val, by omega⟩ : Fin 2050) J) := by
  pointwise [val_main_v25]
theorem v34_at (x0 : Vec Ideal S8192x2048 .f32) (x1 : Vec Ideal S4x2048 .f32) (x2 : Vec Ideal S4x2048x8192 .f32) (b : Fin 4) (s : Fin 2048) (J : Fin 4096) :
    val_main_v34 (F := Ideal) x0 x1 x2 (ix3 b s J) = val_main_v22 (F := Ideal) x0 x1 x2 (ix3 b (⟨1 + s.val, by omega⟩ : Fin 2050) J) := by
  pointwise [val_main_v34]
theorem v41_at (x0 : Vec Ideal S8192x2048 .f32) (x1 : Vec Ideal S4x2048 .f32) (x2 : Vec Ideal S4x2048x8192 .f32) (b : Fin 4) (s : Fin 2048) (J : Fin 4096) :
    val_main_v41 (F := Ideal) x0 x1 x2 (ix3 b s J) = val_main_v22 (F := Ideal) x0 x1 x2 (ix3 b (⟨2 + s.val, by omega⟩ : Fin 2050) J) := by
  pointwise [val_main_v41]

theorem v29_at (x3 : Vec Ideal S4x3x4096 .f32) (b : Fin 4) (s : Fin 2048) (J : Fin 4096) : val_main_v29 (F := Ideal) x3 (ix3 b s J) = x3 (ix3 (1 : Fin 4) (0 : Fin 3) J) := by
  pointwise [val_main_v29, val_main_v28, val_main_v27, val_main_v26]
theorem v38_at (x3 : Vec Ideal S4x3x4096 .f32) (b : Fin 4) (s : Fin 2048) (J : Fin 4096) : val_main_v38 (F := Ideal) x3 (ix3 b s J) = x3 (ix3 (1 : Fin 4) (1 : Fin 3) J) := by
  pointwise [val_main_v38, val_main_v37, val_main_v36, val_main_v35]
theorem v45_at (x3 : Vec Ideal S4x3x4096 .f32) (b : Fin 4) (s : Fin 2048) (J : Fin 4096) : val_main_v45 (F := Ideal) x3 (ix3 b s J) = x3 (ix3 (1 : Fin 4) (2 : Fin 3) J) := by
  pointwise [val_main_v45, val_main_v44, val_main_v43, val_main_v42]
theorem v32_at (x4 : Vec Ideal S4x4096 .f32) (b : Fin 4) (s : Fin 2048) (J : Fin 4096) : val_main_v32 (F := Ideal) x4 (ix3 b s J) = x4 (ix2 (1 : Fin 4) J) := by
  pointwise [val_main_v32, val_main_v31, val_main_v24, val_main_v23]

/-- The row `d` before a row of the whole array: none before its sequence's first. -/
def back (x0 : Vec Ideal S8192x2048 .f32) (x1 : Vec Ideal S4x2048 .f32) (x2 : Vec Ideal S4x2048x8192 .f32) (d : ℕ) (R : Fin 8192) (J : Fin 4096) : EReal :=
  if R.val % 2048 < d then 0 else full x0 x1 x2 ⟨R.val - d, by omega⟩ ⟨J.val, by omega⟩

/-- The first result at an index. -/
def resH (x0 : Vec Ideal S8192x2048 .f32) (x1 : Vec Ideal S4x2048 .f32) (x2 : Vec Ideal S4x2048x8192 .f32) (x3 : Vec Ideal S4x3x4096 .f32) (x4 : Vec Ideal S4x4096 .f32)
    (R : Fin 8192) (J : Fin 4096) : EReal :=
  silu (conv (x4 (ix2 (1 : Fin 4) J)) (back x0 x1 x2 2 R J) (x3 (ix3 (1 : Fin 4) (0 : Fin 3) J)) (back x0 x1 x2 1 R J) (x3 (ix3 (1 : Fin 4) (1 : Fin 3) J))
    (full x0 x1 x2 R ⟨J.val, by omega⟩) (x3 (ix3 (1 : Fin 4) (2 : Fin 3) J))) * full x0 x1 x2 R ⟨4096 + J.val, by omega⟩

theorem v25_back (x0 : Vec Ideal S8192x2048 .f32) (x1 : Vec Ideal S4x2048 .f32) (x2 : Vec Ideal S4x2048x8192 .f32) (b : Fin 4) (s : Fin 2048) (J : Fin 4096) :
    val_main_v25 (F := Ideal) x0 x1 x2 (ix3 b s J) = back x0 x1 x2 2 (rw4 b s) J := by
  rw [v25_at]
  unfold back
  by_cases h : s.val < 2
  · rw [v22_lt _ _ _ _ _ _ h, if_pos (by show (2048 * b.val + s.val) % 2048 < 2; omega)]
  · rw [v22_ge _ _ _ _ _ _ ⟨s.val - 2, by omega⟩ (by show s.val - 2 + 2 = s.val; omega), if_neg (by show ¬(2048 * b.val + s.val) % 2048 < 2; omega)]
    refine congrArg (fun r => full x0 x1 x2 r _) (Fin.ext ?_)
    show 2048 * b.val + (s.val - 2) = 2048 * b.val + s.val - 2
    omega
theorem v34_back (x0 : Vec Ideal S8192x2048 .f32) (x1 : Vec Ideal S4x2048 .f32) (x2 : Vec Ideal S4x2048x8192 .f32) (b : Fin 4) (s : Fin 2048) (J : Fin 4096) :
    val_main_v34 (F := Ideal) x0 x1 x2 (ix3 b s J) = back x0 x1 x2 1 (rw4 b s) J := by
  rw [v34_at]
  unfold back
  by_cases h : s.val < 1
  · rw [v22_lt _ _ _ _ _ _ (by show 1 + s.val < 2; omega), if_pos (by show (2048 * b.val + s.val) % 2048 < 1; omega)]
  · rw [v22_ge _ _ _ _ _ _ ⟨s.val - 1, by omega⟩ (by show s.val - 1 + 2 = 1 + s.val; omega), if_neg (by show ¬(2048 * b.val + s.val) % 2048 < 1; omega)]
    refine congrArg (fun r => full x0 x1 x2 r _) (Fin.ext ?_)
    show 2048 * b.val + (s.val - 1) = 2048 * b.val + s.val - 1
    omega
theorem v41_back (x0 : Vec Ideal S8192x2048 .f32) (x1 : Vec Ideal S4x2048 .f32) (x2 : Vec Ideal S4x2048x8192 .f32) (b : Fin 4) (s : Fin 2048) (J : Fin 4096) :
    val_main_v41 (F := Ideal) x0 x1 x2 (ix3 b s J) = full x0 x1 x2 (rw4 b s) ⟨J.val, by omega⟩ := by
  rw [v41_at]
  exact v22_ge _ _ _ _ _ _ s (by show s.val + 2 = 2 + s.val; omega)

theorem v47_at (x0 : Vec Ideal S8192x2048 .f32) (x1 : Vec Ideal S4x2048 .f32) (x2 : Vec Ideal S4x2048x8192 .f32) (x3 : Vec Ideal S4x3x4096 .f32) (x4 : Vec Ideal S4x4096 .f32)
    (b : Fin 4) (s : Fin 2048) (J : Fin 4096) : val_main_v47 (F := Ideal) x0 x1 x2 x3 x4 (ix3 b s J)
      = conv (x4 (ix2 (1 : Fin 4) J)) (back x0 x1 x2 2 (rw4 b s) J) (x3 (ix3 (1 : Fin 4) (0 : Fin 3) J)) (back x0 x1 x2 1 (rw4 b s) J) (x3 (ix3 (1 : Fin 4) (1 : Fin 3) J))
          (full x0 x1 x2 (rw4 b s) ⟨J.val, by omega⟩) (x3 (ix3 (1 : Fin 4) (2 : Fin 3) J)) := by
  have e : val_main_v47 (F := Ideal) x0 x1 x2 x3 x4 (ix3 b s J)
      = val_main_v32 (F := Ideal) x4 (ix3 b s J) + val_main_v25 (F := Ideal) x0 x1 x2 (ix3 b s J) * val_main_v29 (F := Ideal) x3 (ix3 b s J)
        + val_main_v34 (F := Ideal) x0 x1 x2 (ix3 b s J) * val_main_v38 (F := Ideal) x3 (ix3 b s J)
        + val_main_v41 (F := Ideal) x0 x1 x2 (ix3 b s J) * val_main_v45 (F := Ideal) x3 (ix3 b s J) := by
    pointwise [val_main_v47, val_main_v46, val_main_v40, val_main_v39, val_main_v33, val_main_v30]
  rw [e, v32_at, v25_back, v29_at, v34_back, v38_at, v41_back, v45_at]
  rfl

theorem v49_at (x0 : Vec Ideal S8192x2048 .f32) (x1 : Vec Ideal S4x2048 .f32) (x2 : Vec Ideal S4x2048x8192 .f32) (x3 : Vec Ideal S4x3x4096 .f32) (x4 : Vec Ideal S4x4096 .f32)
    (b : Fin 4) (s : Fin 2048) (J : Fin 4096) : val_main_v49 (F := Ideal) x0 x1 x2 x3 x4 (ix3 b s J) = resH x0 x1 x2 x3 x4 (rw4 b s) J := by
  have e : val_main_v49 (F := Ideal) x0 x1 x2 x3 x4 (ix3 b s J)
      = silu (val_main_v47 (F := Ideal) x0 x1 x2 x3 x4 (ix3 b s J)) * val_main_v20 (F := Ideal) x0 x1 x2 (ix3 b s J) := by
    pointwise [val_main_v49, val_main_v48, val_main_call0_v5, val_main_call0_v4, val_main_call0_v3, val_main_call0_v2, val_main_call0_v1, val_main_call0_v0, val_main_call0_cst, val_main_call0_cst_0, silu]
  rw [e, v47_at, v20_at]
  rfl

theorem ref_h (x0 : Vec Ideal S8192x2048 .f32) (x1 : Vec Ideal S4x2048 .f32) (x2 : Vec Ideal S4x2048x8192 .f32) (x3 : Vec Ideal S4x3x4096 .f32) (x4 : Vec Ideal S4x4096 .f32)
    (R : Fin 8192) (J : Fin 4096) : val_main_v51 (F := Ideal) x0 x1 x2 x3 x4 (ix2 R J) = resH x0 x1 x2 x3 x4 R J := by
  have e : val_main_v51 (F := Ideal) x0 x1 x2 x3 x4 (ix2 R J) = val_main_v50 (F := Ideal) x0 x1 x2 x3 x4 (ix2 R J) := by
    pointwise [val_main_v51]
  refine e.trans ((val_main_v50_apply x0 x1 x2 x3 x4 _).trans ?_)
  have ei : idx_main_v50 (ix2 R J) = ix3 (⟨R.val / 2048, by omega⟩ : Fin 4) (⟨R.val % 2048, by omega⟩ : Fin 2048) J := by
    refine funext fun a => Fin.ext ?_
    match a with
    | ⟨0, _⟩ => show (R.val * 4096 + J.val) / 8388608 = R.val / 2048; omega
    | ⟨1, _⟩ => show (R.val * 4096 + J.val) / 4096 % 2048 = R.val % 2048; omega
    | ⟨2, _⟩ => show (R.val * 4096 + J.val) % 4096 = J.val; omega
  rw [ei, v49_at]
  refine congrArg (fun r => resH x0 x1 x2 x3 x4 r J) (Fin.ext ?_)
  show 2048 * (R.val / 2048) + R.val % 2048 = R.val
  omega

/-- The second result at an index: the gate's last rows in a block of rows. -/
theorem ref_t (x0 : Vec Ideal S8192x2048 .f32) (x1 : Vec Ideal S4x2048 .f32) (x2 : Vec Ideal S4x2048x8192 .f32) (q r : Fin 8) (J : Fin 4096) :
    val_main_v53 (F := Ideal) x0 x1 x2 (ix3 q r J) = full x0 x1 x2 ⟨1024 * q.val + (1016 + r.val), by omega⟩ ⟨J.val, by omega⟩ := by
  refine (val_main_v53_apply x0 x1 x2 _).trans ((val_main_v52_apply x0 x1 x2 _).trans ?_)
  have ei : idx_main_v52 (idx_main_v53 (ix3 q r J)) = ix3 (⟨q.val / 2, by omega⟩ : Fin 4) (⟨1024 * (q.val % 2) + (1016 + r.val), by omega⟩ : Fin 2048) J := by
    refine funext fun a => Fin.ext ?_
    match a with
    | ⟨0, _⟩ => show ((q.val * 1024 + (1016 + r.val)) * 4096 + J.val) / 8388608 = q.val / 2; omega
    | ⟨1, _⟩ => show ((q.val * 1024 + (1016 + r.val)) * 4096 + J.val) / 4096 % 2048 = 1024 * (q.val % 2) + (1016 + r.val); omega
    | ⟨2, _⟩ => show ((q.val * 1024 + (1016 + r.val)) * 4096 + J.val) % 4096 = J.val; omega
  rw [ei, v19_at]
  refine congrArg (fun r => full x0 x1 x2 r _) (Fin.ext ?_)
  show 2048 * (q.val / 2) + (1024 * (q.val % 2) + (1016 + r.val)) = 1024 * q.val + (1016 + r.val)
  omega

end Cert.Up
-- ==== Proof.UpFinal.lean ====
/-
  The up projection's two results, block by block, are the reference's.
-/
module

public import proofs.«01_k».proof.Proof.UpRef

@[expose] public section

set_option maxRecDepth 16384

noncomputable section
open Idealize.ShloMosaic Idealize.ShloMosaic.TcCoe Idealize.SL.Sem
open Idealize.ShloMosaic.Pipeline (Dat)
namespace Cert.Up
open Cert.Kernel2Ideal Cert.Kernel2Ideal.Gen Cert.Body
set_option maxHeartbeats 1000000
variable (m : (ℓ : Loc nD τ sig) → Buf (Elt Ideal) ℓ)

abbrev aX (c : Dev nD) : Vec Ideal S8192x2048 .f32 := m (c, Proc.tc.devRef main_arg0)
abbrev aG (c : Dev nD) : Vec Ideal S4x2048 .f32 := m (c, Proc.tc.devRef main_arg1)
abbrev aW (c : Dev nD) : Vec Ideal S4x2048x8192 .f32 := m (c, Proc.tc.devRef main_arg2)
abbrev aC (c : Dev nD) : Vec Ideal S4x3x4096 .f32 := m (c, Proc.tc.devRef main_arg3)
abbrev aB (c : Dev nD) : Vec Ideal S4x4096 .f32 := m (c, Proc.tc.devRef main_arg4)

/-- Which blocks the windows hold at a point. -/
theorem index_all : ∀ t : Fin cfg0.N, (win0_0.index t (0 : Fin 2) = t.val / 8 ∧ win0_0.index t (1 : Fin 2) = 0)
    ∧ (win0_1.index t (0 : Fin 2) = 0 ∧ win0_1.index t (1 : Fin 2) = 0)
    ∧ (win0_2.index t (0 : Fin 3) = 1 ∧ win0_2.index t (1 : Fin 3) = 0 ∧ win0_2.index t (2 : Fin 3) = t.val % 8)
    ∧ (win0_3.index t (0 : Fin 3) = 1 ∧ win0_3.index t (1 : Fin 3) = 0 ∧ win0_3.index t (2 : Fin 3) = t.val % 8 + 8)
    ∧ (win0_4.index t (0 : Fin 2) = 0 ∧ win0_4.index t (1 : Fin 2) = t.val % 8)
    ∧ (win0_5.index t (0 : Fin 2) = 0 ∧ win0_5.index t (1 : Fin 2) = t.val % 8)
    ∧ (win0_6.index t (0 : Fin 2) = t.val / 8 ∧ win0_6.index t (1 : Fin 2) = t.val % 8)
    ∧ (win0_7.index t (0 : Fin 3) = t.val / 8 ∧ win0_7.index t (1 : Fin 3) = 0 ∧ win0_7.index t (2 : Fin 3) = t.val % 8) :=
  (by decide +kernel : ∀ t : Fin grid0.N, _)

theorem blk0 (c : Dev nD) (t : Fin cfg0.N) (r : Fin 1024) (k : Fin 2048) :
    iblk m c 0 t (ix2 r k) = aX m c (ix2 (⟨1024 * (t.val / 8) + r.val, by have := lt_N t; omega⟩ : Fin 8192) k) := by
  obtain ⟨⟨i0, i1⟩, -⟩ := index_all t
  refine congrArg (aX m c) (funext fun a => Fin.ext ?_)
  match a with
  | ⟨0, _⟩ => show win0_0.index t (0 : Fin 2) * 1024 + 1 * r.val = 1024 * (t.val / 8) + r.val; omega
  | ⟨1, _⟩ => show win0_0.index t (1 : Fin 2) * 2048 + 1 * k.val = k.val; omega

theorem gain_eq (c : Dev nD) : V m c main_v6 = shapeCast S1x2048 (shapeCast S2048 (extractStridedSlice S1x2048 ![1, 0] (aG m c) slices_S4x2048_S1x2048_1_0) shapeCasts_S1x2048_S2048) shapeCasts_S2048_S1x2048 := by
  rfl
theorem taps_eq (c : Dev nD) : V m c main_v3 = shapeCast S3x4096 (extractStridedSlice S1x3x4096 ![1, 0, 0] (aC m c) slices_S4x3x4096_S1x3x4096_1_0_0) shapeCasts_S1x3x4096_S3x4096 := by
  rfl
theorem bias_eq (c : Dev nD) : V m c main_v7 = shapeCast S1x4096 (shapeCast S4096 (extractStridedSlice S1x4096 ![1, 0] (aB m c) slices_S4x4096_S1x4096_1_0) shapeCasts_S1x4096_S4096) shapeCasts_S4096_S1x4096 := by
  rfl

theorem blk1 (c : Dev nD) (t : Fin cfg0.N) (k : Fin 2048) :
    iblk m c 1 t (ix2 (0 : Fin 1) k) = aG m c (ix2 (1 : Fin 4) k) := by
  obtain ⟨-, ⟨i0, i1⟩, -⟩ := index_all t
  have e : iblk m c 1 t (ix2 (0 : Fin 1) k) = V m c main_v6 (ix2 (0 : Fin 1) k) := by
    refine congrArg (V m c main_v6) (funext fun a => Fin.ext ?_)
    match a with
    | ⟨0, _⟩ => show win0_1.index t (0 : Fin 2) * 1 + 1 * 0 = 0; omega
    | ⟨1, _⟩ => show win0_1.index t (1 : Fin 2) * 2048 + 1 * k.val = k.val; omega
  refine e.trans ?_
  rw [gain_eq]
  pointwise []

theorem blk2 (c : Dev nD) (t : Fin cfg0.N) (k : Fin 2048) (d : Fin 512) :
    iblk m c 2 t (ix3 (0 : Fin 1) k d) = aW m c (ix3 (1 : Fin 4) k (⟨512 * (t.val % 8) + d.val, by omega⟩ : Fin 8192)) := by
  obtain ⟨-, -, ⟨i0, i1, i2⟩, -⟩ := index_all t
  refine congrArg (aW m c) (funext fun a => Fin.ext ?_)
  match a with
  | ⟨0, _⟩ => show win0_2.index t (0 : Fin 3) * 1 + 1 * 0 = 1; omega
  | ⟨1, _⟩ => show win0_2.index t (1 : Fin 3) * 2048 + 1 * k.val = k.val; omega
  | ⟨2, _⟩ => show win0_2.index t (2 : Fin 3) * 512 + 1 * d.val = 512 * (t.val % 8) + d.val; omega

theorem blk3 (c : Dev nD) (t : Fin cfg0.N) (k : Fin 2048) (d : Fin 512) :
    iblk m c 3 t (ix3 (0 : Fin 1) k d) = aW m c (ix3 (1 : Fin 4) k (⟨4096 + (512 * (t.val % 8) + d.val), by omega⟩ : Fin 8192)) := by
  obtain ⟨-, -, -, ⟨i0, i1, i2⟩, -⟩ := index_all t
  refine congrArg (aW m c) (funext fun a => Fin.ext ?_)
  match a with
  | ⟨0, _⟩ => show win0_3.index t (0 : Fin 3) * 1 + 1 * 0 = 1; omega
  | ⟨1, _⟩ => show win0_3.index t (1 : Fin 3) * 2048 + 1 * k.val = k.val; omega
  | ⟨2, _⟩ => show win0_3.index t (2 : Fin 3) * 512 + 1 * d.val = 4096 + (512 * (t.val % 8) + d.val); omega

theorem blk4 (c : Dev nD) (t : Fin cfg0.N) (a : Fin 3) (d : Fin 512) :
    iblk m c 4 t (ix2 a d) = aC m c (ix3 (1 : Fin 4) a (⟨512 * (t.val % 8) + d.val, by omega⟩ : Fin 4096)) := by
  obtain ⟨-, -, -, -, ⟨i0, i1⟩, -⟩ := index_all t
  have e : iblk m c 4 t (ix2 a d) = V m c main_v3 (ix2 a (⟨512 * (t.val % 8) + d.val, by omega⟩ : Fin 4096)) := by
    refine congrArg (V m c main_v3) (funext fun b => Fin.ext ?_)
    match b with
    | ⟨0, _⟩ => show win0_4.index t (0 : Fin 2) * 3 + 1 * a.val = a.val; omega
    | ⟨1, _⟩ => show win0_4.index t (1 : Fin 2) * 512 + 1 * d.val = 512 * (t.val % 8) + d.val; omega
  refine e.trans ?_
  rw [taps_eq]
  generalize (⟨512 * (t.val % 8) + d.val, _⟩ : Fin 4096) = J
  pointwise []

theorem blk5 (c : Dev nD) (t : Fin cfg0.N) (d : Fin 512) :
    iblk m c 5 t (ix2 (0 : Fin 1) d) = aB m c (ix2 (1 : Fin 4) (⟨512 * (t.val % 8) + d.val, by omega⟩ : Fin 4096)) := by
  obtain ⟨-, -, -, -, -, ⟨i0, i1⟩, -⟩ := index_all t
  have e : iblk m c 5 t (ix2 (0 : Fin 1) d) = V m c main_v7 (ix2 (0 : Fin 1) (⟨512 * (t.val % 8) + d.val, by omega⟩ : Fin 4096)) := by
    refine congrArg (V m c main_v7) (funext fun b => Fin.ext ?_)
    match b with
    | ⟨0, _⟩ => show win0_5.index t (0 : Fin 2) * 1 + 1 * 0 = 0; omega
    | ⟨1, _⟩ => show win0_5.index t (1 : Fin 2) * 512 + 1 * d.val = 512 * (t.val % 8) + d.val; omega
  refine e.trans ?_
  rw [bias_eq]
  generalize (⟨512 * (t.val % 8) + d.val, _⟩ : Fin 4096) = J
  pointwise []

/-- The whole array's row and column of a block's. -/
abbrev rowOf (t : Fin cfg0.N) (i : Fin 1024) : Fin 8192 := ⟨1024 * (t.val / 8) + i.val, by have := lt_N t; omega⟩
abbrev colOf (t : Fin cfg0.N) (j : Fin 512) : Fin 4096 := ⟨512 * (t.val % 8) + j.val, by omega⟩

theorem pt_of_lt {n : ℕ} (h : n < 64) : (pt n).val = n := Nat.mod_eq_of_lt (lt_of_lt_of_eq h N_0.symm)

theorem xn_at (c : Dev nD) (t : Fin cfg0.N) (i : Fin 1024) (k : Fin 2048) :
    xnAt m c t.val (ix2 i k) = nrm (fun k => aX m c (ix2 (rowOf t i) k)) (fun k => aG m c (ix2 (1 : Fin 4) k)) k := by
  unfold xnAt
  have hp : (pt (t.val / 8 * 8)).val = t.val / 8 * 8 := pt_of_lt (by have := lt_N t; omega)
  rw [norm_at]
  refine congrArg₂ (fun x g => nrm x g k) (funext fun k' => ?_) (funext fun k' => blk1 m c _ k')
  rw [blk0]
  refine congrArg (aX m c) (ix2_eq ?_ rfl)
  show 1024 * ((pt (t.val / 8 * 8)).val / 8) + i.val = 1024 * (t.val / 8) + i.val
  rw [hp]
  omega

theorem gate_at (c : Dev nD) (t : Fin cfg0.N) (j : Fin 512) (i : Fin 1024) :
    gl (xnAt m c t.val) (iblk m c 2 t) j i = full (aX m c) (aG m c) (aW m c) (rowOf t i) ⟨(colOf t j).val, by omega⟩ :=
  Finset.sum_congr rfl fun k _ => congrArg₂ (· * ·) (xn_at m c t i k) (blk2 m c t k j)

theorem up_at (c : Dev nD) (t : Fin cfg0.N) (j : Fin 512) (i : Fin 1024) :
    gl (xnAt m c t.val) (iblk m c 3 t) j i = full (aX m c) (aG m c) (aW m c) (rowOf t i) ⟨4096 + (colOf t j).val, by omega⟩ :=
  Finset.sum_congr rfl fun k _ => congrArg₂ (· * ·) (xn_at m c t i k) (blk3 m c t k j)

/-- The last rows of a block's gate. -/
theorem tail_at (c : Dev nD) (t : Fin cfg0.N) (r : Fin 8) (j : Fin 512) :
    outT (xnAt m c t.val) (iblk m c 2 t) (ix3 (0 : Fin 1) r j)
      = full (aX m c) (aG m c) (aW m c) ⟨1024 * (t.val / 8) + (1016 + r.val), by have := lt_N t; omega⟩ ⟨(colOf t j).val, by omega⟩ :=
  (outT_at _ _ r j).trans (gate_at m c t j _)

theorem flag_at (t : Fin cfg0.N) : flag (grid0.coords t) = if t.val / 8 % 2 = 0 then 1#1 else 0#1 := by
  have e : flag (grid0.coords t) = if (grid0.coords t 0).val % 2 = 0 then 1#1 else 0#1 := flagOf_eq (grid0.coords t 0)
  rw [e, coord_0]

/-- The row carried into a block is the row before it, and zero where a sequence opens. -/
theorem carry_at (c : Dev nD) (t : Fin cfg0.N) (a : Fin 8) (j : Fin 512) :
    cr (flag (grid0.coords t)) (rowAt m c t.val) a j
      = if t.val / 8 % 2 = 0 then 0 else full (aX m c) (aG m c) (aW m c) ⟨1024 * (t.val / 8) + a.val - 8, by have := lt_N t; omega⟩ ⟨(colOf t j).val, by omega⟩ := by
  unfold cr
  rw [flag_at]
  by_cases h : t.val / 8 % 2 = 0
  · rw [if_pos h, if_pos rfl, if_pos h]
  · rw [if_neg h, if_neg (by decide), if_neg h]
    have hN := lt_N t
    have h8 : ¬t.val < 8 := by omega
    unfold rowAt
    rw [if_neg h8]
    have hp : (pt (t.val - 8)).val = t.val - 8 := pt_of_lt (by omega)
    unfold tlAt
    have e := tail_at m c (pt (t.val - 8)) a j
    have e0 : outT (xnAt m c (t.val - 8)) (iblk m c 2 (pt (t.val - 8))) = outT (xnAt m c (pt (t.val - 8)).val) (iblk m c 2 (pt (t.val - 8))) := by rw [hp]
    refine (congrFun e0 _).trans (e.trans (congrArg₂ (full (aX m c) (aG m c) (aW m c)) (Fin.ext ?_) (Fin.ext ?_)))
    · show 1024 * ((pt (t.val - 8)).val / 8) + (1016 + a.val) = 1024 * (t.val / 8) + a.val - 8
      rw [hp]
      omega
    · show 512 * ((pt (t.val - 8)).val % 8) + j.val = 512 * (t.val % 8) + j.val
      rw [hp]
      omega

theorem prev1_eq (c : Dev nD) (t : Fin cfg0.N) (j : Fin 512) (i : Fin 1024) :
    prev1 (gl (xnAt m c t.val) (iblk m c 2 t) j) (cr (flag (grid0.coords t)) (rowAt m c t.val) 7 j) i
      = back (aX m c) (aG m c) (aW m c) 1 (rowOf t i) (colOf t j) := by
  unfold prev1 back
  have hN := lt_N t
  by_cases h : i.val = 0
  · rw [if_pos h, carry_at]
    by_cases h2 : t.val / 8 % 2 = 0
    · rw [if_pos h2, if_pos (by show (1024 * (t.val / 8) + i.val) % 2048 < 1; omega)]
    · rw [if_neg h2, if_neg (by show ¬(1024 * (t.val / 8) + i.val) % 2048 < 1; omega)]
      refine congrArg₂ (full (aX m c) (aG m c) (aW m c)) (Fin.ext ?_) rfl
      show 1024 * (t.val / 8) + 7 - 8 = 1024 * (t.val / 8) + i.val - 1
      omega
  · rw [if_neg h, if_neg (by show ¬(1024 * (t.val / 8) + i.val) % 2048 < 1; omega), gate_at]
    refine congrArg₂ (full (aX m c) (aG m c) (aW m c)) (Fin.ext ?_) rfl
    show 1024 * (t.val / 8) + (i.val - 1) = 1024 * (t.val / 8) + i.val - 1
    omega

theorem prev2_eq (c : Dev nD) (t : Fin cfg0.N) (j : Fin 512) (i : Fin 1024) :
    prev2 (gl (xnAt m c t.val) (iblk m c 2 t) j) (cr (flag (grid0.coords t)) (rowAt m c t.val) 6 j) (cr (flag (grid0.coords t)) (rowAt m c t.val) 7 j) i
      = back (aX m c) (aG m c) (aW m c) 2 (rowOf t i) (colOf t j) := by
  unfold prev2 back
  have hN := lt_N t
  by_cases h : i.val = 0
  · rw [if_pos h, carry_at]
    by_cases h2 : t.val / 8 % 2 = 0
    · rw [if_pos h2, if_pos (by show (1024 * (t.val / 8) + i.val) % 2048 < 2; omega)]
    · rw [if_neg h2, if_neg (by show ¬(1024 * (t.val / 8) + i.val) % 2048 < 2; omega)]
      refine congrArg₂ (full (aX m c) (aG m c) (aW m c)) (Fin.ext ?_) rfl
      show 1024 * (t.val / 8) + 6 - 8 = 1024 * (t.val / 8) + i.val - 2
      omega
  · rw [if_neg h]
    by_cases h1 : i.val = 1
    · rw [if_pos h1, carry_at]
      by_cases h2 : t.val / 8 % 2 = 0
      · rw [if_pos h2, if_pos (by show (1024 * (t.val / 8) + i.val) % 2048 < 2; omega)]
      · rw [if_neg h2, if_neg (by show ¬(1024 * (t.val / 8) + i.val) % 2048 < 2; omega)]
        refine congrArg₂ (full (aX m c) (aG m c) (aW m c)) (Fin.ext ?_) rfl
        show 1024 * (t.val / 8) + 7 - 8 = 1024 * (t.val / 8) + i.val - 2
        omega
    · rw [if_neg h1, if_neg (by show ¬(1024 * (t.val / 8) + i.val) % 2048 < 2; omega), gate_at]
      refine congrArg₂ (full (aX m c) (aG m c) (aW m c)) (Fin.ext ?_) rfl
      show 1024 * (t.val / 8) + (i.val - 2) = 1024 * (t.val / 8) + i.val - 2
      omega

/-- What a point stores is the reference's block. -/
theorem block_h (c : Dev nD) (t : Fin cfg0.N) (i : Fin 1024) (j : Fin 512) :
    hAt (flag (grid0.coords t)) (xnAt m c t.val) (iblk m c 2 t) (iblk m c 3 t) (iblk m c 4 t) (iblk m c 5 t) (rowAt m c t.val) i j
      = resH (aX m c) (aG m c) (aW m c) (aC m c) (aB m c) (rowOf t i) (colOf t j) := by
  unfold hAt resH
  rw [prev1_eq, prev2_eq, gate_at, up_at, blk4, blk4, blk4, blk5]

theorem final_h (c : Dev nD) : (dats m 0 c).arrAt 6 cfg0.N = Cert.Reference2Ideal.Read.val_main_v51 (F := Ideal) (aX m c) (aG m c) (aW m c) (aC m c) (aB m c) := by
  refine (dats m 0 c).arrAt_eq_of_covers 6 _ (by decide +kernel) fun t hf y => ?_
  blk_simp
  rw [after0_6]
  obtain ⟨i, j, rfl⟩ : ∃ (i : Fin 1024) (j : Fin 512), y = ix2 i j := ⟨y 0, y 1, eq_ix2 y⟩
  have e : (((View.whole main_v8_0).slice (win0_6.rect t)).emb (ix2 i j) : S8192x4096.Idx) = ix2 (rowOf t i) (colOf t j) := by
    obtain ⟨-, -, -, -, -, -, ⟨i0, i1⟩, -⟩ := index_all t
    refine funext fun a => Fin.ext ?_
    match a with
    | ⟨0, _⟩ => show win0_6.index t (0 : Fin 2) * 1024 + 1 * i.val = 1024 * (t.val / 8) + i.val; omega
    | ⟨1, _⟩ => show win0_6.index t (1 : Fin 2) * 512 + 1 * j.val = 512 * (t.val % 8) + j.val; omega
  rw [e, ref_h, outH_at, block_h]

theorem final_t (c : Dev nD) : (dats m 0 c).arrAt 7 cfg0.N = Cert.Reference2Ideal.Read.val_main_v53 (F := Ideal) (aX m c) (aG m c) (aW m c) := by
  refine (dats m 0 c).arrAt_eq_of_covers 7 _ (by decide +kernel) fun t hf y => ?_
  blk_simp
  rw [after0_7]
  obtain ⟨z, r, j, rfl⟩ : ∃ (z : Fin 1) (r : Fin 8) (j : Fin 512), y = ix3 z r j := ⟨y 0, y 1, y 2, eq_ix3 y⟩
  obtain rfl : z = 0 := Subsingleton.elim _ _
  have e : (((View.whole main_v8_1).slice (win0_7.rect t)).emb (ix3 (0 : Fin 1) r j) : S8x8x4096.Idx) = ix3 (⟨t.val / 8, by have := lt_N t; omega⟩ : Fin 8) r (colOf t j) := by
    obtain ⟨-, -, -, -, -, -, -, ⟨i0, i1, i2⟩⟩ := index_all t
    refine funext fun a => Fin.ext ?_
    match a with
    | ⟨0, _⟩ => show win0_7.index t (0 : Fin 3) * 1 + 1 * 0 = t.val / 8; omega
    | ⟨1, _⟩ => show win0_7.index t (1 : Fin 3) * 8 + 1 * r.val = r.val; omega
    | ⟨2, _⟩ => show win0_7.index t (2 : Fin 3) * 512 + 1 * j.val = 512 * (t.val % 8) + j.val; omega
  rw [e, ref_t, tail_at]

/-- The run, with the two results as the reference has them and the arguments kept. -/
theorem run (ρ : Dev nD → PrngReg) : θ_run defs (onTc (τ := τ) (main (F := Ideal))) ⟨m, fun _ => 0, ρ⟩ fun r => ∀ c : Dev nD,
      r.2.mem ((c.tc : Thread nD τ).loc main_v8_0) = Cert.Reference2Ideal.Read.val_main_v51 (F := Ideal) (aX m c) (aG m c) (aW m c) (aC m c) (aB m c)
      ∧ r.2.mem ((c.tc : Thread nD τ).loc main_v8_1) = Cert.Reference2Ideal.Read.val_main_v53 (F := Ideal) (aX m c) (aG m c) (aW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1 6).trans (final_h m c), ((h c).1 7).trans (final_t m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.Up
-- ==== Proof.FinalDec.lean ====
/-
  The norm of the sample's last hidden rows, block by block.
-/
module

public import proofs.«01_k».proof.Proof.Gen.Kernel8Ideal.Value
public import proofs.«01_k».proof.Proof.Gen.Reference8Ideal.Run
public import proofs.«01_k».proof.Proof.Gen.Reference8Ideal.Read
public import proofs.«01_k».proof.Proof.Final
public import Idealize.ShloMosaic.Lib.Pipeline.ValueKit
public import Idealize.ShloMosaic.Lib.Pipeline.ReadBack
public import Idealize.ShloMosaic.Lib.Pointwise

@[expose] public section

set_option maxRecDepth 16384

noncomputable section
open Idealize.ShloMosaic Idealize.ShloMosaic.TcCoe Idealize.SL.Sem
open Idealize.ShloMosaic.Pipeline (Dat)
namespace Cert.FinalDec
open Cert.Kernel8Ideal Cert.Kernel8Ideal.Gen Cert.Kernel8Ideal.Value Cert.Body
open Cert.Final (nrm)
set_option maxHeartbeats 1000000
variable (m : (ℓ : Loc nD τ sig) → Buf (Elt Ideal) ℓ)

abbrev aX (c : Dev nD) : Vec Ideal S512x2048 .f32 := m (c, Proc.tc.devRef main_arg0)
abbrev aG (c : Dev nD) : Vec Ideal S2048 .f32 := m (c, Proc.tc.devRef main_arg1)

theorem lt_N (t : Fin cfg0.N) : t.val < 1 := lt_of_lt_of_eq t.isLt (by decide)

/-- Which blocks the windows hold at a point. -/
theorem index_all : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

theorem blk0 (c : Dev nD) (t : Fin cfg0.N) (r : Fin 512) (k : Fin 2048) :
    iblk m c 0 t (ix2 r k) = aX m c (ix2 (⟨512 * t.val + r.val, by have := lt_N t; omega⟩ : Fin 512) k) := by
  obtain ⟨⟨i0, i1⟩, -⟩ := index_all t
  refine congrArg (aX m c) (funext fun a => Fin.ext ?_)
  match a with
  | ⟨0, _⟩ => show win0_0.index t (0 : Fin 2) * 512 + 1 * r.val = 512 * t.val + r.val; omega
  | ⟨1, _⟩ => show win0_0.index t (1 : Fin 2) * 2048 + 1 * k.val = k.val; omega

theorem gain_eq (c : Dev nD) : V m c main_v0 = shapeCast S1x2048 (aG m c) shapeCasts_S2048_S1x2048 := by
  rfl

theorem blk1 (c : Dev nD) (t : Fin cfg0.N) (k : Fin 2048) :
    iblk m c 1 t (ix2 (0 : Fin 1) k) = aG m c (ix1 k) := by
  obtain ⟨-, ⟨i0, i1⟩, -⟩ := index_all t
  have e : iblk m c 1 t (ix2 (0 : Fin 1) k) = V m c main_v0 (ix2 (0 : Fin 1) k) := by
    refine congrArg (V m c main_v0) (funext fun a => Fin.ext ?_)
    match a with
    | ⟨0, _⟩ => show win0_1.index t (0 : Fin 2) * 1 + 1 * 0 = 0; omega
    | ⟨1, _⟩ => show win0_1.index t (1 : Fin 2) * 2048 + 1 * k.val = k.val; omega
  refine e.trans ?_
  rw [gain_eq]
  pointwise []

theorem norm_at (x : Vec Ideal S512x2048 .f32) (g : Vec Ideal S1x2048 .f32) (i : Fin 512) (k : Fin 2048) :
    k0_pay1 (F := Ideal) x g (ix2 i k) = nrm (fun k => x (ix2 i k)) (fun k => g (ix2 (0 : Fin 1) k)) k := by
  pointwise [k0_pay1]
  rfl

theorem ref_at (x0 : Vec Ideal S512x2048 .f32) (x1 : Vec Ideal S2048 .f32) (i : Fin 512) (k : Fin 2048) :
    Cert.Reference8Ideal.Read.val_main_v12 (F := Ideal) x0 x1 (ix2 i k) = nrm (fun k => x0 (ix2 i k)) (fun k => x1 (ix1 k)) k := by
  pointwise [Cert.Reference8Ideal.Read.val_main_v12, Cert.Reference8Ideal.Read.val_main_v11, Cert.Reference8Ideal.Read.val_main_v10, Cert.Reference8Ideal.Read.val_main_v9, Cert.Reference8Ideal.Read.val_main_v8, Cert.Reference8Ideal.Read.val_main_v7, Cert.Reference8Ideal.Read.val_main_v6, Cert.Reference8Ideal.Read.val_main_v5, Cert.Reference8Ideal.Read.val_main_v4, Cert.Reference8Ideal.Read.val_main_v3, Cert.Reference8Ideal.Read.val_main_v2, Cert.Reference8Ideal.Read.val_main_v1, Cert.Reference8Ideal.Read.val_main_v0, Cert.Reference8Ideal.Read.val_main_cst, Cert.Reference8Ideal.Read.val_main_cst_0, Cert.Reference8Ideal.Read.val_main_cst_1]
  rfl

theorem final (c : Dev nD) : (dats m 0 c).arrAt 2 cfg0.N = Cert.Reference8Ideal.Read.val_main_v12 (F := Ideal) (aX m c) (aG m c) := by
  refine (dats m 0 c).arrAt_eq_of_covers 2 _ (by decide +kernel) fun t hf y => ?_
  blk_simp
  rw [after0_2]
  frame_out
  obtain ⟨i, j, rfl⟩ : ∃ (i : Fin 512) (j : Fin 2048), y = ix2 i j := ⟨y 0, y 1, eq_ix2 y⟩
  have e : (((View.whole main_v1).slice (win0_2.rect t)).emb (ix2 i j) : S512x2048.Idx)
      = ix2 (⟨512 * t.val + i.val, by have := lt_N t; omega⟩ : Fin 512) j := by
    obtain ⟨-, -, ⟨i0, i1⟩⟩ := index_all t
    refine funext fun a => Fin.ext ?_
    match a with
    | ⟨0, _⟩ => show win0_2.index t (0 : Fin 2) * 512 + 1 * i.val = 512 * t.val + i.val; omega
    | ⟨1, _⟩ => show win0_2.index t (1 : Fin 2) * 2048 + 1 * j.val = j.val; omega
  rw [e, ref_at, norm_at]
  rw [funext fun k => blk0 m c t i k, funext fun k => blk1 m c t k]

end Cert.FinalDec
-- ==== Proof.InDec.lean ====
/-
  The sample's input projection with its norm: the row block is normalised once per row of blocks, into a scratch, and each block of
  the result is a block of the whole product.
-/
module

public import proofs.«01_k».proof.Proof.Gen.Kernel9Ideal.Value
public import proofs.«01_k».proof.Proof.Gen.Reference9Ideal.Run
public import proofs.«01_k».proof.Proof.Gen.Reference9Ideal.Read
public import proofs.«01_k».proof.Proof.In
public import Idealize.ShloMosaic.Lib.Pipeline.ValueKit
public import Idealize.ShloMosaic.Lib.Pipeline.ReadBack
public import Idealize.ShloMosaic.Lib.Pointwise

@[expose] public section

set_option maxRecDepth 16384

noncomputable section
open Idealize.ShloMosaic Idealize.ShloMosaic.TcCoe Idealize.SL.Sem
open Idealize.ShloMosaic.Pipeline (Dat)
namespace Cert.InDec
open Cert.Kernel9Ideal Cert.Kernel9Ideal.Gen Cert.Kernel9Ideal.Value Cert.Body
open Cert.In (nrm)
set_option maxHeartbeats 1000000
variable (m : (ℓ : Loc nD τ sig) → Buf (Elt Ideal) ℓ)

abbrev aX (c : Dev nD) : Vec Ideal S512x2048 .f32 := m (c, Proc.tc.devRef main_arg0)
abbrev aG (c : Dev nD) : Vec Ideal S2048 .f32 := m (c, Proc.tc.devRef main_arg1)
abbrev aW (c : Dev nD) : Vec Ideal S2048x3840 .f32 := m (c, Proc.tc.devRef main_arg2)

theorem lt_N (t : Fin cfg0.N) : t.val < 5 := lt_of_lt_of_eq t.isLt (by decide)

/-- Which blocks the windows hold at a point. -/
theorem index_all : ∀ t : Fin cfg0.N, (win0_0.index t (0 : Fin 2) = t.val / 5 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val % 5)
    ∧ (win0_3.index t (0 : Fin 2) = t.val / 5 ∧ win0_3.index t (1 : Fin 2) = t.val % 5) :=
  (by decide +kernel : ∀ t : Fin grid0.N, _)

theorem blk0 (c : Dev nD) (t : Fin cfg0.N) (r : Fin 512) (k : Fin 2048) :
    iblk m c 0 t (ix2 r k) = aX m c (ix2 (⟨512 * (t.val / 5) + r.val, by have := lt_N t; omega⟩ : Fin 512) k) := by
  obtain ⟨⟨i0, i1⟩, -⟩ := index_all t
  refine congrArg (aX m c) (funext fun a => Fin.ext ?_)
  match a with
  | ⟨0, _⟩ => show win0_0.index t (0 : Fin 2) * 512 + 1 * r.val = 512 * (t.val / 5) + r.val; omega
  | ⟨1, _⟩ => show win0_0.index t (1 : Fin 2) * 2048 + 1 * k.val = k.val; omega

theorem gain_eq (c : Dev nD) : V m c main_v0 = shapeCast S1x2048 (aG m c) shapeCasts_S2048_S1x2048 := by
  rfl

theorem blk1 (c : Dev nD) (t : Fin cfg0.N) (k : Fin 2048) :
    iblk m c 1 t (ix2 (0 : Fin 1) k) = aG m c (ix1 k) := by
  obtain ⟨-, ⟨i0, i1⟩, -⟩ := index_all t
  have e : iblk m c 1 t (ix2 (0 : Fin 1) k) = V m c main_v0 (ix2 (0 : Fin 1) k) := by
    refine congrArg (V m c main_v0) (funext fun a => Fin.ext ?_)
    match a with
    | ⟨0, _⟩ => show win0_1.index t (0 : Fin 2) * 1 + 1 * 0 = 0; omega
    | ⟨1, _⟩ => show win0_1.index t (1 : Fin 2) * 2048 + 1 * k.val = k.val; omega
  refine e.trans ?_
  rw [gain_eq]
  pointwise []

theorem blk2 (c : Dev nD) (t : Fin cfg0.N) (k : Fin 2048) (d : Fin 768) :
    iblk m c 2 t (ix2 k d) = aW m c (ix2 k (⟨768 * (t.val % 5) + d.val, by omega⟩ : Fin 3840)) := by
  obtain ⟨-, -, ⟨i0, i1⟩, -⟩ := index_all t
  refine congrArg (aW m c) (funext fun a => Fin.ext ?_)
  match a with
  | ⟨0, _⟩ => show win0_2.index t (0 : Fin 2) * 2048 + 1 * k.val = k.val; omega
  | ⟨1, _⟩ => show win0_2.index t (1 : Fin 2) * 768 + 1 * d.val = 768 * (t.val % 5) + d.val; omega

/-- The normalised row block. -/
theorem norm_at (x : Vec Ideal S512x2048 .f32) (g : Vec Ideal S1x2048 .f32) (i : Fin 512) (k : Fin 2048) :
    k0_pay1 (F := Ideal) x g (ix2 i k) = nrm (fun k => x (ix2 i k)) (fun k => g (ix2 (0 : Fin 1) k)) k := by
  pointwise [k0_pay1]
  rfl

theorem ref_norm_at (x0 : Vec Ideal S512x2048 .f32) (x1 : Vec Ideal S2048 .f32) (i : Fin 512) (k : Fin 2048) :
    Cert.Reference9Ideal.Read.val_main_v12 (F := Ideal) x0 x1 (ix2 i k) = nrm (fun k => x0 (ix2 i k)) (fun k => x1 (ix1 k)) k := by
  pointwise [Cert.Reference9Ideal.Read.val_main_v12, Cert.Reference9Ideal.Read.val_main_v11, Cert.Reference9Ideal.Read.val_main_v10, Cert.Reference9Ideal.Read.val_main_v9, Cert.Reference9Ideal.Read.val_main_v8, Cert.Reference9Ideal.Read.val_main_v7, Cert.Reference9Ideal.Read.val_main_v6, Cert.Reference9Ideal.Read.val_main_v5, Cert.Reference9Ideal.Read.val_main_v4, Cert.Reference9Ideal.Read.val_main_v3, Cert.Reference9Ideal.Read.val_main_v2, Cert.Reference9Ideal.Read.val_main_v1, Cert.Reference9Ideal.Read.val_main_v0, Cert.Reference9Ideal.Read.val_main_cst, Cert.Reference9Ideal.Read.val_main_cst_0, Cert.Reference9Ideal.Read.val_main_cst_1]
  rfl

/-- One block of the result: a product of a row block and a column block. -/
theorem pay_at (a : Vec Ideal S512x2048 .bf16) (w : Vec Ideal S2048x768 .f32) (i : Fin 512) (j : Fin 768) :
    k0_pay2 (F := Ideal) a w (ix2 i j) = ∑ k : Fin 2048, a (ix2 i k) * w (ix2 k j) := by
  pointwise [k0_pay2]

/-- The reference's result at an index. -/
theorem ref_at (x0 : Vec Ideal S512x2048 .f32) (x1 : Vec Ideal S2048 .f32) (x2 : Vec Ideal S2048x3840 .f32) (i : Fin 512) (j : Fin 3840) :
    Cert.Reference9Ideal.Read.val_main_v13 (F := Ideal) x0 x1 x2 (ix2 i j)
      = ∑ k : Fin 2048, nrm (fun k => x0 (ix2 i k)) (fun k => x1 (ix1 k)) k * x2 (ix2 k j) := by
  have e : Cert.Reference9Ideal.Read.val_main_v13 (F := Ideal) x0 x1 x2 (ix2 i j)
      = ∑ k : Fin 2048, Cert.Reference9Ideal.Read.val_main_v12 (F := Ideal) x0 x1 (ix2 i k) * x2 (ix2 k j) := by
    pointwise [Cert.Reference9Ideal.Read.val_main_v13]
  exact e.trans (Finset.sum_congr rfl fun k _ => congrArg (· * _) (ref_norm_at x0 x1 i k))

abbrev St := Vec Ideal S512x768 .f32 × Vec Ideal S512x2048 .bf16

theorem st_A (c : Dev nD) (t : Fin cfg0.N) (acc : St) (h0 : t.val % 5 = 0) :
    stAt0 m c t.val t.isLt acc = (k0_pay2 (F := Ideal) (k0_pay1 (iblk m c 0 t) (iblk m c 1 t)) (iblk m c 2 t), k0_pay1 (iblk m c 0 t) (iblk m c 1 t)) := by
  rw [stAt0_A m c t acc h0]
  refine Prod.ext ?_ ?_
  · frame_out
  · frame_out

theorem st_B (c : Dev nD) (t : Fin cfg0.N) (acc : St) (h0 : ¬t.val % 5 = 0) :
    stAt0 m c t.val t.isLt acc = (k0_pay2 (F := Ideal) acc.2 (iblk m c 2 t), acc.2) := by
  rw [stAt0_B m c t acc h0]
  refine Prod.ext ?_ ?_
  · frame_out
    simp only [read_unread_whole]
  · rfl

/-- The normalised row block a point lays out, at an index. -/
theorem row_at (c : Dev nD) (t : Fin cfg0.N) (i : Fin 512) (k : Fin 2048) :
    k0_pay1 (F := Ideal) (iblk m c 0 t) (iblk m c 1 t) (ix2 i k)
      = nrm (fun k => aX m c (ix2 (⟨512 * (t.val / 5) + i.val, by have := lt_N t; omega⟩ : Fin 512) k)) (fun k => aG m c (ix1 k)) k := by
  refine (norm_at _ _ i k).trans ?_
  rw [funext fun k => blk0 m c t i k, funext fun k => blk1 m c t k]

/-- After any point of a row of blocks the scratch holds the row's normalised block. -/
theorem scratch_at (c : Dev nD) : ∀ (n : ℕ) (hn : n < cfg0.N) (i : Fin 512) (k : Fin 2048),
    (outsAt0 m c n hn).2 (ix2 i k)
      = nrm (fun k => aX m c (ix2 (⟨512 * (n / 5) + i.val, by have := lt_N ⟨n, hn⟩; dsimp only at this; omega⟩ : Fin 512) k)) (fun k => aG m c (ix1 k)) k
  | 0, hn, i, k => by
    rw [outsAt0_zero, st_A m c ⟨0, hn⟩ _ (Nat.zero_mod _)]
    exact row_at m c ⟨0, hn⟩ i k
  | n + 1, hn, i, k => by
    rw [outsAt0_succ]
    by_cases h0 : (n + 1) % 5 = 0
    · rw [st_A m c ⟨n + 1, hn⟩ _ h0]
      exact row_at m c ⟨n + 1, hn⟩ i k
    · rw [st_B m c ⟨n + 1, hn⟩ _ h0]
      refine (scratch_at c n _ i k).trans (congrArg (fun x => nrm x _ k) (funext fun k => congrArg _ (ix2_eq ?_ rfl)))
      show 512 * (n / 5) + i.val = 512 * ((n + 1) / 5) + i.val
      omega

/-- What a point writes is the product of the row's block, whether it laid it out itself or found it. -/
theorem out_at (c : Dev nD) (t : Fin cfg0.N) (i : Fin 512) (j : Fin 768) :
    (outsAt0 m c t.val t.isLt).1 (ix2 i j)
      = ∑ k : Fin 2048, nrm (fun k => aX m c (ix2 (⟨512 * (t.val / 5) + i.val, by have := lt_N t; omega⟩ : Fin 512) k)) (fun k => aG m c (ix1 k)) k
          * iblk m c 2 t (ix2 k j) := by
  have hs := scratch_at m c t.val t.isLt i
  obtain ⟨n, hn⟩ := t
  cases n with
  | zero =>
    rw [outsAt0_zero, st_A m c ⟨0, hn⟩ _ (Nat.zero_mod _)] at hs ⊢
    refine (pay_at _ _ i j).trans ?_
    exact Finset.sum_congr rfl fun k _ => congrArg (· * _) (hs k)
  | succ n =>
    rw [outsAt0_succ] at hs ⊢
    by_cases h0 : (n + 1) % 5 = 0
    · rw [st_A m c ⟨n + 1, hn⟩ _ h0] at hs ⊢
      refine (pay_at _ _ i j).trans ?_
      exact Finset.sum_congr rfl fun k _ => congrArg (· * _) (hs k)
    · rw [st_B m c ⟨n + 1, hn⟩ _ h0] at hs ⊢
      refine (pay_at _ _ i j).trans ?_
      exact Finset.sum_congr rfl fun k _ => congrArg (· * _) (hs k)

theorem final (c : Dev nD) : (dats m 0 c).arrAt 3 cfg0.N = Cert.Reference9Ideal.Read.val_main_v13 (F := Ideal) (aX m c) (aG m c) (aW m c) := by
  refine (dats m 0 c).arrAt_eq_of_covers 3 _ (by decide +kernel) fun t hf y => ?_
  blk_simp
  rw [after0_3]
  obtain ⟨i, j, rfl⟩ : ∃ (i : Fin 512) (j : Fin 768), y = ix2 i j := ⟨y 0, y 1, eq_ix2 y⟩
  have e : (((View.whole main_v1).slice (win0_3.rect t)).emb (ix2 i j) : S512x3840.Idx)
      = ix2 (⟨512 * (t.val / 5) + i.val, by have := lt_N t; omega⟩ : Fin 512) (⟨768 * (t.val % 5) + j.val, by omega⟩ : Fin 3840) := by
    obtain ⟨-, -, -, ⟨i0, i1⟩⟩ := index_all t
    refine funext fun a => Fin.ext ?_
    match a with
    | ⟨0, _⟩ => show win0_3.index t (0 : Fin 2) * 512 + 1 * i.val = 512 * (t.val / 5) + i.val; omega
    | ⟨1, _⟩ => show win0_3.index t (1 : Fin 2) * 768 + 1 * j.val = 768 * (t.val % 5) + j.val; omega
  rw [e, ref_at, out_at]
  exact Finset.sum_congr (M := EReal) rfl fun k _ => congrArg (_ * ·) (blk2 m c t k j)

end Cert.InDec
-- ==== Proof.PrepDecRef.lean ====
/-
  The sample's query and key preparation as the reference has it, at an index: a norm, a turn of the rotary pairs, and three columns
  of blocks laid side by side.
-/
module

public import proofs.«01_k».proof.Proof.Gen.Reference10Ideal.Run
public import proofs.«01_k».proof.Proof.Gen.Reference10Ideal.Read
public import proofs.«01_k».proof.Proof.PrepRef
public import Idealize.ShloMosaic.Lib.Pipeline.ValueKit
public import Idealize.ShloMosaic.Lib.Pipeline.ReadBack
public import Idealize.ShloMosaic.Lib.Pointwise

@[expose] public section

set_option maxRecDepth 16384

noncomputable section
open Idealize.ShloMosaic Idealize.ShloMosaic.TcCoe Idealize.SL.Sem
namespace Cert.PrepDec
open Cert.Prep (nrm turn side)
open Cert.Reference10Ideal Cert.Reference10Ideal.Gen Cert.Reference10Ideal.Read Cert.Body
set_option maxHeartbeats 1000000

variable (x0 : Vec Ideal S128x8x3840 .f32) (x1 : Vec Ideal S512 .f32) (x2 : Vec Ideal S512x4096 .f32)

/-- The cosines and sines of a position's angles. -/
abbrev cs (p : Fin 8) (j : Fin 32) : EReal := val_main_v71 (F := Ideal) (ix2 p j)
abbrev sn (p : Fin 8) (j : Fin 32) : EReal := val_main_v72 (F := Ideal) (ix2 p j)

theorem v25_eq : val_main_v25 (F := Ideal) = val_main_v70 := rfl

theorem v27_at (p : Fin 8) (j : Fin 32) : val_main_v27 (F := Ideal) (ix3 p (0 : Fin 1) j) = cs p j := by
  show _ = val_main_v71 (F := Ideal) (ix2 p j)
  pointwise [val_main_v27, val_main_v26, val_main_v71]
  rw [v25_eq]
theorem v28_at (p : Fin 8) (j : Fin 32) : val_main_v28 (F := Ideal) (ix3 p (0 : Fin 1) j) = sn p j := by
  show _ = val_main_v72 (F := Ideal) (ix2 p j)
  pointwise [val_main_v28, val_main_v26, val_main_v72]
  rw [v25_eq]

theorem v7_at (b : Fin 128) (p : Fin 8) (h : Fin 16) (d : Fin 192) :
    val_main_v7 (F := Ideal) x0 (ix4 b p h d) = x0 (ix3 b p (⟨192 * h.val + d.val, by omega⟩ : Fin 3840)) := by
  rw [val_main_v7_apply]
  unfold val_main_v3
  pointwise []
  refine congrArg x0 (ix3_eq ?_ ?_ ?_) <;> dsimp only <;> omega

/-- The rotary columns of a head's query. -/
theorem v45_at (b : Fin 128) (p : Fin 8) (h : Fin 16) (d : Fin 64) :
    val_main_v45 (F := Ideal) x0 (ix4 b p h d)
      = turn (fun d => x0 (ix3 b p (⟨192 * h.val + (128 + d.val), by omega⟩ : Fin 3840))) (cs p) (sn p) d := by
  have e : ∀ d : Fin 64, val_main_v13 (F := Ideal) x0 (ix4 b p h d) = x0 (ix3 b p (⟨192 * h.val + (128 + d.val), by omega⟩ : Fin 3840)) := by
    intro d
    have e' : val_main_v13 (F := Ideal) x0 (ix4 b p h d) = val_main_v7 (F := Ideal) x0 (ix4 b p h (⟨128 + d.val, by omega⟩ : Fin 192)) := by
      pointwise [val_main_v13]
    exact e'.trans (v7_at x0 b p h _)
  rw [← funext e, ← funext (v27_at p), ← funext (v28_at p)]
  pointwise [val_main_v45, val_main_v44, val_main_v43, val_main_v42, val_main_v41, val_main_v40, val_main_v39, val_main_v38, val_main_v37, val_main_v36,
    val_main_v35, val_main_v34, val_main_v33, val_main_v32, val_main_v31, val_main_v30, val_main_v29, turn]

/-- The latent columns of a head's query. -/
theorem v12_at (b : Fin 128) (p : Fin 8) (h : Fin 16) (d : Fin 512) :
    val_main_v12 (F := Ideal) x0 x2 (ix4 b p h d)
      = ∑ k : Fin 128, x2 (ix2 d (⟨256 * h.val + k.val, by omega⟩ : Fin 4096)) * x0 (ix3 b p (⟨192 * h.val + k.val, by omega⟩ : Fin 3840)) := by
  have e : val_main_v12 (F := Ideal) x0 x2 (ix4 b p h d)
      = ∑ k : Fin 128, val_main_v10 (F := Ideal) x2 (ix3 d h k) * val_main_v8 (F := Ideal) x0 (ix4 b p h k) := by
    pointwise [val_main_v12, val_main_v11]
  refine e.trans (Finset.sum_congr (M := EReal) rfl fun k _ => congrArg₂ (· * ·) ?_ ?_)
  · pointwise [val_main_v10, val_main_v9]
    exact congrArg x2 (ix2_eq rfl (by show h.val * 256 + k.val = 256 * h.val + k.val; omega))
  · have e' : val_main_v8 (F := Ideal) x0 (ix4 b p h k) = val_main_v7 (F := Ideal) x0 (ix4 b p h (⟨k.val, by omega⟩ : Fin 192)) := by
      pointwise [val_main_v8]
    exact e'.trans (v7_at x0 b p h _)

theorem heads_at (x : Vec Ideal S128x8x16x640 .f32) (b : Fin 128) (p : Fin 8) (h : Fin 16) (e : Fin 640) :
    (truncf FTy.bf16 (shapeCast S128x8x10240 x shapeCasts_S128x8x16x640_S128x8x10240 : FVec Ideal S128x8x10240 .f32) bitsLt_bf16_f32 : FVec Ideal S128x8x10240 .bf16)
      (ix3 b p (⟨640 * h.val + e.val, by omega⟩ : Fin 10240)) = x (ix4 b p h e) := by
  pointwise

theorem v90_at (b : Fin 128) (p : Fin 8) (h : Fin 16) (d : Fin 64) : val_main_v90 (F := Ideal) (ix4 b p h d) = 0 := by
  pointwise [val_main_v90, val_main_cst_6]

theorem beside_at (x : Vec Ideal S128x8x16x512 .f32) (y z : Vec Ideal S128x8x16x64 .f32) (b : Fin 128) (p : Fin 8) (h : Fin 16) (e : Fin 640)
    (hz : ∀ d, z (ix4 b p h d) = 0) :
    concatenate S128x8x16x640 3 [⟨S128x8x16x512, x⟩, ⟨S128x8x16x64, y⟩, ⟨S128x8x16x64, z⟩]
      concatenates_S128x8x16x512_S128x8x16x64_S128x8x16x64_S128x8x16x640_d3 (ix4 b p h e)
    = side (fun d => x (ix4 b p h d)) (fun d => y (ix4 b p h d)) e := by
  pointwise [side]
  simp only [hz]

theorem v95_at (b : Fin 128) (p : Fin 8) (h : Fin 16) (e : Fin 640) :
    val_main_v95 (F := Ideal) x0 x2 (ix3 b p (⟨640 * h.val + e.val, by omega⟩ : Fin 10240)) = val_main_v91 (F := Ideal) x0 x2 (ix4 b p h e) := by
  unfold val_main_v95 val_main_v94
  generalize val_main_v91 (F := Ideal) x0 x2 = y
  exact heads_at y b p h e

theorem v91_at (b : Fin 128) (p : Fin 8) (h : Fin 16) (e : Fin 640) :
    val_main_v91 (F := Ideal) x0 x2 (ix4 b p h e)
      = side (fun d => val_main_v12 (F := Ideal) x0 x2 (ix4 b p h d)) (fun d => val_main_v45 (F := Ideal) x0 (ix4 b p h d)) e := by
  have hz := v90_at b p h
  unfold val_main_v91
  generalize val_main_v12 (F := Ideal) x0 x2 = x
  generalize val_main_v45 (F := Ideal) x0 = y
  generalize val_main_v90 (F := Ideal) = z at hz ⊢
  exact beside_at x y z b p h e hz

/-- The prepared query. -/
theorem ref_q (b : Fin 128) (p : Fin 8) (h : Fin 16) (e : Fin 640) :
    val_main_v95 (F := Ideal) x0 x2 (ix3 b p (⟨640 * h.val + e.val, by omega⟩ : Fin 10240))
      = side (fun d => ∑ k : Fin 128, x2 (ix2 d (⟨256 * h.val + k.val, by omega⟩ : Fin 4096)) * x0 (ix3 b p (⟨192 * h.val + k.val, by omega⟩ : Fin 3840)))
          (turn (fun d => x0 (ix3 b p (⟨192 * h.val + (128 + d.val), by omega⟩ : Fin 3840))) (cs p) (sn p)) e :=
  (v95_at x0 x2 b p h e).trans ((v91_at x0 x2 b p h e).trans
    (congrArg₂ (fun l r => side l r e) (funext (v12_at x0 x2 b p h)) (funext (v45_at x0 b p h))))

/-- The normalised latent. -/
theorem ref_c (b : Fin 128) (p : Fin 8) (d : Fin 512) :
    val_main_v58 (F := Ideal) x0 x1 (ix3 b p d) = nrm (fun d => x0 (ix3 b p (⟨3072 + d.val, by omega⟩ : Fin 3840))) (fun d => x1 (ix1 d)) d := by
  pointwise [val_main_v58, val_main_v57, val_main_v56, val_main_v55, val_main_v54, val_main_v53, val_main_v52, val_main_v51, val_main_v50, val_main_v49,
    val_main_v48, val_main_v47, val_main_v46, val_main_v4, val_main_cst_1, val_main_cst_2, val_main_cst_3]
  rfl

/-- The turned key columns. -/
theorem ref_r (b : Fin 128) (p : Fin 8) (d : Fin 64) :
    val_main_v89 (F := Ideal) x0 (ix3 b p d) = turn (fun d => x0 (ix3 b p (⟨3584 + d.val, by omega⟩ : Fin 3840))) (cs p) (sn p) d := by
  have e : ∀ d : Fin 64, val_main_v5 (F := Ideal) x0 (ix3 b p d) = x0 (ix3 b p (⟨3584 + d.val, by omega⟩ : Fin 3840)) := by
    intro d
    pointwise [val_main_v5]
  rw [← funext e]
  pointwise [val_main_v89, val_main_v88, val_main_v87, val_main_v86, val_main_v85, val_main_v84, val_main_v83, val_main_v82, val_main_v81, val_main_v80,
    val_main_v79, val_main_v78, val_main_v77, val_main_v76, val_main_v75, val_main_v74, val_main_v73, turn]

/-- The prepared key. -/
theorem ref_k (b : Fin 128) (p : Fin 8) (e : Fin 640) :
    val_main_v96 (F := Ideal) x0 x1 (ix3 b p e)
      = side (nrm (fun d => x0 (ix3 b p (⟨3072 + d.val, by omega⟩ : Fin 3840))) (fun d => x1 (ix1 d)))
          (turn (fun d => x0 (ix3 b p (⟨3584 + d.val, by omega⟩ : Fin 3840))) (cs p) (sn p)) e := by
  rw [← funext (ref_r x0 b p), ← funext (ref_c x0 x1 b p)]
  pointwise [val_main_v96, val_main_v93, val_main_v92, val_main_cst_7, side]

end Cert.PrepDec
-- ==== Proof.PrepDec.lean ====
/-
  The sample's query and key preparation, block by block.
-/
module

public import proofs.«01_k».proof.Proof.Gen.Kernel10Ideal.Value
public import proofs.«01_k».proof.Proof.PrepDecRef

@[expose] public section

set_option maxRecDepth 16384

noncomputable section
open Idealize.ShloMosaic Idealize.ShloMosaic.TcCoe Idealize.SL.Sem
open Idealize.ShloMosaic.Pipeline (Dat)
namespace Cert.PrepDec
open Cert.Prep (nrm turn side)
open Cert.Kernel10Ideal Cert.Kernel10Ideal.Gen Cert.Kernel10Ideal.Value Cert.Body
set_option maxHeartbeats 1000000

/-- The norm of a block's latent rows. -/
theorem pay4_at (x : Vec Ideal S1x8x512 .f32) (g : Vec Ideal S1x512 .f32) (i : Fin 8) (k : Fin 512) :
    k0_pay4 (F := Ideal) x g (ix2 i k) = nrm (fun k => x (ix3 (0 : Fin 1) i k)) (fun k => g (ix2 (0 : Fin 1) k)) k := by
  pointwise [k0_pay4]
  rfl
theorem pay6_at (x : Vec Ideal S1x8x512 .f32) (g : Vec Ideal S1x512 .f32) (i : Fin 8) (k : Fin 512) :
    k0_pay6 (F := Ideal) x g (ix3 (0 : Fin 1) i k) = nrm (fun k => x (ix3 (0 : Fin 1) i k)) (fun k => g (ix2 (0 : Fin 1) k)) k := by
  rw [← pay4_at]
  pointwise [k0_pay6]

/-- The turned key columns of a block. -/
theorem pay5_at (c s : Vec Ideal S8x32 .f32) (z : Vec Ideal S1x8x128 .f32) (i : Fin 8) (d : Fin 64) :
    k0_pay5 (F := Ideal) c s z (ix2 i d)
      = turn (fun d => z (ix3 (0 : Fin 1) i (⟨d.val, by omega⟩ : Fin 128))) (fun j => c (ix2 i j)) (fun j => s (ix2 i j)) d := by
  pointwise [k0_pay5, k0_pay2, k0_pay3, turn]
theorem pay7_at (x : FVec Ideal S8x64 .f32) (i : Fin 8) (d : Fin 64) : k0_pay7 (F := Ideal) x (ix3 (0 : Fin 1) i d) = x (ix2 i d) := by
  pointwise [k0_pay7]

/-- The prepared key of a block. -/
theorem pay9_at (a : FVec Ideal S8x512 .f32) (r : FVec Ideal S8x64 .f32) (i : Fin 8) (e : Fin 640) :
    k0_pay9 (F := Ideal) a r (ix3 (0 : Fin 1) i e) = side (fun d => a (ix2 i d)) (fun d => r (ix2 i d)) e := by
  pointwise [k0_pay9, k0_pay8, side]

/-- One head of the prepared query of a block. -/
theorem pay10_at (c s : FVec Ideal S8x32 .f32) (a : Vec Ideal S1x8x128 .f32) (r : Vec Ideal S1x8x64 .f32) (w : Vec Ideal S1x128x512 .bf16) (i : Fin 8) (e : Fin 640) :
    k0_pay10 (F := Ideal) c s a r w (ix3 (0 : Fin 1) i e)
      = side (fun d => ∑ k : Fin 128, a (ix3 (0 : Fin 1) i k) * w (ix3 (0 : Fin 1) k d))
          (turn (fun d => r (ix3 (0 : Fin 1) i d)) (fun j => c (ix2 i j)) (fun j => s (ix2 i j))) e := by
  pointwise [k0_pay10, k0_pay8, side, turn]

/-- The query columns of head `h`, its weights, and the block of the prepared query, whole. -/
def qOf (x : Vec Ideal S1x8x3072 .f32) (w : Vec Ideal S16x128x512 .bf16) (c s : Vec Ideal S8x32 .f32) : Vec Ideal S1x8x10240 .bf16 := fun y =>
  side (fun d => ∑ k : Fin 128, x (ix3 (0 : Fin 1) (⟨(y 1).val, (y 1).isLt⟩ : Fin 8)
      (⟨192 * ((y 2).val / 640) + k.val, by have h2 : (y 2).val < 10240 := (y 2).isLt; omega⟩ : Fin 3072))
        * w (ix3 (⟨(y 2).val / 640, by have h2 : (y 2).val < 10240 := (y 2).isLt; omega⟩ : Fin 16) k d))
    (turn (fun d => x (ix3 (0 : Fin 1) (⟨(y 1).val, (y 1).isLt⟩ : Fin 8)
      (⟨192 * ((y 2).val / 640) + (128 + d.val), by have h2 : (y 2).val < 10240 := (y 2).isLt; omega⟩ : Fin 3072)))
      (fun j => c (ix2 (⟨(y 1).val, (y 1).isLt⟩ : Fin 8) j)) (fun j => s (ix2 (⟨(y 1).val, (y 1).isLt⟩ : Fin 8) j)))
    (⟨(y 2).val % 640, Nat.mod_lt _ (by norm_num)⟩ : Fin 640)

end Cert.PrepDec
-- ==== Proof.PrepDecBlk.lean ====
/-
  The blocks the sample's query and key preparation reads.
-/
module

public import proofs.«01_k».proof.Proof.PrepDec
public import Idealize.ShloMosaic.Lib.Pipeline.ValueKit
public import Idealize.ShloMosaic.Lib.Pipeline.ReadBack
public import Idealize.ShloMosaic.Lib.Pointwise

@[expose] public section

set_option maxRecDepth 16384

noncomputable section
open Idealize.ShloMosaic Idealize.ShloMosaic.TcCoe Idealize.SL.Sem
open Idealize.ShloMosaic.Pipeline (Dat)
namespace Cert.PrepDec
open Cert.Prep (nrm turn side)
open Cert.Kernel10Ideal Cert.Kernel10Ideal.Gen Cert.Kernel10Ideal.Value Cert.Body
set_option maxHeartbeats 1000000
variable (m : (ℓ : Loc nD τ sig) → Buf (Elt Ideal) ℓ)

abbrev aZ (c : Dev nD) : Vec Ideal S128x8x3840 .f32 := m (c, Proc.tc.devRef main_arg0)
abbrev aG (c : Dev nD) : Vec Ideal S512 .f32 := m (c, Proc.tc.devRef main_arg1)
abbrev aW (c : Dev nD) : Vec Ideal S512x4096 .f32 := m (c, Proc.tc.devRef main_arg2)

theorem lt_N (t : Fin cfg0.N) : t.val < 128 := lt_of_lt_of_eq t.isLt (by decide)

/-- Which blocks the windows hold at a point. -/
theorem index_in : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 6)
    ∧ (win0_2.index t (0 : Fin 3) = t.val ∧ win0_2.index t (1 : Fin 3) = 0 ∧ win0_2.index t (2 : Fin 3) = 28)
    ∧ (win0_3.index t (0 : Fin 2) = 0 ∧ win0_3.index t (1 : Fin 2) = 0)
    ∧ (win0_4.index t (0 : Fin 3) = 0 ∧ win0_4.index t (1 : Fin 3) = 0 ∧ win0_4.index t (2 : Fin 3) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)
theorem index_out : ∀ t : Fin cfg0.N,
    (win0_7.index t (0 : Fin 3) = t.val ∧ win0_7.index t (1 : Fin 3) = 0 ∧ win0_7.index t (2 : Fin 3) = 0)
    ∧ (win0_8.index t (0 : Fin 3) = t.val ∧ win0_8.index t (1 : Fin 3) = 0 ∧ win0_8.index t (2 : Fin 3) = 0)
    ∧ (win0_9.index t (0 : Fin 3) = t.val ∧ win0_9.index t (1 : Fin 3) = 0 ∧ win0_9.index t (2 : Fin 3) = 0)
    ∧ (win0_10.index t (0 : Fin 3) = t.val ∧ win0_10.index t (1 : Fin 3) = 0 ∧ win0_10.index t (2 : Fin 3) = 0) :=
  (by decide +kernel : ∀ t : Fin grid0.N, _)

/-- A block's batch, and the whole array's row of a block's. -/
abbrev bOf (t : Fin cfg0.N) : Fin 128 := ⟨t.val, lt_N t⟩
abbrev pOf (t : Fin cfg0.N) (i : Fin 8) : Fin 8 := i

theorem whole0 : ∀ t : Fin cfg0.N, ∀ a : Fin 3, win0_0.clip (grid0.coords t) a = none :=
  (by decide +kernel : ∀ t : Fin grid0.N, ∀ a : Fin 3, win0_0.clip (grid0.coords t) a = none)
theorem whole1 : ∀ t : Fin cfg0.N, ∀ a : Fin 3, win0_1.clip (grid0.coords t) a = none :=
  (by decide +kernel : ∀ t : Fin grid0.N, ∀ a : Fin 3, win0_1.clip (grid0.coords t) a = none)

theorem read0 (X : Vec Ideal S128x8x3840 .f32) (t : Fin cfg0.N) (i : Fin 8) (k : Fin 3072) :
    (cfg0.win 0).fill (cfg0.grid.coords t) (dflt0_0 (F := Ideal)) (View.read (Elt Ideal) ((cfg0.win 0).blk t).view X) (ix3 (0 : Fin 1) i k)
      = X (ix3 (bOf t) (pOf t i) (⟨k.val, by omega⟩ : Fin 3840)) := by
  obtain ⟨⟨i0, i1, i2⟩, -⟩ := index_in t
  have hm : (cfg0.win 0).moved (cfg0.grid.coords t) (ix3 (0 : Fin 1) i k) = true :=
    ((cfg0.win 0).moved_iff _ _).mpr fun a => by
      have h := (ix3 (0 : Fin 1) i k a).isLt
      unfold Pipeline.Window.xsize
      rw [whole0 t a]
      exact h
  unfold Pipeline.Window.fill
  rw [dif_pos hm]
  refine congrArg X (funext fun a => Fin.ext ?_)
  match a with
  | ⟨0, _⟩ => show win0_0.index t (0 : Fin 3) * 1 + 1 * 0 = t.val; omega
  | ⟨1, _⟩ => show win0_0.index t (1 : Fin 3) * 8 + 1 * i.val = i.val; omega
  | ⟨2, _⟩ => show win0_0.index t (2 : Fin 3) * 3072 + 1 * k.val = k.val; omega

theorem read1 (X : Vec Ideal S128x8x3840 .f32) (t : Fin cfg0.N) (i : Fin 8) (k : Fin 512) :
    (cfg0.win 1).fill (cfg0.grid.coords t) (dflt0_1 (F := Ideal)) (View.read (Elt Ideal) ((cfg0.win 1).blk t).view X) (ix3 (0 : Fin 1) i k)
      = X (ix3 (bOf t) (pOf t i) (⟨3072 + k.val, by omega⟩ : Fin 3840)) := by
  obtain ⟨-, ⟨i0, i1, i2⟩, -⟩ := index_in t
  have hm : (cfg0.win 1).moved (cfg0.grid.coords t) (ix3 (0 : Fin 1) i k) = true :=
    ((cfg0.win 1).moved_iff _ _).mpr fun a => by
      have h := (ix3 (0 : Fin 1) i k a).isLt
      unfold Pipeline.Window.xsize
      rw [whole1 t a]
      exact h
  unfold Pipeline.Window.fill
  rw [dif_pos hm]
  refine congrArg X (funext fun a => Fin.ext ?_)
  match a with
  | ⟨0, _⟩ => show win0_1.index t (0 : Fin 3) * 1 + 1 * 0 = t.val; omega
  | ⟨1, _⟩ => show win0_1.index t (1 : Fin 3) * 8 + 1 * i.val = i.val; omega
  | ⟨2, _⟩ => show win0_1.index t (2 : Fin 3) * 512 + 1 * k.val = 3072 + k.val; omega

theorem blk0 (c : Dev nD) (t : Fin cfg0.N) (i : Fin 8) (k : Fin 3072) :
    X0_0 m c t (ix3 (0 : Fin 1) i k) = aZ m c (ix3 (bOf t) (pOf t i) (⟨k.val, by omega⟩ : Fin 3840)) :=
  read0 (aZ m c) t i k
theorem blk1 (c : Dev nD) (t : Fin cfg0.N) (i : Fin 8) (k : Fin 512) :
    X0_1 m c t (ix3 (0 : Fin 1) i k) = aZ m c (ix3 (bOf t) (pOf t i) (⟨3072 + k.val, by omega⟩ : Fin 3840)) :=
  read1 (aZ m c) t i k

theorem blk2 (c : Dev nD) (t : Fin cfg0.N) (i : Fin 8) (k : Fin 128) :
    iblk m c 2 t (ix3 (0 : Fin 1) i k) = aZ m c (ix3 (bOf t) (pOf t i) (⟨3584 + k.val, by omega⟩ : Fin 3840)) := by
  obtain ⟨-, -, ⟨i0, i1, i2⟩, -⟩ := index_in t
  refine congrArg (aZ m c) (funext fun a => Fin.ext ?_)
  match a with
  | ⟨0, _⟩ => show win0_2.index t (0 : Fin 3) * 1 + 1 * 0 = t.val; omega
  | ⟨1, _⟩ => show win0_2.index t (1 : Fin 3) * 8 + 1 * i.val = i.val; omega
  | ⟨2, _⟩ => show win0_2.index t (2 : Fin 3) * 128 + 1 * k.val = 3584 + k.val; omega

theorem gain_eq (c : Dev nD) : V m c main_v21 = shapeCast S1x512 (aG m c) shapeCasts_S512_S1x512 := by
  rfl

theorem blk3 (c : Dev nD) (t : Fin cfg0.N) (k : Fin 512) :
    iblk m c 3 t (ix2 (0 : Fin 1) k) = aG m c (ix1 k) := by
  obtain ⟨-, -, -, ⟨i0, i1⟩, -⟩ := index_in t
  have e : iblk m c 3 t (ix2 (0 : Fin 1) k) = V m c main_v21 (ix2 (0 : Fin 1) k) := by
    refine congrArg (V m c main_v21) (funext fun a => Fin.ext ?_)
    match a with
    | ⟨0, _⟩ => show win0_3.index t (0 : Fin 2) * 1 + 1 * 0 = 0; omega
    | ⟨1, _⟩ => show win0_3.index t (1 : Fin 2) * 512 + 1 * k.val = k.val; omega
  refine e.trans ?_
  rw [gain_eq]
  pointwise []

/-- The weights as the call takes them: one matrix a head. -/
abbrev wOf (x : FVec Ideal S512x4096 .f32) : FVec Ideal S16x128x512 .bf16 :=
  truncf .bf16 (transpose S16x128x512 [1, 2, 0] (extractStridedSlice S512x16x128 ![0, 0, 0]
    (shapeCast S512x16x256 x shapeCasts_S512x4096_S512x16x256) slices_S512x16x256_S512x16x128_0_0_0)
    transposes_S512x16x128_S16x128x512_1_2_0) bitsLt_bf16_f32

theorem weights_eq (c : Dev nD) : V m c main_v3 = wOf (aW m c) := by
  rfl

theorem weights_at (x : Vec Ideal S512x4096 .f32) (h : Fin 16) (k : Fin 128) (d : Fin 512) :
    wOf x (ix3 h k d) = x (ix2 d (⟨256 * h.val + k.val, by omega⟩ : Fin 4096)) := by
  pointwise
  exact congrArg x (ix2_eq rfl (by show h.val * 256 + k.val = 256 * h.val + k.val; omega))

theorem blk4 (c : Dev nD) (t : Fin cfg0.N) (h : Fin 16) (k : Fin 128) (d : Fin 512) :
    iblk m c 4 t (ix3 h k d) = aW m c (ix2 d (⟨256 * h.val + k.val, by omega⟩ : Fin 4096)) := by
  obtain ⟨-, -, -, -, ⟨i0, i1, i2⟩, -⟩ := index_in t
  have e : iblk m c 4 t (ix3 h k d) = V m c main_v3 (ix3 h k d) := by
    refine congrArg (V m c main_v3) (funext fun a => Fin.ext ?_)
    match a with
    | ⟨0, _⟩ => show win0_4.index t (0 : Fin 3) * 16 + 1 * h.val = h.val; omega
    | ⟨1, _⟩ => show win0_4.index t (1 : Fin 3) * 128 + 1 * k.val = k.val; omega
    | ⟨2, _⟩ => show win0_4.index t (2 : Fin 3) * 512 + 1 * d.val = d.val; omega
  exact e.trans ((congrFun (weights_eq m c) _).trans (weights_at _ h k d))

theorem cos_eq (c : Dev nD) : V m c main_v19 = Cert.Reference10Ideal.Read.val_main_v71 (F := Ideal) := by
  rfl
theorem sin_eq (c : Dev nD) : V m c main_v20 = Cert.Reference10Ideal.Read.val_main_v72 (F := Ideal) := by
  rfl

theorem blk5 (c : Dev nD) (t : Fin cfg0.N) (i : Fin 8) (j : Fin 32) : iblk m c 5 t (ix2 i j) = cs (pOf t i) j := by
  obtain ⟨-, -, -, -, -, ⟨i0, i1⟩, -⟩ := index_in t
  have e : iblk m c 5 t (ix2 i j) = V m c main_v19 (ix2 (pOf t i) j) := by
    refine congrArg (V m c main_v19) (funext fun a => Fin.ext ?_)
    match a with
    | ⟨0, _⟩ => show win0_5.index t (0 : Fin 2) * 8 + 1 * i.val = i.val; omega
    | ⟨1, _⟩ => show win0_5.index t (1 : Fin 2) * 32 + 1 * j.val = j.val; omega
  exact e.trans (congrFun (cos_eq m c) _)
theorem blk6 (c : Dev nD) (t : Fin cfg0.N) (i : Fin 8) (j : Fin 32) : iblk m c 6 t (ix2 i j) = sn (pOf t i) j := by
  obtain ⟨-, -, -, -, -, -, ⟨i0, i1⟩⟩ := index_in t
  have e : iblk m c 6 t (ix2 i j) = V m c main_v20 (ix2 (pOf t i) j) := by
    refine congrArg (V m c main_v20) (funext fun a => Fin.ext ?_)
    match a with
    | ⟨0, _⟩ => show win0_6.index t (0 : Fin 2) * 8 + 1 * i.val = i.val; omega
    | ⟨1, _⟩ => show win0_6.index t (1 : Fin 2) * 32 + 1 * j.val = j.val; omega
  exact e.trans (congrFun (sin_eq m c) _)

end Cert.PrepDec
-- ==== Proof.PrepDecFinal.lean ====
/-
  The four results of the sample's query and key preparation are the reference's.
-/
module

public import proofs.«01_k».proof.Proof.PrepDecBlk

@[expose] public section

set_option maxRecDepth 16384

noncomputable section
open Idealize.ShloMosaic Idealize.ShloMosaic.TcCoe Idealize.SL.Sem
open Idealize.ShloMosaic.Pipeline (Dat)
namespace Cert.PrepDec
open Cert.Prep (nrm turn side)
open Cert.Kernel10Ideal Cert.Kernel10Ideal.Gen Cert.Kernel10Ideal.Value Cert.Body
set_option maxHeartbeats 4000000
variable (m : (ℓ : Loc nD τ sig) → Buf (Elt Ideal) ℓ)

theorem out_c (c : Dev nD) (t : Fin cfg0.N) (i : Fin 8) (d : Fin 512) :
    (outsAt0 m c t).2.2.1 (ix3 (0 : Fin 1) i d) = nrm (fun d => aZ m c (ix3 (bOf t) (pOf t i) (⟨3072 + d.val, by omega⟩ : Fin 3840))) (fun d => aG m c (ix1 d)) d := by
  unfold outsAt0
  frame_out
  rw [pay6_at, funext fun k => blk1 m c t i k, funext fun k => blk3 m c t k]

theorem keyTurn (c : Dev nD) (t : Fin cfg0.N) (i : Fin 8) (d : Fin 64) :
    k0_pay5 (F := Ideal) (iblk m c 5 t) (iblk m c 6 t) (iblk m c 2 t) (ix2 i d)
      = turn (fun d => aZ m c (ix3 (bOf t) (pOf t i) (⟨3584 + d.val, by omega⟩ : Fin 3840))) (cs (pOf t i)) (sn (pOf t i)) d := by
  rw [pay5_at]
  have e : (fun d : Fin 64 => iblk m c 2 t (ix3 (0 : Fin 1) i (⟨d.val, by omega⟩ : Fin 128)))
      = fun d => aZ m c (ix3 (bOf t) (pOf t i) (⟨3584 + d.val, by omega⟩ : Fin 3840)) := funext fun d => blk2 m c t i ⟨d.val, by omega⟩
  have e5 : (fun j : Fin 32 => iblk m c 5 t (ix2 i j)) = cs (pOf t i) := funext fun j => blk5 m c t i j
  have e6 : (fun j : Fin 32 => iblk m c 6 t (ix2 i j)) = sn (pOf t i) := funext fun j => blk6 m c t i j
  exact congrFun (congr (congr (congrArg turn e) e5) e6) d

theorem out_r (c : Dev nD) (t : Fin cfg0.N) (i : Fin 8) (d : Fin 64) :
    (outsAt0 m c t).2.2.2 (ix3 (0 : Fin 1) i d)
      = turn (fun d => aZ m c (ix3 (bOf t) (pOf t i) (⟨3584 + d.val, by omega⟩ : Fin 3840))) (cs (pOf t i)) (sn (pOf t i)) d := by
  unfold outsAt0
  frame_out
  rw [pay7_at]
  exact keyTurn m c t i d

theorem out_k (c : Dev nD) (t : Fin cfg0.N) (i : Fin 8) (e : Fin 640) :
    (outsAt0 m c t).2.1 (ix3 (0 : Fin 1) i e)
      = side (nrm (fun d => aZ m c (ix3 (bOf t) (pOf t i) (⟨3072 + d.val, by omega⟩ : Fin 3840))) (fun d => aG m c (ix1 d)))
          (turn (fun d => aZ m c (ix3 (bOf t) (pOf t i) (⟨3584 + d.val, by omega⟩ : Fin 3840))) (cs (pOf t i)) (sn (pOf t i))) e := by
  unfold outsAt0
  frame_out
  rw [pay9_at, funext fun d => keyTurn m c t i d]
  refine congrArg (fun f => side f _ e) (funext fun d => ?_)
  rw [pay4_at, funext fun k => blk1 m c t i k, funext fun k => blk3 m c t k]

/-- Columns of the query part, at a start. -/
theorem ldA (X : Vec Ideal S1x8x3072 .f32) (a : ℕ) (p : ∀ b, ![0, 0, a] b + ![1, 8, 128] b ≤ S1x8x3072.size b) (i : Fin 8) (k : Fin 128) (h : a + k.val < 3072) :
    View.ld X (Rect.unit ![0, 0, a] ![1, 8, 128] p) (ix3 (0 : Fin 1) i k) = X (ix3 (0 : Fin 1) i (⟨a + k.val, h⟩ : Fin 3072)) := by
  refine congrArg X (funext fun b => Fin.ext ?_)
  match b with
  | ⟨0, _⟩ => rfl
  | ⟨1, _⟩ => show 0 + 1 * i.val = i.val; omega
  | ⟨2, _⟩ => show a + 1 * k.val = a + k.val; omega
theorem ldR (X : Vec Ideal S1x8x3072 .f32) (a : ℕ) (p : ∀ b, ![0, 0, a] b + ![1, 8, 64] b ≤ S1x8x3072.size b) (i : Fin 8) (k : Fin 64) (h : a + k.val < 3072) :
    View.ld X (Rect.unit ![0, 0, a] ![1, 8, 64] p) (ix3 (0 : Fin 1) i k) = X (ix3 (0 : Fin 1) i (⟨a + k.val, h⟩ : Fin 3072)) := by
  refine congrArg X (funext fun b => Fin.ext ?_)
  match b with
  | ⟨0, _⟩ => rfl
  | ⟨1, _⟩ => show 0 + 1 * i.val = i.val; omega
  | ⟨2, _⟩ => show a + 1 * k.val = a + k.val; omega
/-- The weights of a head. -/
theorem ldW (X : Vec Ideal S16x128x512 .bf16) (a : ℕ) (p : ∀ b, ![a, 0, 0] b + ![1, 128, 512] b ≤ S16x128x512.size b) (k : Fin 128) (d : Fin 512) (h : a < 16) :
    View.ld X (Rect.unit ![a, 0, 0] ![1, 128, 512] p) (ix3 (0 : Fin 1) k d) = X (ix3 (⟨a, h⟩ : Fin 16) k d) := by
  refine congrArg X (funext fun b => Fin.ext ?_)
  match b with
  | ⟨0, _⟩ => show a + 1 * 0 = a; omega
  | ⟨1, _⟩ => show 0 + 1 * k.val = k.val; omega
  | ⟨2, _⟩ => show 0 + 1 * d.val = d.val; omega

theorem pay2_id (c : Vec Ideal S8x32 .f32) : k0_pay2 (F := Ideal) c = c := by
  funext y
  obtain ⟨i, j, rfl⟩ : ∃ (i : Fin 8) (j : Fin 32), y = ix2 i j := ⟨y 0, y 1, eq_ix2 y⟩
  pointwise [k0_pay2]
theorem pay3_id (c : Vec Ideal S8x32 .f32) : k0_pay3 (F := Ideal) c = c := by
  funext y
  obtain ⟨i, j, rfl⟩ : ∃ (i : Fin 8) (j : Fin 32), y = ix2 i j := ⟨y 0, y 1, eq_ix2 y⟩
  pointwise [k0_pay3]

/-- One head of the prepared query, read off the whole block. -/
theorem head_at (X : Vec Ideal S1x8x3072 .f32) (W : Vec Ideal S16x128x512 .bf16) (C S : Vec Ideal S8x32 .f32) (h a r : ℕ) (hh : h < 16)
    (ha : a = 192 * h) (hr : r = 192 * h + 128)
    (pa : ∀ b, ![0, 0, a] b + ![1, 8, 128] b ≤ S1x8x3072.size b) (pr : ∀ b, ![0, 0, r] b + ![1, 8, 64] b ≤ S1x8x3072.size b)
    (pw : ∀ b, ![h, 0, 0] b + ![1, 128, 512] b ≤ S16x128x512.size b) (x : S1x8x640.Idx) (y : S1x8x10240.Idx)
    (h1 : (y 1).val = (x 1).val) (h2 : (y 2).val = 640 * h + (x 2).val) :
    k0_pay10 (F := Ideal) (k0_pay2 C) (k0_pay3 S) (View.ld X (Rect.unit ![0, 0, a] ![1, 8, 128] pa)) (View.ld X (Rect.unit ![0, 0, r] ![1, 8, 64] pr))
      (View.ld W (Rect.unit ![h, 0, 0] ![1, 128, 512] pw)) x = qOf X W C S y := by
  subst ha hr
  obtain ⟨z, i, e, rfl⟩ : ∃ (z : Fin 1) (i : Fin 8) (e : Fin 640), x = ix3 z i e := ⟨x 0, x 1, x 2, eq_ix3 x⟩
  obtain rfl : z = 0 := Subsingleton.elim _ _
  obtain ⟨z, j, f, rfl⟩ : ∃ (z : Fin 1) (i : Fin 8) (e : Fin 10240), y = ix3 z i e := ⟨y 0, y 1, y 2, eq_ix3 y⟩
  have h1 : j.val = i.val := h1
  have h2 : f.val = 640 * h + e.val := h2
  obtain rfl : j = i := Fin.ext h1
  have hq : f.val / 640 = h := by omega
  have hm : f.val % 640 = e.val := by omega
  subst hq
  rw [pay10_at, pay2_id, pay3_id]
  have he : (⟨f.val % 640, Nat.mod_lt _ (by norm_num)⟩ : Fin 640) = e := Fin.ext hm
  show _ = side _ _ (⟨f.val % 640, Nat.mod_lt _ (by norm_num)⟩ : Fin 640)
  rw [he]
  refine congrFun (congr (congrArg side (funext fun d => ?_)) ?_) e
  · refine Finset.sum_congr (M := EReal) rfl fun k _ => ?_
    exact congrArg₂ (· * ·) (ldA X _ pa j k (by omega)) (ldW W _ pw k d hh)
  · refine congrFun (congrFun (congrArg turn (funext fun d => ?_)) _) _
    exact (ldR X _ pr j d (by omega)).trans (congrArg X (ix3_eq rfl rfl (by show 192 * (f.val / 640) + 128 + d.val = 192 * (f.val / 640) + (128 + d.val); omega)))

theorem out_q (c : Dev nD) (t : Fin cfg0.N) :
    (outsAt0 m c t).1 = qOf (X0_0 m c t) (iblk m c 4 t) (iblk m c 5 t) (iblk m c 6 t) := by
  unfold outsAt0
  frame_out
  funext y
  canon_tiles x h
  · exact head_at (X0_0 m c t) (iblk m c 4 t) (iblk m c 5 t) (iblk m c 6 t) 15 2880 3008 (by decide) rfl rfl inb_S1x8x3072_S1x8x128_0_0_2880 inb_S1x8x3072_S1x8x64_0_0_3008 inb_S16x128x512_S1x128x512_15_0_0 x y h1 (by omega)
  · exact head_at (X0_0 m c t) (iblk m c 4 t) (iblk m c 5 t) (iblk m c 6 t) 14 2688 2816 (by decide) rfl rfl inb_S1x8x3072_S1x8x128_0_0_2688 inb_S1x8x3072_S1x8x64_0_0_2816 inb_S16x128x512_S1x128x512_14_0_0 x y h1 (by omega)
  · exact head_at (X0_0 m c t) (iblk m c 4 t) (iblk m c 5 t) (iblk m c 6 t) 13 2496 2624 (by decide) rfl rfl inb_S1x8x3072_S1x8x128_0_0_2496 inb_S1x8x3072_S1x8x64_0_0_2624 inb_S16x128x512_S1x128x512_13_0_0 x y h1 (by omega)
  · exact head_at (X0_0 m c t) (iblk m c 4 t) (iblk m c 5 t) (iblk m c 6 t) 12 2304 2432 (by decide) rfl rfl inb_S1x8x3072_S1x8x128_0_0_2304 inb_S1x8x3072_S1x8x64_0_0_2432 inb_S16x128x512_S1x128x512_12_0_0 x y h1 (by omega)
  · exact head_at (X0_0 m c t) (iblk m c 4 t) (iblk m c 5 t) (iblk m c 6 t) 11 2112 2240 (by decide) rfl rfl inb_S1x8x3072_S1x8x128_0_0_2112 inb_S1x8x3072_S1x8x64_0_0_2240 inb_S16x128x512_S1x128x512_11_0_0 x y h1 (by omega)
  · exact head_at (X0_0 m c t) (iblk m c 4 t) (iblk m c 5 t) (iblk m c 6 t) 10 1920 2048 (by decide) rfl rfl inb_S1x8x3072_S1x8x128_0_0_1920 inb_S1x8x3072_S1x8x64_0_0_2048 inb_S16x128x512_S1x128x512_10_0_0 x y h1 (by omega)
  · exact head_at (X0_0 m c t) (iblk m c 4 t) (iblk m c 5 t) (iblk m c 6 t) 9 1728 1856 (by decide) rfl rfl inb_S1x8x3072_S1x8x128_0_0_1728 inb_S1x8x3072_S1x8x64_0_0_1856 inb_S16x128x512_S1x128x512_9_0_0 x y h1 (by omega)
  · exact head_at (X0_0 m c t) (iblk m c 4 t) (iblk m c 5 t) (iblk m c 6 t) 8 1536 1664 (by decide) rfl rfl inb_S1x8x3072_S1x8x128_0_0_1536 inb_S1x8x3072_S1x8x64_0_0_1664 inb_S16x128x512_S1x128x512_8_0_0 x y h1 (by omega)
  · exact head_at (X0_0 m c t) (iblk m c 4 t) (iblk m c 5 t) (iblk m c 6 t) 7 1344 1472 (by decide) rfl rfl inb_S1x8x3072_S1x8x128_0_0_1344 inb_S1x8x3072_S1x8x64_0_0_1472 inb_S16x128x512_S1x128x512_7_0_0 x y h1 (by omega)
  · exact head_at (X0_0 m c t) (iblk m c 4 t) (iblk m c 5 t) (iblk m c 6 t) 6 1152 1280 (by decide) rfl rfl inb_S1x8x3072_S1x8x128_0_0_1152 inb_S1x8x3072_S1x8x64_0_0_1280 inb_S16x128x512_S1x128x512_6_0_0 x y h1 (by omega)
  · exact head_at (X0_0 m c t) (iblk m c 4 t) (iblk m c 5 t) (iblk m c 6 t) 5 960 1088 (by decide) rfl rfl inb_S1x8x3072_S1x8x128_0_0_960 inb_S1x8x3072_S1x8x64_0_0_1088 inb_S16x128x512_S1x128x512_5_0_0 x y h1 (by omega)
  · exact head_at (X0_0 m c t) (iblk m c 4 t) (iblk m c 5 t) (iblk m c 6 t) 4 768 896 (by decide) rfl rfl inb_S1x8x3072_S1x8x128_0_0_768 inb_S1x8x3072_S1x8x64_0_0_896 inb_S16x128x512_S1x128x512_4_0_0 x y h1 (by omega)
  · exact head_at (X0_0 m c t) (iblk m c 4 t) (iblk m c 5 t) (iblk m c 6 t) 3 576 704 (by decide) rfl rfl inb_S1x8x3072_S1x8x128_0_0_576 inb_S1x8x3072_S1x8x64_0_0_704 inb_S16x128x512_S1x128x512_3_0_0 x y h1 (by omega)
  · exact head_at (X0_0 m c t) (iblk m c 4 t) (iblk m c 5 t) (iblk m c 6 t) 2 384 512 (by decide) rfl rfl inb_S1x8x3072_S1x8x128_0_0_384 inb_S1x8x3072_S1x8x64_0_0_512 inb_S16x128x512_S1x128x512_2_0_0 x y h1 (by omega)
  · exact head_at (X0_0 m c t) (iblk m c 4 t) (iblk m c 5 t) (iblk m c 6 t) 1 192 320 (by decide) rfl rfl inb_S1x8x3072_S1x8x128_0_0_192 inb_S1x8x3072_S1x8x64_0_0_320 inb_S16x128x512_S1x128x512_1_0_0 x y h1 (by omega)
  · exact head_at (X0_0 m c t) (iblk m c 4 t) (iblk m c 5 t) (iblk m c 6 t) 0 0 128 (by decide) rfl rfl inb_S1x8x3072_S1x8x128_0_0_0 inb_S1x8x3072_S1x8x64_0_0_128 inb_S16x128x512_S1x128x512_0_0_0 x y h1 (by omega)

/-- The reference's prepared query at any column. -/
theorem ref_q' (x0 : Vec Ideal S128x8x3840 .f32) (x2 : Vec Ideal S512x4096 .f32) (b : Fin 128) (p : Fin 8) (f : Fin 10240) :
    Cert.Reference10Ideal.Read.val_main_v95 (F := Ideal) x0 x2 (ix3 b p f)
      = side (fun d => ∑ k : Fin 128, x2 (ix2 d (⟨256 * (f.val / 640) + k.val, by omega⟩ : Fin 4096)) * x0 (ix3 b p (⟨192 * (f.val / 640) + k.val, by omega⟩ : Fin 3840)))
          (turn (fun d => x0 (ix3 b p (⟨192 * (f.val / 640) + (128 + d.val), by omega⟩ : Fin 3840))) (cs p) (sn p)) (⟨f.val % 640, Nat.mod_lt _ (by norm_num)⟩ : Fin 640) := by
  have e : f = (⟨640 * (⟨f.val / 640, by omega⟩ : Fin 16).val + (⟨f.val % 640, Nat.mod_lt _ (by norm_num)⟩ : Fin 640).val, by dsimp only; omega⟩ : Fin 10240) :=
    Fin.ext (by show f.val = 640 * (f.val / 640) + f.val % 640; omega)
  exact (congrArg (fun f => Cert.Reference10Ideal.Read.val_main_v95 (F := Ideal) x0 x2 (ix3 b p f)) e).trans
    (ref_q x0 x2 b p (⟨f.val / 640, by omega⟩ : Fin 16) (⟨f.val % 640, Nat.mod_lt _ (by norm_num)⟩ : Fin 640))

theorem q_at (c : Dev nD) (t : Fin cfg0.N) (i : Fin 8) (f : Fin 10240) :
    (outsAt0 m c t).1 (ix3 (0 : Fin 1) i f)
      = side (fun d => ∑ k : Fin 128, aW m c (ix2 d (⟨256 * (f.val / 640) + k.val, by omega⟩ : Fin 4096)) * aZ m c (ix3 (bOf t) (pOf t i) (⟨192 * (f.val / 640) + k.val, by omega⟩ : Fin 3840)))
          (turn (fun d => aZ m c (ix3 (bOf t) (pOf t i) (⟨192 * (f.val / 640) + (128 + d.val), by omega⟩ : Fin 3840))) (cs (pOf t i)) (sn (pOf t i))) (⟨f.val % 640, Nat.mod_lt _ (by norm_num)⟩ : Fin 640) := by
  rw [out_q]
  refine congrFun (congr (congrArg side (funext fun d => ?_)) ?_) _
  · refine Finset.sum_congr (M := EReal) rfl fun k _ => ?_
    rw [mul_comm (aW m c _)]
    exact congrArg₂ (· * ·) (blk0 m c t i _) (blk4 m c t _ k d)
  · exact congr (congr (congrArg turn (funext fun d => blk0 m c t i _)) (funext fun j => blk5 m c t i j)) (funext fun j => blk6 m c t i j)

theorem final_c (c : Dev nD) : (dats m 0 c).arrAt 9 cfg0.N = Cert.Reference10Ideal.Read.val_main_v58 (F := Ideal) (aZ m c) (aG m c) := by
  refine (dats m 0 c).arrAt_eq_of_covers 9 _ (by decide +kernel) fun t hf y => ?_
  blk_simp
  rw [after0_9]
  obtain ⟨z, i, d, rfl⟩ : ∃ (z : Fin 1) (i : Fin 8) (d : Fin 512), y = ix3 z i d := ⟨y 0, y 1, y 2, eq_ix3 y⟩
  obtain rfl : z = 0 := Subsingleton.elim _ _
  have e : (((View.whole main_v22_2).slice (win0_9.rect t)).emb (ix3 (0 : Fin 1) i d) : S128x8x512.Idx) = ix3 (bOf t) (pOf t i) d := by
    obtain ⟨⟨p0, p1, p2⟩, ⟨q0, q1, q2⟩, ⟨r0, r1, r2⟩, ⟨s0, s1, s2⟩⟩ := index_out t
    refine funext fun a => Fin.ext ?_
    match a with
    | ⟨0, _⟩ => show win0_9.index t (0 : Fin 3) * 1 + 1 * 0 = t.val; omega
    | ⟨1, _⟩ => show win0_9.index t (1 : Fin 3) * 8 + 1 * i.val = i.val; omega
    | ⟨2, _⟩ => show win0_9.index t (2 : Fin 3) * 512 + 1 * d.val = d.val; omega
  rw [e]
  exact (out_c m c t i d).trans (ref_c (aZ m c) (aG m c) (bOf t) (pOf t i) d).symm

theorem final_r (c : Dev nD) : (dats m 0 c).arrAt 10 cfg0.N = Cert.Reference10Ideal.Read.val_main_v89 (F := Ideal) (aZ m c) := by
  refine (dats m 0 c).arrAt_eq_of_covers 10 _ (by decide +kernel) fun t hf y => ?_
  blk_simp
  rw [after0_10]
  obtain ⟨z, i, d, rfl⟩ : ∃ (z : Fin 1) (i : Fin 8) (d : Fin 64), y = ix3 z i d := ⟨y 0, y 1, y 2, eq_ix3 y⟩
  obtain rfl : z = 0 := Subsingleton.elim _ _
  have e : (((View.whole main_v22_3).slice (win0_10.rect t)).emb (ix3 (0 : Fin 1) i d) : S128x8x64.Idx) = ix3 (bOf t) (pOf t i) d := by
    obtain ⟨⟨p0, p1, p2⟩, ⟨q0, q1, q2⟩, ⟨r0, r1, r2⟩, ⟨s0, s1, s2⟩⟩ := index_out t
    refine funext fun a => Fin.ext ?_
    match a with
    | ⟨0, _⟩ => show win0_10.index t (0 : Fin 3) * 1 + 1 * 0 = t.val; omega
    | ⟨1, _⟩ => show win0_10.index t (1 : Fin 3) * 8 + 1 * i.val = i.val; omega
    | ⟨2, _⟩ => show win0_10.index t (2 : Fin 3) * 64 + 1 * d.val = d.val; omega
  rw [e]
  exact (out_r m c t i d).trans (ref_r (aZ m c) (bOf t) (pOf t i) d).symm

theorem final_k (c : Dev nD) : (dats m 0 c).arrAt 8 cfg0.N = Cert.Reference10Ideal.Read.val_main_v96 (F := Ideal) (aZ m c) (aG m c) := by
  refine (dats m 0 c).arrAt_eq_of_covers 8 _ (by decide +kernel) fun t hf y => ?_
  blk_simp
  rw [after0_8]
  obtain ⟨z, i, d, rfl⟩ : ∃ (z : Fin 1) (i : Fin 8) (d : Fin 640), y = ix3 z i d := ⟨y 0, y 1, y 2, eq_ix3 y⟩
  obtain rfl : z = 0 := Subsingleton.elim _ _
  have e : (((View.whole main_v22_1).slice (win0_8.rect t)).emb (ix3 (0 : Fin 1) i d) : S128x8x640.Idx) = ix3 (bOf t) (pOf t i) d := by
    obtain ⟨⟨p0, p1, p2⟩, ⟨q0, q1, q2⟩, ⟨r0, r1, r2⟩, ⟨s0, s1, s2⟩⟩ := index_out t
    refine funext fun a => Fin.ext ?_
    match a with
    | ⟨0, _⟩ => show win0_8.index t (0 : Fin 3) * 1 + 1 * 0 = t.val; omega
    | ⟨1, _⟩ => show win0_8.index t (1 : Fin 3) * 8 + 1 * i.val = i.val; omega
    | ⟨2, _⟩ => show win0_8.index t (2 : Fin 3) * 640 + 1 * d.val = d.val; omega
  rw [e]
  exact (out_k m c t i d).trans (ref_k (aZ m c) (aG m c) (bOf t) (pOf t i) d).symm

theorem final_q (c : Dev nD) : (dats m 0 c).arrAt 7 cfg0.N = Cert.Reference10Ideal.Read.val_main_v95 (F := Ideal) (aZ m c) (aW m c) := by
  refine (dats m 0 c).arrAt_eq_of_covers 7 _ (by decide +kernel) fun t hf y => ?_
  blk_simp
  rw [after0_7]
  obtain ⟨z, i, d, rfl⟩ : ∃ (z : Fin 1) (i : Fin 8) (d : Fin 10240), y = ix3 z i d := ⟨y 0, y 1, y 2, eq_ix3 y⟩
  obtain rfl : z = 0 := Subsingleton.elim _ _
  have e : (((View.whole main_v22_0).slice (win0_7.rect t)).emb (ix3 (0 : Fin 1) i d) : S128x8x10240.Idx) = ix3 (bOf t) (pOf t i) d := by
    obtain ⟨⟨p0, p1, p2⟩, ⟨q0, q1, q2⟩, ⟨r0, r1, r2⟩, ⟨s0, s1, s2⟩⟩ := index_out t
    refine funext fun a => Fin.ext ?_
    match a with
    | ⟨0, _⟩ => show win0_7.index t (0 : Fin 3) * 1 + 1 * 0 = t.val; omega
    | ⟨1, _⟩ => show win0_7.index t (1 : Fin 3) * 8 + 1 * i.val = i.val; omega
    | ⟨2, _⟩ => show win0_7.index t (2 : Fin 3) * 10240 + 1 * d.val = d.val; omega
  rw [e]
  exact (q_at m c t i d).trans (ref_q' (aZ m c) (aW m c) (bOf t) (pOf t i) d).symm

end Cert.PrepDec
-- ==== Proof.UpDecRef.lean ====
/-
  The sample's up projection's reference, read at an index.
-/
module

public import proofs.«01_k».proof.Proof.Up
public import proofs.«01_k».proof.Proof.Gen.Reference11Ideal.Run
public import proofs.«01_k».proof.Proof.Gen.Reference11Ideal.Read

@[expose] public section

set_option maxRecDepth 16384

noncomputable section
open Idealize.ShloMosaic Idealize.ShloMosaic.TcCoe Idealize.SL.Sem
namespace Cert.UpDec
open Cert.Up (nrm silu conv)
open Cert.Reference11Ideal Cert.Reference11Ideal.Read Cert.Body
set_option maxHeartbeats 1000000

/-- One entry of the whole product: a normalised row and a column of the layer's weights. -/
def full (x0 : Vec Ideal S512x2048 .f32) (x1 : Vec Ideal S4x2048 .f32) (x2 : Vec Ideal S4x2048x8192 .f32) (R : Fin 512) (J : Fin 8192) : EReal :=
  ∑ k : Fin 2048, nrm (fun k => x0 (ix2 R k)) (fun k => x1 (ix2 (1 : Fin 4) k)) k * x2 (ix3 (1 : Fin 4) k J)

abbrev rw4 (b : Fin 128) (s : Fin 4) : Fin 512 := ⟨4 * b.val + s.val, by omega⟩

theorem v0_at (x0 : Vec Ideal S512x2048 .f32) (b : Fin 128) (s : Fin 4) (k : Fin 2048) : val_main_v0 (F := Ideal) x0 (ix3 b s k) = x0 (ix2 (rw4 b s) k) := by
  refine (val_main_v0_apply x0 _).trans (congrArg x0 (funext fun a => Fin.ext ?_))
  match a with
  | ⟨0, _⟩ => show ((b.val * 4 + s.val) * 2048 + k.val) / 2048 = 4 * b.val + s.val; omega
  | ⟨1, _⟩ => show ((b.val * 4 + s.val) * 2048 + k.val) % 2048 = k.val; omega

theorem v2_at (x1 : Vec Ideal S4x2048 .f32) (k : Fin 2048) : val_main_v2 (F := Ideal) x1 (ix1 k) = x1 (ix2 (1 : Fin 4) k) := by
  pointwise [val_main_v2, val_main_v1]

theorem v11_at (x0 : Vec Ideal S512x2048 .f32) (b : Fin 128) (s : Fin 4) (k : Fin 2048) : val_main_v11 (F := Ideal) x0 (ix3 b s k)
    = Ideal.rsqrt (Ideal.div (∑ j : Fin 2048, val_main_v0 (F := Ideal) x0 (ix3 b s j) * val_main_v0 (F := Ideal) x0 (ix3 b s j)) (Ideal.ofBits FTy.f32 0x45000000#32) + Ideal.ofBits FTy.f32 0x358637BD#32) := by
  pointwise [val_main_v11, val_main_v10, val_main_v9, val_main_v8, val_main_v7, val_main_v6, val_main_v5, val_main_v4, val_main_v3, val_main_cst, val_main_cst_0, val_main_cst_1]

theorem v14_at (x1 : Vec Ideal S4x2048 .f32) (b : Fin 128) (s : Fin 4) (k : Fin 2048) : val_main_v14 (F := Ideal) x1 (ix3 b s k) = val_main_v2 (F := Ideal) x1 (ix1 k) := by
  pointwise [val_main_v14, val_main_v13]

theorem v15_at (x0 : Vec Ideal S512x2048 .f32) (x1 : Vec Ideal S4x2048 .f32) (b : Fin 128) (s : Fin 4) (k : Fin 2048) :
    val_main_v15 (F := Ideal) x0 x1 (ix3 b s k) = nrm (fun k => x0 (ix2 (rw4 b s) k)) (fun k => x1 (ix2 (1 : Fin 4) k)) k := by
  have e : val_main_v15 (F := Ideal) x0 x1 (ix3 b s k) = val_main_v0 (F := Ideal) x0 (ix3 b s k) * val_main_v11 (F := Ideal) x0 (ix3 b s k) * val_main_v14 (F := Ideal) x1 (ix3 b s k) := by
    pointwise [val_main_v15, val_main_v12]
  rw [e, v11_at, v14_at, v2_at, funext fun j => congrArg₂ (· * ·) (v0_at x0 b s j) (v0_at x0 b s j), v0_at]
  rfl

theorem v18_at (x0 : Vec Ideal S512x2048 .f32) (x1 : Vec Ideal S4x2048 .f32) (x2 : Vec Ideal S4x2048x8192 .f32) (b : Fin 128) (s : Fin 4) (J : Fin 8192) :
    val_main_v18 (F := Ideal) x0 x1 x2 (ix3 b s J) = full x0 x1 x2 (rw4 b s) J := by
  have e : val_main_v18 (F := Ideal) x0 x1 x2 (ix3 b s J) = ∑ k : Fin 2048, val_main_v15 (F := Ideal) x0 x1 (ix3 b s k) * x2 (ix3 (1 : Fin 4) k J) := by
    pointwise [val_main_v18, val_main_v17, val_main_v16]
  exact e.trans (Finset.sum_congr rfl fun k _ => congrArg (· * _) (v15_at x0 x1 b s k))

theorem v19_at (x0 : Vec Ideal S512x2048 .f32) (x1 : Vec Ideal S4x2048 .f32) (x2 : Vec Ideal S4x2048x8192 .f32) (b : Fin 128) (s : Fin 4) (J : Fin 4096) :
    val_main_v19 (F := Ideal) x0 x1 x2 (ix3 b s J) = full x0 x1 x2 (rw4 b s) ⟨J.val, by omega⟩ := by
  have e : val_main_v19 (F := Ideal) x0 x1 x2 (ix3 b s J) = val_main_v18 (F := Ideal) x0 x1 x2 (ix3 b s (⟨J.val, by omega⟩ : Fin 8192)) := by
    pointwise [val_main_v19]
  exact e.trans (v18_at x0 x1 x2 b s _)
theorem v20_at (x0 : Vec Ideal S512x2048 .f32) (x1 : Vec Ideal S4x2048 .f32) (x2 : Vec Ideal S4x2048x8192 .f32) (b : Fin 128) (s : Fin 4) (J : Fin 4096) :
    val_main_v20 (F := Ideal) x0 x1 x2 (ix3 b s J) = full x0 x1 x2 (rw4 b s) ⟨4096 + J.val, by omega⟩ := by
  have e : val_main_v20 (F := Ideal) x0 x1 x2 (ix3 b s J) = val_main_v18 (F := Ideal) x0 x1 x2 (ix3 b s (⟨4096 + J.val, by omega⟩ : Fin 8192)) := by
    pointwise [val_main_v20]
  exact e.trans (v18_at x0 x1 x2 b s _)

theorem v22_at (x5 : Vec Ideal S4x128x2x4096 .f32) (b : Fin 128) (s : Fin 2) (J : Fin 4096) : val_main_v22 (F := Ideal) x5 (ix3 b s J) = x5 (ix4 (1 : Fin 4) b s J) := by
  pointwise [val_main_v22, val_main_v21]

/-- The gate's rows behind the state's two. -/
theorem v23_lt (x0 : Vec Ideal S512x2048 .f32) (x1 : Vec Ideal S4x2048 .f32) (x2 : Vec Ideal S4x2048x8192 .f32) (x5 : Vec Ideal S4x128x2x4096 .f32) (b : Fin 128) (s : Fin 6) (J : Fin 4096) (h : s.val < 2) :
    val_main_v23 (F := Ideal) x0 x1 x2 x5 (ix3 b s J) = x5 (ix4 (1 : Fin 4) b (⟨s.val, h⟩ : Fin 2) J) := by
  unfold val_main_v23
  refine (concatenate_pair_apply_left (s₁ := S128x2x4096) (s₂ := S128x4x4096) (1 : Fin 3) _ _ _ (ix3 b s J) rfl (ix3 b (⟨s.val, h⟩ : Fin 2) J) (fun a => by
    match a with
    | ⟨0, _⟩ => rfl
    | ⟨1, _⟩ => rfl
    | ⟨2, _⟩ => rfl)).trans ?_
  exact v22_at x5 b ⟨s.val, h⟩ J
theorem v23_ge (x0 : Vec Ideal S512x2048 .f32) (x1 : Vec Ideal S4x2048 .f32) (x2 : Vec Ideal S4x2048x8192 .f32) (x5 : Vec Ideal S4x128x2x4096 .f32) (b : Fin 128) (s : Fin 6) (J : Fin 4096) (s' : Fin 4) (h : s'.val + 2 = s.val) :
    val_main_v23 (F := Ideal) x0 x1 x2 x5 (ix3 b s J) = full x0 x1 x2 (rw4 b s') ⟨J.val, by omega⟩ := by
  unfold val_main_v23
  refine (concatenate_pair_apply_right (s₁ := S128x2x4096) (s₂ := S128x4x4096) (1 : Fin 3) _ _ _ (ix3 b s J) rfl rfl (ix3 b s' J) (fun a => by
    match a with
    | ⟨0, _⟩ => exact fun _ => rfl
    | ⟨1, _⟩ => exact fun h => absurd rfl h
    | ⟨2, _⟩ => exact fun _ => rfl) (by show s'.val + 2 = s.val; exact h)).trans ?_
  exact v19_at x0 x1 x2 b s' J

/-- The rows the convolution reads at a row of a sequence. -/
theorem v26_at (x0 : Vec Ideal S512x2048 .f32) (x1 : Vec Ideal S4x2048 .f32) (x2 : Vec Ideal S4x2048x8192 .f32) (x5 : Vec Ideal S4x128x2x4096 .f32) (b : Fin 128) (s : Fin 4) (J : Fin 4096) :
    val_main_v26 (F := Ideal) x0 x1 x2 x5 (ix3 b s J) = val_main_v23 (F := Ideal) x0 x1 x2 x5 (ix3 b (⟨s.val, by omega⟩ : Fin 6) J) := by
  pointwise [val_main_v26]
theorem v35_at (x0 : Vec Ideal S512x2048 .f32) (x1 : Vec Ideal S4x2048 .f32) (x2 : Vec Ideal S4x2048x8192 .f32) (x5 : Vec Ideal S4x128x2x4096 .f32) (b : Fin 128) (s : Fin 4) (J : Fin 4096) :
    val_main_v35 (F := Ideal) x0 x1 x2 x5 (ix3 b s J) = val_main_v23 (F := Ideal) x0 x1 x2 x5 (ix3 b (⟨1 + s.val, by omega⟩ : Fin 6) J) := by
  pointwise [val_main_v35]
theorem v42_at (x0 : Vec Ideal S512x2048 .f32) (x1 : Vec Ideal S4x2048 .f32) (x2 : Vec Ideal S4x2048x8192 .f32) (x5 : Vec Ideal S4x128x2x4096 .f32) (b : Fin 128) (s : Fin 4) (J : Fin 4096) :
    val_main_v42 (F := Ideal) x0 x1 x2 x5 (ix3 b s J) = val_main_v23 (F := Ideal) x0 x1 x2 x5 (ix3 b (⟨2 + s.val, by omega⟩ : Fin 6) J) := by
  pointwise [val_main_v42]

theorem v30_at (x3 : Vec Ideal S4x3x4096 .f32) (b : Fin 128) (s : Fin 4) (J : Fin 4096) : val_main_v30 (F := Ideal) x3 (ix3 b s J) = x3 (ix3 (1 : Fin 4) (0 : Fin 3) J) := by
  pointwise [val_main_v30, val_main_v29, val_main_v28, val_main_v27]
theorem v39_at (x3 : Vec Ideal S4x3x4096 .f32) (b : Fin 128) (s : Fin 4) (J : Fin 4096) : val_main_v39 (F := Ideal) x3 (ix3 b s J) = x3 (ix3 (1 : Fin 4) (1 : Fin 3) J) := by
  pointwise [val_main_v39, val_main_v38, val_main_v37, val_main_v36]
theorem v46_at (x3 : Vec Ideal S4x3x4096 .f32) (b : Fin 128) (s : Fin 4) (J : Fin 4096) : val_main_v46 (F := Ideal) x3 (ix3 b s J) = x3 (ix3 (1 : Fin 4) (2 : Fin 3) J) := by
  pointwise [val_main_v46, val_main_v45, val_main_v44, val_main_v43]
theorem v33_at (x4 : Vec Ideal S4x4096 .f32) (b : Fin 128) (s : Fin 4) (J : Fin 4096) : val_main_v33 (F := Ideal) x4 (ix3 b s J) = x4 (ix2 (1 : Fin 4) J) := by
  pointwise [val_main_v33, val_main_v32, val_main_v25, val_main_v24]

/-- The row `d` before a row of the whole array: the state's before its sequence's first. -/
def back (x0 : Vec Ideal S512x2048 .f32) (x1 : Vec Ideal S4x2048 .f32) (x2 : Vec Ideal S4x2048x8192 .f32) (x5 : Vec Ideal S4x128x2x4096 .f32) (d : ℕ) (R : Fin 512) (J : Fin 4096) : EReal :=
  if R.val % 4 < d then x5 (ix4 (1 : Fin 4) (⟨R.val / 4, by omega⟩ : Fin 128) (⟨(2 + R.val % 4 - d) % 2, by omega⟩ : Fin 2) J)
  else full x0 x1 x2 ⟨R.val - d, by omega⟩ ⟨J.val, by omega⟩

/-- The first result at an index. -/
def resH (x0 : Vec Ideal S512x2048 .f32) (x1 : Vec Ideal S4x2048 .f32) (x2 : Vec Ideal S4x2048x8192 .f32) (x3 : Vec Ideal S4x3x4096 .f32) (x4 : Vec Ideal S4x4096 .f32) (x5 : Vec Ideal S4x128x2x4096 .f32)
    (R : Fin 512) (J : Fin 4096) : EReal :=
  silu (conv (x4 (ix2 (1 : Fin 4) J)) (back x0 x1 x2 x5 2 R J) (x3 (ix3 (1 : Fin 4) (0 : Fin 3) J)) (back x0 x1 x2 x5 1 R J) (x3 (ix3 (1 : Fin 4) (1 : Fin 3) J))
    (full x0 x1 x2 R ⟨J.val, by omega⟩) (x3 (ix3 (1 : Fin 4) (2 : Fin 3) J))) * full x0 x1 x2 R ⟨4096 + J.val, by omega⟩

theorem v26_back (x0 : Vec Ideal S512x2048 .f32) (x1 : Vec Ideal S4x2048 .f32) (x2 : Vec Ideal S4x2048x8192 .f32) (x5 : Vec Ideal S4x128x2x4096 .f32) (b : Fin 128) (s : Fin 4) (J : Fin 4096) :
    val_main_v26 (F := Ideal) x0 x1 x2 x5 (ix3 b s J) = back x0 x1 x2 x5 2 (rw4 b s) J := by
  rw [v26_at]
  unfold back
  by_cases h : s.val < 2
  · rw [v23_lt _ _ _ _ _ _ _ (by show s.val < 2; omega), if_pos (by show (4 * b.val + s.val) % 4 < 2; omega)]
    refine congrArg x5 (congrArg₂ (fun p q => ix4 (1 : Fin 4) p q J) (Fin.ext ?_) (Fin.ext ?_))
    · show b.val = (4 * b.val + s.val) / 4
      omega
    · show s.val = (2 + (4 * b.val + s.val) % 4 - 2) % 2
      omega
  · rw [v23_ge _ _ _ _ _ _ _ ⟨s.val - 2, by omega⟩ (by show s.val - 2 + 2 = s.val; omega), if_neg (by show ¬(4 * b.val + s.val) % 4 < 2; omega)]
    refine congrArg (fun r => full x0 x1 x2 r _) (Fin.ext ?_)
    show 4 * b.val + (s.val - 2) = 4 * b.val + s.val - 2
    omega
theorem v35_back (x0 : Vec Ideal S512x2048 .f32) (x1 : Vec Ideal S4x2048 .f32) (x2 : Vec Ideal S4x2048x8192 .f32) (x5 : Vec Ideal S4x128x2x4096 .f32) (b : Fin 128) (s : Fin 4) (J : Fin 4096) :
    val_main_v35 (F := Ideal) x0 x1 x2 x5 (ix3 b s J) = back x0 x1 x2 x5 1 (rw4 b s) J := by
  rw [v35_at]
  unfold back
  by_cases h : s.val < 1
  · rw [v23_lt _ _ _ _ _ _ _ (by show 1 + s.val < 2; omega), if_pos (by show (4 * b.val + s.val) % 4 < 1; omega)]
    refine congrArg x5 (congrArg₂ (fun p q => ix4 (1 : Fin 4) p q J) (Fin.ext ?_) (Fin.ext ?_))
    · show b.val = (4 * b.val + s.val) / 4
      omega
    · show 1 + s.val = (2 + (4 * b.val + s.val) % 4 - 1) % 2
      omega
  · rw [v23_ge _ _ _ _ _ _ _ ⟨s.val - 1, by omega⟩ (by show s.val - 1 + 2 = 1 + s.val; omega), if_neg (by show ¬(4 * b.val + s.val) % 4 < 1; omega)]
    refine congrArg (fun r => full x0 x1 x2 r _) (Fin.ext ?_)
    show 4 * b.val + (s.val - 1) = 4 * b.val + s.val - 1
    omega
theorem v42_back (x0 : Vec Ideal S512x2048 .f32) (x1 : Vec Ideal S4x2048 .f32) (x2 : Vec Ideal S4x2048x8192 .f32) (x5 : Vec Ideal S4x128x2x4096 .f32) (b : Fin 128) (s : Fin 4) (J : Fin 4096) :
    val_main_v42 (F := Ideal) x0 x1 x2 x5 (ix3 b s J) = full x0 x1 x2 (rw4 b s) ⟨J.val, by omega⟩ := by
  rw [v42_at]
  exact v23_ge _ _ _ _ _ _ _ s (by show s.val + 2 = 2 + s.val; omega)

theorem v48_at (x0 : Vec Ideal S512x2048 .f32) (x1 : Vec Ideal S4x2048 .f32) (x2 : Vec Ideal S4x2048x8192 .f32) (x3 : Vec Ideal S4x3x4096 .f32) (x4 : Vec Ideal S4x4096 .f32) (x5 : Vec Ideal S4x128x2x4096 .f32)
    (b : Fin 128) (s : Fin 4) (J : Fin 4096) : val_main_v48 (F := Ideal) x0 x1 x2 x3 x4 x5 (ix3 b s J)
      = conv (x4 (ix2 (1 : Fin 4) J)) (back x0 x1 x2 x5 2 (rw4 b s) J) (x3 (ix3 (1 : Fin 4) (0 : Fin 3) J)) (back x0 x1 x2 x5 1 (rw4 b s) J) (x3 (ix3 (1 : Fin 4) (1 : Fin 3) J))
          (full x0 x1 x2 (rw4 b s) ⟨J.val, by omega⟩) (x3 (ix3 (1 : Fin 4) (2 : Fin 3) J)) := by
  have e : val_main_v48 (F := Ideal) x0 x1 x2 x3 x4 x5 (ix3 b s J)
      = val_main_v33 (F := Ideal) x4 (ix3 b s J) + val_main_v26 (F := Ideal) x0 x1 x2 x5 (ix3 b s J) * val_main_v30 (F := Ideal) x3 (ix3 b s J)
        + val_main_v35 (F := Ideal) x0 x1 x2 x5 (ix3 b s J) * val_main_v39 (F := Ideal) x3 (ix3 b s J)
        + val_main_v42 (F := Ideal) x0 x1 x2 x5 (ix3 b s J) * val_main_v46 (F := Ideal) x3 (ix3 b s J) := by
    pointwise [val_main_v48, val_main_v47, val_main_v41, val_main_v40, val_main_v34, val_main_v31]
  rw [e, v33_at, v26_back, v30_at, v35_back, v39_at, v42_back, v46_at]
  rfl

theorem v50_at (x0 : Vec Ideal S512x2048 .f32) (x1 : Vec Ideal S4x2048 .f32) (x2 : Vec Ideal S4x2048x8192 .f32) (x3 : Vec Ideal S4x3x4096 .f32) (x4 : Vec Ideal S4x4096 .f32) (x5 : Vec Ideal S4x128x2x4096 .f32)
    (b : Fin 128) (s : Fin 4) (J : Fin 4096) : val_main_v50 (F := Ideal) x0 x1 x2 x3 x4 x5 (ix3 b s J) = resH x0 x1 x2 x3 x4 x5 (rw4 b s) J := by
  have e : val_main_v50 (F := Ideal) x0 x1 x2 x3 x4 x5 (ix3 b s J)
      = silu (val_main_v48 (F := Ideal) x0 x1 x2 x3 x4 x5 (ix3 b s J)) * val_main_v20 (F := Ideal) x0 x1 x2 (ix3 b s J) := by
    pointwise [val_main_v50, val_main_v49, val_main_call0_v5, val_main_call0_v4, val_main_call0_v3, val_main_call0_v2, val_main_call0_v1, val_main_call0_v0, val_main_call0_cst, val_main_call0_cst_0, silu]
  rw [e, v48_at, v20_at]
  rfl

theorem ref_h (x0 : Vec Ideal S512x2048 .f32) (x1 : Vec Ideal S4x2048 .f32) (x2 : Vec Ideal S4x2048x8192 .f32) (x3 : Vec Ideal S4x3x4096 .f32) (x4 : Vec Ideal S4x4096 .f32) (x5 : Vec Ideal S4x128x2x4096 .f32)
    (R : Fin 512) (J : Fin 4096) : val_main_v52 (F := Ideal) x0 x1 x2 x3 x4 x5 (ix2 R J) = resH x0 x1 x2 x3 x4 x5 R J := by
  have e : val_main_v52 (F := Ideal) x0 x1 x2 x3 x4 x5 (ix2 R J) = val_main_v51 (F := Ideal) x0 x1 x2 x3 x4 x5 (ix2 R J) := by
    pointwise [val_main_v52]
  refine e.trans ((val_main_v51_apply x0 x1 x2 x3 x4 x5 _).trans ?_)
  have ei : idx_main_v51 (ix2 R J) = ix3 (⟨R.val / 4, by omega⟩ : Fin 128) (⟨R.val % 4, by omega⟩ : Fin 4) J := by
    refine funext fun a => Fin.ext ?_
    match a with
    | ⟨0, _⟩ => show (R.val * 4096 + J.val) / 16384 = R.val / 4; omega
    | ⟨1, _⟩ => show (R.val * 4096 + J.val) / 4096 % 4 = R.val % 4; omega
    | ⟨2, _⟩ => show (R.val * 4096 + J.val) % 4096 = J.val; omega
  rw [ei, v50_at]
  refine congrArg (fun r => resH x0 x1 x2 x3 x4 x5 r J) (Fin.ext ?_)
  show 4 * (R.val / 4) + R.val % 4 = R.val
  omega

/-- The second result at an index: the gate's rows. -/
theorem ref_g (x0 : Vec Ideal S512x2048 .f32) (x1 : Vec Ideal S4x2048 .f32) (x2 : Vec Ideal S4x2048x8192 .f32) (R : Fin 512) (J : Fin 4096) :
    val_main_v53 (F := Ideal) x0 x1 x2 (ix2 R J) = full x0 x1 x2 R ⟨J.val, by omega⟩ := by
  refine (val_main_v53_apply x0 x1 x2 _).trans ?_
  have ei : idx_main_v53 (ix2 R J) = ix3 (⟨R.val / 4, by omega⟩ : Fin 128) (⟨R.val % 4, by omega⟩ : Fin 4) J := by
    refine funext fun a => Fin.ext ?_
    match a with
    | ⟨0, _⟩ => show (R.val * 4096 + J.val) / 16384 = R.val / 4; omega
    | ⟨1, _⟩ => show (R.val * 4096 + J.val) / 4096 % 4 = R.val % 4; omega
    | ⟨2, _⟩ => show (R.val * 4096 + J.val) % 4096 = J.val; omega
  rw [ei, v19_at]
  refine congrArg (fun r => full x0 x1 x2 r _) (Fin.ext ?_)
  show 4 * (R.val / 4) + R.val % 4 = R.val
  omega

end Cert.UpDec
-- ==== Proof.UpDec.lean ====
/-
  The sample's up projection with its norm, its gate's convolution along the rows and its activation: what a point stores.
-/
module

public import proofs.«01_k».proof.Proof.Gen.Kernel11Ideal.Value
public import proofs.«01_k».proof.Proof.Up
public import Idealize.ShloMosaic.Lib.Pipeline.ValueKit
public import Idealize.ShloMosaic.Lib.Pipeline.ReadBack
public import Idealize.ShloMosaic.Lib.Pointwise

@[expose] public section

set_option maxRecDepth 16384

noncomputable section
open Idealize.ShloMosaic Idealize.ShloMosaic.TcCoe Idealize.SL.Sem
open Idealize.ShloMosaic.Pipeline (Dat)
namespace Cert.UpDec
open Cert.Up (nrm silu conv)
open Cert.Kernel11Ideal Cert.Kernel11Ideal.Gen Cert.Body
set_option maxHeartbeats 1000000

/-- The normalised row block. -/
theorem norm_at (x : Vec Ideal S512x2048 .f32) (g : Vec Ideal S1x2048 .f32) (i : Fin 512) (k : Fin 2048) :
    k0_pay2 (F := Ideal) x g (ix2 i k) = nrm (fun k => x (ix2 i k)) (fun k => g (ix2 (0 : Fin 1) k)) k := by
  pointwise [k0_pay2]
  rfl

theorem pay3_at (a : Vec Ideal S512x2048 .bf16) (w : Vec Ideal S1x2048x256 .f32) (i : Fin 512) (j : Fin 256) :
    k0_pay3 (F := Ideal) a w (ix2 i j) = ∑ k : Fin 2048, a (ix2 i k) * w (ix3 (0 : Fin 1) k j) := by
  pointwise [k0_pay3]

theorem pay4_eq (a : Vec Ideal S512x2048 .bf16) (w : Vec Ideal S1x2048x256 .f32) : k0_pay4 (F := Ideal) a w = k0_pay3 a w := rfl

/-- Which rows of a sequence come from before it. -/
theorem ge_one : ∀ i : Fin 512, IntOp.cmpi CmpIPredicate.sge (IntOp.andi (BitVec.ofNat 32 i.val) 3#32) 1#32 = if i.val % 4 < 1 then 0#1 else 1#1 := by
  decide +kernel
theorem ge_two : ∀ i : Fin 512, IntOp.cmpi CmpIPredicate.sge (IntOp.andi (BitVec.ofNat 32 i.val) 3#32) 2#32 = if i.val % 4 < 2 then 0#1 else 1#1 := by
  decide +kernel

theorem select_if {α : Type} (p : Prop) [Decidable p] (a b : α) : Scalar.select (if p then 0#1 else 1#1) a b = if p then b else a := by
  by_cases h : p
  · rw [if_pos h, if_pos h]; rfl
  · rw [if_neg h, if_neg h]; rfl

/-- The row `d` before a row of a block, or a given one before a sequence's first. -/
def prev (d : ℕ) (G : Fin 512 → EReal) (q : EReal) (i : Fin 512) : EReal := if i.val % 4 < d then q else G (⟨i.val - d, by omega⟩ : Fin 512)

theorem pay6_at (a : Vec Ideal S512x2048 .bf16) (w : Vec Ideal S1x2048x256 .f32) (q : Vec Ideal S512x256 .f32) (i : Fin 512) (j : Fin 256) :
    k0_pay6 (F := Ideal) a w q (ix2 i j) = prev 1 (fun i => k0_pay3 (F := Ideal) a w (ix2 i j)) (q (ix2 i j)) i := by
  pointwise [k0_pay6, k0_pay5]
  rw [ge_one, select_if]
  unfold prev
  by_cases h : i.val % 4 < 1
  · rw [if_pos h, if_pos h]
  · rw [if_neg h, if_neg h]
    refine congrArg (k0_pay3 (F := Ideal) a w) (ix2_eq ?_ rfl)
    show (i.val + 512 - 1) % 512 = i.val - 1
    omega
theorem pay7_at (a : Vec Ideal S512x2048 .bf16) (w : Vec Ideal S1x2048x256 .f32) (q : Vec Ideal S512x256 .f32) (i : Fin 512) (j : Fin 256) :
    k0_pay7 (F := Ideal) a w q (ix2 i j) = prev 2 (fun i => k0_pay3 (F := Ideal) a w (ix2 i j)) (q (ix2 i j)) i := by
  pointwise [k0_pay7, k0_pay5]
  rw [ge_two, select_if]
  unfold prev
  by_cases h : i.val % 4 < 2
  · rw [if_pos h, if_pos h]
  · rw [if_neg h, if_neg h]
    refine congrArg (k0_pay3 (F := Ideal) a w) (ix2_eq ?_ rfl)
    show (i.val + 512 - 2) % 512 = i.val - 2
    omega

theorem pay9_at (g u p1 p2 : Vec Ideal S512x256 .f32) (c : Vec Ideal S3x256 .f32) (b : Vec Ideal S1x256 .f32) (i : Fin 512) (j : Fin 256) :
    k0_pay9 (F := Ideal) g u p1 p2 (k0_pay8 c) b (ix2 i j)
      = silu (conv (b (ix2 (0 : Fin 1) j)) (p2 (ix2 i j)) (c (ix2 (0 : Fin 3) j)) (p1 (ix2 i j)) (c (ix2 (1 : Fin 3) j)) (g (ix2 i j)) (c (ix2 (2 : Fin 3) j))) * u (ix2 i j) := by
  pointwise [k0_pay9, k0_pay8, silu, conv]
  rw [zero_sub]

/-- One half of a block of the first result. -/
theorem half_at (v3 : Vec Ideal S512x2048 .bf16) (w u : Vec Ideal S1x2048x256 .f32) (q1 q2 : Vec Ideal S512x256 .f32)
    (c : Vec Ideal S3x256 .f32) (b : Vec Ideal S1x256 .f32) (i : Fin 512) (j : Fin 256) :
    k0_pay9 (F := Ideal) (k0_pay3 v3 w) (k0_pay4 v3 u) (k0_pay6 v3 w q1) (k0_pay7 v3 w q2) (k0_pay8 c) b (ix2 i j)
      = silu (conv (b (ix2 (0 : Fin 1) j)) (prev 2 (fun i => k0_pay3 (F := Ideal) v3 w (ix2 i j)) (q2 (ix2 i j)) i) (c (ix2 (0 : Fin 3) j))
          (prev 1 (fun i => k0_pay3 (F := Ideal) v3 w (ix2 i j)) (q1 (ix2 i j)) i) (c (ix2 (1 : Fin 3) j))
          (k0_pay3 (F := Ideal) v3 w (ix2 i j)) (c (ix2 (2 : Fin 3) j))) * k0_pay3 (F := Ideal) v3 u (ix2 i j) := by
  rw [pay9_at, pay6_at, pay7_at, pay4_eq]

/-- The second half is done by the same operations. -/
theorem pay1_eq (v3 : Vec Ideal S512x2048 .bf16) (w u : Vec Ideal S1x2048x256 .f32) (q1 q2 : Vec Ideal S512x256 .f32)
    (c : Vec Ideal S3x256 .f32) (b : Vec Ideal S1x256 .f32) :
    k0_pay1 (F := Ideal) (k0_pay10 v3 w) (k0_pay11 v3 u) (k0_pay12 v3 w) (k0_pay13 v3 w) k0_pay14 k0_pay15 q1 q2 c b
      = k0_pay9 (F := Ideal) (k0_pay3 v3 w) (k0_pay4 v3 u) (k0_pay6 v3 w q1) (k0_pay7 v3 w q2) (k0_pay8 c) b := rfl

/-- A gate's column: one entry of the product, by its row. -/
def gl (v3 : Vec Ideal S512x2048 .bf16) (x : Vec Ideal S1x2048x512 .f32) (j : Fin 512) (i : Fin 512) : EReal :=
  ∑ k : Fin 2048, v3 (ix2 i k) * x (ix3 (0 : Fin 1) k j)

theorem ld3 (x : Vec Ideal S1x2048x512 .f32) (o : ℕ) (p : ∀ b, ![0, 0, o] b + ![1, 2048, 256] b ≤ S1x2048x512.size b) (k : Fin 2048) (j : Fin 256) (j' : Fin 512) (h : j'.val = o + j.val) :
    View.ld x (Rect.unit ![0, 0, o] ![1, 2048, 256] p) (ix3 (0 : Fin 1) k j) = x (ix3 (0 : Fin 1) k j') := by
  refine congrArg x (funext fun b => Fin.ext ?_)
  match b with
  | ⟨0, _⟩ => rfl
  | ⟨1, _⟩ => show 0 + 1 * k.val = k.val; omega
  | ⟨2, _⟩ => show o + 1 * j.val = j'.val; omega
theorem ld2 {r : ℕ} (x : Vec Ideal (⟨2, ![r, 512]⟩ : Shape) .f32) (o : ℕ) (p : ∀ b, ![0, o] b + ![r, 256] b ≤ (⟨2, ![r, 512]⟩ : Shape).size b) (k : Fin r) (j : Fin 256) (j' : Fin 512) (h : j'.val = o + j.val) :
    View.ld x (Rect.unit ![0, o] ![r, 256] p) (ix2 k j) = x (ix2 k j') := by
  refine congrArg x (funext fun b => Fin.ext ?_)
  match b with
  | ⟨0, _⟩ => show 0 + 1 * k.val = k.val; omega
  | ⟨1, _⟩ => show o + 1 * j.val = j'.val; omega

/-- A block of the first result at an index. -/
def hAt (v3 : Vec Ideal S512x2048 .bf16) (x2 x3 : Vec Ideal S1x2048x512 .f32) (x4 : Vec Ideal S3x512 .f32) (x5 : Vec Ideal S1x512 .f32)
    (x6 x7 : Vec Ideal S512x512 .f32) (i : Fin 512) (j : Fin 512) : EReal :=
  silu (conv (x5 (ix2 (0 : Fin 1) j)) (prev 2 (gl v3 x2 j) (x7 (ix2 i j)) i) (x4 (ix2 (0 : Fin 3) j))
    (prev 1 (gl v3 x2 j) (x6 (ix2 i j)) i) (x4 (ix2 (1 : Fin 3) j)) (gl v3 x2 j i) (x4 (ix2 (2 : Fin 3) j))) * gl v3 x3 j i

theorem gate_half (v3 : Vec Ideal S512x2048 .bf16) (x : Vec Ideal S1x2048x512 .f32) (o : ℕ) (p : ∀ b, ![0, 0, o] b + ![1, 2048, 256] b ≤ S1x2048x512.size b)
    (i : Fin 512) (j : Fin 256) (j' : Fin 512) (h : j'.val = o + j.val) :
    k0_pay3 (F := Ideal) v3 (View.ld x (Rect.unit ![0, 0, o] ![1, 2048, 256] p)) (ix2 i j) = gl v3 x j' i :=
  (pay3_at _ _ _ _).trans (Finset.sum_congr rfl fun k _ => congrArg (_ * ·) (ld3 x o p k j j' h))

/-- One half of a block of the first result, read off the whole block. -/
theorem piece_at (v3 : Vec Ideal S512x2048 .bf16) (x2 x3 : Vec Ideal S1x2048x512 .f32) (x4 : Vec Ideal S3x512 .f32) (x5 : Vec Ideal S1x512 .f32)
    (x6 x7 : Vec Ideal S512x512 .f32) (o : ℕ) (p3 : ∀ b, ![0, 0, o] b + ![1, 2048, 256] b ≤ S1x2048x512.size b)
    (pq : ∀ b, ![0, o] b + ![512, 256] b ≤ S512x512.size b) (pc : ∀ b, ![0, o] b + ![3, 256] b ≤ S3x512.size b) (pb : ∀ b, ![0, o] b + ![1, 256] b ≤ S1x512.size b)
    (x : S512x256.Idx) (y : S512x512.Idx) (h0 : (y 0).val = (x 0).val) (h1 : (y 1).val = o + (x 1).val) :
    k0_pay9 (F := Ideal) (k0_pay3 v3 (View.ld x2 (Rect.unit ![0, 0, o] ![1, 2048, 256] p3))) (k0_pay4 v3 (View.ld x3 (Rect.unit ![0, 0, o] ![1, 2048, 256] p3)))
        (k0_pay6 v3 (View.ld x2 (Rect.unit ![0, 0, o] ![1, 2048, 256] p3)) (View.ld x6 (Rect.unit ![0, o] ![512, 256] pq)))
        (k0_pay7 v3 (View.ld x2 (Rect.unit ![0, 0, o] ![1, 2048, 256] p3)) (View.ld x7 (Rect.unit ![0, o] ![512, 256] pq)))
        (k0_pay8 (View.ld x4 (Rect.unit ![0, o] ![3, 256] pc))) (View.ld x5 (Rect.unit ![0, o] ![1, 256] pb)) x
      = hAt v3 x2 x3 x4 x5 x6 x7 (y 0) (y 1) := by
  obtain ⟨i, j, rfl⟩ : ∃ (i : Fin 512) (j : Fin 256), x = ix2 i j := ⟨x 0, x 1, eq_ix2 x⟩
  obtain ⟨i', j', rfl⟩ : ∃ (i : Fin 512) (j : Fin 512), y = ix2 i j := ⟨y 0, y 1, eq_ix2 y⟩
  have h0 : i'.val = i.val := h0
  have h1 : j'.val = o + j.val := h1
  obtain rfl : i' = i := Fin.ext h0
  refine (half_at _ _ _ _ _ _ _ i' j).trans ?_
  rw [ld2 x5 o pb 0 j j' h1, ld2 x4 o pc 0 j j' h1, ld2 x4 o pc 1 j j' h1, ld2 x4 o pc 2 j j' h1, ld2 x6 o pq i' j j' h1, ld2 x7 o pq i' j j' h1,
    gate_half v3 x2 o p3 i' j j' h1, gate_half v3 x3 o p3 i' j j' h1, funext fun i => gate_half v3 x2 o p3 i j j' h1]
  rfl

/-- One half of the gate's block, read off the whole block. -/
theorem gpiece_at (v3 : Vec Ideal S512x2048 .bf16) (x2 : Vec Ideal S1x2048x512 .f32) (o : ℕ) (p3 : ∀ b, ![0, 0, o] b + ![1, 2048, 256] b ≤ S1x2048x512.size b)
    (x : S512x256.Idx) (y : S512x512.Idx) (h0 : (y 0).val = (x 0).val) (h1 : (y 1).val = o + (x 1).val) :
    k0_pay3 (F := Ideal) v3 (View.ld x2 (Rect.unit ![0, 0, o] ![1, 2048, 256] p3)) x = gl v3 x2 (y 1) (y 0) := by
  obtain ⟨i, j, rfl⟩ : ∃ (i : Fin 512) (j : Fin 256), x = ix2 i j := ⟨x 0, x 1, eq_ix2 x⟩
  refine (gate_half v3 x2 o p3 i j (y 1) h1).trans ?_
  exact congrArg (gl v3 x2 (y 1)) (Fin.ext h0.symm)

variable (m : (ℓ : Loc nD τ sig) → Buf (Elt Ideal) ℓ)

theorem row_A (c : Dev nD) (t : Fin cfg0.N) (h0 : t.val % 8 = 0) : (outsAt0 m c t.val t.isLt).2.2 = k0_pay2 (F := Ideal) (iblk m c 0 t) (iblk m c 1 t) := by
  rw [outsAt0_A m c t h0]
  frame_out
theorem row_B (c : Dev nD) (t : Fin cfg0.N) (h0 : ¬t.val % 8 = 0) : (outsAt0 m c t.val t.isLt).2.2 = (outsAt0 m c (t.val - 1) (Nat.lt_of_le_of_lt (Nat.sub_le _ _) t.isLt)).2.2 := by
  rw [outsAt0_B m c t h0]
  rfl

/-- The gate's block: the halves of the product side by side. -/
theorem gate_at (c : Dev nD) (t : Fin cfg0.N) (i j : Fin 512) : (outsAt0 m c t.val t.isLt).2.1 (ix2 i j) = gl (outsAt0 m c t.val t.isLt).2.2 (iblk m c 2 t) j i := by
  generalize hy : (ix2 i j : S512x512.Idx) = y
  obtain ⟨rfl, rfl⟩ : i = y 0 ∧ j = y 1 := by subst hy; exact ⟨rfl, rfl⟩
  by_cases h0 : t.val % 8 = 0
  · rw [row_A m c t h0, outsAt0_A m c t h0]
    frame_out
    canon_tiles x h
    · exact gpiece_at _ _ 256 _ x y (by omega) (by omega)
    · exact gpiece_at _ _ 0 _ x y (by omega) (by omega)
  · rw [row_B m c t h0, outsAt0_B m c t h0]
    frame_out
    try simp only [read_unread_whole]
    canon_tiles x h
    · exact gpiece_at _ _ 256 _ x y (by omega) (by omega)
    · exact gpiece_at _ _ 0 _ x y (by omega) (by omega)
theorem h_at (c : Dev nD) (t : Fin cfg0.N) (i j : Fin 512) : (outsAt0 m c t.val t.isLt).1 (ix2 i j)
    = hAt (outsAt0 m c t.val t.isLt).2.2 (iblk m c 2 t) (iblk m c 3 t) (iblk m c 4 t) (iblk m c 5 t) (iblk m c 6 t) (iblk m c 7 t) i j := by
  generalize hy : (ix2 i j : S512x512.Idx) = y
  obtain ⟨rfl, rfl⟩ : i = y 0 ∧ j = y 1 := by subst hy; exact ⟨rfl, rfl⟩
  by_cases h0 : t.val % 8 = 0
  · rw [row_A m c t h0, outsAt0_A m c t h0]
    frame_out
    canon_tiles x h
    · exact (congrFun (pay1_eq _ _ _ _ _ _ _) x).trans (piece_at _ _ _ _ _ _ _ 256 _ _ _ _ x y (by omega) (by omega))
    · exact piece_at _ _ _ _ _ _ _ 0 _ _ _ _ x y (by omega) (by omega)
  · rw [row_B m c t h0, outsAt0_B m c t h0]
    frame_out
    try simp only [read_unread_whole]
    canon_tiles x h
    · exact (congrFun (pay1_eq _ _ _ _ _ _ _) x).trans (piece_at _ _ _ _ _ _ _ 256 _ _ _ _ x y (by omega) (by omega))
    · exact piece_at _ _ _ _ _ _ _ 0 _ _ _ _ x y (by omega) (by omega)

end Cert.UpDec
-- ==== Proof.UpDecFinal.lean ====
/-
  The sample's up projection's two results, block by block, are the reference's.
-/
module

public import proofs.«01_k».proof.Proof.UpDecRef
public import proofs.«01_k».proof.Proof.UpDec

@[expose] public section

set_option maxRecDepth 16384

noncomputable section
open Idealize.ShloMosaic Idealize.ShloMosaic.TcCoe Idealize.SL.Sem
open Idealize.ShloMosaic.Pipeline (Dat)
namespace Cert.UpDec
open Cert.Up (nrm silu conv)
open Cert.Kernel11Ideal Cert.Kernel11Ideal.Gen Cert.Body
set_option maxHeartbeats 1000000
variable (m : (ℓ : Loc nD τ sig) → Buf (Elt Ideal) ℓ)

abbrev aX (c : Dev nD) : Vec Ideal S512x2048 .f32 := m (c, Proc.tc.devRef main_arg0)
abbrev aG (c : Dev nD) : Vec Ideal S4x2048 .f32 := m (c, Proc.tc.devRef main_arg1)
abbrev aW (c : Dev nD) : Vec Ideal S4x2048x8192 .f32 := m (c, Proc.tc.devRef main_arg2)
abbrev aC (c : Dev nD) : Vec Ideal S4x3x4096 .f32 := m (c, Proc.tc.devRef main_arg3)
abbrev aP (c : Dev nD) : Vec Ideal S4x128x2x4096 .f32 := m (c, Proc.tc.devRef main_arg5)
abbrev aB (c : Dev nD) : Vec Ideal S4x4096 .f32 := m (c, Proc.tc.devRef main_arg4)

theorem lt_N (t : Fin cfg0.N) : t.val < 8 := lt_of_lt_of_eq t.isLt N_0

/-- Which blocks the windows hold at a point. -/
theorem index_all : ∀ t : Fin cfg0.N, (win0_0.index t (0 : Fin 2) = 0 ∧ win0_0.index t (1 : Fin 2) = 0)
    ∧ (win0_1.index t (0 : Fin 2) = 0 ∧ win0_1.index t (1 : Fin 2) = 0)
    ∧ (win0_2.index t (0 : Fin 3) = 1 ∧ win0_2.index t (1 : Fin 3) = 0 ∧ win0_2.index t (2 : Fin 3) = t.val % 8)
    ∧ (win0_3.index t (0 : Fin 3) = 1 ∧ win0_3.index t (1 : Fin 3) = 0 ∧ win0_3.index t (2 : Fin 3) = t.val % 8 + 8)
    ∧ (win0_4.index t (0 : Fin 2) = 0 ∧ win0_4.index t (1 : Fin 2) = t.val % 8)
    ∧ (win0_5.index t (0 : Fin 2) = 0 ∧ win0_5.index t (1 : Fin 2) = t.val % 8)
    ∧ (win0_6.index t (0 : Fin 2) = 0 ∧ win0_6.index t (1 : Fin 2) = t.val % 8)
    ∧ (win0_7.index t (0 : Fin 2) = 0 ∧ win0_7.index t (1 : Fin 2) = t.val % 8)
    ∧ (win0_8.index t (0 : Fin 2) = 0 ∧ win0_8.index t (1 : Fin 2) = t.val % 8)
    ∧ (win0_9.index t (0 : Fin 2) = 0 ∧ win0_9.index t (1 : Fin 2) = t.val % 8) :=
  (by decide +kernel : ∀ t : Fin grid0.N, _)

theorem blk0 (c : Dev nD) (t : Fin cfg0.N) (r : Fin 512) (k : Fin 2048) : iblk m c 0 t (ix2 r k) = aX m c (ix2 r k) := by
  obtain ⟨⟨i0, i1⟩, -⟩ := index_all t
  refine congrArg (aX m c) (funext fun a => Fin.ext ?_)
  match a with
  | ⟨0, _⟩ => show win0_0.index t (0 : Fin 2) * 512 + 1 * r.val = r.val; omega
  | ⟨1, _⟩ => show win0_0.index t (1 : Fin 2) * 2048 + 1 * k.val = k.val; omega

theorem gain_eq (c : Dev nD) : V m c main_v8 = shapeCast S1x2048 (shapeCast S2048 (extractStridedSlice S1x2048 ![1, 0] (aG m c) slices_S4x2048_S1x2048_1_0) shapeCasts_S1x2048_S2048) shapeCasts_S2048_S1x2048 := by
  rfl
theorem taps_eq (c : Dev nD) : V m c main_v3 = shapeCast S3x4096 (extractStridedSlice S1x3x4096 ![1, 0, 0] (aC m c) slices_S4x3x4096_S1x3x4096_1_0_0) shapeCasts_S1x3x4096_S3x4096 := by
  rfl
theorem bias_eq (c : Dev nD) : V m c main_v9 = shapeCast S1x4096 (shapeCast S4096 (extractStridedSlice S1x4096 ![1, 0] (aB m c) slices_S4x4096_S1x4096_1_0) shapeCasts_S1x4096_S4096) shapeCasts_S4096_S1x4096 := by
  rfl

theorem blk1 (c : Dev nD) (t : Fin cfg0.N) (k : Fin 2048) :
    iblk m c 1 t (ix2 (0 : Fin 1) k) = aG m c (ix2 (1 : Fin 4) k) := by
  obtain ⟨-, ⟨i0, i1⟩, -⟩ := index_all t
  have e : iblk m c 1 t (ix2 (0 : Fin 1) k) = V m c main_v8 (ix2 (0 : Fin 1) k) := by
    refine congrArg (V m c main_v8) (funext fun a => Fin.ext ?_)
    match a with
    | ⟨0, _⟩ => show win0_1.index t (0 : Fin 2) * 1 + 1 * 0 = 0; omega
    | ⟨1, _⟩ => show win0_1.index t (1 : Fin 2) * 2048 + 1 * k.val = k.val; omega
  refine e.trans ?_
  rw [gain_eq]
  pointwise []

theorem blk2 (c : Dev nD) (t : Fin cfg0.N) (k : Fin 2048) (d : Fin 512) :
    iblk m c 2 t (ix3 (0 : Fin 1) k d) = aW m c (ix3 (1 : Fin 4) k (⟨512 * (t.val % 8) + d.val, by omega⟩ : Fin 8192)) := by
  obtain ⟨-, -, ⟨i0, i1, i2⟩, -⟩ := index_all t
  refine congrArg (aW m c) (funext fun a => Fin.ext ?_)
  match a with
  | ⟨0, _⟩ => show win0_2.index t (0 : Fin 3) * 1 + 1 * 0 = 1; omega
  | ⟨1, _⟩ => show win0_2.index t (1 : Fin 3) * 2048 + 1 * k.val = k.val; omega
  | ⟨2, _⟩ => show win0_2.index t (2 : Fin 3) * 512 + 1 * d.val = 512 * (t.val % 8) + d.val; omega

theorem blk3 (c : Dev nD) (t : Fin cfg0.N) (k : Fin 2048) (d : Fin 512) :
    iblk m c 3 t (ix3 (0 : Fin 1) k d) = aW m c (ix3 (1 : Fin 4) k (⟨4096 + (512 * (t.val % 8) + d.val), by omega⟩ : Fin 8192)) := by
  obtain ⟨-, -, -, ⟨i0, i1, i2⟩, -⟩ := index_all t
  refine congrArg (aW m c) (funext fun a => Fin.ext ?_)
  match a with
  | ⟨0, _⟩ => show win0_3.index t (0 : Fin 3) * 1 + 1 * 0 = 1; omega
  | ⟨1, _⟩ => show win0_3.index t (1 : Fin 3) * 2048 + 1 * k.val = k.val; omega
  | ⟨2, _⟩ => show win0_3.index t (2 : Fin 3) * 512 + 1 * d.val = 4096 + (512 * (t.val % 8) + d.val); omega

theorem blk4 (c : Dev nD) (t : Fin cfg0.N) (a : Fin 3) (d : Fin 512) :
    iblk m c 4 t (ix2 a d) = aC m c (ix3 (1 : Fin 4) a (⟨512 * (t.val % 8) + d.val, by omega⟩ : Fin 4096)) := by
  obtain ⟨-, -, -, -, ⟨i0, i1⟩, -⟩ := index_all t
  have e : iblk m c 4 t (ix2 a d) = V m c main_v3 (ix2 a (⟨512 * (t.val % 8) + d.val, by omega⟩ : Fin 4096)) := by
    refine congrArg (V m c main_v3) (funext fun b => Fin.ext ?_)
    match b with
    | ⟨0, _⟩ => show win0_4.index t (0 : Fin 2) * 3 + 1 * a.val = a.val; omega
    | ⟨1, _⟩ => show win0_4.index t (1 : Fin 2) * 512 + 1 * d.val = 512 * (t.val % 8) + d.val; omega
  refine e.trans ?_
  rw [taps_eq]
  generalize (⟨512 * (t.val % 8) + d.val, _⟩ : Fin 4096) = J
  pointwise []

theorem blk5 (c : Dev nD) (t : Fin cfg0.N) (d : Fin 512) :
    iblk m c 5 t (ix2 (0 : Fin 1) d) = aB m c (ix2 (1 : Fin 4) (⟨512 * (t.val % 8) + d.val, by omega⟩ : Fin 4096)) := by
  obtain ⟨-, -, -, -, -, ⟨i0, i1⟩, -⟩ := index_all t
  have e : iblk m c 5 t (ix2 (0 : Fin 1) d) = V m c main_v9 (ix2 (0 : Fin 1) (⟨512 * (t.val % 8) + d.val, by omega⟩ : Fin 4096)) := by
    refine congrArg (V m c main_v9) (funext fun b => Fin.ext ?_)
    match b with
    | ⟨0, _⟩ => show win0_5.index t (0 : Fin 2) * 1 + 1 * 0 = 0; omega
    | ⟨1, _⟩ => show win0_5.index t (1 : Fin 2) * 512 + 1 * d.val = 512 * (t.val % 8) + d.val; omega
  refine e.trans ?_
  rw [bias_eq]
  generalize (⟨512 * (t.val % 8) + d.val, _⟩ : Fin 4096) = J
  pointwise []

/-- The state's two rows of every sequence. -/
abbrev st (c : Dev nD) : Vec Ideal S128x2x4096 .f32 := shapeCast S128x2x4096 (extractStridedSlice S1x128x2x4096 ![1, 0, 0, 0] (aP m c) slices_S4x128x2x4096_S1x128x2x4096_1_0_0_0) shapeCasts_S1x128x2x4096_S128x2x4096

theorem st_at (c : Dev nD) (b : Fin 128) (s : Fin 2) (J : Fin 4096) : st m c (ix3 b s J) = aP m c (ix4 (1 : Fin 4) b s J) := by
  unfold st
  pointwise []

theorem p1_eq (c : Dev nD) : V m c main_v14 = shapeCast S512x4096 (V m c main_v13) shapeCasts_S128x4x4096_S512x4096 := by
  rfl
theorem p2_eq (c : Dev nD) : V m c main_v18 = shapeCast S512x4096 (V m c main_v17) shapeCasts_S128x4x4096_S512x4096 := by
  rfl
theorem c1_eq (c : Dev nD) : V m c main_v13 = concatenate S128x4x4096 1 [⟨S128x1x4096, V m c main_v12⟩, ⟨S128x1x4096, V m c main_v11⟩, ⟨S128x1x4096, V m c main_v11⟩, ⟨S128x1x4096, V m c main_v11⟩] concatenates_S128x1x4096_S128x1x4096_S128x1x4096_S128x1x4096_S128x4x4096_d1 := by
  rfl
theorem c2_eq (c : Dev nD) : V m c main_v17 = concatenate S128x4x4096 1 [⟨S128x1x4096, V m c main_v15⟩, ⟨S128x1x4096, V m c main_v16⟩, ⟨S128x1x4096, V m c main_v11⟩, ⟨S128x1x4096, V m c main_v11⟩] concatenates_S128x1x4096_S128x1x4096_S128x1x4096_S128x1x4096_S128x4x4096_d1 := by
  rfl
theorem s12_eq (c : Dev nD) : V m c main_v12 = extractStridedSlice S128x1x4096 ![0, 1, 0] (st m c) slices_S128x2x4096_S128x1x4096_0_1_0 := by
  rfl
theorem s15_eq (c : Dev nD) : V m c main_v15 = extractStridedSlice S128x1x4096 ![0, 0, 0] (st m c) slices_S128x2x4096_S128x1x4096_0_0_0 := by
  rfl
theorem s16_eq (c : Dev nD) : V m c main_v16 = extractStridedSlice S128x1x4096 ![0, 1, 0] (st m c) slices_S128x2x4096_S128x1x4096_0_1_0 := by
  rfl
theorem s12_at (c : Dev nD) (b : Fin 128) (J : Fin 4096) : V m c main_v12 (ix3 b (0 : Fin 1) J) = aP m c (ix4 (1 : Fin 4) b (1 : Fin 2) J) := by
  rw [s12_eq, ← st_at]
  generalize st m c = X
  pointwise []
theorem s15_at (c : Dev nD) (b : Fin 128) (J : Fin 4096) : V m c main_v15 (ix3 b (0 : Fin 1) J) = aP m c (ix4 (1 : Fin 4) b (0 : Fin 2) J) := by
  rw [s15_eq, ← st_at]
  generalize st m c = X
  pointwise []
theorem s16_at (c : Dev nD) (b : Fin 128) (J : Fin 4096) : V m c main_v16 (ix3 b (0 : Fin 1) J) = aP m c (ix4 (1 : Fin 4) b (1 : Fin 2) J) := by
  rw [s16_eq, ← st_at]
  generalize st m c = X
  pointwise []

theorem c1_at (c : Dev nD) (b : Fin 128) (J : Fin 4096) : V m c main_v13 (ix3 b (0 : Fin 4) J) = aP m c (ix4 (1 : Fin 4) b (1 : Fin 2) J) := by
  rw [c1_eq, ← s12_at]
  generalize V m c main_v12 = X
  generalize V m c main_v11 = Y
  refine concatenate_apply_piece (α := EReal) (t := S128x4x4096) (1 : Fin 3) [⟨S128x1x4096, X⟩, ⟨S128x1x4096, Y⟩, ⟨S128x1x4096, Y⟩, ⟨S128x1x4096, Y⟩] _ (ix3 b (0 : Fin 4) J) 0 ?_ S128x1x4096 X rfl rfl 0 rfl (ix3 b (0 : Fin 1) J) (fun a ha => ?_) rfl
  · show 0 < 4
    decide
  · match a with
    | ⟨0, _⟩ => rfl
    | ⟨1, _⟩ => exact absurd rfl ha
    | ⟨2, _⟩ => rfl
theorem c2_at0 (c : Dev nD) (b : Fin 128) (J : Fin 4096) : V m c main_v17 (ix3 b (0 : Fin 4) J) = aP m c (ix4 (1 : Fin 4) b (0 : Fin 2) J) := by
  rw [c2_eq, ← s15_at]
  generalize V m c main_v15 = X
  generalize V m c main_v16 = Z
  generalize V m c main_v11 = Y
  refine concatenate_apply_piece (α := EReal) (t := S128x4x4096) (1 : Fin 3) [⟨S128x1x4096, X⟩, ⟨S128x1x4096, Z⟩, ⟨S128x1x4096, Y⟩, ⟨S128x1x4096, Y⟩] _ (ix3 b (0 : Fin 4) J) 0 ?_ S128x1x4096 X rfl rfl 0 rfl (ix3 b (0 : Fin 1) J) (fun a ha => ?_) rfl
  · show 0 < 4
    decide
  · match a with
    | ⟨0, _⟩ => rfl
    | ⟨1, _⟩ => exact absurd rfl ha
    | ⟨2, _⟩ => rfl
theorem c2_at1 (c : Dev nD) (b : Fin 128) (J : Fin 4096) : V m c main_v17 (ix3 b (1 : Fin 4) J) = aP m c (ix4 (1 : Fin 4) b (1 : Fin 2) J) := by
  rw [c2_eq, ← s16_at]
  generalize V m c main_v15 = X
  generalize V m c main_v16 = Z
  generalize V m c main_v11 = Y
  refine concatenate_apply_piece (α := EReal) (t := S128x4x4096) (1 : Fin 3) [⟨S128x1x4096, X⟩, ⟨S128x1x4096, Z⟩, ⟨S128x1x4096, Y⟩, ⟨S128x1x4096, Y⟩] _ (ix3 b (1 : Fin 4) J) 1 ?_ S128x1x4096 Z rfl rfl 1 rfl (ix3 b (0 : Fin 1) J) (fun a ha => ?_) rfl
  · show 1 < 4
    decide
  · match a with
    | ⟨0, _⟩ => rfl
    | ⟨1, _⟩ => exact absurd rfl ha
    | ⟨2, _⟩ => rfl

theorem cast_at (X : Vec Ideal S128x4x4096 .f32) (i : Fin 512) (s : Fin 4) (J : Fin 4096) (h : s.val = i.val % 4) :
    shapeCast S512x4096 X shapeCasts_S128x4x4096_S512x4096 (ix2 i J) = X (ix3 (⟨i.val / 4, by omega⟩ : Fin 128) s J) := by
  refine shapeCast_apply X _ _ _ ?_
  rewrite [Shape.rowMajor_val_three, Shape.rowMajor_val_two]
  show (i.val / 4 * 4 + s.val) * 4096 + J.val = i.val * 4096 + J.val
  omega

/-- The whole array's column of a block's. -/
abbrev colOf (t : Fin cfg0.N) (j : Fin 512) : Fin 4096 := ⟨512 * (t.val % 8) + j.val, by omega⟩

theorem blk6 (c : Dev nD) (t : Fin cfg0.N) (i j : Fin 512) (h : i.val % 4 < 1) :
    iblk m c 6 t (ix2 i j) = aP m c (ix4 (1 : Fin 4) (⟨i.val / 4, by omega⟩ : Fin 128) (⟨(2 + i.val % 4 - 1) % 2, by omega⟩ : Fin 2) (colOf t j)) := by
  obtain ⟨-, -, -, -, -, -, ⟨i0, i1⟩, -⟩ := index_all t
  have e : iblk m c 6 t (ix2 i j) = V m c main_v14 (ix2 i (colOf t j)) := by
    refine congrArg (V m c main_v14) (funext fun b => Fin.ext ?_)
    match b with
    | ⟨0, _⟩ => show win0_6.index t (0 : Fin 2) * 512 + 1 * i.val = i.val; omega
    | ⟨1, _⟩ => show win0_6.index t (1 : Fin 2) * 512 + 1 * j.val = 512 * (t.val % 8) + j.val; omega
  refine e.trans ?_
  rw [p1_eq, cast_at _ i 0 _ (by show 0 = i.val % 4; omega), c1_at]
  refine congrArg (fun s => aP m c (ix4 (1 : Fin 4) _ s _)) (Fin.ext ?_)
  show 1 = (2 + i.val % 4 - 1) % 2
  omega

theorem blk7 (c : Dev nD) (t : Fin cfg0.N) (i j : Fin 512) (h : i.val % 4 < 2) :
    iblk m c 7 t (ix2 i j) = aP m c (ix4 (1 : Fin 4) (⟨i.val / 4, by omega⟩ : Fin 128) (⟨(2 + i.val % 4 - 2) % 2, by omega⟩ : Fin 2) (colOf t j)) := by
  obtain ⟨-, -, -, -, -, -, -, ⟨i0, i1⟩, -⟩ := index_all t
  have e : iblk m c 7 t (ix2 i j) = V m c main_v18 (ix2 i (colOf t j)) := by
    refine congrArg (V m c main_v18) (funext fun b => Fin.ext ?_)
    match b with
    | ⟨0, _⟩ => show win0_7.index t (0 : Fin 2) * 512 + 1 * i.val = i.val; omega
    | ⟨1, _⟩ => show win0_7.index t (1 : Fin 2) * 512 + 1 * j.val = 512 * (t.val % 8) + j.val; omega
  refine e.trans ?_
  rw [p2_eq]
  by_cases h0 : i.val % 4 = 0
  · rw [cast_at _ i 0 _ (by show 0 = i.val % 4; omega), c2_at0]
    refine congrArg (fun s => aP m c (ix4 (1 : Fin 4) _ s _)) (Fin.ext ?_)
    show 0 = (2 + i.val % 4 - 2) % 2
    omega
  · rw [cast_at _ i 1 _ (by show 1 = i.val % 4; omega), c2_at1]
    refine congrArg (fun s => aP m c (ix4 (1 : Fin 4) _ s _)) (Fin.ext ?_)
    show 1 = (2 + i.val % 4 - 2) % 2
    omega

/-- After any point the scratch holds the normalised rows. -/
theorem scratch_at (c : Dev nD) : ∀ (n : ℕ) (hn : n < cfg0.N) (i : Fin 512) (k : Fin 2048),
    (outsAt0 m c n hn).2.2 (ix2 i k) = nrm (fun k => aX m c (ix2 i k)) (fun k => aG m c (ix2 (1 : Fin 4) k)) k
  | 0, hn, i, k => by
    refine (congrFun (row_A m c ⟨0, hn⟩ (Nat.zero_mod _)) _).trans ((norm_at _ _ i k).trans ?_)
    rw [funext fun k => blk0 m c _ i k, funext fun k => blk1 m c _ k]
  | n + 1, hn, i, k => by
    have hN := lt_N ⟨n + 1, hn⟩
    exact (congrFun (row_B m c ⟨n + 1, hn⟩ (by dsimp only at hN ⊢; omega)) _).trans (scratch_at c n _ i k)

theorem gate_eq (c : Dev nD) (t : Fin cfg0.N) (j i : Fin 512) :
    gl (outsAt0 m c t.val t.isLt).2.2 (iblk m c 2 t) j i = full (aX m c) (aG m c) (aW m c) i ⟨(colOf t j).val, by omega⟩ :=
  Finset.sum_congr (M := EReal) rfl fun k _ => congrArg₂ (· * ·) (scratch_at m c _ _ i k) (blk2 m c t k j)

theorem up_eq (c : Dev nD) (t : Fin cfg0.N) (j i : Fin 512) :
    gl (outsAt0 m c t.val t.isLt).2.2 (iblk m c 3 t) j i = full (aX m c) (aG m c) (aW m c) i ⟨4096 + (colOf t j).val, by omega⟩ :=
  Finset.sum_congr (M := EReal) rfl fun k _ => congrArg₂ (· * ·) (scratch_at m c _ _ i k) (blk3 m c t k j)

theorem prev1_eq (c : Dev nD) (t : Fin cfg0.N) (i j : Fin 512) :
    prev 1 (gl (outsAt0 m c t.val t.isLt).2.2 (iblk m c 2 t) j) (iblk m c 6 t (ix2 i j)) i = back (aX m c) (aG m c) (aW m c) (aP m c) 1 i (colOf t j) := by
  unfold prev back
  by_cases h : i.val % 4 < 1
  · rw [if_pos h, if_pos h, blk6 m c t i j h]
  · rw [if_neg h, if_neg h, gate_eq]
theorem prev2_eq (c : Dev nD) (t : Fin cfg0.N) (i j : Fin 512) :
    prev 2 (gl (outsAt0 m c t.val t.isLt).2.2 (iblk m c 2 t) j) (iblk m c 7 t (ix2 i j)) i = back (aX m c) (aG m c) (aW m c) (aP m c) 2 i (colOf t j) := by
  unfold prev back
  by_cases h : i.val % 4 < 2
  · rw [if_pos h, if_pos h, blk7 m c t i j h]
  · rw [if_neg h, if_neg h, gate_eq]

/-- What a point stores is the reference's block. -/
theorem block_h (c : Dev nD) (t : Fin cfg0.N) (i j : Fin 512) :
    hAt (outsAt0 m c t.val t.isLt).2.2 (iblk m c 2 t) (iblk m c 3 t) (iblk m c 4 t) (iblk m c 5 t) (iblk m c 6 t) (iblk m c 7 t) i j
      = resH (aX m c) (aG m c) (aW m c) (aC m c) (aB m c) (aP m c) i (colOf t j) := by
  unfold hAt resH
  rw [prev1_eq, prev2_eq, gate_eq, up_eq, blk4, blk4, blk4, blk5]

theorem final_h (c : Dev nD) : (dats m 0 c).arrAt 8 cfg0.N = Cert.Reference11Ideal.Read.val_main_v52 (F := Ideal) (aX m c) (aG m c) (aW m c) (aC m c) (aB m c) (aP m c) := by
  refine (dats m 0 c).arrAt_eq_of_covers 8 _ (by decide +kernel) fun t hf y => ?_
  blk_simp
  rw [after0_8]
  obtain ⟨i, j, rfl⟩ : ∃ (i j : Fin 512), y = ix2 i j := ⟨y 0, y 1, eq_ix2 y⟩
  have e : (((View.whole main_v19_0).slice (win0_8.rect t)).emb (ix2 i j) : S512x4096.Idx) = ix2 i (colOf t j) := by
    obtain ⟨-, -, -, -, -, -, -, -, ⟨i0, i1⟩, -⟩ := index_all t
    refine funext fun a => Fin.ext ?_
    match a with
    | ⟨0, _⟩ => show win0_8.index t (0 : Fin 2) * 512 + 1 * i.val = i.val; omega
    | ⟨1, _⟩ => show win0_8.index t (1 : Fin 2) * 512 + 1 * j.val = 512 * (t.val % 8) + j.val; omega
  rw [e, ref_h, ← block_h]
  exact h_at m c t i j

theorem final_g (c : Dev nD) : (dats m 0 c).arrAt 9 cfg0.N = Cert.Reference11Ideal.Read.val_main_v53 (F := Ideal) (aX m c) (aG m c) (aW m c) := by
  refine (dats m 0 c).arrAt_eq_of_covers 9 _ (by decide +kernel) fun t hf y => ?_
  blk_simp
  rw [after0_9]
  obtain ⟨i, j, rfl⟩ : ∃ (i j : Fin 512), y = ix2 i j := ⟨y 0, y 1, eq_ix2 y⟩
  have e : (((View.whole main_v19_1).slice (win0_9.rect t)).emb (ix2 i j) : S512x4096.Idx) = ix2 i (colOf t j) := by
    obtain ⟨-, -, -, -, -, -, -, -, -, ⟨i0, i1⟩⟩ := index_all t
    refine funext fun a => Fin.ext ?_
    match a with
    | ⟨0, _⟩ => show win0_9.index t (0 : Fin 2) * 512 + 1 * i.val = i.val; omega
    | ⟨1, _⟩ => show win0_9.index t (1 : Fin 2) * 512 + 1 * j.val = 512 * (t.val % 8) + j.val; omega
  rw [e, ref_g, ← gate_eq]
  exact gate_at m c t i j

end Cert.UpDec
-- ==== Proof.OutDec.lean ====
/-
  The sample's output projection with its residual: the row block is laid out once per row of blocks, in a scratch, and each block of
  the result is a block of the whole product.
-/
module

public import proofs.«01_k».proof.Proof.Gen.Kernel12Ideal.Value
public import proofs.«01_k».proof.Proof.Gen.Reference12Ideal.Run
public import proofs.«01_k».proof.Proof.Gen.Reference12Ideal.Read
public import proofs.«01_k».proof.Proof.Body
public import Idealize.ShloMosaic.Lib.Pipeline.ValueKit
public import Idealize.ShloMosaic.Lib.Pipeline.ReadBack
public import Idealize.ShloMosaic.Lib.Pointwise

@[expose] public section

set_option maxRecDepth 16384

noncomputable section
open Idealize.ShloMosaic Idealize.ShloMosaic.TcCoe Idealize.SL.Sem
open Idealize.ShloMosaic.Pipeline (Dat)
namespace Cert.OutDec
open Cert.Kernel12Ideal Cert.Kernel12Ideal.Gen Cert.Kernel12Ideal.Value Cert.Body
set_option maxHeartbeats 1000000
variable (m : (ℓ : Loc nD τ sig) → Buf (Elt Ideal) ℓ)

abbrev aO (c : Dev nD) : Vec Ideal S512x2048 .f32 := m (c, Proc.tc.devRef main_arg0)
abbrev aW (c : Dev nD) : Vec Ideal S1x2048x2048 .f32 := m (c, Proc.tc.devRef main_arg1)
abbrev aR (c : Dev nD) : Vec Ideal S512x2048 .f32 := m (c, Proc.tc.devRef main_arg2)

theorem lt_N (t : Fin cfg0.N) : t.val < 4 := lt_of_lt_of_eq t.isLt (by decide)

/-- Which blocks the windows hold at a point. -/
theorem index_all : ∀ t : Fin cfg0.N, (win0_0.index t (0 : Fin 2) = t.val / 4 ∧ win0_0.index t (1 : Fin 2) = 0)
    ∧ (win0_1.index t (0 : Fin 3) = 0 ∧ win0_1.index t (1 : Fin 3) = 0 ∧ win0_1.index t (2 : Fin 3) = t.val % 4)
    ∧ (win0_2.index t (0 : Fin 2) = t.val / 4 ∧ win0_2.index t (1 : Fin 2) = t.val % 4)
    ∧ (win0_3.index t (0 : Fin 2) = t.val / 4 ∧ win0_3.index t (1 : Fin 2) = t.val % 4) :=
  (by decide +kernel : ∀ t : Fin grid0.N, _)

theorem blk0 (c : Dev nD) (t : Fin cfg0.N) (r : Fin 512) (k : Fin 2048) :
    iblk m c 0 t (ix2 r k) = aO m c (ix2 (⟨512 * (t.val / 4) + r.val, by have := lt_N t; omega⟩ : Fin 512) k) := by
  obtain ⟨⟨i0, i1⟩, -⟩ := index_all t
  refine congrArg (aO m c) (funext fun a => Fin.ext ?_)
  match a with
  | ⟨0, _⟩ => show win0_0.index t (0 : Fin 2) * 512 + 1 * r.val = 512 * (t.val / 4) + r.val; omega
  | ⟨1, _⟩ => show win0_0.index t (1 : Fin 2) * 2048 + 1 * k.val = k.val; omega

theorem blk1 (c : Dev nD) (t : Fin cfg0.N) (k : Fin 2048) (d : Fin 512) :
    iblk m c 1 t (ix3 (0 : Fin 1) k d) = aW m c (ix3 (0 : Fin 1) k (⟨512 * (t.val % 4) + d.val, by omega⟩ : Fin 2048)) := by
  obtain ⟨-, ⟨i0, i1, i2⟩, -⟩ := index_all t
  refine congrArg (aW m c) (funext fun a => Fin.ext ?_)
  match a with
  | ⟨0, _⟩ => show win0_1.index t (0 : Fin 3) * 1 + 1 * 0 = 0; omega
  | ⟨1, _⟩ => show win0_1.index t (1 : Fin 3) * 2048 + 1 * k.val = k.val; omega
  | ⟨2, _⟩ => show win0_1.index t (2 : Fin 3) * 512 + 1 * d.val = 512 * (t.val % 4) + d.val; omega

theorem blk2 (c : Dev nD) (t : Fin cfg0.N) (r : Fin 512) (d : Fin 512) :
    iblk m c 2 t (ix2 r d) = aR m c (ix2 (⟨512 * (t.val / 4) + r.val, by have := lt_N t; omega⟩ : Fin 512) (⟨512 * (t.val % 4) + d.val, by omega⟩ : Fin 2048)) := by
  obtain ⟨-, -, ⟨i0, i1⟩, -⟩ := index_all t
  refine congrArg (aR m c) (funext fun a => Fin.ext ?_)
  match a with
  | ⟨0, _⟩ => show win0_2.index t (0 : Fin 2) * 512 + 1 * r.val = 512 * (t.val / 4) + r.val; omega
  | ⟨1, _⟩ => show win0_2.index t (1 : Fin 2) * 512 + 1 * d.val = 512 * (t.val % 4) + d.val; omega

/-- One block of the result: a product of a row block and a column block, and the residual's block. -/
theorem pay_at (a : Vec Ideal S512x2048 .bf16) (w : Vec Ideal S1x2048x512 .f32) (r : Vec Ideal S512x512 .f32) (i : Fin 512) (j : Fin 512) :
    k0_pay2 (F := Ideal) a w r (ix2 i j) = ∑ k : Fin 2048, a (ix2 i k) * w (ix3 (0 : Fin 1) k j) + r (ix2 i j) := by
  pointwise [k0_pay2]

/-- The reference's result at an index. -/
theorem ref_at (x0 : Vec Ideal S512x2048 .f32) (x1 : Vec Ideal S1x2048x2048 .f32) (x2 : Vec Ideal S512x2048 .f32) (i : Fin 512) (j : Fin 2048) :
    Cert.Reference12Ideal.Read.val_main_v2 (F := Ideal) x0 x1 x2 (ix2 i j) = x2 (ix2 i j) + ∑ k : Fin 2048, x0 (ix2 i k) * x1 (ix3 (0 : Fin 1) k j) := by
  pointwise [Cert.Reference12Ideal.Read.val_main_v2, Cert.Reference12Ideal.Read.val_main_v1, Cert.Reference12Ideal.Read.val_main_v0]

abbrev St := Vec Ideal S512x512 .f32 × Vec Ideal S512x2048 .bf16

theorem cast_id (x : Vec Ideal S512x2048 .f32) : k0_pay1 (F := Ideal) x = x := by funext y; pointwise [k0_pay1]

theorem st_A (c : Dev nD) (t : Fin cfg0.N) (acc : St) (h0 : t.val % 4 = 0) :
    stAt0 m c t.val t.isLt acc = (k0_pay2 (F := Ideal) (iblk m c 0 t) (iblk m c 1 t) (iblk m c 2 t), iblk m c 0 t) := by
  rw [stAt0_A m c t acc h0]
  refine Prod.ext ?_ ?_
  · frame_out
    rw [cast_id]
  · frame_out
    rw [cast_id]

theorem st_B (c : Dev nD) (t : Fin cfg0.N) (acc : St) (h0 : ¬t.val % 4 = 0) :
    stAt0 m c t.val t.isLt acc = (k0_pay2 (F := Ideal) acc.2 (iblk m c 1 t) (iblk m c 2 t), acc.2) := by
  rw [stAt0_B m c t acc h0]
  refine Prod.ext ?_ ?_
  · frame_out
    simp only [read_unread_whole]
  · rfl

/-- After any point of a row of blocks the scratch holds the row's block of the left factor. -/
theorem scratch_at (c : Dev nD) : ∀ (n : ℕ) (hn : n < cfg0.N) (i : Fin 512) (k : Fin 2048),
    (outsAt0 m c n hn).2 (ix2 i k) = aO m c (ix2 (⟨512 * (n / 4) + i.val, by have := lt_N ⟨n, hn⟩; dsimp only at this; omega⟩ : Fin 512) k)
  | 0, hn, i, k => by
    rw [outsAt0_zero, st_A m c ⟨0, hn⟩ _ (Nat.zero_mod _)]
    exact blk0 m c ⟨0, hn⟩ i k
  | n + 1, hn, i, k => by
    rw [outsAt0_succ]
    by_cases h0 : (n + 1) % 4 = 0
    · rw [st_A m c ⟨n + 1, hn⟩ _ h0]
      exact blk0 m c ⟨n + 1, hn⟩ i k
    · rw [st_B m c ⟨n + 1, hn⟩ _ h0]
      refine (scratch_at c n _ i k).trans (congrArg _ (ix2_eq ?_ rfl))
      show 512 * (n / 4) + i.val = 512 * ((n + 1) / 4) + i.val
      omega

/-- What a point writes is the product of the row's block, whether it laid it out itself or found it. -/
theorem out_at (c : Dev nD) (t : Fin cfg0.N) (i : Fin 512) (j : Fin 512) :
    (outsAt0 m c t.val t.isLt).1 (ix2 i j)
      = ∑ k : Fin 2048, aO m c (ix2 (⟨512 * (t.val / 4) + i.val, by have := lt_N t; omega⟩ : Fin 512) k) * iblk m c 1 t (ix3 (0 : Fin 1) k j)
        + iblk m c 2 t (ix2 i j) := by
  have hs := scratch_at m c t.val t.isLt i
  obtain ⟨n, hn⟩ := t
  cases n with
  | zero =>
    rw [outsAt0_zero, st_A m c ⟨0, hn⟩ _ (Nat.zero_mod _)] at hs ⊢
    refine (pay_at _ _ _ i j).trans ?_
    exact congrArg (· + _) (Finset.sum_congr rfl fun k _ => congrArg (· * _) (hs k))
  | succ n =>
    rw [outsAt0_succ] at hs ⊢
    by_cases h0 : (n + 1) % 4 = 0
    · rw [st_A m c ⟨n + 1, hn⟩ _ h0] at hs ⊢
      refine (pay_at _ _ _ i j).trans ?_
      exact congrArg (· + _) (Finset.sum_congr rfl fun k _ => congrArg (· * _) (hs k))
    · rw [st_B m c ⟨n + 1, hn⟩ _ h0] at hs ⊢
      refine (pay_at _ _ _ i j).trans ?_
      exact congrArg (· + _) (Finset.sum_congr rfl fun k _ => congrArg (· * _) (hs k))

theorem final (c : Dev nD) : (dats m 0 c).arrAt 3 cfg0.N = Cert.Reference12Ideal.Read.val_main_v2 (F := Ideal) (aO m c) (aW m c) (aR m c) := by
  refine (dats m 0 c).arrAt_eq_of_covers 3 _ (by decide +kernel) fun t hf y => ?_
  blk_simp
  rw [after0_3]
  obtain ⟨i, j, rfl⟩ : ∃ (i : Fin 512) (j : Fin 512), y = ix2 i j := ⟨y 0, y 1, eq_ix2 y⟩
  have e : (((View.whole main_v0).slice (win0_3.rect t)).emb (ix2 i j) : S512x2048.Idx)
      = ix2 (⟨512 * (t.val / 4) + i.val, by have := lt_N t; omega⟩ : Fin 512) (⟨512 * (t.val % 4) + j.val, by omega⟩ : Fin 2048) := by
    obtain ⟨-, -, -, ⟨i0, i1⟩⟩ := index_all t
    refine funext fun a => Fin.ext ?_
    match a with
    | ⟨0, _⟩ => show win0_3.index t (0 : Fin 2) * 512 + 1 * i.val = 512 * (t.val / 4) + i.val; omega
    | ⟨1, _⟩ => show win0_3.index t (1 : Fin 2) * 512 + 1 * j.val = 512 * (t.val % 4) + j.val; omega
  rw [e, ref_at, out_at, blk2 m c t i j, add_comm]
  refine congrArg _ (Finset.sum_congr rfl fun k _ => ?_)
  rw [blk1 m c t k j]

end Cert.OutDec
-- ==== Proof.DownDec.lean ====
/-
  The sample's down projection with its residual: a blocked product is the whole product, block by block.
-/
module

public import proofs.«01_k».proof.Proof.Gen.Kernel13Ideal.Value
public import proofs.«01_k».proof.Proof.Gen.Reference13Ideal.Run
public import proofs.«01_k».proof.Proof.Gen.Reference13Ideal.Read
public import proofs.«01_k».proof.Proof.Body
public import Idealize.ShloMosaic.Lib.Pipeline.ValueKit
public import Idealize.ShloMosaic.Lib.Pipeline.ReadBack
public import Idealize.ShloMosaic.Lib.Pointwise

@[expose] public section

set_option maxRecDepth 16384

noncomputable section
open Idealize.ShloMosaic Idealize.ShloMosaic.TcCoe Idealize.SL.Sem
open Idealize.ShloMosaic.Pipeline (Dat)
namespace Cert.DownDec
open Cert.Kernel13Ideal Cert.Kernel13Ideal.Gen Cert.Kernel13Ideal.Value Cert.Body
set_option maxHeartbeats 1000000
variable (m : (ℓ : Loc nD τ sig) → Buf (Elt Ideal) ℓ)

abbrev aF (c : Dev nD) : Vec Ideal S512x4096 .bf16 := m (c, Proc.tc.devRef main_arg0)
abbrev aW (c : Dev nD) : Vec Ideal S4x4096x2048 .f32 := m (c, Proc.tc.devRef main_arg1)
abbrev aR (c : Dev nD) : Vec Ideal S512x2048 .f32 := m (c, Proc.tc.devRef main_arg2)

theorem lt_N (t : Fin cfg0.N) : t.val < 4 := lt_of_lt_of_eq t.isLt (by decide)

/-- Which blocks the windows hold at a point. -/
theorem index_all : ∀ t : Fin cfg0.N, (win0_0.index t (0 : Fin 2) = t.val / 4 ∧ win0_0.index t (1 : Fin 2) = 0)
    ∧ (win0_1.index t (0 : Fin 3) = 1 ∧ win0_1.index t (1 : Fin 3) = 0 ∧ win0_1.index t (2 : Fin 3) = t.val % 4)
    ∧ (win0_2.index t (0 : Fin 2) = t.val / 4 ∧ win0_2.index t (1 : Fin 2) = t.val % 4)
    ∧ (win0_3.index t (0 : Fin 2) = t.val / 4 ∧ win0_3.index t (1 : Fin 2) = t.val % 4) :=
  (by decide +kernel : ∀ t : Fin grid0.N, _)

theorem blk0 (c : Dev nD) (t : Fin cfg0.N) (r : Fin 512) (k : Fin 4096) :
    iblk m c 0 t (ix2 r k) = aF m c (ix2 (⟨512 * (t.val / 4) + r.val, by have := lt_N t; omega⟩ : Fin 512) k) := by
  obtain ⟨⟨i0, i1⟩, -⟩ := index_all t
  refine congrArg (aF m c) (funext fun a => Fin.ext ?_)
  match a with
  | ⟨0, _⟩ => show win0_0.index t (0 : Fin 2) * 512 + 1 * r.val = 512 * (t.val / 4) + r.val; omega
  | ⟨1, _⟩ => show win0_0.index t (1 : Fin 2) * 4096 + 1 * k.val = k.val; omega

theorem blk1 (c : Dev nD) (t : Fin cfg0.N) (k : Fin 4096) (d : Fin 512) :
    iblk m c 1 t (ix3 (0 : Fin 1) k d) = aW m c (ix3 (1 : Fin 4) k (⟨512 * (t.val % 4) + d.val, by omega⟩ : Fin 2048)) := by
  obtain ⟨-, ⟨i0, i1, i2⟩, -⟩ := index_all t
  refine congrArg (aW m c) (funext fun a => Fin.ext ?_)
  match a with
  | ⟨0, _⟩ => show win0_1.index t (0 : Fin 3) * 1 + 1 * 0 = 1; omega
  | ⟨1, _⟩ => show win0_1.index t (1 : Fin 3) * 4096 + 1 * k.val = k.val; omega
  | ⟨2, _⟩ => show win0_1.index t (2 : Fin 3) * 512 + 1 * d.val = 512 * (t.val % 4) + d.val; omega

theorem blk2 (c : Dev nD) (t : Fin cfg0.N) (r : Fin 512) (d : Fin 512) :
    iblk m c 2 t (ix2 r d) = aR m c (ix2 (⟨512 * (t.val / 4) + r.val, by have := lt_N t; omega⟩ : Fin 512) (⟨512 * (t.val % 4) + d.val, by omega⟩ : Fin 2048)) := by
  obtain ⟨-, -, ⟨i0, i1⟩, -⟩ := index_all t
  refine congrArg (aR m c) (funext fun a => Fin.ext ?_)
  match a with
  | ⟨0, _⟩ => show win0_2.index t (0 : Fin 2) * 512 + 1 * r.val = 512 * (t.val / 4) + r.val; omega
  | ⟨1, _⟩ => show win0_2.index t (1 : Fin 2) * 512 + 1 * d.val = 512 * (t.val % 4) + d.val; omega

/-- One block of the result: a product of a row block and a column block, and the residual's block. -/
theorem pay_at (a : Vec Ideal S512x4096 .bf16) (w : Vec Ideal S1x4096x512 .f32) (r : Vec Ideal S512x512 .f32) (i : Fin 512) (j : Fin 512) :
    k0_pay1 (F := Ideal) a w r (ix2 i j) = ∑ k : Fin 4096, a (ix2 i k) * w (ix3 (0 : Fin 1) k j) + r (ix2 i j) := by
  pointwise [k0_pay1]

/-- The reference's result at an index. -/
theorem ref_at (x0 : Vec Ideal S512x4096 .bf16) (x1 : Vec Ideal S4x4096x2048 .f32) (x2 : Vec Ideal S512x2048 .f32) (i : Fin 512) (j : Fin 2048) :
    Cert.Reference13Ideal.Read.val_main_v4 (F := Ideal) x0 x1 x2 (ix2 i j) = x2 (ix2 i j) + ∑ k : Fin 4096, x0 (ix2 i k) * x1 (ix3 (1 : Fin 4) k j) := by
  pointwise [Cert.Reference13Ideal.Read.val_main_v4, Cert.Reference13Ideal.Read.val_main_v3, Cert.Reference13Ideal.Read.val_main_v2, Cert.Reference13Ideal.Read.val_main_v1, Cert.Reference13Ideal.Read.val_main_v0]

theorem final (c : Dev nD) : (dats m 0 c).arrAt 3 cfg0.N = Cert.Reference13Ideal.Read.val_main_v4 (F := Ideal) (aF m c) (aW m c) (aR m c) := by
  refine (dats m 0 c).arrAt_eq_of_covers 3 _ (by decide +kernel) fun t hf y => ?_
  blk_simp
  rw [after0_3]
  frame_out
  obtain ⟨i, j, rfl⟩ : ∃ (i : Fin 512) (j : Fin 512), y = ix2 i j := ⟨y 0, y 1, eq_ix2 y⟩
  have e : (((View.whole main_v0).slice (win0_3.rect t)).emb (ix2 i j) : S512x2048.Idx)
      = ix2 (⟨512 * (t.val / 4) + i.val, by have := lt_N t; omega⟩ : Fin 512) (⟨512 * (t.val % 4) + j.val, by omega⟩ : Fin 2048) := by
    obtain ⟨-, -, -, ⟨i0, i1⟩⟩ := index_all t
    refine funext fun a => Fin.ext ?_
    match a with
    | ⟨0, _⟩ => show win0_3.index t (0 : Fin 2) * 512 + 1 * i.val = 512 * (t.val / 4) + i.val; omega
    | ⟨1, _⟩ => show win0_3.index t (1 : Fin 2) * 512 + 1 * j.val = 512 * (t.val % 4) + j.val; omega
  rw [e, ref_at, pay_at, blk2 m c t i j, add_comm]
  refine congrArg _ (Finset.sum_congr rfl fun k _ => ?_)
  rw [blk0 m c t i k, blk1 m c t k j]

end Cert.DownDec
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Pre_finite
public import proofs.«01_k».proof.Proof.Equation
public import proofs.«01_k».proof.Proof.Down
public import proofs.«01_k».proof.Proof.In
public import proofs.«01_k».proof.Proof.Out
public import proofs.«01_k».proof.Proof.PrepFinal
public import proofs.«01_k».proof.Proof.Final
public import proofs.«01_k».proof.Proof.Gen.Kernel3
public import proofs.«01_k».proof.Proof.Gen.Kernel3.Frame
public import proofs.«01_k».proof.Proof.Gen.Kernel3Ideal.Frame
public import proofs.«01_k».proof.Proof.Gen.Kernel4
public import proofs.«01_k».proof.Proof.Gen.Kernel4.Frame
public import proofs.«01_k».proof.Proof.Gen.Kernel4Ideal.Frame
public import proofs.«01_k».proof.Proof.Gen.Kernel5
public import proofs.«01_k».proof.Proof.Gen.Kernel5.Frame
public import proofs.«01_k».proof.Proof.Gen.Kernel5Ideal.Frame
public import proofs.«01_k».proof.Proof.UpFrame
public import proofs.«01_k».proof.Proof.UpFinal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.FinalDec
public import proofs.«01_k».proof.Proof.InDec
public import proofs.«01_k».proof.Proof.PrepDecFinal
public import proofs.«01_k».proof.Proof.UpDecFinal
public import proofs.«01_k».proof.Proof.OutDec
public import proofs.«01_k».proof.Proof.DownDec
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts Cert.Pre.facts
attribute [local instance] Cert.Kernel2.Gen.facts Cert.Kernel2Ideal.Gen.facts Cert.Reference2Ideal.Gen.facts
attribute [local instance] Cert.Kernel3.Gen.facts Cert.Kernel3Ideal.Gen.facts Cert.Reference3Ideal.Gen.facts
attribute [local instance] Cert.Kernel4.Gen.facts Cert.Kernel4Ideal.Gen.facts Cert.Reference4Ideal.Gen.facts
attribute [local instance] Cert.Kernel5.Gen.facts Cert.Kernel5Ideal.Gen.facts Cert.Reference5Ideal.Gen.facts
attribute [local instance] Cert.Kernel6.Gen.facts Cert.Kernel6Ideal.Gen.facts Cert.Reference6Ideal.Gen.facts
attribute [local instance] Cert.Kernel7.Gen.facts Cert.Kernel7Ideal.Gen.facts Cert.Reference7Ideal.Gen.facts
attribute [local instance] Cert.Kernel8.Gen.facts Cert.Kernel8Ideal.Gen.facts Cert.Reference8Ideal.Gen.facts
attribute [local instance] Cert.Kernel9.Gen.facts Cert.Kernel9Ideal.Gen.facts Cert.Reference9Ideal.Gen.facts
attribute [local instance] Cert.Kernel10.Gen.facts Cert.Kernel10Ideal.Gen.facts Cert.Reference10Ideal.Gen.facts
attribute [local instance] Cert.Kernel11.Gen.facts Cert.Kernel11Ideal.Gen.facts Cert.Reference11Ideal.Gen.facts
attribute [local instance] Cert.Kernel12.Gen.facts Cert.Kernel12Ideal.Gen.facts Cert.Reference12Ideal.Gen.facts
attribute [local instance] Cert.Kernel13.Gen.facts Cert.Kernel13Ideal.Gen.facts Cert.Reference13Ideal.Gen.facts

/-- The two masks stand for minus infinity in the ideal program. -/
theorem masks : Cert.preserves_Kernel_KernelIdeal :=
  ⟨IdealRules.named_const.statement Cert.KernelIdeal.κ "mask" .f32 0xF149F2CA#32 ⊥ rfl,
    IdealRules.named_const.statement Cert.KernelIdeal.κ "half_mask" .f32 0xF0C9F2CA#32 ⊥ rfl⟩

/-- The reference runs to its end, with its arguments unchanged and no counter moved. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference end with the same array, where the queries and keys are real numbers. -/
theorem same_result : Cert.algebraic_KernelIdeal_ReferenceIdeal_pre_finite := by
  intro m g m' g' hpre hargs
  refine ⟨fun c => Cert.KernelIdeal.Value.G4 m c, Cert.KernelIdeal.Value.run m g, ?_⟩
  refine (θ_run Cert.ReferenceIdeal.defs _ _).mono (fun r h c => ⟨?_, (h c).2⟩) (Cert.ReferenceIdeal.Value.run (F := Ideal) m' g')
  refine (h c).1.trans ((Cert.ReferenceIdeal.Read.val_main_v40_eq m' c).trans ?_)
  obtain ⟨h0, h1, h2, h3, h4⟩ := hargs c
  rw [h0, h1, h2, h3, h4]
  obtain ⟨hq, hr, hc, hk⟩ := Cert.Pre.real_args m hpre c
  exact (Cert.Equation.result_eq m c hq hr hc hk).symm

/-- The reference of `ffn_up` runs to its end, with its arguments unchanged and no counter moved. -/
theorem up_reference_frame : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- Kernel and reference of `ffn_up` end with the same two arrays, whatever the arguments hold. -/
theorem up_result : Cert.algebraic_Kernel2Ideal_Reference2Ideal := by
  intro m g m' g' _ hargs
  refine ⟨fun c => Cert.Reference2Ideal.Read.val_main_v51 (F := Ideal) (Cert.Up.aX m c) (Cert.Up.aG m c) (Cert.Up.aW m c) (Cert.Up.aC m c) (Cert.Up.aB m c),
    fun c => Cert.Reference2Ideal.Read.val_main_v53 (F := Ideal) (Cert.Up.aX m c) (Cert.Up.aG m c) (Cert.Up.aW m c), Cert.Up.run m g, ?_⟩
  refine (θ_run Cert.Reference2Ideal.defs _ _).mono (fun r h c => ⟨?_, ?_, (h c).2.2⟩) (Cert.Reference2Ideal.Value.run (F := Ideal) m' g')
  · refine (h c).1.trans ((Cert.Reference2Ideal.Read.val_main_v51_eq m' c).trans ?_)
    obtain ⟨h0, h1, h2, h3, h4⟩ := hargs c
    rw [h0, h1, h2, h3, h4]
  · refine (h c).2.1.trans ?_
    obtain ⟨h0, h1, h2, h3, h4⟩ := hargs c
    rw [h0, h1, h2]
    exact Cert.Reference2Ideal.Read.val_main_v53_eq _ _ _

/-- The reference of `ffn_down` runs to its end, with its arguments unchanged and no counter moved. -/
theorem down_reference_frame : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Kernel and reference of `ffn_down` end with the same array, whatever the arguments hold. -/
theorem down_result : Cert.algebraic_Kernel3Ideal_Reference3Ideal := by
  intro m g m' g' _ hargs
  refine ⟨fun c => Cert.Reference3Ideal.Read.val_main_v4 (F := Ideal) (m (c, Proc.tc.devRef Cert.Kernel3Ideal.main_arg0))
    (m (c, Proc.tc.devRef Cert.Kernel3Ideal.main_arg1)) (m (c, Proc.tc.devRef Cert.Kernel3Ideal.main_arg2)), ?_, ?_⟩
  · exact (θ_run Cert.Kernel3Ideal.defs _ _).mono (fun r h c => ⟨(h c).1.trans (Cert.Down.final m c), (h c).2⟩)
      (Cert.Kernel3Ideal.Value.run_blocks (F := Ideal) m g)
  · refine (θ_run Cert.Reference3Ideal.defs _ _).mono (fun r h c => ⟨?_, (h c).2⟩) (Cert.Reference3Ideal.Value.run (F := Ideal) m' g')
    refine (h c).1.trans ?_
    obtain ⟨h0, h1, h2⟩ := hargs c
    rw [h0, h1, h2]
    exact Cert.Reference3Ideal.Read.val_main_v4_eq _ _ _

/-- The reference of `in_proj` runs to its end, with its arguments unchanged and no counter moved. -/
theorem in_reference_frame : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Kernel and reference of `in_proj` end with the same array, whatever the arguments hold. -/
theorem in_result : Cert.algebraic_Kernel4Ideal_Reference4Ideal := by
  intro m g m' g' _ hargs
  refine ⟨fun c => Cert.Reference4Ideal.Read.val_main_v13 (F := Ideal) (m (c, Proc.tc.devRef Cert.Kernel4Ideal.main_arg0))
    (m (c, Proc.tc.devRef Cert.Kernel4Ideal.main_arg1)) (m (c, Proc.tc.devRef Cert.Kernel4Ideal.main_arg2)), ?_, ?_⟩
  · exact (θ_run Cert.Kernel4Ideal.defs _ _).mono (fun r h c => ⟨(h c).1.trans (Cert.In.final m c), (h c).2⟩)
      (Cert.Kernel4Ideal.Value.run_blocks (F := Ideal) m g)
  · refine (θ_run Cert.Reference4Ideal.defs _ _).mono (fun r h c => ⟨?_, (h c).2⟩) (Cert.Reference4Ideal.Value.run (F := Ideal) m' g')
    refine (h c).1.trans ?_
    obtain ⟨h0, h1, h2⟩ := hargs c
    rw [h0, h1, h2]
    exact Cert.Reference4Ideal.Read.val_main_v13_eq _ _ _

/-- The reference of `out_proj` runs to its end, with its arguments unchanged and no counter moved. -/
theorem out_reference_frame : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- Kernel and reference of `out_proj` end with the same array, whatever the arguments hold. -/
theorem out_result : Cert.algebraic_Kernel5Ideal_Reference5Ideal := by
  intro m g m' g' _ hargs
  refine ⟨fun c => Cert.Reference5Ideal.Read.val_main_v2 (F := Ideal) (m (c, Proc.tc.devRef Cert.Kernel5Ideal.main_arg0))
    (m (c, Proc.tc.devRef Cert.Kernel5Ideal.main_arg1)) (m (c, Proc.tc.devRef Cert.Kernel5Ideal.main_arg2)), ?_, ?_⟩
  · exact (θ_run Cert.Kernel5Ideal.defs _ _).mono (fun r h c => ⟨(h c).1.trans (Cert.Out.final m c), (h c).2⟩)
      (Cert.Kernel5Ideal.Value.run_blocks (F := Ideal) m g)
  · refine (θ_run Cert.Reference5Ideal.defs _ _).mono (fun r h c => ⟨?_, (h c).2⟩) (Cert.Reference5Ideal.Value.run (F := Ideal) m' g')
    refine (h c).1.trans ?_
    obtain ⟨h0, h1, h2⟩ := hargs c
    rw [h0, h1, h2]
    exact Cert.Reference5Ideal.Read.val_main_v2_eq _ _ _

/-- The reference of `mla_prep` runs to its end, with its arguments unchanged and no counter moved. -/
theorem prep_reference_frame : Cert.quiescent_Reference6Ideal := fun m ρ _ =>
  (θ_run Cert.Reference6Ideal.defs _ _).mono (fun r h => ⟨fun c => (h c).2.2.2.2, sem_eq_zero_of_no_sems (by decide) r.2⟩)
    (Cert.Reference6Ideal.Value.run (F := Ideal) m ρ)

/-- Kernel and reference of `mla_prep` end with the same four arrays, whatever the arguments hold. -/
theorem prep_result : Cert.algebraic_Kernel6Ideal_Reference6Ideal := by
  intro m g m' g' _ hargs
  refine ⟨fun c => Cert.Reference6Ideal.Read.val_main_v93 (F := Ideal) (Cert.Prep.aZ m c) (Cert.Prep.aW m c),
    fun c => Cert.Reference6Ideal.Read.val_main_v94 (F := Ideal) (Cert.Prep.aZ m c) (Cert.Prep.aG m c),
    fun c => Cert.Reference6Ideal.Read.val_main_v56 (F := Ideal) (Cert.Prep.aZ m c) (Cert.Prep.aG m c),
    fun c => Cert.Reference6Ideal.Read.val_main_v87 (F := Ideal) (Cert.Prep.aZ m c), ?_, ?_⟩
  · exact (θ_run Cert.Kernel6Ideal.defs _ _).mono (fun r h c => ⟨(h c).1.trans (Cert.Prep.final_q m c), (h c).2.1.trans (Cert.Prep.final_k m c),
      (h c).2.2.1.trans (Cert.Prep.final_c m c), (h c).2.2.2.1.trans (Cert.Prep.final_r m c), (h c).2.2.2.2⟩)
      (Cert.Kernel6Ideal.Value.run_blocks (F := Ideal) m g)
  · refine (θ_run Cert.Reference6Ideal.defs _ _).mono (fun r h c => ⟨?_, ?_, ?_, ?_, (h c).2.2.2.2⟩) (Cert.Reference6Ideal.Value.run (F := Ideal) m' g')
    · refine (h c).1.trans ((Cert.Reference6Ideal.Read.val_main_v93_eq m' c).trans ?_)
      obtain ⟨h0, h1, h2⟩ := hargs c
      rw [h0, h2]
    · refine (h c).2.1.trans ((Cert.Reference6Ideal.Read.val_main_v94_eq m' c).trans ?_)
      obtain ⟨h0, h1, h2⟩ := hargs c
      rw [h0, h1]
    · refine (h c).2.2.1.trans ?_
      obtain ⟨h0, h1, h2⟩ := hargs c
      rw [h0, h1]
      exact Cert.Reference6Ideal.Read.val_main_v56_eq _ _
    · refine (h c).2.2.2.1.trans ?_
      obtain ⟨h0, h1, h2⟩ := hargs c
      rw [h0]
      exact Cert.Reference6Ideal.Read.val_main_v87_eq _

/-- The reference of `final_norm` runs to its end, with its arguments unchanged and no counter moved. -/
theorem final_reference_frame : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- Kernel and reference of `final_norm` end with the same array, whatever the arguments hold. -/
theorem final_result : Cert.algebraic_Kernel7Ideal_Reference7Ideal := by
  intro m g m' g' _ hargs
  refine ⟨fun c => Cert.Reference7Ideal.Read.val_main_v12 (F := Ideal) (m (c, Proc.tc.devRef Cert.Kernel7Ideal.main_arg0))
    (m (c, Proc.tc.devRef Cert.Kernel7Ideal.main_arg1)), ?_, ?_⟩
  · exact (θ_run Cert.Kernel7Ideal.defs _ _).mono (fun r h c => ⟨(h c).1.trans (Cert.Final.final m c), (h c).2⟩)
      (Cert.Kernel7Ideal.Value.run_blocks (F := Ideal) m g)
  · refine (θ_run Cert.Reference7Ideal.defs _ _).mono (fun r h c => ⟨?_, (h c).2⟩) (Cert.Reference7Ideal.Value.run (F := Ideal) m' g')
    refine (h c).1.trans ?_
    obtain ⟨h0, h1⟩ := hargs c
    rw [h0, h1]
    exact Cert.Reference7Ideal.Read.val_main_v12_eq _ _

/-- The reference of `final_norm` for the sample runs to its end, with its arguments unchanged and no counter moved. -/
theorem final_dec_reference_frame : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- Kernel and reference of `final_norm` for the sample end with the same array, whatever the arguments hold. -/
theorem final_dec_result : Cert.algebraic_Kernel8Ideal_Reference8Ideal := by
  intro m g m' g' _ hargs
  refine ⟨fun c => Cert.Reference8Ideal.Read.val_main_v12 (F := Ideal) (m (c, Proc.tc.devRef Cert.Kernel8Ideal.main_arg0))
    (m (c, Proc.tc.devRef Cert.Kernel8Ideal.main_arg1)), ?_, ?_⟩
  · exact (θ_run Cert.Kernel8Ideal.defs _ _).mono (fun r h c => ⟨(h c).1.trans (Cert.FinalDec.final m c), (h c).2⟩)
      (Cert.Kernel8Ideal.Value.run_blocks (F := Ideal) m g)
  · refine (θ_run Cert.Reference8Ideal.defs _ _).mono (fun r h c => ⟨?_, (h c).2⟩) (Cert.Reference8Ideal.Value.run (F := Ideal) m' g')
    refine (h c).1.trans ?_
    obtain ⟨h0, h1⟩ := hargs c
    rw [h0, h1]
    exact Cert.Reference8Ideal.Read.val_main_v12_eq _ _

/-- The reference of `in_proj_dec` runs to its end, with its arguments unchanged and no counter moved. -/
theorem in_dec_reference_frame : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- Kernel and reference of `in_proj_dec` end with the same array, whatever the arguments hold. -/
theorem in_dec_result : Cert.algebraic_Kernel9Ideal_Reference9Ideal := by
  intro m g m' g' _ hargs
  refine ⟨fun c => Cert.Reference9Ideal.Read.val_main_v13 (F := Ideal) (m (c, Proc.tc.devRef Cert.Kernel9Ideal.main_arg0))
    (m (c, Proc.tc.devRef Cert.Kernel9Ideal.main_arg1)) (m (c, Proc.tc.devRef Cert.Kernel9Ideal.main_arg2)), ?_, ?_⟩
  · exact (θ_run Cert.Kernel9Ideal.defs _ _).mono (fun r h c => ⟨(h c).1.trans (Cert.InDec.final m c), (h c).2⟩)
      (Cert.Kernel9Ideal.Value.run_blocks (F := Ideal) m g)
  · refine (θ_run Cert.Reference9Ideal.defs _ _).mono (fun r h c => ⟨?_, (h c).2⟩) (Cert.Reference9Ideal.Value.run (F := Ideal) m' g')
    refine (h c).1.trans ?_
    obtain ⟨h0, h1, h2⟩ := hargs c
    rw [h0, h1, h2]
    exact Cert.Reference9Ideal.Read.val_main_v13_eq _ _ _

/-- The reference of `mla_prep` for the sample runs to its end, with its arguments unchanged and no counter moved. -/
theorem prep_dec_reference_frame : Cert.quiescent_Reference10Ideal := fun m ρ _ =>
  (θ_run Cert.Reference10Ideal.defs _ _).mono (fun r h => ⟨fun c => (h c).2.2.2.2, sem_eq_zero_of_no_sems (by decide) r.2⟩)
    (Cert.Reference10Ideal.Value.run (F := Ideal) m ρ)

/-- Kernel and reference of `mla_prep` for the sample end with the same four arrays, whatever the arguments hold. -/
theorem prep_dec_result : Cert.algebraic_Kernel10Ideal_Reference10Ideal := by
  intro m g m' g' _ hargs
  refine ⟨fun c => Cert.Reference10Ideal.Read.val_main_v95 (F := Ideal) (Cert.PrepDec.aZ m c) (Cert.PrepDec.aW m c),
    fun c => Cert.Reference10Ideal.Read.val_main_v96 (F := Ideal) (Cert.PrepDec.aZ m c) (Cert.PrepDec.aG m c),
    fun c => Cert.Reference10Ideal.Read.val_main_v58 (F := Ideal) (Cert.PrepDec.aZ m c) (Cert.PrepDec.aG m c),
    fun c => Cert.Reference10Ideal.Read.val_main_v89 (F := Ideal) (Cert.PrepDec.aZ m c), ?_, ?_⟩
  · exact (θ_run Cert.Kernel10Ideal.defs _ _).mono (fun r h c => ⟨(h c).1.trans (Cert.PrepDec.final_q m c), (h c).2.1.trans (Cert.PrepDec.final_k m c),
      (h c).2.2.1.trans (Cert.PrepDec.final_c m c), (h c).2.2.2.1.trans (Cert.PrepDec.final_r m c), (h c).2.2.2.2⟩)
      (Cert.Kernel10Ideal.Value.run_blocks (F := Ideal) m g)
  · refine (θ_run Cert.Reference10Ideal.defs _ _).mono (fun r h c => ⟨?_, ?_, ?_, ?_, (h c).2.2.2.2⟩) (Cert.Reference10Ideal.Value.run (F := Ideal) m' g')
    · refine (h c).1.trans ((Cert.Reference10Ideal.Read.val_main_v95_eq m' c).trans ?_)
      obtain ⟨h0, h1, h2⟩ := hargs c
      rw [h0, h2]
    · refine (h c).2.1.trans ((Cert.Reference10Ideal.Read.val_main_v96_eq m' c).trans ?_)
      obtain ⟨h0, h1, h2⟩ := hargs c
      rw [h0, h1]
    · refine (h c).2.2.1.trans ?_
      obtain ⟨h0, h1, h2⟩ := hargs c
      rw [h0, h1]
      exact Cert.Reference10Ideal.Read.val_main_v58_eq _ _
    · refine (h c).2.2.2.1.trans ?_
      obtain ⟨h0, h1, h2⟩ := hargs c
      rw [h0]
      exact Cert.Reference10Ideal.Read.val_main_v89_eq _

/-- The reference of `ffn_up_dec` runs to its end, with its arguments unchanged and no counter moved. -/
theorem up_dec_reference_frame : Cert.quiescent_Reference11Ideal := fun m ρ _ =>
  (θ_run Cert.Reference11Ideal.defs _ _).mono (fun r h => ⟨fun c => (h c).2.2, sem_eq_zero_of_no_sems (by decide) r.2⟩)
    (Cert.Reference11Ideal.Value.run (F := Ideal) m ρ)

/-- Kernel and reference of `ffn_up_dec` end with the same two arrays, whatever the arguments hold. -/
theorem up_dec_result : Cert.algebraic_Kernel11Ideal_Reference11Ideal := by
  intro m g m' g' _ hargs
  refine ⟨fun c => Cert.Reference11Ideal.Read.val_main_v52 (F := Ideal) (Cert.UpDec.aX m c) (Cert.UpDec.aG m c) (Cert.UpDec.aW m c) (Cert.UpDec.aC m c) (Cert.UpDec.aB m c) (Cert.UpDec.aP m c),
    fun c => Cert.Reference11Ideal.Read.val_main_v53 (F := Ideal) (Cert.UpDec.aX m c) (Cert.UpDec.aG m c) (Cert.UpDec.aW m c), ?_, ?_⟩
  · exact (θ_run Cert.Kernel11Ideal.defs _ _).mono (fun r h c => ⟨(h c).1.trans (Cert.UpDec.final_h m c), (h c).2.1.trans (Cert.UpDec.final_g m c), (h c).2.2⟩)
      (Cert.Kernel11Ideal.Value.run_blocks (F := Ideal) m g)
  refine (θ_run Cert.Reference11Ideal.defs _ _).mono (fun r h c => ⟨?_, ?_, (h c).2.2⟩) (Cert.Reference11Ideal.Value.run (F := Ideal) m' g')
  · refine (h c).1.trans ((Cert.Reference11Ideal.Read.val_main_v52_eq m' c).trans ?_)
    obtain ⟨h0, h1, h2, h3, h4, h5⟩ := hargs c
    rw [h0, h1, h2, h3, h4, h5]
  · refine (h c).2.1.trans ?_
    obtain ⟨h0, h1, h2, h3, h4, h5⟩ := hargs c
    rw [h0, h1, h2]
    exact Cert.Reference11Ideal.Read.val_main_v53_eq _ _ _

/-- The reference of `out_proj_dec` runs to its end, with its arguments unchanged and no counter moved. -/
theorem out_dec_reference_frame : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- Kernel and reference of `out_proj_dec` end with the same array, whatever the arguments hold. -/
theorem out_dec_result : Cert.algebraic_Kernel12Ideal_Reference12Ideal := by
  intro m g m' g' _ hargs
  refine ⟨fun c => Cert.Reference12Ideal.Read.val_main_v2 (F := Ideal) (m (c, Proc.tc.devRef Cert.Kernel12Ideal.main_arg0))
    (m (c, Proc.tc.devRef Cert.Kernel12Ideal.main_arg1)) (m (c, Proc.tc.devRef Cert.Kernel12Ideal.main_arg2)), ?_, ?_⟩
  · exact (θ_run Cert.Kernel12Ideal.defs _ _).mono (fun r h c => ⟨(h c).1.trans (Cert.OutDec.final m c), (h c).2⟩)
      (Cert.Kernel12Ideal.Value.run_blocks (F := Ideal) m g)
  · refine (θ_run Cert.Reference12Ideal.defs _ _).mono (fun r h c => ⟨?_, (h c).2⟩) (Cert.Reference12Ideal.Value.run (F := Ideal) m' g')
    refine (h c).1.trans ?_
    obtain ⟨h0, h1, h2⟩ := hargs c
    rw [h0, h1, h2]
    exact Cert.Reference12Ideal.Read.val_main_v2_eq _ _ _

/-- The reference of `ffn_down_dec` runs to its end, with its arguments unchanged and no counter moved. -/
theorem down_dec_reference_frame : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

/-- Kernel and reference of `ffn_down_dec` end with the same array, whatever the arguments hold. -/
theorem down_dec_result : Cert.algebraic_Kernel13Ideal_Reference13Ideal := by
  intro m g m' g' _ hargs
  refine ⟨fun c => Cert.Reference13Ideal.Read.val_main_v4 (F := Ideal) (m (c, Proc.tc.devRef Cert.Kernel13Ideal.main_arg0))
    (m (c, Proc.tc.devRef Cert.Kernel13Ideal.main_arg1)) (m (c, Proc.tc.devRef Cert.Kernel13Ideal.main_arg2)), ?_, ?_⟩
  · exact (θ_run Cert.Kernel13Ideal.defs _ _).mono (fun r h c => ⟨(h c).1.trans (Cert.DownDec.final m c), (h c).2⟩)
      (Cert.Kernel13Ideal.Value.run_blocks (F := Ideal) m g)
  · refine (θ_run Cert.Reference13Ideal.defs _ _).mono (fun r h c => ⟨?_, (h c).2⟩) (Cert.Reference13Ideal.Value.run (F := Ideal) m' g')
    refine (h c).1.trans ?_
    obtain ⟨h0, h1, h2⟩ := hargs c
    rw [h0, h1, h2]
    exact Cert.Reference13Ideal.Read.val_main_v4_eq _ _ _

/-- The claims, all proved. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Pre.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Kernel2.Gen.frame m ρ, fun m ρ _ => Cert.Kernel2Ideal.Gen.frame m ρ, up_reference_frame,
  fun m ρ _ => Cert.Kernel3.Gen.frame m ρ, fun m ρ _ => Cert.Kernel3Ideal.Gen.frame m ρ, down_reference_frame,
  fun m ρ _ => Cert.Kernel4.Gen.frame m ρ, fun m ρ _ => Cert.Kernel4Ideal.Gen.frame m ρ, in_reference_frame,
  fun m ρ _ => Cert.Kernel5.Gen.frame m ρ, fun m ρ _ => Cert.Kernel5Ideal.Gen.frame m ρ, out_reference_frame,
  fun m ρ _ => Cert.Kernel6.Gen.frame m ρ, fun m ρ _ => Cert.Kernel6Ideal.Gen.frame m ρ, prep_reference_frame,
  fun m ρ _ => Cert.Kernel7.Gen.frame m ρ, fun m ρ _ => Cert.Kernel7Ideal.Gen.frame m ρ, final_reference_frame,
  fun m ρ _ => Cert.Kernel8.Gen.frame m ρ, fun m ρ _ => Cert.Kernel8Ideal.Gen.frame m ρ, final_dec_reference_frame,
  fun m ρ _ => Cert.Kernel9.Gen.frame m ρ, fun m ρ _ => Cert.Kernel9Ideal.Gen.frame m ρ, in_dec_reference_frame,
  fun m ρ _ => Cert.Kernel10.Gen.frame m ρ, fun m ρ _ => Cert.Kernel10Ideal.Gen.frame m ρ, prep_dec_reference_frame,
  fun m ρ _ => Cert.Kernel11.Gen.frame m ρ, fun m ρ _ => Cert.Kernel11Ideal.Gen.frame m ρ, up_dec_reference_frame,
  fun m ρ _ => Cert.Kernel12.Gen.frame m ρ, fun m ρ _ => Cert.Kernel12Ideal.Gen.frame m ρ, out_dec_reference_frame,
  fun m ρ _ => Cert.Kernel13.Gen.frame m ρ, fun m ρ _ => Cert.Kernel13Ideal.Gen.frame m ρ, down_dec_reference_frame,
  masks, same_result, trivial, up_result, trivial, down_result, trivial, in_result, trivial, out_result,
  trivial, prep_result, trivial, final_result, trivial, final_dec_result, trivial, in_dec_result, trivial, prep_dec_result, trivial, up_dec_result, trivial, out_dec_result, trivial, down_dec_result⟩

end Cert.Proof

end
